-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "neg" .f32 0xFF7FC99E#32 ⊥

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v10)) (v4 : (c : Dev Cert.KernelIdeal.nD) → Buf (Elt Ideal) ((c.tc : Thread Cert.KernelIdeal.nD Cert.KernelIdeal.τ).loc Cert.KernelIdeal.main_v11)) (v5 : (c : Dev Cert.KernelIdeal.nD) → Buf (Elt Ideal) ((c.tc : Thread Cert.KernelIdeal.nD Cert.KernelIdeal.τ).loc Cert.KernelIdeal.main_v8)) (v6 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v10) = v3 c
          ∧ r.2.mem ((c.tc : Thread Cert.KernelIdeal.nD Cert.KernelIdeal.τ).loc Cert.KernelIdeal.main_v11) = v4 c
          ∧ r.2.mem ((c.tc : Thread Cert.KernelIdeal.nD Cert.KernelIdeal.τ).loc Cert.KernelIdeal.main_v8) = v5 c
          ∧ r.2.mem ((c.tc : Thread Cert.KernelIdeal.nD Cert.KernelIdeal.τ).loc Cert.KernelIdeal.main_v12) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_v71) = v3 c
          ∧ r.2.mem ((c.tc : Thread Cert.ReferenceIdeal.nD Cert.ReferenceIdeal.τ).loc Cert.ReferenceIdeal.main_v76) = v4 c
          ∧ r.2.mem ((c.tc : Thread Cert.ReferenceIdeal.nD Cert.ReferenceIdeal.τ).loc Cert.ReferenceIdeal.main_v78) = v5 c
          ∧ r.2.mem ((c.tc : Thread Cert.ReferenceIdeal.nD Cert.ReferenceIdeal.τ).loc Cert.ReferenceIdeal.main_v80) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S4096x50257 : Shape := ⟨2, ![4096, 50257]⟩
abbrev S4096 : Shape := ⟨1, ![4096]⟩
abbrev S4096x4 : Shape := ⟨2, ![4096, 4]⟩
abbrev S_ : Shape := ⟨0, ![]⟩
abbrev S4096x1 : Shape := ⟨2, ![4096, 1]⟩

class Facts : Prop where
  sliceFits_S4096x50257_S4096x4 : S4096x50257.Slices (fun _ => 0) S4096x4
  bcast_S_S4096x50257 : S_.BroadcastsInDim S4096x50257 (![] : Fin 0 → Fin S4096x50257.rank)
  reducesTo_S4096x50257_S_d0_1 : S4096x50257.ReducesTo [0, 1] S_
  h_S_ : 0 < S_.numel
  bcast_S_S4096 : S_.BroadcastsInDim S4096 (![] : Fin 0 → Fin S4096.rank)
  reducesTo_S4096_S_d0 : S4096.ReducesTo [0] S_
  slices_S4096x4_S4096x1_0_2 : S4096x4.Slices ![0, 2] S4096x1
  shapeCasts_S4096x1_S4096 : S4096x1.ShapeCasts S4096
  slices_S4096x4_S4096x1_0_3 : S4096x4.Slices ![0, 3] S4096x1

variable [Facts]

def fn_part1 {F : FTy → Type} [FloatOps F] (main_v10 : IVec S_ 1) (main_v15 : IVec S4096 1) : IVec S_ 1 :=
  let main_c_4 : IVec S_ 1 := constantI S_ 1 1#1
  let main_v16 : IVec S_ 1 := (fun x v => Host.reduce IntOp.andi x v reducesTo_S4096_S_d0 h_S_) main_v15 main_c_4
  let main_v17 : IVec S_ 1 := andi main_v10 main_v16
  main_v17

def fn {F : FTy → Type} [FloatOps F] (main_arg0 : FVec F S4096x50257 .f32) (main_arg1 : IVec S4096 32) : IVec S_ 1 :=
  let main_values : FVec F S4096x4 .f32 := (fun x => (Host.topK S4096x4 1 (FloatOps.cmpfTotal .gt) x sliceFits_S4096x50257_S4096x4).1) main_arg0
  let main_indices : IVec S4096x4 32 := (fun x => (Host.topK S4096x4 1 (FloatOps.cmpfTotal .gt) x sliceFits_S4096x50257_S4096x4).2) main_arg0
  let main_cst : FVec F S_ .f32 := constant S_ .f32 0x7F800000#32
  let main_v0 : FVec F S4096x50257 .f32 := broadcastInDim S4096x50257 ![] bcast_S_S4096x50257 main_cst
  let main_v1 : IVec S4096x50257 1 := cmpf .olt main_arg0 main_v0
  let main_c : IVec S_ 1 := constantI S_ 1 1#1
  let main_v2 : IVec S_ 1 := (fun x v => Host.reduce IntOp.andi x v reducesTo_S4096x50257_S_d0_1 h_S_) main_v1 main_c
  let main_c_0 : IVec S_ 32 := constantI S_ 32 0#32
  let main_v3 : IVec S4096 32 := broadcastInDim S4096 ![] bcast_S_S4096 main_c_0
  let main_v4 : IVec S4096 1 := cmpi .sge main_arg1 main_v3
  let main_c_1 : IVec S_ 1 := constantI S_ 1 1#1
  let main_v5 : IVec S_ 1 := (fun x v => Host.reduce IntOp.andi x v reducesTo_S4096_S_d0 h_S_) main_v4 main_c_1
  let main_v6 : IVec S_ 1 := andi main_v2 main_v5
  let main_c_2 : IVec S_ 32 := constantI S_ 32 50257#32
  let main_v7 : IVec S4096 32 := broadcastInDim S4096 ![] bcast_S_S4096 main_c_2
  let main_v8 : IVec S4096 1 := cmpi .slt main_arg1 main_v7
  let main_c_3 : IVec S_ 1 := constantI S_ 1 1#1
  let main_v9 : IVec S_ 1 := (fun x v => Host.reduce IntOp.andi x v reducesTo_S4096_S_d0 h_S_) main_v8 main_c_3
  let main_v10 : IVec S_ 1 := andi main_v6 main_v9
  let main_v11 : FVec F S4096x1 .f32 := (extractStridedSlice S4096x1 ![0, 2] · slices_S4096x4_S4096x1_0_2) main_values
  let main_v12 : FVec F S4096 .f32 := shapeCast S4096 main_v11 shapeCasts_S4096x1_S4096
  let main_v13 : FVec F S4096x1 .f32 := (extractStridedSlice S4096x1 ![0, 3] · slices_S4096x4_S4096x1_0_3) main_values
  let main_v14 : FVec F S4096 .f32 := shapeCast S4096 main_v13 shapeCasts_S4096x1_S4096
  let main_v15 : IVec S4096 1 := cmpf .ogt main_v12 main_v14
  fn_part1 (F := F) main_v10 main_v15
-- ==== Kernel.lean ====
abbrev S4096x50257 : Shape := ⟨2, ![4096, 50257]⟩
abbrev S4096 : Shape := ⟨1, ![4096]⟩
abbrev S50257x4096 : Shape := ⟨2, ![50257, 4096]⟩
abbrev S1x4096 : Shape := ⟨2, ![1, 4096]⟩
abbrev S8192x128 : Shape := ⟨2, ![8192, 128]⟩
abbrev S1x128 : Shape := ⟨2, ![1, 128]⟩
abbrev S8x128 : Shape := ⟨2, ![8, 128]⟩
abbrev S128 : Shape := ⟨1, ![128]⟩
abbrev S_ : Shape := ⟨0, ![]⟩

abbrev nBuf : Space → Nat
  | .hbm => 24
  | .vmem => 24
  | .smem => 0
  | _ => 0

abbrev bufTy : (tb : Table) → Fin (tcTables nBuf tb) → BufTy
  | .hbm, ⟨0, _⟩ => ⟨S4096x50257, .f32⟩
  | .hbm, ⟨1, _⟩ => ⟨S4096, .i32⟩
  | .hbm, ⟨2, _⟩ => ⟨S50257x4096, .f32⟩
  | .hbm, ⟨3, _⟩ => ⟨S1x4096, .i32⟩
  | .hbm, ⟨4, _⟩ => ⟨S1x4096, .f32⟩
  | .hbm, ⟨5, _⟩ => ⟨S1x4096, .i32⟩
  | .hbm, ⟨6, _⟩ => ⟨S1x4096, .i32⟩
  | .hbm, ⟨7, _⟩ => ⟨S1x4096, .i32⟩
  | .hbm, ⟨8, _⟩ => ⟨S1x4096, .i32⟩
  | .hbm, ⟨9, _⟩ => ⟨S1x4096, .f32⟩
  | .hbm, ⟨10, _⟩ => ⟨S4096, .i32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S4096, .i32⟩
  | .hbm, ⟨21, _⟩ => ⟨S4096, .i32⟩
  | .hbm, ⟨22, _⟩ => ⟨S4096, .i32⟩
  | .hbm, ⟨23, _⟩ => ⟨S4096, .f32⟩
  | .local _ .vmem, ⟨0, _⟩ => ⟨S8192x128, .f32⟩
  | .local _ .vmem, ⟨1, _⟩ => ⟨S8192x128, .f32⟩
  | .local _ .vmem, ⟨2, _⟩ => ⟨S1x128, .i32⟩
  | .local _ .vmem, ⟨3, _⟩ => ⟨S1x128, .i32⟩
  | .local _ .vmem, ⟨4, _⟩ => ⟨S1x128, .f32⟩
  | .local _ .vmem, ⟨5, _⟩ => ⟨S1x128, .f32⟩
  | .local _ .vmem, ⟨6, _⟩ => ⟨S1x128, .i32⟩
  | .local _ .vmem, ⟨7, _⟩ => ⟨S1x128, .i32⟩
  | .local _ .vmem, ⟨8, _⟩ => ⟨S1x128, .i32⟩
  | .local _ .vmem, ⟨9, _⟩ => ⟨S1x128, .i32⟩
  | .local _ .vmem, ⟨10, _⟩ => ⟨S1x128, .i32⟩
  | .local _ .vmem, ⟨11, _⟩ => ⟨S1x128, .i32⟩
  | .local _ .vmem, ⟨12, _⟩ => ⟨S1x128, .i32⟩
  | .local _ .vmem, ⟨13, _⟩ => ⟨S1x128, .i32⟩
  | .local _ .vmem, ⟨14, _⟩ => ⟨S1x128, .f32⟩
  | .local _ .vmem, ⟨15, _⟩ => ⟨S1x128, .f32⟩
  | .local _ .vmem, ⟨16, _⟩ => ⟨S8x128, .f32⟩
  | .local _ .vmem, ⟨17, _⟩ => ⟨S8x128, .f32⟩
  | .local _ .vmem, ⟨18, _⟩ => ⟨S8x128, .f32⟩
  | .local _ .vmem, ⟨19, _⟩ => ⟨S8x128, .i32⟩
  | .local _ .vmem, ⟨20, _⟩ => ⟨S8x128, .i32⟩
  | .local _ .vmem, ⟨21, _⟩ => ⟨S8x128, .i32⟩
  | .local _ .vmem, ⟨22, _⟩ => ⟨S8x128, .f32⟩
  | .local _ .vmem, ⟨23, _⟩ => ⟨S8x128, .f32⟩
  | _, _ => ⟨S4096x50257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v2_4 : Ref sig .tc := ⟨.hbm, 8, rfl⟩
abbrev main_v2_5 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![32, 7], ![false, false]⟩

def k0_cond3 (i : grid0.Coords) : BitVec 1 :=
  let arg1 : BitVec 32 := BitVec.ofNat 32 (i 1).val
  let c6_i32_3 : BitVec 32 := 6#32
  let v8 : BitVec 1 := Scalar.cmpi .eq arg1 c6_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== KernelIdeal.lean ====
variable {F : FTy → Type} [FloatOps F] [Named F]
def κ : String → Option EReal := fun
  | "neg" => some ⊥
  | _ => none
-- ==== ReferenceIdeal.lean ====
abbrev S4096x50257 : Shape := ⟨2, ![4096, 50257]⟩
abbrev S4096 : Shape := ⟨1, ![4096]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩
abbrev S4096x3 : Shape := ⟨2, ![4096, 3]⟩
abbrev S4096x3x1 : Shape := ⟨3, ![4096, 3, 1]⟩
abbrev S4096x3x2 : Shape := ⟨3, ![4096, 3, 2]⟩
abbrev S1x50257 : Shape := ⟨2, ![1, 50257]⟩

abbrev nBuf : Space → Nat
  | .hbm => 147
  | .vmem => 0
  | .smem => 0
  | _ => 0

abbrev hbmTy0_0 (i : Nat) : BufTy := match i % 128 with
  | 0 => ⟨S4096x50257, .f32⟩
  | 1 => ⟨S4096, .i32⟩
  | 2 => ⟨S_, .f32⟩
  | 3 => ⟨S4096, .f32⟩
  | 4 => ⟨S_, .f32⟩
  | 5 => ⟨S4096, .f32⟩
  | 6 => ⟨S4096, .f32⟩
  | 7 => ⟨S4096x1, .f32⟩
  | 8 => ⟨S4096x50257, .f32⟩
  | 9 => ⟨S4096x50257, .f32⟩
  | 10 => ⟨S4096x50257, .f32⟩
  | 11 => ⟨S_, .f32⟩
  | 12 => ⟨S4096, .f32⟩
  | 13 => ⟨S4096x1, .f32⟩
  | 14 => ⟨S4096x50257, .f32⟩
  | 15 => ⟨S4096x50257, .f32⟩
  | 16 => ⟨S4096x50257, .i32⟩
  | 17 => ⟨S_, .f32⟩
  | 18 => ⟨S_, .i32⟩
  | 19 => ⟨S4096, .f32⟩
  | 20 => ⟨S4096, .i32⟩
  | 21 => ⟨S4096x1, .i32⟩
  | 22 => ⟨S_, .i32⟩
  | 23 => ⟨S4096x1, .i32⟩
  | 24 => ⟨S4096x1, .i1⟩
  | 25 => ⟨S_, .i32⟩
  | 26 => ⟨S4096x1, .i32⟩
  | 27 => ⟨S4096x1, .i32⟩
  | 28 => ⟨S4096x1, .i32⟩
  | 29 => ⟨S4096x1x1, .i32⟩
  | 30 => ⟨S1, .i32⟩
  | 31 => ⟨S_, .i32⟩
  | 32 => ⟨S4096x1x1, .i32⟩
  | 33 => ⟨S4096x1x1, .i1⟩
  | 34 => ⟨S1x1x1, .i32⟩
  | 35 => ⟨S4096x1x1, .i32⟩
  | 36 => ⟨S4096x1x1, .i1⟩
  | 37 => ⟨S4096x1x1, .i1⟩
  | 38 => ⟨S_, .i1⟩
  | 39 => ⟨S4096x1, .i1⟩
  | 40 => ⟨S4096x1, .f32⟩
  | 41 => ⟨S_, .f32⟩
  | 42 => ⟨S4096x1, .f32⟩
  | 43 => ⟨S4096x1, .f32⟩
  | 44 => ⟨S4096, .f32⟩
  | 45 => ⟨S_, .f32⟩
  | 46 => ⟨S4096, .f32⟩
  | 47 => ⟨S4096, .i1⟩
  | 48 => ⟨S4096, .i32⟩
  | 49 => ⟨S4096x3, .f32⟩
  | 50 => ⟨S4096x3, .i32⟩
  | 51 => ⟨S4096x1, .f32⟩
  | 52 => ⟨S4096, .f32⟩
  | 53 => ⟨S4096x1, .i32⟩
  | 54 => ⟨S4096, .i32⟩
  | 55 => ⟨S4096x1, .i32⟩
  | 56 => ⟨S4096, .i32⟩
  | 57 => ⟨S_, .f32⟩
  | 58 => ⟨S4096, .f32⟩
  | 59 => ⟨S4096x1, .f32⟩
  | 60 => ⟨S4096x3, .f32⟩
  | 61 => ⟨S4096x3, .f32⟩
  | 62 => ⟨S_, .f32⟩
  | 63 => ⟨S4096x50257, .f32⟩
  | 64 => ⟨S4096, .i32⟩
  | 65 => ⟨S4096x1, .i32⟩
  | 66 => ⟨S_, .i32⟩
  | 67 => ⟨S4096x1, .i32⟩
  | 68 => ⟨S4096x1, .i1⟩
  | 69 => ⟨S_, .i32⟩
  | 70 => ⟨S4096x1, .i32⟩
  | 71 => ⟨S4096x1, .i32⟩
  | 72 => ⟨S4096x1, .i32⟩
  | 73 => ⟨S_, .i32⟩
  | 74 => ⟨S4096x3, .i32⟩
  | 75 => ⟨S4096x3, .i1⟩
  | 76 => ⟨S_, .i32⟩
  | 77 => ⟨S4096x3, .i32⟩
  | 78 => ⟨S4096x3, .i32⟩
  | 79 => ⟨S4096x3, .i32⟩
  | 80 => ⟨S4096x3, .i32⟩
  | 81 => ⟨S4096x3x1, .i32⟩
  | 82 => ⟨S4096x3x1, .i32⟩
  | 83 => ⟨S4096x3x2, .i32⟩
  | 84 => ⟨S4096x50257, .f32⟩
  | 85 => ⟨S4096x1, .i32⟩
  | 86 => ⟨S4096x1, .f32⟩
  | 87 => ⟨S_, .f32⟩
  | 88 => ⟨S4096x1, .f32⟩
  | 89 => ⟨S4096x1, .f32⟩
  | 90 => ⟨S4096x1, .i32⟩
  | 91 => ⟨S1x50257, .i32⟩
  | 92 => ⟨S4096x50257, .i32⟩
  | 93 => ⟨S4096x50257, .i32⟩
  | 94 => ⟨S4096x50257, .i1⟩
  | 95 => ⟨S4096x50257, .f32⟩
  | 96 => ⟨S4096x50257, .f32⟩
  | 97 => ⟨S4096x50257, .f32⟩
  | 98 => ⟨S4096x50257, .f32⟩
  | 99 => ⟨S4096x50257, .f32⟩
  | 100 => ⟨S4096x50257, .f32⟩
  | 101 => ⟨S_, .f32⟩
  | 102 => ⟨S4096, .f32⟩
  | 103 => ⟨S_, .f32⟩
  | 104 => ⟨S4096, .f32⟩
  | 105 => ⟨S4096, .f32⟩
  | 106 => ⟨S4096x1, .f32⟩
  | 107 => ⟨S4096x50257, .f32⟩
  | 108 => ⟨S4096x50257, .f32⟩
  | 109 => ⟨S4096x50257, .f32⟩
  | 110 => ⟨S_, .f32⟩
  | 111 => ⟨S4096, .f32⟩
  | 112 => ⟨S4096x1, .f32⟩
  | 113 => ⟨S4096x1, .f32⟩
  | 114 => ⟨S4096x50257, .f32⟩
  | 115 => ⟨S4096x50257, .f32⟩
  | 116 => ⟨S4096x50257, .f32⟩
  | 117 => ⟨S4096x50257, .f32⟩
  | 118 => ⟨S_, .f32⟩
  | 119 => ⟨S_, .f32⟩
  | 120 => ⟨S_, .f32⟩
  | 121 => ⟨S_, .f32⟩
  | 122 => ⟨S_, .i32⟩
  | 123 => ⟨S4096, .i32⟩
  | 124 => ⟨S4096, .i32⟩
  | 125 => ⟨S4096, .i32⟩
  | 126 => ⟨S_, .i32⟩
  | 127 => ⟨S4096, .i32⟩
  | _ => ⟨S4096x50257, .f32⟩

abbrev hbmTy0_1 (i : Nat) : BufTy := match i % 128 with
  | 0 => ⟨S4096, .i32⟩
  | 1 => ⟨S4096, .i32⟩
  | 2 => ⟨S4096, .i32⟩
  | 3 => ⟨S4096, .i32⟩
  | 4 => ⟨S_, .i32⟩
  | 5 => ⟨S4096, .i32⟩
  | 6 => ⟨S4096, .i32⟩
  | 7 => ⟨S4096, .i32⟩
  | 8 => ⟨S4096, .i32⟩
  | 9 => ⟨S4096, .i32⟩
  | 10 => ⟨S_, .i32⟩
  | 11 => ⟨S4096, .i32⟩
  | 12 => ⟨S4096, .i32⟩
  | 13 => ⟨S4096, .i32⟩
  | 14 => ⟨S4096, .i32⟩
  | 15 => ⟨S_, .i32⟩
  | 16 => ⟨S_, .i32⟩
  | 17 => ⟨S4096, .f32⟩
  | 18 => ⟨S4096, .f32⟩
  | _ => ⟨S4096x50257, .f32⟩

abbrev hbmTy (i : Nat) : BufTy := match i / 128 with
  | 0 => hbmTy0_0 i
  | 1 => hbmTy0_1 i
  | _ => ⟨S4096x50257, .f32⟩

abbrev bufTy : (tb : Table) → Fin (tcTables nBuf tb) → BufTy
  | .hbm, ⟨i, _⟩ => hbmTy i
  | _, _ => ⟨S4096x50257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_cst : Ref sig .tc := ⟨.hbm, 17, rfl⟩
abbrev main_call0_c : Ref sig .tc := ⟨.hbm, 18, rfl⟩
abbrev main_call0_v1_0 : Ref sig .tc := ⟨.hbm, 19, rfl⟩
abbrev main_v11 : Ref sig .tc := ⟨.hbm, 20, rfl⟩
abbrev main_v12 : Ref sig .tc := ⟨.hbm, 21, rfl⟩
abbrev main_call1_c : Ref sig .tc := ⟨.hbm, 22, rfl⟩
abbrev main_call1_v0 : Ref sig .tc := ⟨.hbm, 23, rfl⟩
abbrev main_call1_v1 : Ref sig .tc := ⟨.hbm, 24, rfl⟩
abbrev main_call1_c_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_c_1 : Ref sig .tc := ⟨.hbm, 30, rfl⟩
abbrev main_call1_c_2 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_3 : Ref sig .tc := ⟨.hbm, 38, rfl⟩
abbrev main_call1_v12 : Ref sig .tc := ⟨.hbm, 39, rfl⟩
abbrev main_call1_v13 : Ref sig .tc := ⟨.hbm, 40, rfl⟩
abbrev main_call1_cst : Ref sig .tc := ⟨.hbm, 41, rfl⟩
abbrev main_call1_v14 : Ref sig .tc := ⟨.hbm, 42, rfl⟩
abbrev main_v13 : Ref sig .tc := ⟨.hbm, 43, rfl⟩
abbrev main_v14 : Ref sig .tc := ⟨.hbm, 44, rfl⟩
abbrev main_cst_2 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_values : Ref sig .tc := ⟨.hbm, 49, rfl⟩
abbrev main_indices : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_3 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_cst_4 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_c : Ref sig .tc := ⟨.hbm, 66, rfl⟩
abbrev main_v31 : Ref sig .tc := ⟨.hbm, 67, rfl⟩
abbrev main_v32 : Ref sig .tc := ⟨.hbm, 68, rfl⟩
abbrev main_c_5 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_c_6 : Ref sig .tc := ⟨.hbm, 73, rfl⟩
abbrev main_v36 : Ref sig .tc := ⟨.hbm, 74, rfl⟩
abbrev main_v37 : Ref sig .tc := ⟨.hbm, 75, rfl⟩
abbrev main_c_7 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_cst_8 : Ref sig .tc := ⟨.hbm, 87, rfl⟩
abbrev main_v48 : Ref sig .tc := ⟨.hbm, 88, rfl⟩
abbrev main_v49 : Ref sig .tc := ⟨.hbm, 89, rfl⟩
abbrev main_call2_v0 : Ref sig .tc := ⟨.hbm, 90, rfl⟩
abbrev main_call2_v1 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_call3_cst : Ref sig .tc := ⟨.hbm, 101, rfl⟩
abbrev main_call3_v0 : Ref sig .tc := ⟨.hbm, 102, rfl⟩
abbrev main_call3_cst_0 : Ref sig .tc := ⟨.hbm, 103, rfl⟩
abbrev main_call3_v1 : Ref sig .tc := ⟨.hbm, 104, rfl⟩
abbrev main_call3_v2 : Ref sig .tc := ⟨.hbm, 105, rfl⟩
abbrev main_call3_v3 : Ref sig .tc := ⟨.hbm, 106, rfl⟩
abbrev main_call3_v4 : Ref sig .tc := ⟨.hbm, 107, rfl⟩
abbrev main_call3_v5 : Ref sig .tc := ⟨.hbm, 108, rfl⟩
abbrev main_call3_v6 : Ref sig .tc := ⟨.hbm, 109, rfl⟩
abbrev main_call3_cst_1 : Ref sig .tc := ⟨.hbm, 110, rfl⟩
abbrev main_call3_v7 : Ref sig .tc := ⟨.hbm, 111, rfl⟩
abbrev main_call3_v8 : Ref sig .tc := ⟨.hbm, 112, rfl⟩
abbrev main_call3_v9 : Ref sig .tc := ⟨.hbm, 113, rfl⟩
abbrev main_call3_v10 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_cst_9 : Ref sig .tc := ⟨.hbm, 118, rfl⟩
abbrev main_v59 : Ref sig .tc := ⟨.hbm, 119, rfl⟩
abbrev main_cst_10 : Ref sig .tc := ⟨.hbm, 120, rfl⟩
abbrev main_v60 : Ref sig .tc := ⟨.hbm, 121, rfl⟩
abbrev main_c_11 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_c_12 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_c_13 : Ref sig .tc := ⟨.hbm, 132, rfl⟩
abbrev main_v69 : Ref sig .tc := ⟨.hbm, 133, rfl⟩
abbrev main_v70 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_c_14 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_c_15 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩

abbrev nD : Nat := 1
abbrev τ : Topo := Topo.v7x

variable {F : FTy → Type} [FloatOps F]
-- ==== Proof.RolledKernelIdeal.lean ====
module

public import proofs.«01_k».proof.Proof.Gen.KernelIdeal
public import Idealize.ShloMosaic.Lib.Tactic

@[expose] public section

noncomputable section

/-! The kernel's body with its chunks of eight rows run as a recursion: what one chunk, one tile and the
    closing step compute, as functions of vectors, and the equation between the printed body and this one. -/

namespace Cert.KernelIdeal.Rolled

open Idealize.ShloMosaic Idealize.SL.Sem
open Idealize.ShloMosaic.Tactic
open Cert.KernelIdeal

variable {F : FTy → Type} [FloatOps F] [Named F]

variable [Facts]
open K0.Facts₀ Shapes1.Facts₀ Shapes2.Facts₀ Facts₀ Facts

/-- Three values with their three numbers, per sublane and lane. -/
structure Top3 (F : FTy → Type) where
  v1 : FVec F S8x128 .f32
  v2 : FVec F S8x128 .f32
  v3 : FVec F S8x128 .f32
  i1 : IVec S8x128 32
  i2 : IVec S8x128 32
  i3 : IVec S8x128 32

/-- What the chunks of a tile accumulate: the value at the labelled class, two partial sums of exponentials,
    and the best three of the even and of the odd chunks. -/
structure Acc (F : FTy → Type) where
  fy : FVec F S8x128 .f32
  se : FVec F S8x128 .f32
  so : FVec F S8x128 .f32
  e : Top3 F
  o : Top3 F

/-- The filler value below every logit. -/
def low : FVec F S8x128 .f32 := broadcast S8x128 (Named.named κ "neg" 0xFF7FC99E#32 : F .f32)

/-- The best three of nothing. -/
def none3 : Top3 F :=
  ⟨low, low, low, broadcast S8x128 4194304#32, broadcast S8x128 4194304#32, broadcast S8x128 4194304#32⟩

/-- Insert a chunk `c`, numbered `k`, into the best three. -/
def insert3 (t : Top3 F) (c : FVec F S8x128 .f32) (k : BitVec 32) : Top3 F :=
  ⟨maximumf t.v1 c, maximumf t.v2 (minimumf t.v1 c), maximumf t.v3 (minimumf t.v2 (minimumf t.v1 c)),
   select (cmpf .ogt c t.v1) (broadcast S8x128 k) t.i1,
   select (cmpf .ogt (minimumf t.v1 c) t.v2) (select (cmpf .ogt c t.v1) t.i1 (broadcast S8x128 k)) t.i2,
   select (cmpf .ogt (minimumf t.v2 (minimumf t.v1 c)) t.v3)
     (select (cmpf .ogt (minimumf t.v1 c) t.v2) t.i2
       (select (cmpf .ogt c t.v1) t.i1 (broadcast S8x128 k))) t.i3⟩

/-- A chunk with an even number. -/
def evenStep (ys : IVec S8x128 32) (k : BitVec 32) (c : FVec F S8x128 .f32) (s : Acc F) : Acc F :=
  ⟨select (cmpi .eq ys (broadcast S8x128 k)) c s.fy, addf s.se (exp c), s.so, insert3 s.e c k, s.o⟩

/-- A chunk with an odd number. -/
def oddStep (ys : IVec S8x128 32) (k : BitVec 32) (c : FVec F S8x128 .f32) (s : Acc F) : Acc F :=
  ⟨select (cmpi .eq ys (broadcast S8x128 k)) c s.fy, s.se, addf s.so (exp c), s.e, insert3 s.o c k⟩

/-- The chunk number, within the tile of index `j`, of the row holding the label's class, on the sublane
    that class lies on, and a number no chunk has elsewhere. -/
def ysel (j : BitVec 32) (y : IVec S1x128 32) : IVec S8x128 32 :=
  select
    (cmpi .eq (iota .tc S8x128 32 [0] iota_S8x128_d0_w32)
      (broadcastTo S8x128 (andi y (broadcast S1x128 7#32)) broadcasts_S1x128_S8x128))
    (broadcastTo S8x128
      (shapeCast S1x128
        (subi
          (select
            (andi
              (cmpi .ne
                (subi (extui 32 (cmpi .sgt y (broadcast S1x128 0#32)) natLt_1_32)
                  (extui 32 (cmpi .slt y (broadcast S1x128 0#32)) natLt_1_32))
                (broadcast S1x128
                  (Scalar.subi (Scalar.extui (Scalar.cmpi .sgt 8#32 0#32) : BitVec 32)
                    (Scalar.extui (Scalar.cmpi .slt 8#32 0#32) : BitVec 32))))
              (cmpi .ne (remsi y (broadcast S1x128 8#32)) (broadcast S1x128 0#32)))
            (subi (divsi y (broadcast S1x128 8#32)) (broadcast S1x128 1#32))
            (divsi y (broadcast S1x128 8#32)))
          (broadcast S1x128 (Scalar.muli j 1024#32)))
        shapeCasts_S1x128_S1x128)
      broadcasts_S1x128_S8x128)
    (broadcast S8x128 3221225472#32)

/-- Value first, number second: the first pair comes before the second. -/
def pref (a : FVec F S8x128 .f32) (ia : IVec S8x128 32) (b : FVec F S8x128 .f32) (ib : IVec S8x128 32) :
    IVec S8x128 1 :=
  ori (cmpf .ogt a b) (andi (cmpf .oeq a b) (cmpi .slt ia ib))

/-- The best three of two best threes, the six comparisons given. -/
def choose {e : EltTy} (b1 b2a b2b be bd bf : IVec S8x128 1) (x1 x2 x3 z1 z2 z3 : Vec F S8x128 e) :
    Vec F S8x128 e × Vec F S8x128 e × Vec F S8x128 e :=
  (select b1 x1 z1,
   select b1 (select b2a x2 z1) (select b2b x1 z2),
   select b1 (select b2a (select bd x3 z1) (select be x2 z2))
     (select b2b (select be x2 z2) (select bf x1 z3)))

/-- The best three of the even and the odd chunks. -/
def mergeParity (e o : Top3 F) : Top3 F :=
  let v := choose (F := F) (e := .f32) (pref e.v1 e.i1 o.v1 o.i1) (pref e.v2 e.i2 o.v1 o.i1)
    (pref e.v1 e.i1 o.v2 o.i2) (pref e.v2 e.i2 o.v2 o.i2) (pref e.v3 e.i3 o.v1 o.i1)
    (pref e.v1 e.i1 o.v3 o.i3) e.v1 e.v2 e.v3 o.v1 o.v2 o.v3
  let n := choose (F := F) (e := .i32) (pref e.v1 e.i1 o.v1 o.i1) (pref e.v2 e.i2 o.v1 o.i1)
    (pref e.v1 e.i1 o.v2 o.i2) (pref e.v2 e.i2 o.v2 o.i2) (pref e.v3 e.i3 o.v1 o.i1)
    (pref e.v1 e.i1 o.v3 o.i3) e.i1 e.i2 e.i3 o.i1 o.i2 o.i3
  ⟨v.1, v.2.1, v.2.2, n.1, n.2.1, n.2.2⟩

/-- The tile's own numbers made the numbers of the whole array's chunks. -/
def shift (j : BitVec 32) (t : Top3 F) : Top3 F :=
  ⟨t.v1, t.v2, t.v3, addi t.i1 (broadcast S8x128 (Scalar.muli j 1024#32)),
   addi t.i2 (broadcast S8x128 (Scalar.muli j 1024#32)), addi t.i3 (broadcast S8x128 (Scalar.muli j 1024#32))⟩

/-- The best three so far (`r`) with a later tile's (`t`). -/
def mergeRun (r t : Top3 F) : Top3 F :=
  let v := choose (F := F) (e := .f32) (cmpf .oge r.v1 t.v1) (cmpf .oge r.v2 t.v1)
    (cmpf .oge r.v1 t.v2) (cmpf .oge r.v2 t.v2) (cmpf .oge r.v3 t.v1)
    (cmpf .oge r.v1 t.v3) r.v1 r.v2 r.v3 t.v1 t.v2 t.v3
  let n := choose (F := F) (e := .i32) (cmpf .oge r.v1 t.v1) (cmpf .oge r.v2 t.v1)
    (cmpf .oge r.v1 t.v2) (cmpf .oge r.v2 t.v2) (cmpf .oge r.v3 t.v1)
    (cmpf .oge r.v1 t.v3) r.i1 r.i2 r.i3 t.i1 t.i2 t.i3
  ⟨v.1, v.2.1, v.2.2, n.1, n.2.1, n.2.2⟩

/-- What the scratch buffers carry from tile to tile. -/
structure Run (F : FTy → Type) where
  top : Top3 F
  se : FVec F S8x128 .f32
  fy : FVec F S8x128 .f32

/-- The carried values before the first tile. -/
def run0 : Run F :=
  ⟨none3, broadcast S8x128 (Scalar.ofBits .f32 0x00000000#32), broadcast S8x128 (Scalar.ofBits .f32 0x00000000#32)⟩

/-- What a tile starts its accumulation from. -/
def acc0 (r : Run F) : Acc F :=
  ⟨r.fy, r.se, broadcast S8x128 (Scalar.ofBits .f32 0x00000000#32), none3, none3⟩

/-- The carried values after a tile. -/
def close (j : BitVec 32) (r : Run F) (s : Acc F) : Run F :=
  ⟨mergeRun r.top (shift j (mergeParity s.e s.o)), addf s.se s.so, s.fy⟩

/-- The last chunk's rows, all but the first replaced by the filler. -/
def maskLast (c : FVec F S8x128 .f32) : FVec F S8x128 .f32 :=
  select (cmpi .slt (iota .tc S8x128 32 [0] iota_S8x128_d0_w32) (broadcast S8x128 1#32)) c low

/-! ## The closing step: one best three per lane, and the six rows of results -/

/-- A row's values on every sublane. -/
def down {e : EltTy} (r : Vec F S1x128 e) : Vec F S8x128 e := broadcastTo S8x128 r broadcasts_S1x128_S8x128

/-- The column of the class numbered `g` on its sublane. -/
def cid (g : IVec S8x128 32) : IVec S8x128 32 :=
  addi (muli g (broadcast S8x128 8#32)) (iota .tc S8x128 32 [0] iota_S8x128_d0_w32)

/-- The sum over the sublanes. -/
def sumAll (v : FVec F S8x128 .f32) : FVec F S1x128 .f32 :=
  shapeCast S1x128 (multiReduction .add [0] S128 v 0x00000000#32 reduces_S8x128_S128 (.inl rfl) rfl) shapeCasts_S128_S1x128

/-- The greatest of three values over the sublanes. -/
def maxAll (a b c : FVec F S8x128 .f32) : FVec F S1x128 .f32 :=
  subf (broadcast S1x128 (Scalar.ofBits .f32 0x00000000#32 : F .f32))
    (shapeCast S1x128
      (multiReduction .minimumf [0] S128
        (subf (broadcast S8x128 (Scalar.ofBits .f32 0x00000000#32 : F .f32)) (maximumf (maximumf a b) c))
        0x7F800000#32 reduces_S8x128_S128 (.inl rfl) rfl) shapeCasts_S128_S1x128)

/-- The number where the value is the lane's greatest, and the greatest integer elsewhere. -/
def cand (a : FVec F S8x128 .f32) (V : FVec F S1x128 .f32) (c : IVec S8x128 32) : IVec S8x128 32 :=
  select (cmpf .oeq a (down (F := F) (e := .f32) V)) c (broadcast S8x128 2147483647#32)

/-- The least candidate over the sublanes. -/
def argAll (t : Top3 F) (V : FVec F S1x128 .f32) : IVec S1x128 32 :=
  shapeCast S1x128
    (multiReductionI .minsi [0] S128 (minsi (minsi (cand t.v1 V t.i1) (cand t.v2 V t.i2)) (cand t.v3 V t.i3))
      2147483647#32 reduces_S8x128_S128 rfl) shapeCasts_S128_S1x128

/-- The values, that of the class numbered `I` replaced by the filler. -/
def drop (t : Top3 F) (I : IVec S1x128 32) : Top3 F :=
  ⟨select (cmpi .eq t.i1 (down (F := F) (e := .i32) I)) low t.v1, select (cmpi .eq t.i2 (down (F := F) (e := .i32) I)) low t.v2,
   select (cmpi .eq t.i3 (down (F := F) (e := .i32) I)) low t.v3, t.i1, t.i2, t.i3⟩

/-- The best three with columns for numbers. -/
def cols (t : Top3 F) : Top3 F := ⟨t.v1, t.v2, t.v3, cid t.i1, cid t.i2, cid t.i3⟩

/-- The greatest value of a lane. -/
def rowMax (t : Top3 F) : FVec F S1x128 .f32 := maxAll t.v1 t.v2 t.v3

/-- The least column attaining it. -/
def rowArg (t : Top3 F) : IVec S1x128 32 := argAll t (rowMax t)

/-- What is left without it. -/
def rest (t : Top3 F) : Top3 F := drop t (rowArg t)

/-- Whether the label's probability is below the threshold. -/
def isLow (se fy : FVec F S1x128 .f32) : IVec S1x128 1 :=
  cmpf .olt (divf (exp fy) se) (broadcast S1x128 (Scalar.ofBits .f32 0x3CA3D70A#32 : F .f32))

/-- The loss of each lane. -/
def lossRow (se fy v1 v2 v3 : FVec F S1x128 .f32) : FVec F S1x128 .f32 :=
  select (isLow se fy)
    (subf (log se)
      (divf (addf (addf v1 (mulf (exp (subf v2 v1)) v2)) (mulf (exp (subf v3 v1)) v3))
        (addf (addf (broadcast S1x128 (Scalar.ofBits .f32 0x3F800000#32 : F .f32)) (exp (subf v2 v1))) (exp (subf v3 v1)))))
    (subf (log se) fy)

/-- A column where the probability is low, and minus one elsewhere. -/
def idRow (se fy : FVec F S1x128 .f32) (i : IVec S1x128 32) : IVec S1x128 32 :=
  select (isLow se fy) i (broadcast S1x128 4294967295#32)

/-- The probability of the second best class where the label's is low, and zero elsewhere. -/
def secondRow (se fy v2 : FVec F S1x128 .f32) : FVec F S1x128 .f32 :=
  select (isLow se fy) (divf (exp v2) se) (broadcast S1x128 (Scalar.ofBits .f32 0x00000000#32 : F .f32))

/-- The row of losses from the carried values. -/
def out0 (r : Run F) : FVec F S1x128 .f32 :=
  lossRow (sumAll r.se) (sumAll r.fy) (rowMax (cols r.top)) (rowMax (rest (cols r.top)))
    (rowMax (rest (rest (cols r.top))))

/-- The row of marks: one where the label's probability is low. -/
def out1 (r : Run F) : IVec S1x128 32 := extui 32 (isLow (sumAll r.se) (sumAll r.fy)) natLt_1_32

/-- The row of best columns. -/
def out2 (r : Run F) : IVec S1x128 32 := idRow (sumAll r.se) (sumAll r.fy) (rowArg (cols r.top))

/-- The row of second best columns. -/
def out3 (r : Run F) : IVec S1x128 32 := idRow (sumAll r.se) (sumAll r.fy) (rowArg (rest (cols r.top)))

/-- The row of third best columns. -/
def out4 (r : Run F) : IVec S1x128 32 := idRow (sumAll r.se) (sumAll r.fy) (rowArg (rest (rest (cols r.top))))

/-- The row of the second best classes' probabilities. -/
def out5 (r : Run F) : FVec F S1x128 .f32 := secondRow (sumAll r.se) (sumAll r.fy) (rowMax (rest (cols r.top)))

/-! ## The program -/

/-- The effects of the kernel's programs. -/
abbrev Eff (F : FTy → Type) := TpuEff nD τ sig (Elt F) Λ₀ .tc

/-- Eight rows of a block, from row `8 k`. -/
def chunkRect (k : Nat) (h : 8 * k + 8 ≤ 8192) : Rect S8192x128 :=
  Rect.unit (s := S8192x128) ![8 * k, 0] S8x128.size (by
    intro a; fin_cases a
    · exact h
    · exact Nat.le_refl 128)

/-- Load eight rows of a block, from row `8 k`. -/
def chunk (arg2 : Memref sig .tc .vmem S8192x128 .f32) (k : Nat) (h : 8 * k + 8 ≤ 8192) :
    Prog (Eff F) (Vec F S8x128 .f32) :=
  Prog.lift (.load arg2 (chunkRect k h).toLoadRect (View.loadsAt_vmem h_S8x128))

/-- The last `n` of `N` pairs of chunks, an even and an odd one. -/
def roll (arg2 : Memref sig .tc .vmem S8192x128 .f32) (ys : IVec S8x128 32) (N : Nat) (hN : N ≤ 512) :
    Nat → Acc F → Prog (Eff F) (Acc F)
  | 0, s => pure s
  | n + 1, s => do
    let c ← chunk arg2 (2 * (N - (n + 1))) (by omega)
    let d ← chunk arg2 (2 * (N - (n + 1)) + 1) (by omega)
    roll arg2 ys N hN n
      (oddStep ys (BitVec.ofNat 32 (2 * (N - (n + 1)) + 1))
        (shapeCast S8x128 d shapeCasts_S8x128_S8x128)
        (evenStep ys (BitVec.ofNat 32 (2 * (N - (n + 1)))) (shapeCast S8x128 c shapeCasts_S8x128_S8x128) s))

/-- Load a scratch buffer. -/
def get {e : EltTy} (m : Memref sig .tc .vmem S8x128 e) : Prog (Eff F) (Vec F S8x128 e) :=
  Prog.lift (.load m (Rect.unit (s := S8x128) ![0, 0] S8x128.size inb_S8x128_S8x128_0_0).toLoadRect (View.loadsAt_vmem h_S8x128))

/-- Overwrite a scratch buffer of floats. -/
def putF (m : Memref sig .tc .vmem S8x128 .f32) (v : FVec F S8x128 .f32) : Prog (Eff F) PUnit := do
  let _ ← get (F := F) m
  Prog.lift (.store m (Rect.unit (s := S8x128) ![0, 0] S8x128.size inb_S8x128_S8x128_0_0)
    (shapeCast S8x128 v shapeCasts_S8x128_S8x128) Finset.univ (View.stores_vmem_bits_univ h_S8x128 rfl) (.inl rfl))

/-- Overwrite a scratch buffer of integers. -/
def putI (m : Memref sig .tc .vmem S8x128 .i32) (v : IVec S8x128 32) : Prog (Eff F) PUnit := do
  let _ ← get (F := F) m
  Prog.lift (.store m (Rect.unit (s := S8x128) ![0, 0] S8x128.size inb_S8x128_S8x128_0_0)
    (shapeCast S8x128 v shapeCasts_S8x128_S8x128) Finset.univ (View.stores_vmem_bits_univ h_S8x128 rfl) (.inl rfl))

/-- Load a row. -/
def getRow {e : EltTy} (m : Memref sig .tc .vmem S1x128 e) : Prog (Eff F) (Vec F S1x128 e) :=
  Prog.lift (.load m (Rect.unit (s := S1x128) ![0, 0] S1x128.size inb_S1x128_S1x128_0_0).toLoadRect (View.loadsAt_vmem h_S1x128))

/-- Overwrite a row of results of floats. -/
def rowF (m : Memref sig .tc .vmem S1x128 .f32) (v : FVec F S1x128 .f32) : Prog (Eff F) PUnit := do
  let _ ← getRow (F := F) m
  Prog.lift (.store m (Rect.unit (s := S1x128) ![0, 0] S1x128.size inb_S1x128_S1x128_0_0) v Finset.univ (View.stores_vmem_bits_univ h_S1x128 rfl) (.inl rfl))

/-- Overwrite a row of results of integers. -/
def rowI (m : Memref sig .tc .vmem S1x128 .i32) (v : IVec S1x128 32) : Prog (Eff F) PUnit := do
  let _ ← getRow (F := F) m
  Prog.lift (.store m (Rect.unit (s := S1x128) ![0, 0] S1x128.size inb_S1x128_S1x128_0_0) v Finset.univ (View.stores_vmem_bits_univ h_S1x128 rfl) (.inl rfl))

section Body

variable (arg2 : Memref sig .tc .vmem S8192x128 .f32) (arg3 : Memref sig .tc .vmem S1x128 .i32)
  (arg4 : Memref sig .tc .vmem S1x128 .f32) (arg5 arg6 arg7 arg8 : Memref sig .tc .vmem S1x128 .i32)
  (arg9 : Memref sig .tc .vmem S1x128 .f32) (arg10 arg11 arg12 : Memref sig .tc .vmem S8x128 .f32)
  (arg13 arg14 arg15 : Memref sig .tc .vmem S8x128 .i32) (arg16 arg17 : Memref sig .tc .vmem S8x128 .f32)

/-- Overwrite the eight scratch buffers. -/
def putRun (r : Run F) : Prog (Eff F) PUnit := do
  putF arg10 r.top.v1
  putF arg11 r.top.v2
  putF arg12 r.top.v3
  putI arg13 r.top.i1
  putI arg14 r.top.i2
  putI arg15 r.top.i3
  putF arg16 r.se
  putF arg17 r.fy

/-- Read the eight scratch buffers. -/
def getRun : Prog (Eff F) (Run F) := do
  let v1 ← get arg10
  let v2 ← get arg11
  let v3 ← get arg12
  let i1 ← get arg13
  let i2 ← get arg14
  let i3 ← get arg15
  let se ← get arg16
  let fy ← get arg17
  pure ⟨⟨v1, v2, v3, i1, i2, i3⟩, se, fy⟩

/-- A whole tile: its 1024 chunks, then the carried values. -/
def fullTile (j : BitVec 32) (y : IVec S1x128 32) : Prog (Eff F) PUnit := do
  let r ← getRun arg10 arg11 arg12 arg13 arg14 arg15 arg16 arg17
  let s ← roll arg2 (ysel j y) 512 (by omega) 512 (acc0 r)
  putRun arg10 arg11 arg12 arg13 arg14 arg15 arg16 arg17 (close j r s)

/-- The six rows of results. -/
def putOut (r : Run F) : Prog (Eff F) PUnit := do
  rowF arg4 (out0 r)
  rowI arg5 (out1 r)
  rowI arg6 (out2 r)
  rowI arg7 (out3 r)
  rowI arg8 (out4 r)
  rowF arg9 (out5 r)

/-- The last tile: 138 chunks, the masked one, the carried values and the results. -/
def lastTile (j : BitVec 32) (y : IVec S1x128 32) : Prog (Eff F) PUnit := do
  let r ← getRun arg10 arg11 arg12 arg13 arg14 arg15 arg16 arg17
  let s ← roll arg2 (ysel j y) 69 (by omega) 69 (acc0 r)
  let c ← chunk arg2 138 (by omega)
  let r' := close j r (evenStep (ysel j y) 138#32 (maskLast (shapeCast S8x128 c shapeCasts_S8x128_S8x128)) s)
  putRun arg10 arg11 arg12 arg13 arg14 arg15 arg16 arg17 r'
  putOut arg4 arg5 arg6 arg7 arg8 arg9 r'

/-- The kernel's body at the grid point `i`. -/
def body (i : grid0.Coords) : Prog (Eff F) PUnit := do
  let j : BitVec 32 := BitVec.ofNat 32 (i 1).val
  if k0_h1 : Scalar.cmpi .ne (Scalar.extui (Scalar.cmpi .eq j 0#32) : BitVec 32) 0#32 = 1#1 then
    putRun (F := F) arg10 arg11 arg12 arg13 arg14 arg15 arg16 arg17 run0
  else pure ⟨⟩
  let v3 : Vec F S1x128 .i32 ← getRow arg3
  if k0_h2 : Scalar.cmpi .ne (Scalar.extui (Scalar.cmpi .slt j 6#32) : BitVec 32) 0#32 = 1#1 then
    fullTile arg2 arg10 arg11 arg12 arg13 arg14 arg15 arg16 arg17 j (shapeCast S1x128 v3 shapeCasts_S1x128_S1x128)
  else pure ⟨⟩
  if k0_h3 : Scalar.cmpi .ne (Scalar.extui (Scalar.cmpi .eq j 6#32) : BitVec 32) 0#32 = 1#1 then
    lastTile arg2 arg4 arg5 arg6 arg7 arg8 arg9 arg10 arg11 arg12 arg13 arg14 arg15 arg16 arg17 j
      (shapeCast S1x128 v3 shapeCasts_S1x128_S1x128)
  else pure ⟨⟩
  pure ⟨⟩

/-- The printed body is the rolled one. -/
theorem body_eq (i : grid0.Coords) (h2 : arg2.IsWhole) (h3 : arg3.IsWhole) (h4 : arg4.IsWhole) (h5 : arg5.IsWhole) (h6 : arg6.IsWhole) (h7 : arg7.IsWhole) (h8 : arg8.IsWhole) (h9 : arg9.IsWhole) (h10 : arg10.IsWhole) (h11 : arg11.IsWhole) (h12 : arg12.IsWhole) (h13 : arg13.IsWhole) (h14 : arg14.IsWhole) (h15 : arg15.IsWhole) (h16 : arg16.IsWhole) (h17 : arg17.IsWhole) :
    cc0__body (F := F) i arg2 h2 arg3 h3 arg4 h4 arg5 h5 arg6 h6 arg7 h7 arg8 h8 arg9 h9 arg10 h10 arg11 h11 arg12 h12 arg13 h13 arg14 h14 arg15 h15 arg16 h16 arg17 h17 =
      body (F := F) arg2 arg3 arg4 arg5 arg6 arg7 arg8 arg9 arg10 arg11 arg12 arg13 arg14 arg15 arg16 arg17 i := by
  sl_kernel_rfl

end Body

end Cert.KernelIdeal.Rolled

end
-- ==== Proof.StepsKernelIdeal.lean ====
/-
  KernelIdeal: what the rolled body does to the buffers it is called with. The reads of the block, the accumulation over
  its chunks and the overwriting of the scratch buffers and result rows, each as a rule for the program, put
  together to one rule for the body.
-/
module

public import proofs.«01_k».proof.Proof.RolledKernelIdeal
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.VecWindow
public import Idealize.ShloMosaic.Lib.Claim
public import Idealize.ShloMosaic.Lib.Pipeline.Value
public import Idealize.ShloMosaic.Lib.Tactic
public import Mathlib.Tactic.IntervalCases

@[expose] public section

noncomputable section

namespace Cert.KernelIdeal.Rolled

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable [Facts]
open K0.Facts₀ Shapes1.Facts₀ Shapes2.Facts₀ Facts₀ Facts

local notation "𝕄" => MT nD τ sig Unit (Elt F) ℕ (UR sig nD τ) ℕ

/-! ## What a tile computes -/

/-- Eight rows of a block, from row `8 k`. -/
def rowsOf (X : S8192x128.Idx → F .f32) (k : Nat) : FVec F S8x128 .f32 :=
  if h : 8 * k + 8 ≤ 8192 then fun x => X ((chunkRect k h).idx x) else low

/-- The accumulation over the first `n` pairs of chunks of a block. -/
def pairs (X : S8192x128.Idx → F .f32) (ys : IVec S8x128 32) : Nat → Acc F → Acc F
  | 0, s => s
  | n + 1, s =>
    oddStep ys (BitVec.ofNat 32 (2 * n + 1)) (rowsOf X (2 * n + 1))
      (evenStep ys (BitVec.ofNat 32 (2 * n)) (rowsOf X (2 * n)) (pairs X ys n s))

/-- What a tile starts from: nothing yet at the first one. -/
def enter (j : Nat) (r : Run F) : Run F := if j = 0 then run0 else r

/-- The carried values after the tile of index `j`, whose block is `X`, from those before it. -/
def stepRun (j : Nat) (X : S8192x128.Idx → F .f32) (y : IVec S1x128 32) (r : Run F) : Run F :=
  if j < 6 then
    close (BitVec.ofNat 32 j) (enter j r)
      (pairs X (ysel (BitVec.ofNat 32 j) y) 512 (acc0 (enter j r)))
  else
    close (BitVec.ofNat 32 j) (enter j r)
      (evenStep (ysel (BitVec.ofNat 32 j) y) 138#32 (maskLast (rowsOf X 138))
        (pairs X (ysel (BitVec.ofNat 32 j) y) 69 (acc0 (enter j r))))

/-! ## The loads and the stores -/

variable (c : Dev nD) (E : Set ℕ)

theorem wp_get {e : EltTy} (M : Memref sig .tc .vmem S8x128 e) (X : Vec F S8x128 e) (Q : Vec F S8x128 e → sProp 𝕄) :
    iprop(owns (c : Thread nD τ) M fullShare X ∗ (owns (c : Thread nD τ) M fullShare X -∗ Q X))
      ⊢ wp frame (wpE (defs₀ (F := F)) Variants.none c none) E (get M) Q := by
  unfold get owns Prog.lift
  iintro ⟨⟨%f, %hf, H⟩, K⟩
  iapply (wp_load Variants.none (c : Thread nD τ) none E (Q := Q) (S := M.view.set) (q := fullShare) (f := f)
    (View.setOn_subset_set _ _)) $$ H
  iintro H
  rw [View.readAt_full, hf]
  iapply (le_wp_ret (frame (nD := nD)) _ E X Q)
  iapply K
  iexists f
  isplitr; · ipureintro; exact hf
  iexact H

theorem wp_getRow {e : EltTy} (M : Memref sig .tc .vmem S1x128 e) (X : Vec F S1x128 e) (Q : Vec F S1x128 e → sProp 𝕄) :
    iprop(owns (c : Thread nD τ) M fullShare X ∗ (owns (c : Thread nD τ) M fullShare X -∗ Q X))
      ⊢ wp frame (wpE (defs₀ (F := F)) Variants.none c none) E (getRow M) Q := by
  unfold getRow owns Prog.lift
  iintro ⟨⟨%f, %hf, H⟩, K⟩
  iapply (wp_load Variants.none (c : Thread nD τ) none E (Q := Q) (S := M.view.set) (q := fullShare) (f := f)
    (View.setOn_subset_set _ _)) $$ H
  iintro H
  rw [View.readAt_full, hf]
  iapply (le_wp_ret (frame (nD := nD)) _ E X Q)
  iapply K
  iexists f
  isplitr; · ipureintro; exact hf
  iexact H

theorem wp_chunk (M : Memref sig .tc .vmem S8192x128 .f32) (X : Vec F S8192x128 .f32) (k : Nat) (h : 8 * k + 8 ≤ 8192)
    (Q : Vec F S8x128 .f32 → sProp 𝕄) :
    iprop(owns (c : Thread nD τ) M fullShare X ∗ (owns (c : Thread nD τ) M fullShare X -∗ Q (rowsOf X k)))
      ⊢ wp frame (wpE (defs₀ (F := F)) Variants.none c none) E (chunk M k h) Q := by
  unfold chunk owns Prog.lift
  iintro ⟨⟨%f, %hf, H⟩, K⟩
  iapply (wp_load Variants.none (c : Thread nD τ) none E (Q := Q) (S := M.view.set) (q := fullShare) (f := f)
    (View.setOn_subset_set _ _)) $$ H
  iintro H
  rw [show M.view.readAt (Elt F) (chunkRect k h).toLoadRect f = rowsOf X k by
    subst hf; rw [rowsOf, dif_pos h]; rfl]
  iapply (le_wp_ret (frame (nD := nD)) _ E (rowsOf X k) Q)
  iapply K
  iexists f
  isplitr; · ipureintro; exact hf
  iexact H

theorem wp_putF (M : Memref sig .tc .vmem S8x128 .f32) (v : FVec F S8x128 .f32) (Q : PUnit → sProp 𝕄) :
    iprop((∃ X, owns (c : Thread nD τ) M fullShare X) ∗ (owns (c : Thread nD τ) M fullShare v -∗ Q ⟨⟩))
      ⊢ wp frame (wpE (defs₀ (F := F)) Variants.none c none) E (putF M v) Q := by
  unfold putF
  rw [wp_bind]
  iintro ⟨⟨%X, H⟩, K⟩
  iapply (wp_get c E M X)
  isplitl [H]; · iexact H
  unfold owns Prog.lift
  iintro ⟨%f, %hf, H⟩
  iapply (wp_store_writes₀ Variants.none (c : Thread nD τ) none E (Q := Q) (S := M.view.set) (f := f)
    (View.set_slice_subset _ _)) $$ H
  iintro H
  iapply (le_wp_ret (frame (nD := nD)) _ E ⟨⟩ Q)
  iapply K
  iexists _
  isplitr
  rotate_left
  · iexact H
  · ipureintro
    rw [shapeCast_self]
    exact View.read_writes_full M.view f _ v []

theorem wp_putI (M : Memref sig .tc .vmem S8x128 .i32) (v : IVec S8x128 32) (Q : PUnit → sProp 𝕄) :
    iprop((∃ X, owns (c : Thread nD τ) M fullShare X) ∗ (owns (c : Thread nD τ) M fullShare (show Vec F S8x128 .i32 from v) -∗ Q ⟨⟩))
      ⊢ wp frame (wpE (defs₀ (F := F)) Variants.none c none) E (putI M v) Q := by
  unfold putI
  rw [wp_bind]
  iintro ⟨⟨%X, H⟩, K⟩
  iapply (wp_get c E M X)
  isplitl [H]; · iexact H
  unfold owns Prog.lift
  iintro ⟨%f, %hf, H⟩
  iapply (wp_store_writes₀ Variants.none (c : Thread nD τ) none E (Q := Q) (S := M.view.set) (f := f)
    (View.set_slice_subset _ _)) $$ H
  iintro H
  iapply (le_wp_ret (frame (nD := nD)) _ E ⟨⟩ Q)
  iapply K
  iexists _
  isplitr
  rotate_left
  · iexact H
  · ipureintro
    rw [shapeCast_self]
    exact View.read_writes_full M.view f _ (show Vec F S8x128 .i32 from v) []

theorem wp_rowF (M : Memref sig .tc .vmem S1x128 .f32) (v : FVec F S1x128 .f32) (Q : PUnit → sProp 𝕄) :
    iprop((∃ X, owns (c : Thread nD τ) M fullShare X) ∗ (owns (c : Thread nD τ) M fullShare v -∗ Q ⟨⟩))
      ⊢ wp frame (wpE (defs₀ (F := F)) Variants.none c none) E (rowF M v) Q := by
  unfold rowF
  rw [wp_bind]
  iintro ⟨⟨%X, H⟩, K⟩
  iapply (wp_getRow c E M X)
  isplitl [H]; · iexact H
  unfold owns Prog.lift
  iintro ⟨%f, %hf, H⟩
  iapply (wp_store_writes₀ Variants.none (c : Thread nD τ) none E (Q := Q) (S := M.view.set) (f := f)
    (View.set_slice_subset _ _)) $$ H
  iintro H
  iapply (le_wp_ret (frame (nD := nD)) _ E ⟨⟩ Q)
  iapply K
  iexists _
  isplitr
  rotate_left
  · iexact H
  · ipureintro
    exact View.read_writes_full M.view f _ v []

theorem wp_rowI (M : Memref sig .tc .vmem S1x128 .i32) (v : IVec S1x128 32) (Q : PUnit → sProp 𝕄) :
    iprop((∃ X, owns (c : Thread nD τ) M fullShare X) ∗ (owns (c : Thread nD τ) M fullShare (show Vec F S1x128 .i32 from v) -∗ Q ⟨⟩))
      ⊢ wp frame (wpE (defs₀ (F := F)) Variants.none c none) E (rowI M v) Q := by
  unfold rowI
  rw [wp_bind]
  iintro ⟨⟨%X, H⟩, K⟩
  iapply (wp_getRow c E M X)
  isplitl [H]; · iexact H
  unfold owns Prog.lift
  iintro ⟨%f, %hf, H⟩
  iapply (wp_store_writes₀ Variants.none (c : Thread nD τ) none E (Q := Q) (S := M.view.set) (f := f)
    (View.set_slice_subset _ _)) $$ H
  iintro H
  iapply (le_wp_ret (frame (nD := nD)) _ E ⟨⟩ Q)
  iapply K
  iexists _
  isplitr
  rotate_left
  · iexact H
  · ipureintro
    exact View.read_writes_full M.view f _ (show Vec F S1x128 .i32 from v) []

/-- The recursion over pairs of chunks, entered with the pairs before it done, ends with all of them done. -/
theorem wp_roll (M : Memref sig .tc .vmem S8192x128 .f32) (X : Vec F S8192x128 .f32) (ys : IVec S8x128 32) (N : Nat)
    (hN : N ≤ 512) (s : Acc F) (Q : Acc F → sProp 𝕄) : ∀ n, n ≤ N →
    iprop(owns (c : Thread nD τ) M fullShare X ∗ (owns (c : Thread nD τ) M fullShare X -∗ Q (pairs X ys N s)))
      ⊢ wp frame (wpE (defs₀ (F := F)) Variants.none c none) E (roll M ys N hN n (pairs X ys (N - n) s)) Q
  | 0, _ => by
    unfold roll
    iintro ⟨H, K⟩
    iapply (le_wp_ret (frame (nD := nD)) _ E (pairs X ys (N - 0) s) Q)
    iapply K
    iexact H
  | n + 1, h => by
    unfold roll
    rw [wp_bind]
    iintro ⟨H, K⟩
    iapply (wp_chunk c E M X)
    isplitl [H]; · iexact H
    iintro H
    rw [wp_bind]
    iapply (wp_chunk c E M X)
    isplitl [H]; · iexact H
    iintro H
    rw [shapeCast_self, shapeCast_self,
      show oddStep ys (BitVec.ofNat 32 (2 * (N - (n + 1)) + 1)) (rowsOf X (2 * (N - (n + 1)) + 1))
        (evenStep ys (BitVec.ofNat 32 (2 * (N - (n + 1)))) (rowsOf X (2 * (N - (n + 1)))) (pairs X ys (N - (n + 1)) s))
        = pairs X ys (N - n) s by rw [show N - n = N - (n + 1) + 1 by omega]; rfl]
    iapply (wp_roll M X ys N hN s Q n (by omega))
    isplitl [H]; · iexact H
    iexact K

/-! ## The body -/

section Body

variable (arg2 : Memref sig .tc .vmem S8192x128 .f32) (arg3 : Memref sig .tc .vmem S1x128 .i32)
  (arg4 : Memref sig .tc .vmem S1x128 .f32) (arg5 arg6 arg7 arg8 : Memref sig .tc .vmem S1x128 .i32)
  (arg9 : Memref sig .tc .vmem S1x128 .f32) (arg10 arg11 arg12 : Memref sig .tc .vmem S8x128 .f32)
  (arg13 arg14 arg15 : Memref sig .tc .vmem S8x128 .i32) (arg16 arg17 : Memref sig .tc .vmem S8x128 .f32)

/-- The scratch buffers hold the carried values. -/
def carried (r : Run F) : sProp 𝕄 :=
  iprop(owns (c : Thread nD τ) arg10 fullShare r.top.v1 ∗ owns (c : Thread nD τ) arg11 fullShare r.top.v2
    ∗ owns (c : Thread nD τ) arg12 fullShare r.top.v3
    ∗ owns (c : Thread nD τ) arg13 fullShare (show Vec F S8x128 .i32 from r.top.i1)
    ∗ owns (c : Thread nD τ) arg14 fullShare (show Vec F S8x128 .i32 from r.top.i2)
    ∗ owns (c : Thread nD τ) arg15 fullShare (show Vec F S8x128 .i32 from r.top.i3)
    ∗ owns (c : Thread nD τ) arg16 fullShare r.se ∗ owns (c : Thread nD τ) arg17 fullShare r.fy)

/-- The six rows of results hold what is computed from the carried values. -/
def rows (r : Run F) : sProp 𝕄 :=
  iprop(owns (c : Thread nD τ) arg4 fullShare (out0 r)
    ∗ owns (c : Thread nD τ) arg5 fullShare (show Vec F S1x128 .i32 from out1 r)
    ∗ owns (c : Thread nD τ) arg6 fullShare (show Vec F S1x128 .i32 from out2 r)
    ∗ owns (c : Thread nD τ) arg7 fullShare (show Vec F S1x128 .i32 from out3 r)
    ∗ owns (c : Thread nD τ) arg8 fullShare (show Vec F S1x128 .i32 from out4 r)
    ∗ owns (c : Thread nD τ) arg9 fullShare (out5 r))

/-- The six rows of results hold anything. -/
def anyRows : sProp 𝕄 :=
  iprop((∃ X, owns (c : Thread nD τ) arg4 fullShare (show Vec F S1x128 .f32 from X))
    ∗ (∃ X, owns (c : Thread nD τ) arg5 fullShare (show Vec F S1x128 .i32 from X))
    ∗ (∃ X, owns (c : Thread nD τ) arg6 fullShare (show Vec F S1x128 .i32 from X))
    ∗ (∃ X, owns (c : Thread nD τ) arg7 fullShare (show Vec F S1x128 .i32 from X))
    ∗ (∃ X, owns (c : Thread nD τ) arg8 fullShare (show Vec F S1x128 .i32 from X))
    ∗ (∃ X, owns (c : Thread nD τ) arg9 fullShare (show Vec F S1x128 .f32 from X)))

theorem wp_getRun (r : Run F) (Q : Run F → sProp 𝕄) :
    iprop(carried c arg10 arg11 arg12 arg13 arg14 arg15 arg16 arg17 r
        ∗ (carried c arg10 arg11 arg12 arg13 arg14 arg15 arg16 arg17 r -∗ Q r))
      ⊢ wp frame (wpE (defs₀ (F := F)) Variants.none c none) E
          (getRun (F := F) arg10 arg11 arg12 arg13 arg14 arg15 arg16 arg17) Q := by
  unfold getRun carried
  iintro ⟨⟨H0, H1, H2, H3, H4, H5, H6, H7⟩, K⟩
  rw [wp_bind]; iapply (wp_get c E arg10); isplitl [H0]; · iexact H0
  iintro H0
  rw [wp_bind]; iapply (wp_get c E arg11); isplitl [H1]; · iexact H1
  iintro H1
  rw [wp_bind]; iapply (wp_get c E arg12); isplitl [H2]; · iexact H2
  iintro H2
  rw [wp_bind]; iapply (wp_get c E arg13); isplitl [H3]; · iexact H3
  iintro H3
  rw [wp_bind]; iapply (wp_get c E arg14); isplitl [H4]; · iexact H4
  iintro H4
  rw [wp_bind]; iapply (wp_get c E arg15); isplitl [H5]; · iexact H5
  iintro H5
  rw [wp_bind]; iapply (wp_get c E arg16); isplitl [H6]; · iexact H6
  iintro H6
  rw [wp_bind]; iapply (wp_get c E arg17); isplitl [H7]; · iexact H7
  iintro H7
  iapply (le_wp_ret (frame (nD := nD)) _ E r Q)
  iapply K
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem wp_putRun (r : Run F) (Q : PUnit → sProp 𝕄) :
    iprop((∃ r' : Run F, carried c arg10 arg11 arg12 arg13 arg14 arg15 arg16 arg17 r')
        ∗ (carried c arg10 arg11 arg12 arg13 arg14 arg15 arg16 arg17 r -∗ Q ⟨⟩))
      ⊢ wp frame (wpE (defs₀ (F := F)) Variants.none c none) E
          (putRun (F := F) arg10 arg11 arg12 arg13 arg14 arg15 arg16 arg17 r) Q := by
  unfold putRun carried
  iintro ⟨⟨%r', H0, H1, H2, H3, H4, H5, H6, H7⟩, K⟩
  rw [wp_bind]; iapply (wp_putF c E arg10); isplitl [H0]; · iexists _; iexact H0
  iintro H0
  rw [wp_bind]; iapply (wp_putF c E arg11); isplitl [H1]; · iexists _; iexact H1
  iintro H1
  rw [wp_bind]; iapply (wp_putF c E arg12); isplitl [H2]; · iexists _; iexact H2
  iintro H2
  rw [wp_bind]; iapply (wp_putI c E arg13); isplitl [H3]; · iexists _; iexact H3
  iintro H3
  rw [wp_bind]; iapply (wp_putI c E arg14); isplitl [H4]; · iexists _; iexact H4
  iintro H4
  rw [wp_bind]; iapply (wp_putI c E arg15); isplitl [H5]; · iexists _; iexact H5
  iintro H5
  rw [wp_bind]; iapply (wp_putF c E arg16); isplitl [H6]; · iexists _; iexact H6
  iintro H6
  iapply (wp_putF c E arg17); isplitl [H7]; · iexists _; iexact H7
  iintro H7
  iapply K
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem wp_putOut (r : Run F) (Q : PUnit → sProp 𝕄) :
    iprop(anyRows (F := F) c arg4 arg5 arg6 arg7 arg8 arg9 ∗ (rows c arg4 arg5 arg6 arg7 arg8 arg9 r -∗ Q ⟨⟩))
      ⊢ wp frame (wpE (defs₀ (F := F)) Variants.none c none) E (putOut (F := F) arg4 arg5 arg6 arg7 arg8 arg9 r) Q := by
  unfold putOut rows anyRows
  iintro ⟨⟨H0, H1, H2, H3, H4, H5⟩, K⟩
  rw [wp_bind]; iapply (wp_rowF c E arg4); isplitl [H0]; · iexact H0
  iintro H0
  rw [wp_bind]; iapply (wp_rowI c E arg5); isplitl [H1]; · iexact H1
  iintro H1
  rw [wp_bind]; iapply (wp_rowI c E arg6); isplitl [H2]; · iexact H2
  iintro H2
  rw [wp_bind]; iapply (wp_rowI c E arg7); isplitl [H3]; · iexact H3
  iintro H3
  rw [wp_bind]; iapply (wp_rowI c E arg8); isplitl [H4]; · iexact H4
  iintro H4
  iapply (wp_rowF c E arg9); isplitl [H5]; · iexact H5
  iintro H5
  iapply K
  isplitl [H0]; · iexact H0
  isplitl [H1]; · iexact H1
  isplitl [H2]; · iexact H2
  isplitl [H3]; · iexact H3
  isplitl [H4]; · iexact H4
  iexact H5

/-- The whole tiles: the block is read, the carried values go one tile on. -/
theorem wp_fullTile (X : Vec F S8192x128 .f32) (y : IVec S1x128 32) (j : BitVec 32) (r : Run F) (Q : PUnit → sProp 𝕄) :
    iprop(owns (c : Thread nD τ) arg2 fullShare X ∗ carried c arg10 arg11 arg12 arg13 arg14 arg15 arg16 arg17 r
        ∗ (owns (c : Thread nD τ) arg2 fullShare X
            -∗ carried c arg10 arg11 arg12 arg13 arg14 arg15 arg16 arg17 (close j r (pairs X (ysel j y) 512 (acc0 r)))
            -∗ Q ⟨⟩))
      ⊢ wp frame (wpE (defs₀ (F := F)) Variants.none c none) E
          (fullTile (F := F) arg2 arg10 arg11 arg12 arg13 arg14 arg15 arg16 arg17 j y) Q := by
  unfold fullTile
  iintro ⟨HX, HR, K⟩
  rw [wp_bind]; iapply (wp_getRun c E arg10 arg11 arg12 arg13 arg14 arg15 arg16 arg17 r); isplitl [HR]; · iexact HR
  iintro HR
  rw [wp_bind]; iapply (wp_roll c E arg2 X (ysel j y) 512 (by omega) (acc0 r) _ 512 (by omega)); isplitl [HX]; · iexact HX
  iintro HX
  iapply (wp_putRun c E arg10 arg11 arg12 arg13 arg14 arg15 arg16 arg17); isplitl [HR]; · iexists _; iexact HR
  iintro HR
  iapply K $$ HX HR

/-- The last tile: its rows are read, the carried values go one tile on and the results are written. -/
theorem wp_lastTile (X : Vec F S8192x128 .f32) (y : IVec S1x128 32) (j : BitVec 32) (r : Run F) (Q : PUnit → sProp 𝕄) :
    iprop(owns (c : Thread nD τ) arg2 fullShare X ∗ carried c arg10 arg11 arg12 arg13 arg14 arg15 arg16 arg17 r
        ∗ anyRows (F := F) c arg4 arg5 arg6 arg7 arg8 arg9
        ∗ (owns (c : Thread nD τ) arg2 fullShare X
            -∗ carried c arg10 arg11 arg12 arg13 arg14 arg15 arg16 arg17
                (close j r (evenStep (ysel j y) 138#32 (maskLast (rowsOf X 138)) (pairs X (ysel j y) 69 (acc0 r))))
            -∗ rows c arg4 arg5 arg6 arg7 arg8 arg9
                (close j r (evenStep (ysel j y) 138#32 (maskLast (rowsOf X 138)) (pairs X (ysel j y) 69 (acc0 r))))
            -∗ Q ⟨⟩))
      ⊢ wp frame (wpE (defs₀ (F := F)) Variants.none c none) E
          (lastTile (F := F) arg2 arg4 arg5 arg6 arg7 arg8 arg9 arg10 arg11 arg12 arg13 arg14 arg15 arg16 arg17 j y) Q := by
  unfold lastTile
  iintro ⟨HX, HR, HO, K⟩
  rw [wp_bind]; iapply (wp_getRun c E arg10 arg11 arg12 arg13 arg14 arg15 arg16 arg17 r); isplitl [HR]; · iexact HR
  iintro HR
  rw [wp_bind]; iapply (wp_roll c E arg2 X (ysel j y) 69 (by omega) (acc0 r) _ 69 (by omega)); isplitl [HX]; · iexact HX
  iintro HX
  rw [wp_bind]; iapply (wp_chunk c E arg2 X); isplitl [HX]; · iexact HX
  iintro HX
  simp only [shapeCast_self]
  rw [wp_bind]; iapply (wp_putRun c E arg10 arg11 arg12 arg13 arg14 arg15 arg16 arg17); isplitl [HR]; · iexists _; iexact HR
  iintro HR
  iapply (wp_putOut c E arg4 arg5 arg6 arg7 arg8 arg9); isplitl [HO]; · iexact HO
  iintro HO
  iapply K $$ HX HR HO

end Body

end Cert.KernelIdeal.Rolled

end
-- ==== Proof.RunKernelIdeal.lean ====
/-
  KernelIdeal: the body at a grid point, the values carried from tile to tile, and the launch: the program runs to its
  end from any memory, its arguments end as they were, and its results' arrays hold the rows computed from the
  carried values.
-/
module

public import proofs.«01_k».proof.Proof.StepsKernelIdeal
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.VecWindow
public import Idealize.ShloMosaic.Lib.Claim
public import Idealize.ShloMosaic.Lib.Pipeline.Value
public import Idealize.ShloMosaic.Lib.Tactic
public import Mathlib.Tactic.IntervalCases

@[expose] public section

noncomputable section

namespace Cert.KernelIdeal.Rolled

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable [Facts]
open K0.Facts₀ Shapes1.Facts₀ Shapes2.Facts₀ Facts₀ Facts

local notation "𝕄" => MT nD τ sig Unit (Elt F) ℕ (UR sig nD τ) ℕ

/-! ## The conditions on the grid point -/

/-- The first test: the first tile. -/
theorem first_iff {j : Nat} (h : j < 7) :
    (Scalar.cmpi .ne (Scalar.extui (Scalar.cmpi .eq (BitVec.ofNat 32 j) 0#32) : BitVec 32) 0#32 = 1#1) ↔ j = 0 := by
  interval_cases j <;> decide

/-- The second test: a whole tile. -/
theorem whole_iff {j : Nat} (h : j < 7) :
    (Scalar.cmpi .ne (Scalar.extui (Scalar.cmpi .slt (BitVec.ofNat 32 j) 6#32) : BitVec 32) 0#32 = 1#1) ↔ j < 6 := by
  interval_cases j <;> decide

/-- The third test: the last tile. -/
theorem last_iff {j : Nat} (h : j < 7) :
    (Scalar.cmpi .ne (Scalar.extui (Scalar.cmpi .eq (BitVec.ofNat 32 j) 6#32) : BitVec 32) 0#32 = 1#1) ↔ j = 6 := by
  interval_cases j <;> decide

section Body

variable (arg2 : Memref sig .tc .vmem S8192x128 .f32) (arg3 : Memref sig .tc .vmem S1x128 .i32)
  (arg4 : Memref sig .tc .vmem S1x128 .f32) (arg5 arg6 arg7 arg8 : Memref sig .tc .vmem S1x128 .i32)
  (arg9 : Memref sig .tc .vmem S1x128 .f32) (arg10 arg11 arg12 : Memref sig .tc .vmem S8x128 .f32)
  (arg13 arg14 arg15 : Memref sig .tc .vmem S8x128 .i32) (arg16 arg17 : Memref sig .tc .vmem S8x128 .f32)
  (c : Dev nD) (E : Set ℕ)

/-- The body at a whole tile: the carried values go one tile on, the results are left alone. -/
theorem wp_body_whole (i : grid0.Coords) (hj : (i 1).val < 6) (X : Vec F S8192x128 .f32) (y : Vec F S1x128 .i32)
    (r : Run F) (Q : PUnit → sProp 𝕄) :
    iprop(owns (c : Thread nD τ) arg2 fullShare X ∗ owns (c : Thread nD τ) arg3 fullShare y
        ∗ (∃ r', ⌜(i 1).val ≠ 0 → r' = r⌝ ∗ carried c arg10 arg11 arg12 arg13 arg14 arg15 arg16 arg17 r')
        ∗ (owns (c : Thread nD τ) arg2 fullShare X -∗ owns (c : Thread nD τ) arg3 fullShare y
            -∗ carried c arg10 arg11 arg12 arg13 arg14 arg15 arg16 arg17 (stepRun (i 1).val X y r)
            -∗ Q ⟨⟩))
      ⊢ wp frame (wpE (defs₀ (F := F)) Variants.none c none) E
          (body (F := F) arg2 arg3 arg4 arg5 arg6 arg7 arg8 arg9 arg10 arg11 arg12 arg13 arg14 arg15 arg16 arg17 i) Q := by
  have h7 : (i 1).val < 7 := (i 1).isLt
  have e2 := (whole_iff h7).mpr hj
  have e3 := mt (last_iff h7).mp (by omega)
  unfold body
  iintro ⟨HX, HY, ⟨%r', %hr, HR⟩, K⟩
  by_cases h0 : (i 1).val = 0
  · have e1 := (first_iff h7).mpr h0
    rw [dif_pos e1, wp_bind]
    iapply (wp_putRun c E arg10 arg11 arg12 arg13 arg14 arg15 arg16 arg17); isplitl [HR]; · iexists _; iexact HR
    iintro HR
    rw [wp_bind]; iapply (wp_getRow c E arg3); isplitl [HY]; · iexact HY
    iintro HY
    rw [dif_pos e2, wp_bind]
    iapply (wp_fullTile c E arg2 arg10 arg11 arg12 arg13 arg14 arg15 arg16 arg17 X)
    isplitl [HX]; · iexact HX
    isplitl [HR]; · iexact HR
    iintro HX HR
    beta_reduce
    rw [dif_neg e3]
    iapply (le_wp_ret (frame (nD := nD)) _ E (⟨⟩ : PUnit) Q)
    rw [show stepRun (i 1).val X y r = close (BitVec.ofNat 32 (i 1).val) run0
        (pairs X (ysel (BitVec.ofNat 32 (i 1).val) y) 512 (acc0 run0)) by
      unfold stepRun enter; rw [if_pos hj, if_pos h0]]
    simp only [shapeCast_self]
    iapply K $$ HX HY HR
  · have e1 := mt (first_iff h7).mp h0
    obtain rfl := hr h0
    rw [dif_neg e1, wp_bind]; iapply (wp_getRow c E arg3); isplitl [HY]; · iexact HY
    iintro HY
    rw [dif_pos e2, wp_bind]
    iapply (wp_fullTile c E arg2 arg10 arg11 arg12 arg13 arg14 arg15 arg16 arg17 X)
    isplitl [HX]; · iexact HX
    isplitl [HR]; · iexact HR
    iintro HX HR
    beta_reduce
    rw [dif_neg e3]
    iapply (le_wp_ret (frame (nD := nD)) _ E (⟨⟩ : PUnit) Q)
    rw [show stepRun (i 1).val X y r' = close (BitVec.ofNat 32 (i 1).val) r'
        (pairs X (ysel (BitVec.ofNat 32 (i 1).val) y) 512 (acc0 r')) by
      unfold stepRun enter; rw [if_pos hj, if_neg h0]]
    simp only [shapeCast_self]
    iapply K $$ HX HY HR

/-- The body at the last tile: the carried values go one tile on and the results are written. -/
theorem wp_body_last (i : grid0.Coords) (hj : (i 1).val = 6) (X : Vec F S8192x128 .f32) (y : Vec F S1x128 .i32)
    (r : Run F) (Q : PUnit → sProp 𝕄) :
    iprop(owns (c : Thread nD τ) arg2 fullShare X ∗ owns (c : Thread nD τ) arg3 fullShare y
        ∗ anyRows (F := F) c arg4 arg5 arg6 arg7 arg8 arg9
        ∗ carried c arg10 arg11 arg12 arg13 arg14 arg15 arg16 arg17 r
        ∗ (owns (c : Thread nD τ) arg2 fullShare X -∗ owns (c : Thread nD τ) arg3 fullShare y
            -∗ rows c arg4 arg5 arg6 arg7 arg8 arg9 (stepRun (i 1).val X y r)
            -∗ carried c arg10 arg11 arg12 arg13 arg14 arg15 arg16 arg17 (stepRun (i 1).val X y r)
            -∗ Q ⟨⟩))
      ⊢ wp frame (wpE (defs₀ (F := F)) Variants.none c none) E
          (body (F := F) arg2 arg3 arg4 arg5 arg6 arg7 arg8 arg9 arg10 arg11 arg12 arg13 arg14 arg15 arg16 arg17 i) Q := by
  have h7 : (i 1).val < 7 := (i 1).isLt
  have e1 := mt (first_iff h7).mp (by omega)
  have e2 := mt (whole_iff h7).mp (by omega)
  have e3 := (last_iff h7).mpr hj
  unfold body
  iintro ⟨HX, HY, HO, HR, K⟩
  rw [dif_neg e1, wp_bind]; iapply (wp_getRow c E arg3); isplitl [HY]; · iexact HY
  iintro HY
  rw [dif_neg e2]
  beta_reduce
  rw [dif_pos e3, wp_bind]
  iapply (wp_lastTile c E arg2 arg4 arg5 arg6 arg7 arg8 arg9 arg10 arg11 arg12 arg13 arg14 arg15 arg16 arg17 X)
  isplitl [HX]; · iexact HX
  isplitl [HR]; · iexact HR
  isplitl [HO]; · iexact HO
  iintro HX HR HO
  iapply (le_wp_ret (frame (nD := nD)) _ E (⟨⟩ : PUnit) Q)
  rw [show stepRun (i 1).val X y r = close (BitVec.ofNat 32 (i 1).val) r
      (evenStep (ysel (BitVec.ofNat 32 (i 1).val) y) 138#32 (maskLast (rowsOf X 138))
        (pairs X (ysel (BitVec.ofNat 32 (i 1).val) y) 69 (acc0 r))) by
    unfold stepRun enter; rw [if_neg (by omega), if_neg (by omega)]]
  simp only [shapeCast_self]
  iapply K $$ HX HY HO HR

end Body

/-! ## The block's transferred part -/

theorem xsize0 (i : grid0.Coords) : win0_0.xsize i 0 = if (i 1).val < 6 then 8192 else 1105 := by
  have h7 : (i 1).val < 7 := (i 1).isLt
  have e : cc0_transform_0 i 0 = (i 1).val := by
    show (BitVec.ofNat 32 (i 1).val).toNat = _
    rw [BitVec.toNat_ofNat]; exact Nat.mod_eq_of_lt (by omega)
  show (Pipeline.Clip.of (cc0_transform_0 i 0) 8192 50257).extent 8192 = _
  rw [e]
  generalize (i 1).val = j at h7
  interval_cases j <;> decide

theorem xsize1 (i : grid0.Coords) : win0_0.xsize i 1 = 128 := by
  have h32 : (i 0).val < 32 := (i 0).isLt
  have e : cc0_transform_0 i 1 = (i 0).val := by
    show (BitVec.ofNat 32 (i 0).val).toNat = _
    rw [BitVec.toNat_ofNat]; exact Nat.mod_eq_of_lt (by omega)
  show (Pipeline.Clip.of (cc0_transform_0 i 1) 128 4096).extent 128 = _
  rw [e]
  generalize (i 0).val = j at h32
  interval_cases j <;> decide

theorem moved0_iff (i : grid0.Coords) (x : S8192x128.Idx) :
    win0_0.moved i x = true ↔ (x 0).val < (if (i 1).val < 6 then 8192 else 1105) := by
  rw [win0_0.moved_iff]
  constructor
  · intro h; have := h 0; rw [xsize0] at this; exact this
  · intro h a
    match a with
    | 0 => rw [xsize0]; exact h
    | 1 => rw [xsize1]; exact (x 1).isLt

/-- Two blocks that agree on the rows used. -/
def AgreeTo (n : Nat) (X X' : S8192x128.Idx → F .f32) : Prop := ∀ x, (x 0).val < n → X x = X' x

theorem rowsOf_congr {n : Nat} {X X' : S8192x128.Idx → F .f32} (h : AgreeTo n X X') (k : Nat) (hk : 8 * k + 8 ≤ n) :
    rowsOf X k = rowsOf X' k := by
  unfold rowsOf
  split
  · funext x
    refine h _ ?_
    have : (((chunkRect k ‹_›).idx x) 0).val = 8 * k + (x 0).val := (congrArg (8 * k + ·) (Nat.one_mul (x 0).val) :)
    have hx : (x 0).val < 8 := (x 0).isLt
    omega
  · rfl

theorem maskLast_congr {X X' : S8192x128.Idx → F .f32} (h : AgreeTo 1105 X X') :
    maskLast (rowsOf X 138) = maskLast (rowsOf X' 138) := by
  funext x
  unfold maskLast
  by_cases hx : (x 0).val = 0
  · have : rowsOf X 138 x = rowsOf X' 138 x := by
      unfold rowsOf
      rw [dif_pos (by omega), dif_pos (by omega)]
      refine h _ ?_
      have : (((chunkRect 138 (by omega)).idx x) 0).val = 8 * 138 + (x 0).val := (congrArg (8 * 138 + ·) (Nat.one_mul (x 0).val) :)
      omega
    unfold Idealize.ShloMosaic.select
    rw [this]
  · have hc : ∀ hi, cmpi .slt (iota .tc S8x128 32 [0] hi) (broadcast S8x128 1#32) x = 0#1 := by
      intro hi
      have h8 : (x 0).val < 8 := (x 0).isLt
      show Scalar.cmpi .slt (iota .tc S8x128 32 [0] hi x) 1#32 = 0#1
      rw [iota_single_apply]
      generalize (x 0).val = n at hx h8
      interval_cases n <;> first | exact absurd rfl hx | decide
    unfold Idealize.ShloMosaic.select
    rw [hc]
    rfl

theorem pairs_congr {n : Nat} {X X' : S8192x128.Idx → F .f32} (h : AgreeTo n X X') (ys : IVec S8x128 32) (s : Acc F) :
    ∀ k, 16 * k ≤ n → pairs X ys k s = pairs X' ys k s
  | 0, _ => rfl
  | k + 1, hk => by
    unfold pairs
    rw [pairs_congr h ys s k (by omega), rowsOf_congr h (2 * k) (by omega), rowsOf_congr h (2 * k + 1) (by omega)]

theorem stepRun_congr {j : Nat} {X X' : S8192x128.Idx → F .f32} (h : AgreeTo (if j < 6 then 8192 else 1105) X X')
    (y : IVec S1x128 32) (r : Run F) : stepRun j X y r = stepRun j X' y r := by
  unfold stepRun
  by_cases hj : j < 6
  · rw [if_pos hj] at h
    rw [if_pos hj, if_pos hj, pairs_congr h _ _ 512 (by omega)]
  · rw [if_neg hj] at h
    rw [if_neg hj, if_neg hj, pairs_congr h _ _ 69 (by omega), maskLast_congr h]

/-! ## The values carried through the grid -/

variable (m : (ℓ : Loc nD τ sig) → Buf (Elt F) ℓ) (ρ : Dev nD → PrngReg)

/-- The block of logits at a grid point, zero beyond the array's last row. -/
def tileAt (c : Dev nD) (t : Fin cfg0.N) : Vec F S8192x128 .f32 :=
  win0_0.fill (grid0.coords t) (fun _ => Scalar.ofBits .f32 0x00000000#32) (iblk m c 0 t)

/-- The row of labels at a grid point. -/
def labelAt (c : Dev nD) (t : Fin cfg0.N) : Vec F S1x128 .i32 := iblk m c 1 t

/-- The carried values before the grid point numbered `n`. -/
def runAt (c : Dev nD) : Nat → Run F
  | 0 => run0
  | n + 1 => if h : n < cfg0.N then stepRun (n % 7) (tileAt m c ⟨n, h⟩) (labelAt m c ⟨n, h⟩) (runAt c n) else runAt c n

theorem runAt_succ (c : Dev nD) (t : Fin cfg0.N) :
    runAt m c (t.val + 1) = stepRun (t.val % 7) (tileAt m c t) (labelAt m c t) (runAt m c t.val) := by
  show (if h : t.val < cfg0.N then _ else _) = _
  rw [dif_pos t.isLt]

theorem coord1 (t : Fin cfg0.N) : (grid0.coords t 1).val = t.val % 7 := by
  have h := Pipeline.Grid.coords_val (G := grid0) t 1 (S := 1) (B := 7) (by decide) rfl
  rw [Nat.div_one] at h
  exact h

theorem agree_fill (t : Fin cfg0.N) (d d' : S8192x128.Idx → F .f32) (g) :
    AgreeTo (if t.val % 7 < 6 then 8192 else 1105) (win0_0.fill (grid0.coords t) d g) (win0_0.fill (grid0.coords t) d' g) := by
  intro x hx
  have hm := (moved0_iff (grid0.coords t) x).mpr (by rw [coord1]; exact hx)
  unfold Pipeline.Window.fill
  rw [dif_pos hm, dif_pos hm]

/-- The scratch buffers. -/
abbrev scr0 : Memref sig .tc .vmem S8x128 .f32 := Memref.whole cc0_scratch0
abbrev scr1 : Memref sig .tc .vmem S8x128 .f32 := Memref.whole cc0_scratch1
abbrev scr2 : Memref sig .tc .vmem S8x128 .f32 := Memref.whole cc0_scratch2
abbrev scr3 : Memref sig .tc .vmem S8x128 .i32 := Memref.whole cc0_scratch3
abbrev scr4 : Memref sig .tc .vmem S8x128 .i32 := Memref.whole cc0_scratch4
abbrev scr5 : Memref sig .tc .vmem S8x128 .i32 := Memref.whole cc0_scratch5
abbrev scr6 : Memref sig .tc .vmem S8x128 .f32 := Memref.whole cc0_scratch6
abbrev scr7 : Memref sig .tc .vmem S8x128 .f32 := Memref.whole cc0_scratch7

/-- The scratch buffers hold the carried values. -/
def held (c : Dev nD) (r : Run F) : sProp 𝕄 := carried c scr0 scr1 scr2 scr3 scr4 scr5 scr6 scr7 r

/-- Before the point numbered `n` the scratch buffers hold the carried values, or anything where a row of blocks begins. -/
def Inv (c : Dev nD) (n : Nat) : sProp 𝕄 :=
  iprop((∃ r', ⌜n % 7 ≠ 0 → r' = runAt m c n⌝ ∗ held c r') ∗ ∃ g, prngReg c g)

theorem any_held (c : Dev nD) : (Pipeline.ΦA spec0 c : sProp 𝕄) ⊣⊢ iprop((∃ r : Run F, held c r) ∗ ∃ g, prngReg c g) := by
  unfold Pipeline.ΦA held carried
  rw [scopedRest0_eq]
  simp only [owns_whole]
  constructor
  · iintro ⟨⟨⟨%f0, H0⟩, ⟨%f1, H1⟩, ⟨%f2, H2⟩, ⟨%f3, H3⟩, ⟨%f4, H4⟩, ⟨%f5, H5⟩, ⟨%f6, H6⟩, ⟨%f7, H7⟩⟩, Hg⟩
    isplitr [Hg]
    rotate_left
    · iexact Hg
    · iexists (⟨⟨f0, f1, f2, f3, f4, f5⟩, f6, f7⟩ : Run F)
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · iintro ⟨⟨%r, H0, H1, H2, H3, H4, H5, H6, H7⟩, Hg⟩
    isplitr [Hg]
    rotate_left
    · iexact Hg
    · isplitl [H0]; · iexists _; iexact H0
      isplitl [H1]; · iexists _; iexact H1
      isplitl [H2]; · iexists _; iexact H2
      isplitl [H3]; · iexists _; iexact H3
      isplitl [H4]; · iexists _; iexact H4
      isplitl [H5]; · iexists _; iexact H5
      isplitl [H6]; · iexists _; iexact H6
      iexists _; iexact H7

/-- The proof data: the arrays as the region finds them, the inputs left in place, the results' rows those of the
    carried values after the point. -/
def dats (_ : Fin 1) (c : Dev nD) : Dat τ (Elt F) Unit ℕ (UR sig nD τ) ℕ cfg0 c where
  A w := V m c (Pipeline.arrRef spec0 w)
  after w t := match w with
    | ⟨0, _⟩ => tileAt m c t
    | ⟨1, _⟩ => labelAt m c t
    | ⟨2, _⟩ => out0 (runAt m c (t.val + 1))
    | ⟨3, _⟩ => (show Vec F S1x128 .i32 from out1 (runAt m c (t.val + 1)))
    | ⟨4, _⟩ => (show Vec F S1x128 .i32 from out2 (runAt m c (t.val + 1)))
    | ⟨5, _⟩ => (show Vec F S1x128 .i32 from out3 (runAt m c (t.val + 1)))
    | ⟨6, _⟩ => (show Vec F S1x128 .i32 from out4 (runAt m c (t.val + 1)))
    | ⟨7, _⟩ => out5 (runAt m c (t.val + 1))
    | ⟨_ + 8, h⟩ => absurd h (Nat.not_lt.2 (Nat.le_add_left _ _))
  Φ t := Inv m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = tileAt m c t := by
  dsimp only [dats]; first | done | rfl
theorem after1 (c : Dev nD) (t : Fin cfg0.N) : (dats m 0 c).after 1 t = iblk m c 1 t := by
  dsimp only [dats]; first | done | rfl
theorem after2 (c : Dev nD) (t : Fin cfg0.N) : (dats m 0 c).after 2 t = out0 (runAt m c (t.val + 1)) := by
  dsimp only [dats]; first | done | rfl
theorem after3 (c : Dev nD) (t : Fin cfg0.N) :
    (dats m 0 c).after 3 t = (show Vec F S1x128 .i32 from out1 (runAt m c (t.val + 1))) := by
  dsimp only [dats]; first | done | rfl
theorem after4 (c : Dev nD) (t : Fin cfg0.N) :
    (dats m 0 c).after 4 t = (show Vec F S1x128 .i32 from out2 (runAt m c (t.val + 1))) := by
  dsimp only [dats]; first | done | rfl
theorem after5 (c : Dev nD) (t : Fin cfg0.N) :
    (dats m 0 c).after 5 t = (show Vec F S1x128 .i32 from out3 (runAt m c (t.val + 1))) := by
  dsimp only [dats]; first | done | rfl
theorem after6 (c : Dev nD) (t : Fin cfg0.N) :
    (dats m 0 c).after 6 t = (show Vec F S1x128 .i32 from out4 (runAt m c (t.val + 1))) := by
  dsimp only [dats]; first | done | rfl
theorem after7 (c : Dev nD) (t : Fin cfg0.N) : (dats m 0 c).after 7 t = out5 (runAt m c (t.val + 1)) := by
  dsimp only [dats]; first | done | rfl

/-- The labels' buffer holds its row at every point. -/
theorem before1 (c : Dev nD) (t : Fin cfg0.N) (d) : (dats m 0 c).before 1 t d = iblk m c 1 t :=
  before0_1_of m (dats m 0 c) (A_eq m c 1) (after1 m c) t d

/-- The logits' buffer holds its block on the part transferred, and what it held before on the rest. -/
theorem before0 (c : Dev nD) (t : Fin cfg0.N) (d) :
    (dats m 0 c).before 0 t d = win0_0.fill (grid0.coords t) d (iblk m c 0 t) := by
  unfold Dat.before
  refine (if_pos (fetch0_0 t)).trans ?_
  unfold Dat.fetched Dat.blockOf iblk
  rw [A_eq]
  rfl

theorem step_before (c : Dev nD) (t : Fin cfg0.N) (d) (r : Run F) :
    stepRun (t.val % 7) (win0_0.fill (grid0.coords t) d (iblk m c 0 t)) (labelAt m c t) r
      = stepRun (t.val % 7) (tileAt m c t) (labelAt m c t) r :=
  stepRun_congr (agree_fill t d _ _) _ _

theorem live_leaves {cfg : Cfg sig Λ₀} {c : Dev nD} (dat : Dat τ (Elt F) Unit ℕ (UR sig nD τ) ℕ cfg c) (w : Fin cfg.W)
    (t : Fin cfg.N) (hi : cfg.idle w (cfg.grid.coords t) = false) :
    owns (c : Thread nD τ) ((cfg.win w).stage (cfg.slots t w)) fullShare (dat.after w t) ⊢ (dat.leaves w t : sProp 𝕄) := by
  refine BIBase.Entails.trans ?_ (dat.leaves_intro w t)
  unfold Dat.leavesExact
  rw [hi]

theorem idle_leaves {cfg : Cfg sig Λ₀} {c : Dev nD} (dat : Dat τ (Elt F) Unit ℕ (UR sig nD τ) ℕ cfg c) (w : Fin cfg.W)
    (t : Fin cfg.N) (hi : cfg.idle w (cfg.grid.coords t) = true) (hf : (cfg.win w).flush t = false) (d) :
    owns (c : Thread nD τ) ((cfg.win w).stage (cfg.slots t w)) fullShare (dat.before w t d) ⊢ (dat.leaves w t : sProp 𝕄) := by
  rw [Dat.leaves_idle dat w t hi hf]
  iintro H
  iexists d
  iexact H

theorem found0 (c : Dev nD) (t : Fin cfg0.N) (d) :
    owns (c : Thread nD τ) (st0_0 t) fullShare ((dats m 0 c).before 0 t d)
      ⊢ (owns (c : Thread nD τ) (st0_0 t) fullShare (win0_0.fill (grid0.coords t) d (iblk m c 0 t)) : sProp 𝕄) :=
  BIBase.Entails.of_eq (congrArg (owns (c : Thread nD τ) (st0_0 t) fullShare) (before0 m c t d))

theorem found1 (c : Dev nD) (t : Fin cfg0.N) (d) :
    owns (c : Thread nD τ) (st0_1 t) fullShare ((dats m 0 c).before 1 t d)
      ⊢ (owns (c : Thread nD τ) (st0_1 t) fullShare (labelAt m c t) : sProp 𝕄) :=
  BIBase.Entails.of_eq (congrArg (owns (c : Thread nD τ) (st0_1 t) fullShare) (before1 m c t d))

/-- The logits' buffer is left as found. -/
theorem leaves0 (c : Dev nD) (t : Fin cfg0.N) (d) :
    owns (c : Thread nD τ) (st0_0 t) fullShare (win0_0.fill (grid0.coords t) d (iblk m c 0 t)) ⊢ ((dats m 0 c).leaves (0 : Fin 8) t : sProp 𝕄) := by
  show _ ⊢ iprop(∃ d, owns (c : Thread nD τ) (st0_0 t) fullShare
    (win0_0.fill (grid0.coords t) d (win0_0.cut (grid0.coords t) ((dats m 0 c).after 0 t))))
  rw [after0]
  unfold tileAt
  rw [Pipeline.Window.cut_fill]
  iintro H
  iexists d
  iexact H

theorem idle_iff (t : Fin cfg0.N) : (!(k0_cond3 (grid0.coords t) == 1#1)) = true ↔ t.val % 7 ≠ 6 := by
  have h := last_iff (j := (grid0.coords t 1).val) (grid0.coords t 1).isLt
  rw [coord1] at h
  rw [show k0_cond3 (grid0.coords t) = Scalar.cmpi .ne (Scalar.extui (Scalar.cmpi .eq (BitVec.ofNat 32 (t.val % 7)) 6#32) : BitVec 32) 0#32 by
    rw [← coord1]; rfl]
  rw [Bool.not_eq_true', beq_eq_false_iff_ne, Ne, h]

/-- The body at any point, from what the pipeline hands it to what it takes back. -/
theorem sound_body (c : Dev nD) (t : Fin cfg0.N) :
    iprop((dats m 0 c).Φ t.castSucc ∗ (dats m 0 c).owesAt () t.castSucc
        ∗ bigSep Finset.univ fun w : Fin cfg0.W =>
            iprop(∃ d, owns (c : Thread nD τ) ((cfg0.win w).stage (cfg0.slots t w)) fullShare ((dats m 0 c).before w t d)))
      ⊢ wp frame (wpE (defs₀ (F := F)) Variants.none c none) Set.univ (bodyAt0 t) fun _ =>
          iprop((dats m 0 c).Φ t.succ ∗ (dats m 0 c).owesAt () t.succ
            ∗ bigSep Finset.univ fun w : Fin cfg0.W => (dats m 0 c).leaves w t) := by
  rw [bigSep_W0, bigSep_W0]
  rw [show (dats m 0 c).Φ t.castSucc = Inv m c t.val from rfl, show (dats m 0 c).Φ t.succ = Inv m c (t.val + 1) from rfl,
    show (dats m 0 c).owesAt () t.succ = (dats m 0 c).owesAt () t.castSucc from rfl]
  unfold bodyAt0
  rw [body_eq]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  unfold Inv
  icases HΦ with ⟨⟨%r', %hr, HR⟩, Hg⟩
  unfold held
  by_cases h6 : t.val % 7 = 6
  · obtain rfl := hr (by omega)
    have hid : ∀ b, (!(k0_cond3 (grid0.coords t) == 1#1)) = b → b = false := fun b hb => by
      cases b
      · rfl
      · exact absurd h6 ((idle_iff t).mp hb)
    have hid := hid _ rfl
    iapply (wp_body_last (st0_0 t) (st0_1 t) (st0_2 t) (st0_3 t) (st0_4 t) (st0_5 t) (st0_6 t) (st0_7 t)
      scr0 scr1 scr2 scr3 scr4 scr5 scr6 scr7 c Set.univ (grid0.coords t) ((coord1 t).trans h6) (win0_0.fill (grid0.coords t) d0 (iblk m c 0 t)) (labelAt m c t) (runAt m c t.val))
    isplitl [H0]
    · iapply (found0 m c t d0); iexact H0
    isplitl [H1]
    · iapply (found1 m c t d1); iexact H1
    isplitl [H2 H3 H4 H5 H6 H7]
    · unfold anyRows
      isplitl [H2]; · iexists _; iexact H2
      isplitl [H3]; · iexists _; iexact H3
      isplitl [H4]; · iexists _; iexact H4
      isplitl [H5]; · iexists _; iexact H5
      isplitl [H6]; · iexists _; iexact H6
      iexists _; iexact H7
    isplitl [HR]; · iexact HR
    iintro H0 H1 HO HR
    rw [coord1, step_before, ← runAt_succ]
    unfold rows
    icases HO with ⟨H2, H3, H4, H5, H6, H7⟩
    isplitl [HR Hg]
    · isplitl [HR]
      · iexists _
        isplitr
        rotate_left
        · iexact HR
        · ipureintro; intro _; rfl
      · iexact Hg
    isplitl [Ho]; · iexact Ho
    isplitl [H0]
    · iapply (leaves0 m c t d0); iexact H0
    isplitl [H1]
    · iapply (live_leaves (dats m 0 c) (1 : Fin 8) t rfl); rw [after1]; iexact H1
    isplitl [H2]
    · iapply (live_leaves (dats m 0 c) 2 t hid); rw [after2]; iexact H2
    isplitl [H3]
    · iapply (live_leaves (dats m 0 c) 3 t hid); rw [after3]; iexact H3
    isplitl [H4]
    · iapply (live_leaves (dats m 0 c) 4 t hid); rw [after4]; iexact H4
    isplitl [H5]
    · iapply (live_leaves (dats m 0 c) 5 t hid); rw [after5]; iexact H5
    isplitl [H6]
    · iapply (live_leaves (dats m 0 c) 6 t hid); rw [after6]; iexact H6
    iapply (live_leaves (dats m 0 c) 7 t hid); rw [after7]; iexact H7
  · have hid := (idle_iff t).mpr h6
    have hf : ∀ w : Fin cfg0.W, ((cfg0.win w).flush t = true ↔ t.val % 7 = 6) → (cfg0.win w).flush t = false := fun w h => by
      rw [← Bool.not_eq_true]; exact mt h.mp h6
    iapply (wp_body_whole (st0_0 t) (st0_1 t) (st0_2 t) (st0_3 t) (st0_4 t) (st0_5 t) (st0_6 t) (st0_7 t)
      scr0 scr1 scr2 scr3 scr4 scr5 scr6 scr7 c Set.univ (grid0.coords t) (by rw [coord1]; omega) (win0_0.fill (grid0.coords t) d0 (iblk m c 0 t)) (labelAt m c t) (runAt m c t.val))
    isplitl [H0]
    · iapply (found0 m c t d0); iexact H0
    isplitl [H1]
    · iapply (found1 m c t d1); iexact H1
    isplitl [HR]
    · iexists r'
      isplitr
      rotate_left
      · iexact HR
      · ipureintro; intro h; exact hr (by rw [coord1] at h; exact h)
    iintro H0 H1 HR
    rw [coord1, step_before, ← runAt_succ]
    isplitl [HR Hg]
    · isplitl [HR]
      · iexists _
        isplitr
        rotate_left
        · iexact HR
        · ipureintro; intro _; rfl
      · iexact Hg
    isplitl [Ho]; · iexact Ho
    isplitl [H0]
    · iapply (leaves0 m c t d0); iexact H0
    isplitl [H1]
    · iapply (live_leaves (dats m 0 c) (1 : Fin 8) t rfl); rw [after1]; iexact H1
    isplitl [H2]
    · iapply (idle_leaves (dats m 0 c) 2 t hid (hf 2 (flush0_2 t)) d2); iexact H2
    isplitl [H3]
    · iapply (idle_leaves (dats m 0 c) 3 t hid (hf 3 (flush0_3 t)) d3); iexact H3
    isplitl [H4]
    · iapply (idle_leaves (dats m 0 c) 4 t hid (hf 4 (flush0_4 t)) d4); iexact H4
    isplitl [H5]
    · iapply (idle_leaves (dats m 0 c) 5 t hid (hf 5 (flush0_5 t)) d5); iexact H5
    isplitl [H6]
    · iapply (idle_leaves (dats m 0 c) 6 t hid (hf 6 (flush0_6 t)) d6); iexact H6
    iapply (idle_leaves (dats m 0 c) 7 t hid (hf 7 (flush0_7 t)) d7); iexact H7

/-- The body table's row at a point is the body there. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) :
    Pipeline.BodyObligationLoose (dats (F := F) m 0 c) (defs₀ (F := F)) Variants.none () Set.univ := fun t => by
  rw [defs₀_row]
  exact sound_body m c t

/-! ## The launch -/

theorem hin (c : Dev nD) : Pipeline.ΦA spec0 c ⊢ (dats m 0 c).Φ 0 := by
  refine (any_held c).1.trans ?_
  show _ ⊢ Inv m c 0
  unfold Inv
  iintro ⟨⟨%r, HR⟩, Hg⟩
  isplitr [Hg]
  rotate_left
  · iexact Hg
  · iexists r
    isplitr
    rotate_left
    · iexact HR
    · ipureintro; intro h; exact absurd rfl h

theorem hout (c : Dev nD) : (dats m 0 c).Φ (Fin.last cfg0.N) ⊢ Pipeline.ΦA spec0 c := by
  refine BIBase.Entails.trans ?_ (any_held c).2
  show Inv m c _ ⊢ _
  unfold Inv
  iintro ⟨⟨%r, -, HR⟩, Hg⟩
  isplitr [Hg]
  rotate_left
  · iexact Hg
  · iexists r
    iexact HR

set_option backward.isDefEq.respectTransparency.types false in
/-- The launch: the arrays end as the proof data has them, the other buffers as the host lines after the region leave
    them, every counter at zero. -/
theorem run_main : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs to its end, its arguments end as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Rolled

end
-- ==== Proof.ReferenceRun.lean ====
/-
  The reference program: its operations as a list, and its run: every execution ends with each result at the
  operations' composed term of the arguments, the arguments unchanged.
-/
module

public import proofs.«01_k».proof.Proof.Gen.ReferenceIdeal
public import proofs.«01_k».proof.ReferenceIdeal
public import Idealize.ShloMosaic.Lib.StableHlo.Run

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v44`, named. It packs its operands into a list of dependent pairs
    whose shapes a later argument's type mentions, so `simp` cannot rewrite an operand where it stands; applied by
    name, the operands are plain arguments, which `run`'s simp pass rewrites before the name unfolds. -/
def fn_main_v44 : (⟨S4096x3x1, .i32⟩ : BufTy).Contents (Elt F) → (⟨S4096x3x1, .i32⟩ : BufTy).Contents (Elt F) → (⟨S4096x3x2, .i32⟩ : BufTy).Contents (Elt F) :=
  (fun a b => concatenate S4096x3x2 2 [⟨S4096x3x1, a⟩, ⟨S4096x3x1, b⟩] concatenates_S4096x3x1_S4096x3x1_S4096x3x2_d2)

/-- @main's 145 operations, in order (a called function's operations stand in its call's place, spelt `TRef.…`). -/
abbrev ops : List (HloOp τ sig (Elt F)) :=
  [ nullary main_cst (constant S_ .f32 0xFF800000#32),
    binary main_arg0 main_cst main_v0 ((fun x v => Host.reduce FloatOps.maximumf x v reducesTo_S4096x50257_S4096_d1 h_S_) : (⟨S4096x50257, .f32⟩ : BufTy).Contents (Elt F) → (⟨S_, .f32⟩ : BufTy).Contents (Elt F) → (⟨S4096, .f32⟩ : BufTy).Contents (Elt F)),
    nullary main_cst_0 (constant S_ .f32 0xFF800000#32),
    unary main_cst_0 main_v1 (broadcastInDim S4096 ![] bcast_S_S4096 : (⟨S_, .f32⟩ : BufTy).Contents (Elt F) → (⟨S4096, .f32⟩ : BufTy).Contents (Elt F)),
    binary main_v1 main_v0 main_v2 (maximumf : (⟨S4096, .f32⟩ : BufTy).Contents (Elt F) → (⟨S4096, .f32⟩ : BufTy).Contents (Elt F) → (⟨S4096, .f32⟩ : BufTy).Contents (Elt F)),
    unary main_v2 main_v3 (broadcastInDim S4096x1 ![0] bcast_S4096_S4096x1_0 : (⟨S4096, .f32⟩ : BufTy).Contents (Elt F) → (⟨S4096x1, .f32⟩ : BufTy).Contents (Elt F)),
    unary main_v3 main_v4 (broadcastInDim S4096x50257 ![0, 1] bcast_S4096x1_S4096x50257_0_1 : (⟨S4096x1, .f32⟩ : BufTy).Contents (Elt F) → (⟨S4096x50257, .f32⟩ : BufTy).Contents (Elt F)),
    binary main_arg0 main_v4 main_v5 (subf : (⟨S4096x50257, .f32⟩ : BufTy).Contents (Elt F) → (⟨S4096x50257, .f32⟩ : BufTy).Contents (Elt F) → (⟨S4096x50257, .f32⟩ : BufTy).Contents (Elt F)),
    unary main_v5 main_v6 (Host.exp : (⟨S4096x50257, .f32⟩ : BufTy).Contents (Elt F) → (⟨S4096x50257, .f32⟩ : BufTy).Contents (Elt F)),
    nullary main_cst_1 (constant S_ .f32 0x00000000#32),
    binary main_v6 main_cst_1 main_v7 ((fun x v => Host.reduceAdd x v reducesTo_S4096x50257_S4096_d1 h_S_) : (⟨S4096x50257, .f32⟩ : BufTy).Contents (Elt F) → (⟨S_, .f32⟩ : BufTy).Contents (Elt F) → (⟨S4096, .f32⟩ : BufTy).Contents (Elt F)),
    unary main_v7 main_v8 (broadcastInDim S4096x1 ![0] bcast_S4096_S4096x1_0 : (⟨S4096, .f32⟩ : BufTy).Contents (Elt F) → (⟨S4096x1, .f32⟩ : BufTy).Contents (Elt F)),
    unary main_v8 main_v9 (broadcastInDim S4096x50257 ![0, 1] bcast_S4096x1_S4096x50257_0_1 : (⟨S4096x1, .f32⟩ : BufTy).Contents (Elt F) → (⟨S4096x50257, .f32⟩ : BufTy).Contents (Elt F)),
    binary main_v6 main_v9 main_v10 (Host.divf : (⟨S4096x50257, .f32⟩ : BufTy).Contents (Elt F) → (⟨S4096x50257, .f32⟩ : BufTy).Contents (Elt F) → (⟨S4096x50257, .f32⟩ : BufTy).Contents (Elt F)),
    TRef.nullary (TRef.of (T := ⟨S4096x50257, .i32⟩) main_call0_v0) (iotaInDim S4096x50257 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S4096x50257, .f32⟩) main_v10) (TRef.of (T := ⟨S4096x50257, .i32⟩) main_call0_v0) (TRef.of (T := ⟨S_, .f32⟩) main_call0_cst) (TRef.of (T := ⟨S_, .i32⟩) main_call0_c) (TRef.of (T := ⟨S4096, .f32⟩) main_call0_v1_0) (fun x y u v j => (Host.argReduce reducer_argmax_f32_i32 x y u v reducesTo_S4096x50257_S4096_d1 h_S_ j).1),
    TRef.quaternary (TRef.of (T := ⟨S4096x50257, .f32⟩) main_v10) (TRef.of (T := ⟨S4096x50257, .i32⟩) main_call0_v0) (TRef.of (T := ⟨S_, .f32⟩) main_call0_cst) (TRef.of (T := ⟨S_, .i32⟩) main_call0_c) (TRef.of (T := ⟨S4096, .i32⟩) main_v11) (fun x y u v j => (Host.argReduce reducer_argmax_f32_i32 x y u v reducesTo_S4096x50257_S4096_d1 h_S_ j).2),
    unary main_arg1 main_v12 (broadcastInDim S4096x1 ![0] bcast_S4096_S4096x1_0 : (⟨S4096, .i32⟩ : BufTy).Contents (Elt F) → (⟨S4096x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S4096x1, .i32⟩) main_call1_v0) (broadcastInDim S4096x1 ![] bcast_S_S4096x1),
    TRef.binary (TRef.of (T := ⟨S4096x1, .i32⟩) main_v12) (TRef.of (T := ⟨S4096x1, .i32⟩) main_call1_v0) (TRef.of (T := ⟨S4096x1, .i1⟩) main_call1_v1) (cmpi .slt),
    TRef.nullary (TRef.of (T := ⟨S_, .i32⟩) main_call1_c_0) (constantI S_ 32 50257#32),
    TRef.unary (TRef.of (T := ⟨S_, .i32⟩) main_call1_c_0) (TRef.of (T := ⟨S4096x1, .i32⟩) main_call1_v2) (broadcastInDim S4096x1 ![] bcast_S_S4096x1),
    TRef.binary (TRef.of (T := ⟨S4096x1, .i32⟩) main_v12) (TRef.of (T := ⟨S4096x1, .i32⟩) main_call1_v2) (TRef.of (T := ⟨S4096x1, .i32⟩) main_call1_v3) addi,
    TRef.ternary (TRef.of (T := ⟨S4096x1, .i1⟩) main_call1_v1) (TRef.of (T := ⟨S4096x1, .i32⟩) main_call1_v3) (TRef.of (T := ⟨S4096x1, .i32⟩) main_v12) (TRef.of (T := ⟨S4096x1, .i32⟩) main_call1_v4) select,
    TRef.reshape (TRef.of (T := ⟨S4096x1, .i32⟩) main_call1_v4) (TRef.of (T := ⟨S4096x1x1, .i32⟩) main_call1_v5) (rfl : (.i32 : EltTy) = .i32) shapeCasts_S4096x1_S4096x1x1,
    TRef.nullary (TRef.of (T := ⟨S1, .i32⟩) main_call1_c_1) (constantI S1 32 50256#32),
    TRef.nullary (TRef.of (T := ⟨S_, .i32⟩) main_call1_c_2) (constantI S_ 32 0#32),
    TRef.unary (TRef.of (T := ⟨S_, .i32⟩) main_call1_c_2) (TRef.of (T := ⟨S4096x1x1, .i32⟩) main_call1_v6) (broadcastInDim S4096x1x1 ![] bcast_S_S4096x1x1),
    TRef.binary (TRef.of (T := ⟨S4096x1x1, .i32⟩) main_call1_v5) (TRef.of (T := ⟨S4096x1x1, .i32⟩) main_call1_v6) (TRef.of (T := ⟨S4096x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S4096x1x1, .i32⟩) main_call1_v9) (broadcastInDim S4096x1x1 ![0, 1, 2] bcast_S1x1x1_S4096x1x1_0_1_2),
    TRef.binary (TRef.of (T := ⟨S4096x1x1, .i32⟩) main_call1_v5) (TRef.of (T := ⟨S4096x1x1, .i32⟩) main_call1_v9) (TRef.of (T := ⟨S4096x1x1, .i1⟩) main_call1_v10) (cmpi .sle),
    TRef.binary (TRef.of (T := ⟨S4096x1x1, .i1⟩) main_call1_v7) (TRef.of (T := ⟨S4096x1x1, .i1⟩) main_call1_v10) (TRef.of (T := ⟨S4096x1x1, .i1⟩) main_call1_v11) andi,
    TRef.nullary (TRef.of (T := ⟨S_, .i1⟩) main_call1_c_3) (constantI S_ 1 1#1),
    TRef.binary (TRef.of (T := ⟨S4096x1x1, .i1⟩) main_call1_v11) (TRef.of (T := ⟨S_, .i1⟩) main_call1_c_3) (TRef.of (T := ⟨S4096x1, .i1⟩) main_call1_v12) (fun x v => Host.reduce IntOp.andi x v reducesTo_S4096x1x1_S4096x1_d2 h_S_),
    TRef.binary (TRef.of (T := ⟨S4096x50257, .f32⟩) main_v10) (TRef.of (T := ⟨S4096x1x1, .i32⟩) main_call1_v5) (TRef.of (T := ⟨S4096x1, .f32⟩) main_call1_v13) (fun x i => Host.gather gather_S4096x50257_S4096x1x1_S4096x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S4096x1, .f32⟩) main_call1_v14) (broadcastInDim S4096x1 ![] bcast_S_S4096x1),
    TRef.ternary (TRef.of (T := ⟨S4096x1, .i1⟩) main_call1_v12) (TRef.of (T := ⟨S4096x1, .f32⟩) main_call1_v13) (TRef.of (T := ⟨S4096x1, .f32⟩) main_call1_v14) (TRef.of (T := ⟨S4096x1, .f32⟩) main_v13) select,
    reshape main_v13 main_v14 (rfl : (.f32 : EltTy) = .f32) shapeCasts_S4096x1_S4096,
    nullary main_cst_2 (constant S_ .f32 0x3CA3D70A#32),
    unary main_cst_2 main_v15 (broadcastInDim S4096 ![] bcast_S_S4096 : (⟨S_, .f32⟩ : BufTy).Contents (Elt F) → (⟨S4096, .f32⟩ : BufTy).Contents (Elt F)),
    binary main_v14 main_v15 main_v16 (cmpf .olt : (⟨S4096, .f32⟩ : BufTy).Contents (Elt F) → (⟨S4096, .f32⟩ : BufTy).Contents (Elt F) → (⟨S4096, .i1⟩ : BufTy).Contents (Elt F)),
    unary main_v16 main_v17 ((extui 32 · natLt_1_32) : (⟨S4096, .i1⟩ : BufTy).Contents (Elt F) → (⟨S4096, .i32⟩ : BufTy).Contents (Elt F)),
    unary main_v10 main_values ((fun x => (Host.topK S4096x3 1 (FloatOps.cmpfTotal .gt) x sliceFits_S4096x50257_S4096x3).1) : (⟨S4096x50257, .f32⟩ : BufTy).Contents (Elt F) → (⟨S4096x3, .f32⟩ : BufTy).Contents (Elt F)),
    unary main_v10 main_indices ((fun x => (Host.topK S4096x3 1 (FloatOps.cmpfTotal .gt) x sliceFits_S4096x50257_S4096x3).2) : (⟨S4096x50257, .f32⟩ : BufTy).Contents (Elt F) → (⟨S4096x3, .i32⟩ : BufTy).Contents (Elt F)),
    unary main_values main_v18 ((extractStridedSlice S4096x1 ![0, 1] · slices_S4096x3_S4096x1_0_1) : (⟨S4096x3, .f32⟩ : BufTy).Contents (Elt F) → (⟨S4096x1, .f32⟩ : BufTy).Contents (Elt F)),
    reshape main_v18 main_v19 (rfl : (.f32 : EltTy) = .f32) shapeCasts_S4096x1_S4096,
    unary main_indices main_v20 ((extractStridedSlice S4096x1 ![0, 1] · slices_S4096x3_S4096x1_0_1) : (⟨S4096x3, .i32⟩ : BufTy).Contents (Elt F) → (⟨S4096x1, .i32⟩ : BufTy).Contents (Elt F)),
    reshape main_v20 main_v21 (rfl : (.i32 : EltTy) = .i32) shapeCasts_S4096x1_S4096,
    unary main_indices main_v22 ((extractStridedSlice S4096x1 ![0, 2] · slices_S4096x3_S4096x1_0_2) : (⟨S4096x3, .i32⟩ : BufTy).Contents (Elt F) → (⟨S4096x1, .i32⟩ : BufTy).Contents (Elt F)),
    reshape main_v22 main_v23 (rfl : (.i32 : EltTy) = .i32) shapeCasts_S4096x1_S4096,
    nullary main_cst_3 (constant S_ .f32 0x00000000#32),
    binary main_values main_cst_3 main_v24 ((fun x v => Host.reduceAdd x v reducesTo_S4096x3_S4096_d1 h_S_) : (⟨S4096x3, .f32⟩ : BufTy).Contents (Elt F) → (⟨S_, .f32⟩ : BufTy).Contents (Elt F) → (⟨S4096, .f32⟩ : BufTy).Contents (Elt F)),
    unary main_v24 main_v25 (broadcastInDim S4096x1 ![0] bcast_S4096_S4096x1_0 : (⟨S4096, .f32⟩ : BufTy).Contents (Elt F) → (⟨S4096x1, .f32⟩ : BufTy).Contents (Elt F)),
    unary main_v25 main_v26 (broadcastInDim S4096x3 ![0, 1] bcast_S4096x1_S4096x3_0_1 : (⟨S4096x1, .f32⟩ : BufTy).Contents (Elt F) → (⟨S4096x3, .f32⟩ : BufTy).Contents (Elt F)),
    binary main_values main_v26 main_v27 (Host.divf : (⟨S4096x3, .f32⟩ : BufTy).Contents (Elt F) → (⟨S4096x3, .f32⟩ : BufTy).Contents (Elt F) → (⟨S4096x3, .f32⟩ : BufTy).Contents (Elt F)),
    nullary main_cst_4 (constant S_ .f32 0x00000000#32),
    unary main_cst_4 main_v28 (broadcastInDim S4096x50257 ![] bcast_S_S4096x50257 : (⟨S_, .f32⟩ : BufTy).Contents (Elt F) → (⟨S4096x50257, .f32⟩ : BufTy).Contents (Elt F)),
    nullary main_v29 (iotaInDim S4096 32 0),
    unary main_v29 main_v30 (broadcastInDim S4096x1 ![0] bcast_S4096_S4096x1_0 : (⟨S4096, .i32⟩ : BufTy).Contents (Elt F) → (⟨S4096x1, .i32⟩ : BufTy).Contents (Elt F)),
    nullary main_c (constantI S_ 32 0#32),
    unary main_c main_v31 (broadcastInDim S4096x1 ![] bcast_S_S4096x1 : (⟨S_, .i32⟩ : BufTy).Contents (Elt F) → (⟨S4096x1, .i32⟩ : BufTy).Contents (Elt F)),
    binary main_v30 main_v31 main_v32 (cmpi .slt : (⟨S4096x1, .i32⟩ : BufTy).Contents (Elt F) → (⟨S4096x1, .i32⟩ : BufTy).Contents (Elt F) → (⟨S4096x1, .i1⟩ : BufTy).Contents (Elt F)),
    nullary main_c_5 (constantI S_ 32 4096#32),
    unary main_c_5 main_v33 (broadcastInDim S4096x1 ![] bcast_S_S4096x1 : (⟨S_, .i32⟩ : BufTy).Contents (Elt F) → (⟨S4096x1, .i32⟩ : BufTy).Contents (Elt F)),
    binary main_v30 main_v33 main_v34 (addi : (⟨S4096x1, .i32⟩ : BufTy).Contents (Elt F) → (⟨S4096x1, .i32⟩ : BufTy).Contents (Elt F) → (⟨S4096x1, .i32⟩ : BufTy).Contents (Elt F)),
    ternary main_v32 main_v34 main_v30 main_v35 (select : (⟨S4096x1, .i1⟩ : BufTy).Contents (Elt F) → (⟨S4096x1, .i32⟩ : BufTy).Contents (Elt F) → (⟨S4096x1, .i32⟩ : BufTy).Contents (Elt F) → (⟨S4096x1, .i32⟩ : BufTy).Contents (Elt F)),
    nullary main_c_6 (constantI S_ 32 0#32),
    unary main_c_6 main_v36 (broadcastInDim S4096x3 ![] bcast_S_S4096x3 : (⟨S_, .i32⟩ : BufTy).Contents (Elt F) → (⟨S4096x3, .i32⟩ : BufTy).Contents (Elt F)),
    binary main_indices main_v36 main_v37 (cmpi .slt : (⟨S4096x3, .i32⟩ : BufTy).Contents (Elt F) → (⟨S4096x3, .i32⟩ : BufTy).Contents (Elt F) → (⟨S4096x3, .i1⟩ : BufTy).Contents (Elt F)),
    nullary main_c_7 (constantI S_ 32 50257#32),
    unary main_c_7 main_v38 (broadcastInDim S4096x3 ![] bcast_S_S4096x3 : (⟨S_, .i32⟩ : BufTy).Contents (Elt F) → (⟨S4096x3, .i32⟩ : BufTy).Contents (Elt F)),
    binary main_indices main_v38 main_v39 (addi : (⟨S4096x3, .i32⟩ : BufTy).Contents (Elt F) → (⟨S4096x3, .i32⟩ : BufTy).Contents (Elt F) → (⟨S4096x3, .i32⟩ : BufTy).Contents (Elt F)),
    ternary main_v37 main_v39 main_indices main_v40 (select : (⟨S4096x3, .i1⟩ : BufTy).Contents (Elt F) → (⟨S4096x3, .i32⟩ : BufTy).Contents (Elt F) → (⟨S4096x3, .i32⟩ : BufTy).Contents (Elt F) → (⟨S4096x3, .i32⟩ : BufTy).Contents (Elt F)),
    unary main_v35 main_v41 (broadcastInDim S4096x3 ![0, 1] bcast_S4096x1_S4096x3_0_1 : (⟨S4096x1, .i32⟩ : BufTy).Contents (Elt F) → (⟨S4096x3, .i32⟩ : BufTy).Contents (Elt F)),
    unary main_v41 main_v42 (broadcastInDim S4096x3x1 ![0, 1] bcast_S4096x3_S4096x3x1_0_1 : (⟨S4096x3, .i32⟩ : BufTy).Contents (Elt F) → (⟨S4096x3x1, .i32⟩ : BufTy).Contents (Elt F)),
    unary main_v40 main_v43 (broadcastInDim S4096x3x1 ![0, 1] bcast_S4096x3_S4096x3x1_0_1 : (⟨S4096x3, .i32⟩ : BufTy).Contents (Elt F) → (⟨S4096x3x1, .i32⟩ : BufTy).Contents (Elt F)),
    binary main_v42 main_v43 main_v44 (fn_main_v44 (F := F)),
    ternary main_v28 main_v44 main_v27 main_v45 ((fun x i u => Host.scatterAdd scatter_S4096x50257_S4096x3x2_S4096x3_n_01_01_2 x i u) : (⟨S4096x50257, .f32⟩ : BufTy).Contents (Elt F) → (⟨S4096x3x2, .i32⟩ : BufTy).Contents (Elt F) → (⟨S4096x3, .f32⟩ : BufTy).Contents (Elt F) → (⟨S4096x50257, .f32⟩ : BufTy).Contents (Elt F)),
    unary main_v17 main_v46 (broadcastInDim S4096x1 ![0] bcast_S4096_S4096x1_0 : (⟨S4096, .i32⟩ : BufTy).Contents (Elt F) → (⟨S4096x1, .i32⟩ : BufTy).Contents (Elt F)),
    unary main_v46 main_v47 (sitofp .f32 : (⟨S4096x1, .i32⟩ : BufTy).Contents (Elt F) → (⟨S4096x1, .f32⟩ : BufTy).Contents (Elt F)),
    nullary main_cst_8 (constant S_ .f32 0x3F800000#32),
    unary main_cst_8 main_v48 (broadcastInDim S4096x1 ![] bcast_S_S4096x1 : (⟨S_, .f32⟩ : BufTy).Contents (Elt F) → (⟨S4096x1, .f32⟩ : BufTy).Contents (Elt F)),
    binary main_v48 main_v47 main_v49 (subf : (⟨S4096x1, .f32⟩ : BufTy).Contents (Elt F) → (⟨S4096x1, .f32⟩ : BufTy).Contents (Elt F) → (⟨S4096x1, .f32⟩ : BufTy).Contents (Elt F)),
    TRef.unary (TRef.of (T := ⟨S4096, .i32⟩) main_arg1) (TRef.of (T := ⟨S4096x1, .i32⟩) main_call2_v0) (broadcastInDim S4096x1 ![0] bcast_S4096_S4096x1_0),
    TRef.nullary (TRef.of (T := ⟨S1x50257, .i32⟩) main_call2_v1) (iotaInDim S1x50257 32 1),
    TRef.unary (TRef.of (T := ⟨S4096x1, .i32⟩) main_call2_v0) (TRef.of (T := ⟨S4096x50257, .i32⟩) main_call2_v2) (broadcastInDim S4096x50257 ![0, 1] bcast_S4096x1_S4096x50257_0_1),
    TRef.unary (TRef.of (T := ⟨S1x50257, .i32⟩) main_call2_v1) (TRef.of (T := ⟨S4096x50257, .i32⟩) main_call2_v3) (broadcastInDim S4096x50257 ![0, 1] bcast_S1x50257_S4096x50257_0_1),
    TRef.binary (TRef.of (T := ⟨S4096x50257, .i32⟩) main_call2_v2) (TRef.of (T := ⟨S4096x50257, .i32⟩) main_call2_v3) (TRef.of (T := ⟨S4096x50257, .i1⟩) main_call2_v4) (cmpi .eq),
    TRef.unary (TRef.of (T := ⟨S4096x50257, .i1⟩) main_call2_v4) (TRef.of (T := ⟨S4096x50257, .f32⟩) main_v50) (uitofp .f32),
    unary main_v49 main_v51 (broadcastInDim S4096x50257 ![0, 1] bcast_S4096x1_S4096x50257_0_1 : (⟨S4096x1, .f32⟩ : BufTy).Contents (Elt F) → (⟨S4096x50257, .f32⟩ : BufTy).Contents (Elt F)),
    binary main_v51 main_v50 main_v52 (mulf : (⟨S4096x50257, .f32⟩ : BufTy).Contents (Elt F) → (⟨S4096x50257, .f32⟩ : BufTy).Contents (Elt F) → (⟨S4096x50257, .f32⟩ : BufTy).Contents (Elt F)),
    unary main_v47 main_v53 (broadcastInDim S4096x50257 ![0, 1] bcast_S4096x1_S4096x50257_0_1 : (⟨S4096x1, .f32⟩ : BufTy).Contents (Elt F) → (⟨S4096x50257, .f32⟩ : BufTy).Contents (Elt F)),
    binary main_v45 main_v53 main_v54 (mulf : (⟨S4096x50257, .f32⟩ : BufTy).Contents (Elt F) → (⟨S4096x50257, .f32⟩ : BufTy).Contents (Elt F) → (⟨S4096x50257, .f32⟩ : BufTy).Contents (Elt F)),
    binary main_v54 main_v52 main_v55 (addf : (⟨S4096x50257, .f32⟩ : BufTy).Contents (Elt F) → (⟨S4096x50257, .f32⟩ : BufTy).Contents (Elt F) → (⟨S4096x50257, .f32⟩ : BufTy).Contents (Elt F)),
    TRef.nullary (TRef.of (T := ⟨S_, .f32⟩) main_call3_cst) (constant S_ .f32 0xFF800000#32),
    TRef.binary (TRef.of (T := ⟨S4096x50257, .f32⟩) main_arg0) (TRef.of (T := ⟨S_, .f32⟩) main_call3_cst) (TRef.of (T := ⟨S4096, .f32⟩) main_call3_v0) (fun x v => Host.reduce FloatOps.maximumf x v reducesTo_S4096x50257_S4096_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S4096, .f32⟩) main_call3_v1) (broadcastInDim S4096 ![] bcast_S_S4096),
    TRef.binary (TRef.of (T := ⟨S4096, .f32⟩) main_call3_v1) (TRef.of (T := ⟨S4096, .f32⟩) main_call3_v0) (TRef.of (T := ⟨S4096, .f32⟩) main_call3_v2) maximumf,
    TRef.unary (TRef.of (T := ⟨S4096, .f32⟩) main_call3_v2) (TRef.of (T := ⟨S4096x1, .f32⟩) main_call3_v3) (broadcastInDim S4096x1 ![0] bcast_S4096_S4096x1_0),
    TRef.unary (TRef.of (T := ⟨S4096x1, .f32⟩) main_call3_v3) (TRef.of (T := ⟨S4096x50257, .f32⟩) main_call3_v4) (broadcastInDim S4096x50257 ![0, 1] bcast_S4096x1_S4096x50257_0_1),
    TRef.binary (TRef.of (T := ⟨S4096x50257, .f32⟩) main_arg0) (TRef.of (T := ⟨S4096x50257, .f32⟩) main_call3_v4) (TRef.of (T := ⟨S4096x50257, .f32⟩) main_call3_v5) subf,
    TRef.unary (TRef.of (T := ⟨S4096x50257, .f32⟩) main_call3_v5) (TRef.of (T := ⟨S4096x50257, .f32⟩) main_call3_v6) Host.exp,
    TRef.nullary (TRef.of (T := ⟨S_, .f32⟩) main_call3_cst_1) (constant S_ .f32 0x00000000#32),
    TRef.binary (TRef.of (T := ⟨S4096x50257, .f32⟩) main_call3_v6) (TRef.of (T := ⟨S_, .f32⟩) main_call3_cst_1) (TRef.of (T := ⟨S4096, .f32⟩) main_call3_v7) (fun x v => Host.reduceAdd x v reducesTo_S4096x50257_S4096_d1 h_S_),
    TRef.unary (TRef.of (T := ⟨S4096, .f32⟩) main_call3_v7) (TRef.of (T := ⟨S4096x1, .f32⟩) main_call3_v8) (broadcastInDim S4096x1 ![0] bcast_S4096_S4096x1_0),
    TRef.unary (TRef.of (T := ⟨S4096x1, .f32⟩) main_call3_v8) (TRef.of (T := ⟨S4096x1, .f32⟩) main_call3_v9) Host.log,
    TRef.unary (TRef.of (T := ⟨S4096x1, .f32⟩) main_call3_v9) (TRef.of (T := ⟨S4096x50257, .f32⟩) main_call3_v10) (broadcastInDim S4096x50257 ![0, 1] bcast_S4096x1_S4096x50257_0_1),
    TRef.binary (TRef.of (T := ⟨S4096x50257, .f32⟩) main_call3_v5) (TRef.of (T := ⟨S4096x50257, .f32⟩) main_call3_v10) (TRef.of (T := ⟨S4096x50257, .f32⟩) main_v56) subf,
    unary main_v56 main_v57 (Host.negf : (⟨S4096x50257, .f32⟩ : BufTy).Contents (Elt F) → (⟨S4096x50257, .f32⟩ : BufTy).Contents (Elt F)),
    binary main_v57 main_v55 main_v58 (mulf : (⟨S4096x50257, .f32⟩ : BufTy).Contents (Elt F) → (⟨S4096x50257, .f32⟩ : BufTy).Contents (Elt F) → (⟨S4096x50257, .f32⟩ : BufTy).Contents (Elt F)),
    nullary main_cst_9 (constant S_ .f32 0x00000000#32),
    binary main_v58 main_cst_9 main_v59 ((fun x v => Host.reduceAdd x v reducesTo_S4096x50257_S_d0_1 h_S_) : (⟨S4096x50257, .f32⟩ : BufTy).Contents (Elt F) → (⟨S_, .f32⟩ : BufTy).Contents (Elt F) → (⟨S_, .f32⟩ : BufTy).Contents (Elt F)),
    nullary main_cst_10 (constant S_ .f32 0x45800000#32),
    binary main_v59 main_cst_10 main_v60 (Host.divf : (⟨S_, .f32⟩ : BufTy).Contents (Elt F) → (⟨S_, .f32⟩ : BufTy).Contents (Elt F) → (⟨S_, .f32⟩ : BufTy).Contents (Elt F)),
    nullary main_c_11 (constantI S_ 32 1#32),
    unary main_c_11 main_v61 (broadcastInDim S4096 ![] bcast_S_S4096 : (⟨S_, .i32⟩ : BufTy).Contents (Elt F) → (⟨S4096, .i32⟩ : BufTy).Contents (Elt F)),
    binary main_v17 main_v11 main_v62 (muli : (⟨S4096, .i32⟩ : BufTy).Contents (Elt F) → (⟨S4096, .i32⟩ : BufTy).Contents (Elt F) → (⟨S4096, .i32⟩ : BufTy).Contents (Elt F)),
    binary main_v61 main_v17 main_v63 (subi : (⟨S4096, .i32⟩ : BufTy).Contents (Elt F) → (⟨S4096, .i32⟩ : BufTy).Contents (Elt F) → (⟨S4096, .i32⟩ : BufTy).Contents (Elt F)),
    nullary main_c_12 (constantI S_ 32 4294967295#32),
    unary main_c_12 main_v64 (broadcastInDim S4096 ![] bcast_S_S4096 : (⟨S_, .i32⟩ : BufTy).Contents (Elt F) → (⟨S4096, .i32⟩ : BufTy).Contents (Elt F)),
    binary main_v63 main_v64 main_v65 (muli : (⟨S4096, .i32⟩ : BufTy).Contents (Elt F) → (⟨S4096, .i32⟩ : BufTy).Contents (Elt F) → (⟨S4096, .i32⟩ : BufTy).Contents (Elt F)),
    binary main_v62 main_v65 main_v66 (addi : (⟨S4096, .i32⟩ : BufTy).Contents (Elt F) → (⟨S4096, .i32⟩ : BufTy).Contents (Elt F) → (⟨S4096, .i32⟩ : BufTy).Contents (Elt F)),
    binary main_v17 main_v21 main_v67 (muli : (⟨S4096, .i32⟩ : BufTy).Contents (Elt F) → (⟨S4096, .i32⟩ : BufTy).Contents (Elt F) → (⟨S4096, .i32⟩ : BufTy).Contents (Elt F)),
    binary main_v61 main_v17 main_v68 (subi : (⟨S4096, .i32⟩ : BufTy).Contents (Elt F) → (⟨S4096, .i32⟩ : BufTy).Contents (Elt F) → (⟨S4096, .i32⟩ : BufTy).Contents (Elt F)),
    nullary main_c_13 (constantI S_ 32 4294967295#32),
    unary main_c_13 main_v69 (broadcastInDim S4096 ![] bcast_S_S4096 : (⟨S_, .i32⟩ : BufTy).Contents (Elt F) → (⟨S4096, .i32⟩ : BufTy).Contents (Elt F)),
    binary main_v68 main_v69 main_v70 (muli : (⟨S4096, .i32⟩ : BufTy).Contents (Elt F) → (⟨S4096, .i32⟩ : BufTy).Contents (Elt F) → (⟨S4096, .i32⟩ : BufTy).Contents (Elt F)),
    binary main_v67 main_v70 main_v71 (addi : (⟨S4096, .i32⟩ : BufTy).Contents (Elt F) → (⟨S4096, .i32⟩ : BufTy).Contents (Elt F) → (⟨S4096, .i32⟩ : BufTy).Contents (Elt F)),
    binary main_v17 main_v23 main_v72 (muli : (⟨S4096, .i32⟩ : BufTy).Contents (Elt F) → (⟨S4096, .i32⟩ : BufTy).Contents (Elt F) → (⟨S4096, .i32⟩ : BufTy).Contents (Elt F)),
    binary main_v61 main_v17 main_v73 (subi : (⟨S4096, .i32⟩ : BufTy).Contents (Elt F) → (⟨S4096, .i32⟩ : BufTy).Contents (Elt F) → (⟨S4096, .i32⟩ : BufTy).Contents (Elt F)),
    nullary main_c_14 (constantI S_ 32 4294967295#32),
    unary main_c_14 main_v74 (broadcastInDim S4096 ![] bcast_S_S4096 : (⟨S_, .i32⟩ : BufTy).Contents (Elt F) → (⟨S4096, .i32⟩ : BufTy).Contents (Elt F)),
    binary main_v73 main_v74 main_v75 (muli : (⟨S4096, .i32⟩ : BufTy).Contents (Elt F) → (⟨S4096, .i32⟩ : BufTy).Contents (Elt F) → (⟨S4096, .i32⟩ : BufTy).Contents (Elt F)),
    binary main_v72 main_v75 main_v76 (addi : (⟨S4096, .i32⟩ : BufTy).Contents (Elt F) → (⟨S4096, .i32⟩ : BufTy).Contents (Elt F) → (⟨S4096, .i32⟩ : BufTy).Contents (Elt F)),
    binary main_v61 main_v17 main_v77 (subi : (⟨S4096, .i32⟩ : BufTy).Contents (Elt F) → (⟨S4096, .i32⟩ : BufTy).Contents (Elt F) → (⟨S4096, .i32⟩ : BufTy).Contents (Elt F)),
    nullary main_c_15 (constantI S_ 32 0#32),
    binary main_v77 main_c_15 main_v78 ((fun x v => Host.reduce IntOp.addi x v reducesTo_S4096_S_d0 h_S_) : (⟨S4096, .i32⟩ : BufTy).Contents (Elt F) → (⟨S_, .i32⟩ : BufTy).Contents (Elt F) → (⟨S_, .i32⟩ : BufTy).Contents (Elt F)),
    unary main_v17 main_v79 (sitofp .f32 : (⟨S4096, .i32⟩ : BufTy).Contents (Elt F) → (⟨S4096, .f32⟩ : BufTy).Contents (Elt F)),
    binary main_v79 main_v19 main_v80 (mulf : (⟨S4096, .f32⟩ : BufTy).Contents (Elt F) → (⟨S4096, .f32⟩ : BufTy).Contents (Elt F) → (⟨S4096, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., nullary_bufs_sub .., nullary_bufs_sub .., quaternary_bufs_sub .., quaternary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., nullary_bufs_sub .., unary_bufs_sub .., binary_bufs_sub .., unary_bufs_sub .., unary_bufs_sub .., unary_bufs_sub .., unary_bufs_sub .., reshape_bufs_sub .., unary_bufs_sub .., reshape_bufs_sub .., unary_bufs_sub .., reshape_bufs_sub .., nullary_bufs_sub .., binary_bufs_sub .., unary_bufs_sub .., unary_bufs_sub .., binary_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., ternary_bufs_sub .., unary_bufs_sub .., unary_bufs_sub .., nullary_bufs_sub .., unary_bufs_sub .., binary_bufs_sub .., unary_bufs_sub .., nullary_bufs_sub .., unary_bufs_sub .., unary_bufs_sub .., binary_bufs_sub .., unary_bufs_sub .., unary_bufs_sub .., binary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., binary_bufs_sub .., nullary_bufs_sub .., binary_bufs_sub .., nullary_bufs_sub .., binary_bufs_sub .., nullary_bufs_sub .., unary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., nullary_bufs_sub .., binary_bufs_sub .., unary_bufs_sub .., binary_bufs_sub ..⟩

set_option maxRecDepth 8192 in
/-- `main_v80`'s composed term of the arguments (named: it is long). -/
def res_main_v80 (m : (ℓ : Loc nD τ sig) → Buf (Elt F) ℓ) (c : Dev nD) : Buf (Elt F) ((c.tc : Thread nD τ).loc main_v80) :=
  mulf (sitofp .f32 (extui 32 (cmpf .olt (shapeCast _ (select (Host.reduce IntOp.andi (andi (cmpi .sge (shapeCast _ (select (cmpi .slt (broadcastInDim S4096x1 ![0] bcast_S4096_S4096x1_0 (m ((c.tc : Thread nD τ).loc main_arg1))) (broadcastInDim S4096x1 ![] bcast_S_S4096x1 (constantI S_ 32 0#32))) (addi (broadcastInDim S4096x1 ![0] bcast_S4096_S4096x1_0 (m ((c.tc : Thread nD τ).loc main_arg1))) (broadcastInDim S4096x1 ![] bcast_S_S4096x1 (constantI S_ 32 50257#32))) (broadcastInDim S4096x1 ![0] bcast_S4096_S4096x1_0 (m ((c.tc : Thread nD τ).loc main_arg1)))) shapeCasts_S4096x1_S4096x1x1) (broadcastInDim S4096x1x1 ![] bcast_S_S4096x1x1 (constantI S_ 32 0#32))) (cmpi .sle (shapeCast _ (select (cmpi .slt (broadcastInDim S4096x1 ![0] bcast_S4096_S4096x1_0 (m ((c.tc : Thread nD τ).loc main_arg1))) (broadcastInDim S4096x1 ![] bcast_S_S4096x1 (constantI S_ 32 0#32))) (addi (broadcastInDim S4096x1 ![0] bcast_S4096_S4096x1_0 (m ((c.tc : Thread nD τ).loc main_arg1))) (broadcastInDim S4096x1 ![] bcast_S_S4096x1 (constantI S_ 32 50257#32))) (broadcastInDim S4096x1 ![0] bcast_S4096_S4096x1_0 (m ((c.tc : Thread nD τ).loc main_arg1)))) shapeCasts_S4096x1_S4096x1x1) (broadcastInDim S4096x1x1 ![0, 1, 2] bcast_S1x1x1_S4096x1x1_0_1_2 (broadcastInDim S1x1x1 ![2] bcast_S1_S1x1x1_2 (constantI S1 32 50256#32))))) (constantI S_ 1 1#1) reducesTo_S4096x1x1_S4096x1_d2 h_S_) (Host.gather gather_S4096x50257_S4096x1x1_S4096x1_n_1_0_0_1_2_11 (Host.divf (Host.exp (subf (m ((c.tc : Thread nD τ).loc main_arg0)) (broadcastInDim S4096x50257 ![0, 1] bcast_S4096x1_S4096x50257_0_1 (broadcastInDim S4096x1 ![0] bcast_S4096_S4096x1_0 (maximumf (broadcastInDim S4096 ![] bcast_S_S4096 (constant S_ .f32 0xFF800000#32)) (Host.reduce FloatOps.maximumf (m ((c.tc : Thread nD τ).loc main_arg0)) (constant S_ .f32 0xFF800000#32) reducesTo_S4096x50257_S4096_d1 h_S_)))))) (broadcastInDim S4096x50257 ![0, 1] bcast_S4096x1_S4096x50257_0_1 (broadcastInDim S4096x1 ![0] bcast_S4096_S4096x1_0 (Host.reduceAdd (Host.exp (subf (m ((c.tc : Thread nD τ).loc main_arg0)) (broadcastInDim S4096x50257 ![0, 1] bcast_S4096x1_S4096x50257_0_1 (broadcastInDim S4096x1 ![0] bcast_S4096_S4096x1_0 (maximumf (broadcastInDim S4096 ![] bcast_S_S4096 (constant S_ .f32 0xFF800000#32)) (Host.reduce FloatOps.maximumf (m ((c.tc : Thread nD τ).loc main_arg0)) (constant S_ .f32 0xFF800000#32) reducesTo_S4096x50257_S4096_d1 h_S_)))))) (constant S_ .f32 0x00000000#32) reducesTo_S4096x50257_S4096_d1 h_S_)))) (shapeCast _ (select (cmpi .slt (broadcastInDim S4096x1 ![0] bcast_S4096_S4096x1_0 (m ((c.tc : Thread nD τ).loc main_arg1))) (broadcastInDim S4096x1 ![] bcast_S_S4096x1 (constantI S_ 32 0#32))) (addi (broadcastInDim S4096x1 ![0] bcast_S4096_S4096x1_0 (m ((c.tc : Thread nD τ).loc main_arg1))) (broadcastInDim S4096x1 ![] bcast_S_S4096x1 (constantI S_ 32 50257#32))) (broadcastInDim S4096x1 ![0] bcast_S4096_S4096x1_0 (m ((c.tc : Thread nD τ).loc main_arg1)))) shapeCasts_S4096x1_S4096x1x1)) (broadcastInDim S4096x1 ![] bcast_S_S4096x1 (constant S_ .f32 0x7FC00000#32))) shapeCasts_S4096x1_S4096) (broadcastInDim S4096 ![] bcast_S_S4096 (constant S_ .f32 0x3CA3D70A#32))) natLt_1_32)) (shapeCast _ (extractStridedSlice S4096x1 ![0, 1] ((Host.topK S4096x3 1 (FloatOps.cmpfTotal .gt) (Host.divf (Host.exp (subf (m ((c.tc : Thread nD τ).loc main_arg0)) (broadcastInDim S4096x50257 ![0, 1] bcast_S4096x1_S4096x50257_0_1 (broadcastInDim S4096x1 ![0] bcast_S4096_S4096x1_0 (maximumf (broadcastInDim S4096 ![] bcast_S_S4096 (constant S_ .f32 0xFF800000#32)) (Host.reduce FloatOps.maximumf (m ((c.tc : Thread nD τ).loc main_arg0)) (constant S_ .f32 0xFF800000#32) reducesTo_S4096x50257_S4096_d1 h_S_)))))) (broadcastInDim S4096x50257 ![0, 1] bcast_S4096x1_S4096x50257_0_1 (broadcastInDim S4096x1 ![0] bcast_S4096_S4096x1_0 (Host.reduceAdd (Host.exp (subf (m ((c.tc : Thread nD τ).loc main_arg0)) (broadcastInDim S4096x50257 ![0, 1] bcast_S4096x1_S4096x50257_0_1 (broadcastInDim S4096x1 ![0] bcast_S4096_S4096x1_0 (maximumf (broadcastInDim S4096 ![] bcast_S_S4096 (constant S_ .f32 0xFF800000#32)) (Host.reduce FloatOps.maximumf (m ((c.tc : Thread nD τ).loc main_arg0)) (constant S_ .f32 0xFF800000#32) reducesTo_S4096x50257_S4096_d1 h_S_)))))) (constant S_ .f32 0x00000000#32) reducesTo_S4096x50257_S4096_d1 h_S_)))) sliceFits_S4096x50257_S4096x3).1) slices_S4096x3_S4096x1_0_1) shapeCasts_S4096x1_S4096)

/-- `res_main_v80` by its position among the values @main returns, 6 counting from 0: the name for hand proofs to cite, since
    a re-print renumbers `main_v80`. An abbreviation: it unfolds to the `res_main_v80` that `run` states. -/
abbrev res_out6 (m : (ℓ : Loc nD τ sig) → Buf (Elt F) ℓ) (c : Dev nD) : Buf (Elt F) ((c.tc : Thread nD τ).loc main_v80) := res_main_v80 m c

set_option maxRecDepth 8192 in
/-- `main_v76`'s composed term of the arguments (named: it is long). -/
def res_main_v76 (m : (ℓ : Loc nD τ sig) → Buf (Elt F) ℓ) (c : Dev nD) : Buf (Elt F) ((c.tc : Thread nD τ).loc main_v76) :=
  addi (muli (extui 32 (cmpf .olt (shapeCast _ (select (Host.reduce IntOp.andi (andi (cmpi .sge (shapeCast _ (select (cmpi .slt (broadcastInDim S4096x1 ![0] bcast_S4096_S4096x1_0 (m ((c.tc : Thread nD τ).loc main_arg1))) (broadcastInDim S4096x1 ![] bcast_S_S4096x1 (constantI S_ 32 0#32))) (addi (broadcastInDim S4096x1 ![0] bcast_S4096_S4096x1_0 (m ((c.tc : Thread nD τ).loc main_arg1))) (broadcastInDim S4096x1 ![] bcast_S_S4096x1 (constantI S_ 32 50257#32))) (broadcastInDim S4096x1 ![0] bcast_S4096_S4096x1_0 (m ((c.tc : Thread nD τ).loc main_arg1)))) shapeCasts_S4096x1_S4096x1x1) (broadcastInDim S4096x1x1 ![] bcast_S_S4096x1x1 (constantI S_ 32 0#32))) (cmpi .sle (shapeCast _ (select (cmpi .slt (broadcastInDim S4096x1 ![0] bcast_S4096_S4096x1_0 (m ((c.tc : Thread nD τ).loc main_arg1))) (broadcastInDim S4096x1 ![] bcast_S_S4096x1 (constantI S_ 32 0#32))) (addi (broadcastInDim S4096x1 ![0] bcast_S4096_S4096x1_0 (m ((c.tc : Thread nD τ).loc main_arg1))) (broadcastInDim S4096x1 ![] bcast_S_S4096x1 (constantI S_ 32 50257#32))) (broadcastInDim S4096x1 ![0] bcast_S4096_S4096x1_0 (m ((c.tc : Thread nD τ).loc main_arg1)))) shapeCasts_S4096x1_S4096x1x1) (broadcastInDim S4096x1x1 ![0, 1, 2] bcast_S1x1x1_S4096x1x1_0_1_2 (broadcastInDim S1x1x1 ![2] bcast_S1_S1x1x1_2 (constantI S1 32 50256#32))))) (constantI S_ 1 1#1) reducesTo_S4096x1x1_S4096x1_d2 h_S_) (Host.gather gather_S4096x50257_S4096x1x1_S4096x1_n_1_0_0_1_2_11 (Host.divf (Host.exp (subf (m ((c.tc : Thread nD τ).loc main_arg0)) (broadcastInDim S4096x50257 ![0, 1] bcast_S4096x1_S4096x50257_0_1 (broadcastInDim S4096x1 ![0] bcast_S4096_S4096x1_0 (maximumf (broadcastInDim S4096 ![] bcast_S_S4096 (constant S_ .f32 0xFF800000#32)) (Host.reduce FloatOps.maximumf (m ((c.tc : Thread nD τ).loc main_arg0)) (constant S_ .f32 0xFF800000#32) reducesTo_S4096x50257_S4096_d1 h_S_)))))) (broadcastInDim S4096x50257 ![0, 1] bcast_S4096x1_S4096x50257_0_1 (broadcastInDim S4096x1 ![0] bcast_S4096_S4096x1_0 (Host.reduceAdd (Host.exp (subf (m ((c.tc : Thread nD τ).loc main_arg0)) (broadcastInDim S4096x50257 ![0, 1] bcast_S4096x1_S4096x50257_0_1 (broadcastInDim S4096x1 ![0] bcast_S4096_S4096x1_0 (maximumf (broadcastInDim S4096 ![] bcast_S_S4096 (constant S_ .f32 0xFF800000#32)) (Host.reduce FloatOps.maximumf (m ((c.tc : Thread nD τ).loc main_arg0)) (constant S_ .f32 0xFF800000#32) reducesTo_S4096x50257_S4096_d1 h_S_)))))) (constant S_ .f32 0x00000000#32) reducesTo_S4096x50257_S4096_d1 h_S_)))) (shapeCast _ (select (cmpi .slt (broadcastInDim S4096x1 ![0] bcast_S4096_S4096x1_0 (m ((c.tc : Thread nD τ).loc main_arg1))) (broadcastInDim S4096x1 ![] bcast_S_S4096x1 (constantI S_ 32 0#32))) (addi (broadcastInDim S4096x1 ![0] bcast_S4096_S4096x1_0 (m ((c.tc : Thread nD τ).loc main_arg1))) (broadcastInDim S4096x1 ![] bcast_S_S4096x1 (constantI S_ 32 50257#32))) (broadcastInDim S4096x1 ![0] bcast_S4096_S4096x1_0 (m ((c.tc : Thread nD τ).loc main_arg1)))) shapeCasts_S4096x1_S4096x1x1)) (broadcastInDim S4096x1 ![] bcast_S_S4096x1 (constant S_ .f32 0x7FC00000#32))) shapeCasts_S4096x1_S4096) (broadcastInDim S4096 ![] bcast_S_S4096 (constant S_ .f32 0x3CA3D70A#32))) natLt_1_32) (shapeCast _ (extractStridedSlice S4096x1 ![0, 2] ((Host.topK S4096x3 1 (FloatOps.cmpfTotal .gt) (Host.divf (Host.exp (subf (m ((c.tc : Thread nD τ).loc main_arg0)) (broadcastInDim S4096x50257 ![0, 1] bcast_S4096x1_S4096x50257_0_1 (broadcastInDim S4096x1 ![0] bcast_S4096_S4096x1_0 (maximumf (broadcastInDim S4096 ![] bcast_S_S4096 (constant S_ .f32 0xFF800000#32)) (Host.reduce FloatOps.maximumf (m ((c.tc : Thread nD τ).loc main_arg0)) (constant S_ .f32 0xFF800000#32) reducesTo_S4096x50257_S4096_d1 h_S_)))))) (broadcastInDim S4096x50257 ![0, 1] bcast_S4096x1_S4096x50257_0_1 (broadcastInDim S4096x1 ![0] bcast_S4096_S4096x1_0 (Host.reduceAdd (Host.exp (subf (m ((c.tc : Thread nD τ).loc main_arg0)) (broadcastInDim S4096x50257 ![0, 1] bcast_S4096x1_S4096x50257_0_1 (broadcastInDim S4096x1 ![0] bcast_S4096_S4096x1_0 (maximumf (broadcastInDim S4096 ![] bcast_S_S4096 (constant S_ .f32 0xFF800000#32)) (Host.reduce FloatOps.maximumf (m ((c.tc : Thread nD τ).loc main_arg0)) (constant S_ .f32 0xFF800000#32) reducesTo_S4096x50257_S4096_d1 h_S_)))))) (constant S_ .f32 0x00000000#32) reducesTo_S4096x50257_S4096_d1 h_S_)))) sliceFits_S4096x50257_S4096x3).2) slices_S4096x3_S4096x1_0_2) shapeCasts_S4096x1_S4096)) (muli (subi (broadcastInDim S4096 ![] bcast_S_S4096 (constantI S_ 32 1#32)) (extui 32 (cmpf .olt (shapeCast _ (select (Host.reduce IntOp.andi (andi (cmpi .sge (shapeCast _ (select (cmpi .slt (broadcastInDim S4096x1 ![0] bcast_S4096_S4096x1_0 (m ((c.tc : Thread nD τ).loc main_arg1))) (broadcastInDim S4096x1 ![] bcast_S_S4096x1 (constantI S_ 32 0#32))) (addi (broadcastInDim S4096x1 ![0] bcast_S4096_S4096x1_0 (m ((c.tc : Thread nD τ).loc main_arg1))) (broadcastInDim S4096x1 ![] bcast_S_S4096x1 (constantI S_ 32 50257#32))) (broadcastInDim S4096x1 ![0] bcast_S4096_S4096x1_0 (m ((c.tc : Thread nD τ).loc main_arg1)))) shapeCasts_S4096x1_S4096x1x1) (broadcastInDim S4096x1x1 ![] bcast_S_S4096x1x1 (constantI S_ 32 0#32))) (cmpi .sle (shapeCast _ (select (cmpi .slt (broadcastInDim S4096x1 ![0] bcast_S4096_S4096x1_0 (m ((c.tc : Thread nD τ).loc main_arg1))) (broadcastInDim S4096x1 ![] bcast_S_S4096x1 (constantI S_ 32 0#32))) (addi (broadcastInDim S4096x1 ![0] bcast_S4096_S4096x1_0 (m ((c.tc : Thread nD τ).loc main_arg1))) (broadcastInDim S4096x1 ![] bcast_S_S4096x1 (constantI S_ 32 50257#32))) (broadcastInDim S4096x1 ![0] bcast_S4096_S4096x1_0 (m ((c.tc : Thread nD τ).loc main_arg1)))) shapeCasts_S4096x1_S4096x1x1) (broadcastInDim S4096x1x1 ![0, 1, 2] bcast_S1x1x1_S4096x1x1_0_1_2 (broadcastInDim S1x1x1 ![2] bcast_S1_S1x1x1_2 (constantI S1 32 50256#32))))) (constantI S_ 1 1#1) reducesTo_S4096x1x1_S4096x1_d2 h_S_) (Host.gather gather_S4096x50257_S4096x1x1_S4096x1_n_1_0_0_1_2_11 (Host.divf (Host.exp (subf (m ((c.tc : Thread nD τ).loc main_arg0)) (broadcastInDim S4096x50257 ![0, 1] bcast_S4096x1_S4096x50257_0_1 (broadcastInDim S4096x1 ![0] bcast_S4096_S4096x1_0 (maximumf (broadcastInDim S4096 ![] bcast_S_S4096 (constant S_ .f32 0xFF800000#32)) (Host.reduce FloatOps.maximumf (m ((c.tc : Thread nD τ).loc main_arg0)) (constant S_ .f32 0xFF800000#32) reducesTo_S4096x50257_S4096_d1 h_S_)))))) (broadcastInDim S4096x50257 ![0, 1] bcast_S4096x1_S4096x50257_0_1 (broadcastInDim S4096x1 ![0] bcast_S4096_S4096x1_0 (Host.reduceAdd (Host.exp (subf (m ((c.tc : Thread nD τ).loc main_arg0)) (broadcastInDim S4096x50257 ![0, 1] bcast_S4096x1_S4096x50257_0_1 (broadcastInDim S4096x1 ![0] bcast_S4096_S4096x1_0 (maximumf (broadcastInDim S4096 ![] bcast_S_S4096 (constant S_ .f32 0xFF800000#32)) (Host.reduce FloatOps.maximumf (m ((c.tc : Thread nD τ).loc main_arg0)) (constant S_ .f32 0xFF800000#32) reducesTo_S4096x50257_S4096_d1 h_S_)))))) (constant S_ .f32 0x00000000#32) reducesTo_S4096x50257_S4096_d1 h_S_)))) (shapeCast _ (select (cmpi .slt (broadcastInDim S4096x1 ![0] bcast_S4096_S4096x1_0 (m ((c.tc : Thread nD τ).loc main_arg1))) (broadcastInDim S4096x1 ![] bcast_S_S4096x1 (constantI S_ 32 0#32))) (addi (broadcastInDim S4096x1 ![0] bcast_S4096_S4096x1_0 (m ((c.tc : Thread nD τ).loc main_arg1))) (broadcastInDim S4096x1 ![] bcast_S_S4096x1 (constantI S_ 32 50257#32))) (broadcastInDim S4096x1 ![0] bcast_S4096_S4096x1_0 (m ((c.tc : Thread nD τ).loc main_arg1)))) shapeCasts_S4096x1_S4096x1x1)) (broadcastInDim S4096x1 ![] bcast_S_S4096x1 (constant S_ .f32 0x7FC00000#32))) shapeCasts_S4096x1_S4096) (broadcastInDim S4096 ![] bcast_S_S4096 (constant S_ .f32 0x3CA3D70A#32))) natLt_1_32)) (broadcastInDim S4096 ![] bcast_S_S4096 (constantI S_ 32 4294967295#32)))

/-- `res_main_v76` by its position among the values @main returns, 4 counting from 0: the name for hand proofs to cite, since
    a re-print renumbers `main_v76`. An abbreviation: it unfolds to the `res_main_v76` that `run` states. -/
abbrev res_out4 (m : (ℓ : Loc nD τ sig) → Buf (Elt F) ℓ) (c : Dev nD) : Buf (Elt F) ((c.tc : Thread nD τ).loc main_v76) := res_main_v76 m c

set_option maxRecDepth 8192 in
/-- `main_v71`'s composed term of the arguments (named: it is long). -/
def res_main_v71 (m : (ℓ : Loc nD τ sig) → Buf (Elt F) ℓ) (c : Dev nD) : Buf (Elt F) ((c.tc : Thread nD τ).loc main_v71) :=
  addi (muli (extui 32 (cmpf .olt (shapeCast _ (select (Host.reduce IntOp.andi (andi (cmpi .sge (shapeCast _ (select (cmpi .slt (broadcastInDim S4096x1 ![0] bcast_S4096_S4096x1_0 (m ((c.tc : Thread nD τ).loc main_arg1))) (broadcastInDim S4096x1 ![] bcast_S_S4096x1 (constantI S_ 32 0#32))) (addi (broadcastInDim S4096x1 ![0] bcast_S4096_S4096x1_0 (m ((c.tc : Thread nD τ).loc main_arg1))) (broadcastInDim S4096x1 ![] bcast_S_S4096x1 (constantI S_ 32 50257#32))) (broadcastInDim S4096x1 ![0] bcast_S4096_S4096x1_0 (m ((c.tc : Thread nD τ).loc main_arg1)))) shapeCasts_S4096x1_S4096x1x1) (broadcastInDim S4096x1x1 ![] bcast_S_S4096x1x1 (constantI S_ 32 0#32))) (cmpi .sle (shapeCast _ (select (cmpi .slt (broadcastInDim S4096x1 ![0] bcast_S4096_S4096x1_0 (m ((c.tc : Thread nD τ).loc main_arg1))) (broadcastInDim S4096x1 ![] bcast_S_S4096x1 (constantI S_ 32 0#32))) (addi (broadcastInDim S4096x1 ![0] bcast_S4096_S4096x1_0 (m ((c.tc : Thread nD τ).loc main_arg1))) (broadcastInDim S4096x1 ![] bcast_S_S4096x1 (constantI S_ 32 50257#32))) (broadcastInDim S4096x1 ![0] bcast_S4096_S4096x1_0 (m ((c.tc : Thread nD τ).loc main_arg1)))) shapeCasts_S4096x1_S4096x1x1) (broadcastInDim S4096x1x1 ![0, 1, 2] bcast_S1x1x1_S4096x1x1_0_1_2 (broadcastInDim S1x1x1 ![2] bcast_S1_S1x1x1_2 (constantI S1 32 50256#32))))) (constantI S_ 1 1#1) reducesTo_S4096x1x1_S4096x1_d2 h_S_) (Host.gather gather_S4096x50257_S4096x1x1_S4096x1_n_1_0_0_1_2_11 (Host.divf (Host.exp (subf (m ((c.tc : Thread nD τ).loc main_arg0)) (broadcastInDim S4096x50257 ![0, 1] bcast_S4096x1_S4096x50257_0_1 (broadcastInDim S4096x1 ![0] bcast_S4096_S4096x1_0 (maximumf (broadcastInDim S4096 ![] bcast_S_S4096 (constant S_ .f32 0xFF800000#32)) (Host.reduce FloatOps.maximumf (m ((c.tc : Thread nD τ).loc main_arg0)) (constant S_ .f32 0xFF800000#32) reducesTo_S4096x50257_S4096_d1 h_S_)))))) (broadcastInDim S4096x50257 ![0, 1] bcast_S4096x1_S4096x50257_0_1 (broadcastInDim S4096x1 ![0] bcast_S4096_S4096x1_0 (Host.reduceAdd (Host.exp (subf (m ((c.tc : Thread nD τ).loc main_arg0)) (broadcastInDim S4096x50257 ![0, 1] bcast_S4096x1_S4096x50257_0_1 (broadcastInDim S4096x1 ![0] bcast_S4096_S4096x1_0 (maximumf (broadcastInDim S4096 ![] bcast_S_S4096 (constant S_ .f32 0xFF800000#32)) (Host.reduce FloatOps.maximumf (m ((c.tc : Thread nD τ).loc main_arg0)) (constant S_ .f32 0xFF800000#32) reducesTo_S4096x50257_S4096_d1 h_S_)))))) (constant S_ .f32 0x00000000#32) reducesTo_S4096x50257_S4096_d1 h_S_)))) (shapeCast _ (select (cmpi .slt (broadcastInDim S4096x1 ![0] bcast_S4096_S4096x1_0 (m ((c.tc : Thread nD τ).loc main_arg1))) (broadcastInDim S4096x1 ![] bcast_S_S4096x1 (constantI S_ 32 0#32))) (addi (broadcastInDim S4096x1 ![0] bcast_S4096_S4096x1_0 (m ((c.tc : Thread nD τ).loc main_arg1))) (broadcastInDim S4096x1 ![] bcast_S_S4096x1 (constantI S_ 32 50257#32))) (broadcastInDim S4096x1 ![0] bcast_S4096_S4096x1_0 (m ((c.tc : Thread nD τ).loc main_arg1)))) shapeCasts_S4096x1_S4096x1x1)) (broadcastInDim S4096x1 ![] bcast_S_S4096x1 (constant S_ .f32 0x7FC00000#32))) shapeCasts_S4096x1_S4096) (broadcastInDim S4096 ![] bcast_S_S4096 (constant S_ .f32 0x3CA3D70A#32))) natLt_1_32) (shapeCast _ (extractStridedSlice S4096x1 ![0, 1] ((Host.topK S4096x3 1 (FloatOps.cmpfTotal .gt) (Host.divf (Host.exp (subf (m ((c.tc : Thread nD τ).loc main_arg0)) (broadcastInDim S4096x50257 ![0, 1] bcast_S4096x1_S4096x50257_0_1 (broadcastInDim S4096x1 ![0] bcast_S4096_S4096x1_0 (maximumf (broadcastInDim S4096 ![] bcast_S_S4096 (constant S_ .f32 0xFF800000#32)) (Host.reduce FloatOps.maximumf (m ((c.tc : Thread nD τ).loc main_arg0)) (constant S_ .f32 0xFF800000#32) reducesTo_S4096x50257_S4096_d1 h_S_)))))) (broadcastInDim S4096x50257 ![0, 1] bcast_S4096x1_S4096x50257_0_1 (broadcastInDim S4096x1 ![0] bcast_S4096_S4096x1_0 (Host.reduceAdd (Host.exp (subf (m ((c.tc : Thread nD τ).loc main_arg0)) (broadcastInDim S4096x50257 ![0, 1] bcast_S4096x1_S4096x50257_0_1 (broadcastInDim S4096x1 ![0] bcast_S4096_S4096x1_0 (maximumf (broadcastInDim S4096 ![] bcast_S_S4096 (constant S_ .f32 0xFF800000#32)) (Host.reduce FloatOps.maximumf (m ((c.tc : Thread nD τ).loc main_arg0)) (constant S_ .f32 0xFF800000#32) reducesTo_S4096x50257_S4096_d1 h_S_)))))) (constant S_ .f32 0x00000000#32) reducesTo_S4096x50257_S4096_d1 h_S_)))) sliceFits_S4096x50257_S4096x3).2) slices_S4096x3_S4096x1_0_1) shapeCasts_S4096x1_S4096)) (muli (subi (broadcastInDim S4096 ![] bcast_S_S4096 (constantI S_ 32 1#32)) (extui 32 (cmpf .olt (shapeCast _ (select (Host.reduce IntOp.andi (andi (cmpi .sge (shapeCast _ (select (cmpi .slt (broadcastInDim S4096x1 ![0] bcast_S4096_S4096x1_0 (m ((c.tc : Thread nD τ).loc main_arg1))) (broadcastInDim S4096x1 ![] bcast_S_S4096x1 (constantI S_ 32 0#32))) (addi (broadcastInDim S4096x1 ![0] bcast_S4096_S4096x1_0 (m ((c.tc : Thread nD τ).loc main_arg1))) (broadcastInDim S4096x1 ![] bcast_S_S4096x1 (constantI S_ 32 50257#32))) (broadcastInDim S4096x1 ![0] bcast_S4096_S4096x1_0 (m ((c.tc : Thread nD τ).loc main_arg1)))) shapeCasts_S4096x1_S4096x1x1) (broadcastInDim S4096x1x1 ![] bcast_S_S4096x1x1 (constantI S_ 32 0#32))) (cmpi .sle (shapeCast _ (select (cmpi .slt (broadcastInDim S4096x1 ![0] bcast_S4096_S4096x1_0 (m ((c.tc : Thread nD τ).loc main_arg1))) (broadcastInDim S4096x1 ![] bcast_S_S4096x1 (constantI S_ 32 0#32))) (addi (broadcastInDim S4096x1 ![0] bcast_S4096_S4096x1_0 (m ((c.tc : Thread nD τ).loc main_arg1))) (broadcastInDim S4096x1 ![] bcast_S_S4096x1 (constantI S_ 32 50257#32))) (broadcastInDim S4096x1 ![0] bcast_S4096_S4096x1_0 (m ((c.tc : Thread nD τ).loc main_arg1)))) shapeCasts_S4096x1_S4096x1x1) (broadcastInDim S4096x1x1 ![0, 1, 2] bcast_S1x1x1_S4096x1x1_0_1_2 (broadcastInDim S1x1x1 ![2] bcast_S1_S1x1x1_2 (constantI S1 32 50256#32))))) (constantI S_ 1 1#1) reducesTo_S4096x1x1_S4096x1_d2 h_S_) (Host.gather gather_S4096x50257_S4096x1x1_S4096x1_n_1_0_0_1_2_11 (Host.divf (Host.exp (subf (m ((c.tc : Thread nD τ).loc main_arg0)) (broadcastInDim S4096x50257 ![0, 1] bcast_S4096x1_S4096x50257_0_1 (broadcastInDim S4096x1 ![0] bcast_S4096_S4096x1_0 (maximumf (broadcastInDim S4096 ![] bcast_S_S4096 (constant S_ .f32 0xFF800000#32)) (Host.reduce FloatOps.maximumf (m ((c.tc : Thread nD τ).loc main_arg0)) (constant S_ .f32 0xFF800000#32) reducesTo_S4096x50257_S4096_d1 h_S_)))))) (broadcastInDim S4096x50257 ![0, 1] bcast_S4096x1_S4096x50257_0_1 (broadcastInDim S4096x1 ![0] bcast_S4096_S4096x1_0 (Host.reduceAdd (Host.exp (subf (m ((c.tc : Thread nD τ).loc main_arg0)) (broadcastInDim S4096x50257 ![0, 1] bcast_S4096x1_S4096x50257_0_1 (broadcastInDim S4096x1 ![0] bcast_S4096_S4096x1_0 (maximumf (broadcastInDim S4096 ![] bcast_S_S4096 (constant S_ .f32 0xFF800000#32)) (Host.reduce FloatOps.maximumf (m ((c.tc : Thread nD τ).loc main_arg0)) (constant S_ .f32 0xFF800000#32) reducesTo_S4096x50257_S4096_d1 h_S_)))))) (constant S_ .f32 0x00000000#32) reducesTo_S4096x50257_S4096_d1 h_S_)))) (shapeCast _ (select (cmpi .slt (broadcastInDim S4096x1 ![0] bcast_S4096_S4096x1_0 (m ((c.tc : Thread nD τ).loc main_arg1))) (broadcastInDim S4096x1 ![] bcast_S_S4096x1 (constantI S_ 32 0#32))) (addi (broadcastInDim S4096x1 ![0] bcast_S4096_S4096x1_0 (m ((c.tc : Thread nD τ).loc main_arg1))) (broadcastInDim S4096x1 ![] bcast_S_S4096x1 (constantI S_ 32 50257#32))) (broadcastInDim S4096x1 ![0] bcast_S4096_S4096x1_0 (m ((c.tc : Thread nD τ).loc main_arg1)))) shapeCasts_S4096x1_S4096x1x1)) (broadcastInDim S4096x1 ![] bcast_S_S4096x1 (constant S_ .f32 0x7FC00000#32))) shapeCasts_S4096x1_S4096) (broadcastInDim S4096 ![] bcast_S_S4096 (constant S_ .f32 0x3CA3D70A#32))) natLt_1_32)) (broadcastInDim S4096 ![] bcast_S_S4096 (constantI S_ 32 4294967295#32)))

/-- `res_main_v71` by its position among the values @main returns, 3 counting from 0: the name for hand proofs to cite, since
    a re-print renumbers `main_v71`. An abbreviation: it unfolds to the `res_main_v71` that `run` states. -/
abbrev res_out3 (m : (ℓ : Loc nD τ sig) → Buf (Elt F) ℓ) (c : Dev nD) : Buf (Elt F) ((c.tc : Thread nD τ).loc main_v71) := res_main_v71 m c

set_option maxRecDepth 8192 in
/-- `main_v66`'s composed term of the arguments (named: it is long). -/
def res_main_v66 (m : (ℓ : Loc nD τ sig) → Buf (Elt F) ℓ) (c : Dev nD) : Buf (Elt F) ((c.tc : Thread nD τ).loc main_v66) :=
  addi (muli (extui 32 (cmpf .olt (shapeCast _ (select (Host.reduce IntOp.andi (andi (cmpi .sge (shapeCast _ (select (cmpi .slt (broadcastInDim S4096x1 ![0] bcast_S4096_S4096x1_0 (m ((c.tc : Thread nD τ).loc main_arg1))) (broadcastInDim S4096x1 ![] bcast_S_S4096x1 (constantI S_ 32 0#32))) (addi (broadcastInDim S4096x1 ![0] bcast_S4096_S4096x1_0 (m ((c.tc : Thread nD τ).loc main_arg1))) (broadcastInDim S4096x1 ![] bcast_S_S4096x1 (constantI S_ 32 50257#32))) (broadcastInDim S4096x1 ![0] bcast_S4096_S4096x1_0 (m ((c.tc : Thread nD τ).loc main_arg1)))) shapeCasts_S4096x1_S4096x1x1) (broadcastInDim S4096x1x1 ![] bcast_S_S4096x1x1 (constantI S_ 32 0#32))) (cmpi .sle (shapeCast _ (select (cmpi .slt (broadcastInDim S4096x1 ![0] bcast_S4096_S4096x1_0 (m ((c.tc : Thread nD τ).loc main_arg1))) (broadcastInDim S4096x1 ![] bcast_S_S4096x1 (constantI S_ 32 0#32))) (addi (broadcastInDim S4096x1 ![0] bcast_S4096_S4096x1_0 (m ((c.tc : Thread nD τ).loc main_arg1))) (broadcastInDim S4096x1 ![] bcast_S_S4096x1 (constantI S_ 32 50257#32))) (broadcastInDim S4096x1 ![0] bcast_S4096_S4096x1_0 (m ((c.tc : Thread nD τ).loc main_arg1)))) shapeCasts_S4096x1_S4096x1x1) (broadcastInDim S4096x1x1 ![0, 1, 2] bcast_S1x1x1_S4096x1x1_0_1_2 (broadcastInDim S1x1x1 ![2] bcast_S1_S1x1x1_2 (constantI S1 32 50256#32))))) (constantI S_ 1 1#1) reducesTo_S4096x1x1_S4096x1_d2 h_S_) (Host.gather gather_S4096x50257_S4096x1x1_S4096x1_n_1_0_0_1_2_11 (Host.divf (Host.exp (subf (m ((c.tc : Thread nD τ).loc main_arg0)) (broadcastInDim S4096x50257 ![0, 1] bcast_S4096x1_S4096x50257_0_1 (broadcastInDim S4096x1 ![0] bcast_S4096_S4096x1_0 (maximumf (broadcastInDim S4096 ![] bcast_S_S4096 (constant S_ .f32 0xFF800000#32)) (Host.reduce FloatOps.maximumf (m ((c.tc : Thread nD τ).loc main_arg0)) (constant S_ .f32 0xFF800000#32) reducesTo_S4096x50257_S4096_d1 h_S_)))))) (broadcastInDim S4096x50257 ![0, 1] bcast_S4096x1_S4096x50257_0_1 (broadcastInDim S4096x1 ![0] bcast_S4096_S4096x1_0 (Host.reduceAdd (Host.exp (subf (m ((c.tc : Thread nD τ).loc main_arg0)) (broadcastInDim S4096x50257 ![0, 1] bcast_S4096x1_S4096x50257_0_1 (broadcastInDim S4096x1 ![0] bcast_S4096_S4096x1_0 (maximumf (broadcastInDim S4096 ![] bcast_S_S4096 (constant S_ .f32 0xFF800000#32)) (Host.reduce FloatOps.maximumf (m ((c.tc : Thread nD τ).loc main_arg0)) (constant S_ .f32 0xFF800000#32) reducesTo_S4096x50257_S4096_d1 h_S_)))))) (constant S_ .f32 0x00000000#32) reducesTo_S4096x50257_S4096_d1 h_S_)))) (shapeCast _ (select (cmpi .slt (broadcastInDim S4096x1 ![0] bcast_S4096_S4096x1_0 (m ((c.tc : Thread nD τ).loc main_arg1))) (broadcastInDim S4096x1 ![] bcast_S_S4096x1 (constantI S_ 32 0#32))) (addi (broadcastInDim S4096x1 ![0] bcast_S4096_S4096x1_0 (m ((c.tc : Thread nD τ).loc main_arg1))) (broadcastInDim S4096x1 ![] bcast_S_S4096x1 (constantI S_ 32 50257#32))) (broadcastInDim S4096x1 ![0] bcast_S4096_S4096x1_0 (m ((c.tc : Thread nD τ).loc main_arg1)))) shapeCasts_S4096x1_S4096x1x1)) (broadcastInDim S4096x1 ![] bcast_S_S4096x1 (constant S_ .f32 0x7FC00000#32))) shapeCasts_S4096x1_S4096) (broadcastInDim S4096 ![] bcast_S_S4096 (constant S_ .f32 0x3CA3D70A#32))) natLt_1_32) ((fun j => (Host.argReduce reducer_argmax_f32_i32 (Host.divf (Host.exp (subf (m ((c.tc : Thread nD τ).loc main_arg0)) (broadcastInDim S4096x50257 ![0, 1] bcast_S4096x1_S4096x50257_0_1 (broadcastInDim S4096x1 ![0] bcast_S4096_S4096x1_0 (maximumf (broadcastInDim S4096 ![] bcast_S_S4096 (constant S_ .f32 0xFF800000#32)) (Host.reduce FloatOps.maximumf (m ((c.tc : Thread nD τ).loc main_arg0)) (constant S_ .f32 0xFF800000#32) reducesTo_S4096x50257_S4096_d1 h_S_)))))) (broadcastInDim S4096x50257 ![0, 1] bcast_S4096x1_S4096x50257_0_1 (broadcastInDim S4096x1 ![0] bcast_S4096_S4096x1_0 (Host.reduceAdd (Host.exp (subf (m ((c.tc : Thread nD τ).loc main_arg0)) (broadcastInDim S4096x50257 ![0, 1] bcast_S4096x1_S4096x50257_0_1 (broadcastInDim S4096x1 ![0] bcast_S4096_S4096x1_0 (maximumf (broadcastInDim S4096 ![] bcast_S_S4096 (constant S_ .f32 0xFF800000#32)) (Host.reduce FloatOps.maximumf (m ((c.tc : Thread nD τ).loc main_arg0)) (constant S_ .f32 0xFF800000#32) reducesTo_S4096x50257_S4096_d1 h_S_)))))) (constant S_ .f32 0x00000000#32) reducesTo_S4096x50257_S4096_d1 h_S_)))) (iotaInDim S4096x50257 32 1) (constant S_ .f32 0xFF800000#32) (constantI S_ 32 0#32) reducesTo_S4096x50257_S4096_d1 h_S_ j).2))) (muli (subi (broadcastInDim S4096 ![] bcast_S_S4096 (constantI S_ 32 1#32)) (extui 32 (cmpf .olt (shapeCast _ (select (Host.reduce IntOp.andi (andi (cmpi .sge (shapeCast _ (select (cmpi .slt (broadcastInDim S4096x1 ![0] bcast_S4096_S4096x1_0 (m ((c.tc : Thread nD τ).loc main_arg1))) (broadcastInDim S4096x1 ![] bcast_S_S4096x1 (constantI S_ 32 0#32))) (addi (broadcastInDim S4096x1 ![0] bcast_S4096_S4096x1_0 (m ((c.tc : Thread nD τ).loc main_arg1))) (broadcastInDim S4096x1 ![] bcast_S_S4096x1 (constantI S_ 32 50257#32))) (broadcastInDim S4096x1 ![0] bcast_S4096_S4096x1_0 (m ((c.tc : Thread nD τ).loc main_arg1)))) shapeCasts_S4096x1_S4096x1x1) (broadcastInDim S4096x1x1 ![] bcast_S_S4096x1x1 (constantI S_ 32 0#32))) (cmpi .sle (shapeCast _ (select (cmpi .slt (broadcastInDim S4096x1 ![0] bcast_S4096_S4096x1_0 (m ((c.tc : Thread nD τ).loc main_arg1))) (broadcastInDim S4096x1 ![] bcast_S_S4096x1 (constantI S_ 32 0#32))) (addi (broadcastInDim S4096x1 ![0] bcast_S4096_S4096x1_0 (m ((c.tc : Thread nD τ).loc main_arg1))) (broadcastInDim S4096x1 ![] bcast_S_S4096x1 (constantI S_ 32 50257#32))) (broadcastInDim S4096x1 ![0] bcast_S4096_S4096x1_0 (m ((c.tc : Thread nD τ).loc main_arg1)))) shapeCasts_S4096x1_S4096x1x1) (broadcastInDim S4096x1x1 ![0, 1, 2] bcast_S1x1x1_S4096x1x1_0_1_2 (broadcastInDim S1x1x1 ![2] bcast_S1_S1x1x1_2 (constantI S1 32 50256#32))))) (constantI S_ 1 1#1) reducesTo_S4096x1x1_S4096x1_d2 h_S_) (Host.gather gather_S4096x50257_S4096x1x1_S4096x1_n_1_0_0_1_2_11 (Host.divf (Host.exp (subf (m ((c.tc : Thread nD τ).loc main_arg0)) (broadcastInDim S4096x50257 ![0, 1] bcast_S4096x1_S4096x50257_0_1 (broadcastInDim S4096x1 ![0] bcast_S4096_S4096x1_0 (maximumf (broadcastInDim S4096 ![] bcast_S_S4096 (constant S_ .f32 0xFF800000#32)) (Host.reduce FloatOps.maximumf (m ((c.tc : Thread nD τ).loc main_arg0)) (constant S_ .f32 0xFF800000#32) reducesTo_S4096x50257_S4096_d1 h_S_)))))) (broadcastInDim S4096x50257 ![0, 1] bcast_S4096x1_S4096x50257_0_1 (broadcastInDim S4096x1 ![0] bcast_S4096_S4096x1_0 (Host.reduceAdd (Host.exp (subf (m ((c.tc : Thread nD τ).loc main_arg0)) (broadcastInDim S4096x50257 ![0, 1] bcast_S4096x1_S4096x50257_0_1 (broadcastInDim S4096x1 ![0] bcast_S4096_S4096x1_0 (maximumf (broadcastInDim S4096 ![] bcast_S_S4096 (constant S_ .f32 0xFF800000#32)) (Host.reduce FloatOps.maximumf (m ((c.tc : Thread nD τ).loc main_arg0)) (constant S_ .f32 0xFF800000#32) reducesTo_S4096x50257_S4096_d1 h_S_)))))) (constant S_ .f32 0x00000000#32) reducesTo_S4096x50257_S4096_d1 h_S_)))) (shapeCast _ (select (cmpi .slt (broadcastInDim S4096x1 ![0] bcast_S4096_S4096x1_0 (m ((c.tc : Thread nD τ).loc main_arg1))) (broadcastInDim S4096x1 ![] bcast_S_S4096x1 (constantI S_ 32 0#32))) (addi (broadcastInDim S4096x1 ![0] bcast_S4096_S4096x1_0 (m ((c.tc : Thread nD τ).loc main_arg1))) (broadcastInDim S4096x1 ![] bcast_S_S4096x1 (constantI S_ 32 50257#32))) (broadcastInDim S4096x1 ![0] bcast_S4096_S4096x1_0 (m ((c.tc : Thread nD τ).loc main_arg1)))) shapeCasts_S4096x1_S4096x1x1)) (broadcastInDim S4096x1 ![] bcast_S_S4096x1 (constant S_ .f32 0x7FC00000#32))) shapeCasts_S4096x1_S4096) (broadcastInDim S4096 ![] bcast_S_S4096 (constant S_ .f32 0x3CA3D70A#32))) natLt_1_32)) (broadcastInDim S4096 ![] bcast_S_S4096 (constantI S_ 32 4294967295#32)))

/-- `res_main_v66` by its position among the values @main returns, 2 counting from 0: the name for hand proofs to cite, since
    a re-print renumbers `main_v66`. An abbreviation: it unfolds to the `res_main_v66` that `run` states. -/
abbrev res_out2 (m : (ℓ : Loc nD τ sig) → Buf (Elt F) ℓ) (c : Dev nD) : Buf (Elt F) ((c.tc : Thread nD τ).loc main_v66) := res_main_v66 m c

set_option maxRecDepth 8192 in
/-- `main_v60`'s composed term of the arguments (named: it is long). -/
def res_main_v60 (m : (ℓ : Loc nD τ sig) → Buf (Elt F) ℓ) (c : Dev nD) : Buf (Elt F) ((c.tc : Thread nD τ).loc main_v60) :=
  Host.divf (Host.reduceAdd (mulf (Host.negf (subf (subf (m ((c.tc : Thread nD τ).loc main_arg0)) (broadcastInDim S4096x50257 ![0, 1] bcast_S4096x1_S4096x50257_0_1 (broadcastInDim S4096x1 ![0] bcast_S4096_S4096x1_0 (maximumf (broadcastInDim S4096 ![] bcast_S_S4096 (constant S_ .f32 0xFF800000#32)) (Host.reduce FloatOps.maximumf (m ((c.tc : Thread nD τ).loc main_arg0)) (constant S_ .f32 0xFF800000#32) reducesTo_S4096x50257_S4096_d1 h_S_))))) (broadcastInDim S4096x50257 ![0, 1] bcast_S4096x1_S4096x50257_0_1 (Host.log (broadcastInDim S4096x1 ![0] bcast_S4096_S4096x1_0 (Host.reduceAdd (Host.exp (subf (m ((c.tc : Thread nD τ).loc main_arg0)) (broadcastInDim S4096x50257 ![0, 1] bcast_S4096x1_S4096x50257_0_1 (broadcastInDim S4096x1 ![0] bcast_S4096_S4096x1_0 (maximumf (broadcastInDim S4096 ![] bcast_S_S4096 (constant S_ .f32 0xFF800000#32)) (Host.reduce FloatOps.maximumf (m ((c.tc : Thread nD τ).loc main_arg0)) (constant S_ .f32 0xFF800000#32) reducesTo_S4096x50257_S4096_d1 h_S_)))))) (constant S_ .f32 0x00000000#32) reducesTo_S4096x50257_S4096_d1 h_S_)))))) (addf (mulf (Host.scatterAdd scatter_S4096x50257_S4096x3x2_S4096x3_n_01_01_2 (broadcastInDim S4096x50257 ![] bcast_S_S4096x50257 (constant S_ .f32 0x00000000#32)) (concatenate S4096x3x2 2 [⟨S4096x3x1, (broadcastInDim S4096x3x1 ![0, 1] bcast_S4096x3_S4096x3x1_0_1 (broadcastInDim S4096x3 ![0, 1] bcast_S4096x1_S4096x3_0_1 (select (cmpi .slt (broadcastInDim S4096x1 ![0] bcast_S4096_S4096x1_0 (iotaInDim S4096 32 0)) (broadcastInDim S4096x1 ![] bcast_S_S4096x1 (constantI S_ 32 0#32))) (addi (broadcastInDim S4096x1 ![0] bcast_S4096_S4096x1_0 (iotaInDim S4096 32 0)) (broadcastInDim S4096x1 ![] bcast_S_S4096x1 (constantI S_ 32 4096#32))) (broadcastInDim S4096x1 ![0] bcast_S4096_S4096x1_0 (iotaInDim S4096 32 0)))))⟩, ⟨S4096x3x1, (broadcastInDim S4096x3x1 ![0, 1] bcast_S4096x3_S4096x3x1_0_1 (select (cmpi .slt ((Host.topK S4096x3 1 (FloatOps.cmpfTotal .gt) (Host.divf (Host.exp (subf (m ((c.tc : Thread nD τ).loc main_arg0)) (broadcastInDim S4096x50257 ![0, 1] bcast_S4096x1_S4096x50257_0_1 (broadcastInDim S4096x1 ![0] bcast_S4096_S4096x1_0 (maximumf (broadcastInDim S4096 ![] bcast_S_S4096 (constant S_ .f32 0xFF800000#32)) (Host.reduce FloatOps.maximumf (m ((c.tc : Thread nD τ).loc main_arg0)) (constant S_ .f32 0xFF800000#32) reducesTo_S4096x50257_S4096_d1 h_S_)))))) (broadcastInDim S4096x50257 ![0, 1] bcast_S4096x1_S4096x50257_0_1 (broadcastInDim S4096x1 ![0] bcast_S4096_S4096x1_0 (Host.reduceAdd (Host.exp (subf (m ((c.tc : Thread nD τ).loc main_arg0)) (broadcastInDim S4096x50257 ![0, 1] bcast_S4096x1_S4096x50257_0_1 (broadcastInDim S4096x1 ![0] bcast_S4096_S4096x1_0 (maximumf (broadcastInDim S4096 ![] bcast_S_S4096 (constant S_ .f32 0xFF800000#32)) (Host.reduce FloatOps.maximumf (m ((c.tc : Thread nD τ).loc main_arg0)) (constant S_ .f32 0xFF800000#32) reducesTo_S4096x50257_S4096_d1 h_S_)))))) (constant S_ .f32 0x00000000#32) reducesTo_S4096x50257_S4096_d1 h_S_)))) sliceFits_S4096x50257_S4096x3).2) (broadcastInDim S4096x3 ![] bcast_S_S4096x3 (constantI S_ 32 0#32))) (addi ((Host.topK S4096x3 1 (FloatOps.cmpfTotal .gt) (Host.divf (Host.exp (subf (m ((c.tc : Thread nD τ).loc main_arg0)) (broadcastInDim S4096x50257 ![0, 1] bcast_S4096x1_S4096x50257_0_1 (broadcastInDim S4096x1 ![0] bcast_S4096_S4096x1_0 (maximumf (broadcastInDim S4096 ![] bcast_S_S4096 (constant S_ .f32 0xFF800000#32)) (Host.reduce FloatOps.maximumf (m ((c.tc : Thread nD τ).loc main_arg0)) (constant S_ .f32 0xFF800000#32) reducesTo_S4096x50257_S4096_d1 h_S_)))))) (broadcastInDim S4096x50257 ![0, 1] bcast_S4096x1_S4096x50257_0_1 (broadcastInDim S4096x1 ![0] bcast_S4096_S4096x1_0 (Host.reduceAdd (Host.exp (subf (m ((c.tc : Thread nD τ).loc main_arg0)) (broadcastInDim S4096x50257 ![0, 1] bcast_S4096x1_S4096x50257_0_1 (broadcastInDim S4096x1 ![0] bcast_S4096_S4096x1_0 (maximumf (broadcastInDim S4096 ![] bcast_S_S4096 (constant S_ .f32 0xFF800000#32)) (Host.reduce FloatOps.maximumf (m ((c.tc : Thread nD τ).loc main_arg0)) (constant S_ .f32 0xFF800000#32) reducesTo_S4096x50257_S4096_d1 h_S_)))))) (constant S_ .f32 0x00000000#32) reducesTo_S4096x50257_S4096_d1 h_S_)))) sliceFits_S4096x50257_S4096x3).2) (broadcastInDim S4096x3 ![] bcast_S_S4096x3 (constantI S_ 32 50257#32))) ((Host.topK S4096x3 1 (FloatOps.cmpfTotal .gt) (Host.divf (Host.exp (subf (m ((c.tc : Thread nD τ).loc main_arg0)) (broadcastInDim S4096x50257 ![0, 1] bcast_S4096x1_S4096x50257_0_1 (broadcastInDim S4096x1 ![0] bcast_S4096_S4096x1_0 (maximumf (broadcastInDim S4096 ![] bcast_S_S4096 (constant S_ .f32 0xFF800000#32)) (Host.reduce FloatOps.maximumf (m ((c.tc : Thread nD τ).loc main_arg0)) (constant S_ .f32 0xFF800000#32) reducesTo_S4096x50257_S4096_d1 h_S_)))))) (broadcastInDim S4096x50257 ![0, 1] bcast_S4096x1_S4096x50257_0_1 (broadcastInDim S4096x1 ![0] bcast_S4096_S4096x1_0 (Host.reduceAdd (Host.exp (subf (m ((c.tc : Thread nD τ).loc main_arg0)) (broadcastInDim S4096x50257 ![0, 1] bcast_S4096x1_S4096x50257_0_1 (broadcastInDim S4096x1 ![0] bcast_S4096_S4096x1_0 (maximumf (broadcastInDim S4096 ![] bcast_S_S4096 (constant S_ .f32 0xFF800000#32)) (Host.reduce FloatOps.maximumf (m ((c.tc : Thread nD τ).loc main_arg0)) (constant S_ .f32 0xFF800000#32) reducesTo_S4096x50257_S4096_d1 h_S_)))))) (constant S_ .f32 0x00000000#32) reducesTo_S4096x50257_S4096_d1 h_S_)))) sliceFits_S4096x50257_S4096x3).2)))⟩] concatenates_S4096x3x1_S4096x3x1_S4096x3x2_d2) (Host.divf ((Host.topK S4096x3 1 (FloatOps.cmpfTotal .gt) (Host.divf (Host.exp (subf (m ((c.tc : Thread nD τ).loc main_arg0)) (broadcastInDim S4096x50257 ![0, 1] bcast_S4096x1_S4096x50257_0_1 (broadcastInDim S4096x1 ![0] bcast_S4096_S4096x1_0 (maximumf (broadcastInDim S4096 ![] bcast_S_S4096 (constant S_ .f32 0xFF800000#32)) (Host.reduce FloatOps.maximumf (m ((c.tc : Thread nD τ).loc main_arg0)) (constant S_ .f32 0xFF800000#32) reducesTo_S4096x50257_S4096_d1 h_S_)))))) (broadcastInDim S4096x50257 ![0, 1] bcast_S4096x1_S4096x50257_0_1 (broadcastInDim S4096x1 ![0] bcast_S4096_S4096x1_0 (Host.reduceAdd (Host.exp (subf (m ((c.tc : Thread nD τ).loc main_arg0)) (broadcastInDim S4096x50257 ![0, 1] bcast_S4096x1_S4096x50257_0_1 (broadcastInDim S4096x1 ![0] bcast_S4096_S4096x1_0 (maximumf (broadcastInDim S4096 ![] bcast_S_S4096 (constant S_ .f32 0xFF800000#32)) (Host.reduce FloatOps.maximumf (m ((c.tc : Thread nD τ).loc main_arg0)) (constant S_ .f32 0xFF800000#32) reducesTo_S4096x50257_S4096_d1 h_S_)))))) (constant S_ .f32 0x00000000#32) reducesTo_S4096x50257_S4096_d1 h_S_)))) sliceFits_S4096x50257_S4096x3).1) (broadcastInDim S4096x3 ![0, 1] bcast_S4096x1_S4096x3_0_1 (broadcastInDim S4096x1 ![0] bcast_S4096_S4096x1_0 (Host.reduceAdd ((Host.topK S4096x3 1 (FloatOps.cmpfTotal .gt) (Host.divf (Host.exp (subf (m ((c.tc : Thread nD τ).loc main_arg0)) (broadcastInDim S4096x50257 ![0, 1] bcast_S4096x1_S4096x50257_0_1 (broadcastInDim S4096x1 ![0] bcast_S4096_S4096x1_0 (maximumf (broadcastInDim S4096 ![] bcast_S_S4096 (constant S_ .f32 0xFF800000#32)) (Host.reduce FloatOps.maximumf (m ((c.tc : Thread nD τ).loc main_arg0)) (constant S_ .f32 0xFF800000#32) reducesTo_S4096x50257_S4096_d1 h_S_)))))) (broadcastInDim S4096x50257 ![0, 1] bcast_S4096x1_S4096x50257_0_1 (broadcastInDim S4096x1 ![0] bcast_S4096_S4096x1_0 (Host.reduceAdd (Host.exp (subf (m ((c.tc : Thread nD τ).loc main_arg0)) (broadcastInDim S4096x50257 ![0, 1] bcast_S4096x1_S4096x50257_0_1 (broadcastInDim S4096x1 ![0] bcast_S4096_S4096x1_0 (maximumf (broadcastInDim S4096 ![] bcast_S_S4096 (constant S_ .f32 0xFF800000#32)) (Host.reduce FloatOps.maximumf (m ((c.tc : Thread nD τ).loc main_arg0)) (constant S_ .f32 0xFF800000#32) reducesTo_S4096x50257_S4096_d1 h_S_)))))) (constant S_ .f32 0x00000000#32) reducesTo_S4096x50257_S4096_d1 h_S_)))) sliceFits_S4096x50257_S4096x3).1) (constant S_ .f32 0x00000000#32) reducesTo_S4096x3_S4096_d1 h_S_))))) (broadcastInDim S4096x50257 ![0, 1] bcast_S4096x1_S4096x50257_0_1 (sitofp .f32 (broadcastInDim S4096x1 ![0] bcast_S4096_S4096x1_0 (extui 32 (cmpf .olt (shapeCast _ (select (Host.reduce IntOp.andi (andi (cmpi .sge (shapeCast _ (select (cmpi .slt (broadcastInDim S4096x1 ![0] bcast_S4096_S4096x1_0 (m ((c.tc : Thread nD τ).loc main_arg1))) (broadcastInDim S4096x1 ![] bcast_S_S4096x1 (constantI S_ 32 0#32))) (addi (broadcastInDim S4096x1 ![0] bcast_S4096_S4096x1_0 (m ((c.tc : Thread nD τ).loc main_arg1))) (broadcastInDim S4096x1 ![] bcast_S_S4096x1 (constantI S_ 32 50257#32))) (broadcastInDim S4096x1 ![0] bcast_S4096_S4096x1_0 (m ((c.tc : Thread nD τ).loc main_arg1)))) shapeCasts_S4096x1_S4096x1x1) (broadcastInDim S4096x1x1 ![] bcast_S_S4096x1x1 (constantI S_ 32 0#32))) (cmpi .sle (shapeCast _ (select (cmpi .slt (broadcastInDim S4096x1 ![0] bcast_S4096_S4096x1_0 (m ((c.tc : Thread nD τ).loc main_arg1))) (broadcastInDim S4096x1 ![] bcast_S_S4096x1 (constantI S_ 32 0#32))) (addi (broadcastInDim S4096x1 ![0] bcast_S4096_S4096x1_0 (m ((c.tc : Thread nD τ).loc main_arg1))) (broadcastInDim S4096x1 ![] bcast_S_S4096x1 (constantI S_ 32 50257#32))) (broadcastInDim S4096x1 ![0] bcast_S4096_S4096x1_0 (m ((c.tc : Thread nD τ).loc main_arg1)))) shapeCasts_S4096x1_S4096x1x1) (broadcastInDim S4096x1x1 ![0, 1, 2] bcast_S1x1x1_S4096x1x1_0_1_2 (broadcastInDim S1x1x1 ![2] bcast_S1_S1x1x1_2 (constantI S1 32 50256#32))))) (constantI S_ 1 1#1) reducesTo_S4096x1x1_S4096x1_d2 h_S_) (Host.gather gather_S4096x50257_S4096x1x1_S4096x1_n_1_0_0_1_2_11 (Host.divf (Host.exp (subf (m ((c.tc : Thread nD τ).loc main_arg0)) (broadcastInDim S4096x50257 ![0, 1] bcast_S4096x1_S4096x50257_0_1 (broadcastInDim S4096x1 ![0] bcast_S4096_S4096x1_0 (maximumf (broadcastInDim S4096 ![] bcast_S_S4096 (constant S_ .f32 0xFF800000#32)) (Host.reduce FloatOps.maximumf (m ((c.tc : Thread nD τ).loc main_arg0)) (constant S_ .f32 0xFF800000#32) reducesTo_S4096x50257_S4096_d1 h_S_)))))) (broadcastInDim S4096x50257 ![0, 1] bcast_S4096x1_S4096x50257_0_1 (broadcastInDim S4096x1 ![0] bcast_S4096_S4096x1_0 (Host.reduceAdd (Host.exp (subf (m ((c.tc : Thread nD τ).loc main_arg0)) (broadcastInDim S4096x50257 ![0, 1] bcast_S4096x1_S4096x50257_0_1 (broadcastInDim S4096x1 ![0] bcast_S4096_S4096x1_0 (maximumf (broadcastInDim S4096 ![] bcast_S_S4096 (constant S_ .f32 0xFF800000#32)) (Host.reduce FloatOps.maximumf (m ((c.tc : Thread nD τ).loc main_arg0)) (constant S_ .f32 0xFF800000#32) reducesTo_S4096x50257_S4096_d1 h_S_)))))) (constant S_ .f32 0x00000000#32) reducesTo_S4096x50257_S4096_d1 h_S_)))) (shapeCast _ (select (cmpi .slt (broadcastInDim S4096x1 ![0] bcast_S4096_S4096x1_0 (m ((c.tc : Thread nD τ).loc main_arg1))) (broadcastInDim S4096x1 ![] bcast_S_S4096x1 (constantI S_ 32 0#32))) (addi (broadcastInDim S4096x1 ![0] bcast_S4096_S4096x1_0 (m ((c.tc : Thread nD τ).loc main_arg1))) (broadcastInDim S4096x1 ![] bcast_S_S4096x1 (constantI S_ 32 50257#32))) (broadcastInDim S4096x1 ![0] bcast_S4096_S4096x1_0 (m ((c.tc : Thread nD τ).loc main_arg1)))) shapeCasts_S4096x1_S4096x1x1)) (broadcastInDim S4096x1 ![] bcast_S_S4096x1 (constant S_ .f32 0x7FC00000#32))) shapeCasts_S4096x1_S4096) (broadcastInDim S4096 ![] bcast_S_S4096 (constant S_ .f32 0x3CA3D70A#32))) natLt_1_32))))) (mulf (broadcastInDim S4096x50257 ![0, 1] bcast_S4096x1_S4096x50257_0_1 (subf (broadcastInDim S4096x1 ![] bcast_S_S4096x1 (constant S_ .f32 0x3F800000#32)) (sitofp .f32 (broadcastInDim S4096x1 ![0] bcast_S4096_S4096x1_0 (extui 32 (cmpf .olt (shapeCast _ (select (Host.reduce IntOp.andi (andi (cmpi .sge (shapeCast _ (select (cmpi .slt (broadcastInDim S4096x1 ![0] bcast_S4096_S4096x1_0 (m ((c.tc : Thread nD τ).loc main_arg1))) (broadcastInDim S4096x1 ![] bcast_S_S4096x1 (constantI S_ 32 0#32))) (addi (broadcastInDim S4096x1 ![0] bcast_S4096_S4096x1_0 (m ((c.tc : Thread nD τ).loc main_arg1))) (broadcastInDim S4096x1 ![] bcast_S_S4096x1 (constantI S_ 32 50257#32))) (broadcastInDim S4096x1 ![0] bcast_S4096_S4096x1_0 (m ((c.tc : Thread nD τ).loc main_arg1)))) shapeCasts_S4096x1_S4096x1x1) (broadcastInDim S4096x1x1 ![] bcast_S_S4096x1x1 (constantI S_ 32 0#32))) (cmpi .sle (shapeCast _ (select (cmpi .slt (broadcastInDim S4096x1 ![0] bcast_S4096_S4096x1_0 (m ((c.tc : Thread nD τ).loc main_arg1))) (broadcastInDim S4096x1 ![] bcast_S_S4096x1 (constantI S_ 32 0#32))) (addi (broadcastInDim S4096x1 ![0] bcast_S4096_S4096x1_0 (m ((c.tc : Thread nD τ).loc main_arg1))) (broadcastInDim S4096x1 ![] bcast_S_S4096x1 (constantI S_ 32 50257#32))) (broadcastInDim S4096x1 ![0] bcast_S4096_S4096x1_0 (m ((c.tc : Thread nD τ).loc main_arg1)))) shapeCasts_S4096x1_S4096x1x1) (broadcastInDim S4096x1x1 ![0, 1, 2] bcast_S1x1x1_S4096x1x1_0_1_2 (broadcastInDim S1x1x1 ![2] bcast_S1_S1x1x1_2 (constantI S1 32 50256#32))))) (constantI S_ 1 1#1) reducesTo_S4096x1x1_S4096x1_d2 h_S_) (Host.gather gather_S4096x50257_S4096x1x1_S4096x1_n_1_0_0_1_2_11 (Host.divf (Host.exp (subf (m ((c.tc : Thread nD τ).loc main_arg0)) (broadcastInDim S4096x50257 ![0, 1] bcast_S4096x1_S4096x50257_0_1 (broadcastInDim S4096x1 ![0] bcast_S4096_S4096x1_0 (maximumf (broadcastInDim S4096 ![] bcast_S_S4096 (constant S_ .f32 0xFF800000#32)) (Host.reduce FloatOps.maximumf (m ((c.tc : Thread nD τ).loc main_arg0)) (constant S_ .f32 0xFF800000#32) reducesTo_S4096x50257_S4096_d1 h_S_)))))) (broadcastInDim S4096x50257 ![0, 1] bcast_S4096x1_S4096x50257_0_1 (broadcastInDim S4096x1 ![0] bcast_S4096_S4096x1_0 (Host.reduceAdd (Host.exp (subf (m ((c.tc : Thread nD τ).loc main_arg0)) (broadcastInDim S4096x50257 ![0, 1] bcast_S4096x1_S4096x50257_0_1 (broadcastInDim S4096x1 ![0] bcast_S4096_S4096x1_0 (maximumf (broadcastInDim S4096 ![] bcast_S_S4096 (constant S_ .f32 0xFF800000#32)) (Host.reduce FloatOps.maximumf (m ((c.tc : Thread nD τ).loc main_arg0)) (constant S_ .f32 0xFF800000#32) reducesTo_S4096x50257_S4096_d1 h_S_)))))) (constant S_ .f32 0x00000000#32) reducesTo_S4096x50257_S4096_d1 h_S_)))) (shapeCast _ (select (cmpi .slt (broadcastInDim S4096x1 ![0] bcast_S4096_S4096x1_0 (m ((c.tc : Thread nD τ).loc main_arg1))) (broadcastInDim S4096x1 ![] bcast_S_S4096x1 (constantI S_ 32 0#32))) (addi (broadcastInDim S4096x1 ![0] bcast_S4096_S4096x1_0 (m ((c.tc : Thread nD τ).loc main_arg1))) (broadcastInDim S4096x1 ![] bcast_S_S4096x1 (constantI S_ 32 50257#32))) (broadcastInDim S4096x1 ![0] bcast_S4096_S4096x1_0 (m ((c.tc : Thread nD τ).loc main_arg1)))) shapeCasts_S4096x1_S4096x1x1)) (broadcastInDim S4096x1 ![] bcast_S_S4096x1 (constant S_ .f32 0x7FC00000#32))) shapeCasts_S4096x1_S4096) (broadcastInDim S4096 ![] bcast_S_S4096 (constant S_ .f32 0x3CA3D70A#32))) natLt_1_32))))) (uitofp .f32 (cmpi .eq (broadcastInDim S4096x50257 ![0, 1] bcast_S4096x1_S4096x50257_0_1 (broadcastInDim S4096x1 ![0] bcast_S4096_S4096x1_0 (m ((c.tc : Thread nD τ).loc main_arg1)))) (broadcastInDim S4096x50257 ![0, 1] bcast_S1x50257_S4096x50257_0_1 (iotaInDim S1x50257 32 1))))))) (constant S_ .f32 0x00000000#32) reducesTo_S4096x50257_S_d0_1 h_S_) (constant S_ .f32 0x45800000#32)

/-- `res_main_v60` by its position among the values @main returns, 0 counting from 0: the name for hand proofs to cite, since
    a re-print renumbers `main_v60`. An abbreviation: it unfolds to the `res_main_v60` that `run` states. -/
abbrev res_out0 (m : (ℓ : Loc nD τ sig) → Buf (Elt F) ℓ) (c : Dev nD) : Buf (Elt F) ((c.tc : Thread nD τ).loc main_v60) := res_main_v60 m c

set_option maxRecDepth 8192 in
set_option maxHeartbeats 58000000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v60) = res_main_v60 m c
      ∧ r.2.mem ((c.tc : Thread nD τ).loc main_v17) = extui 32 (cmpf .olt (shapeCast _ (select (Host.reduce IntOp.andi (andi (cmpi .sge (shapeCast _ (select (cmpi .slt (broadcastInDim S4096x1 ![0] bcast_S4096_S4096x1_0 (m ((c.tc : Thread nD τ).loc main_arg1))) (broadcastInDim S4096x1 ![] bcast_S_S4096x1 (constantI S_ 32 0#32))) (addi (broadcastInDim S4096x1 ![0] bcast_S4096_S4096x1_0 (m ((c.tc : Thread nD τ).loc main_arg1))) (broadcastInDim S4096x1 ![] bcast_S_S4096x1 (constantI S_ 32 50257#32))) (broadcastInDim S4096x1 ![0] bcast_S4096_S4096x1_0 (m ((c.tc : Thread nD τ).loc main_arg1)))) shapeCasts_S4096x1_S4096x1x1) (broadcastInDim S4096x1x1 ![] bcast_S_S4096x1x1 (constantI S_ 32 0#32))) (cmpi .sle (shapeCast _ (select (cmpi .slt (broadcastInDim S4096x1 ![0] bcast_S4096_S4096x1_0 (m ((c.tc : Thread nD τ).loc main_arg1))) (broadcastInDim S4096x1 ![] bcast_S_S4096x1 (constantI S_ 32 0#32))) (addi (broadcastInDim S4096x1 ![0] bcast_S4096_S4096x1_0 (m ((c.tc : Thread nD τ).loc main_arg1))) (broadcastInDim S4096x1 ![] bcast_S_S4096x1 (constantI S_ 32 50257#32))) (broadcastInDim S4096x1 ![0] bcast_S4096_S4096x1_0 (m ((c.tc : Thread nD τ).loc main_arg1)))) shapeCasts_S4096x1_S4096x1x1) (broadcastInDim S4096x1x1 ![0, 1, 2] bcast_S1x1x1_S4096x1x1_0_1_2 (broadcastInDim S1x1x1 ![2] bcast_S1_S1x1x1_2 (constantI S1 32 50256#32))))) (constantI S_ 1 1#1) reducesTo_S4096x1x1_S4096x1_d2 h_S_) (Host.gather gather_S4096x50257_S4096x1x1_S4096x1_n_1_0_0_1_2_11 (Host.divf (Host.exp (subf (m ((c.tc : Thread nD τ).loc main_arg0)) (broadcastInDim S4096x50257 ![0, 1] bcast_S4096x1_S4096x50257_0_1 (broadcastInDim S4096x1 ![0] bcast_S4096_S4096x1_0 (maximumf (broadcastInDim S4096 ![] bcast_S_S4096 (constant S_ .f32 0xFF800000#32)) (Host.reduce FloatOps.maximumf (m ((c.tc : Thread nD τ).loc main_arg0)) (constant S_ .f32 0xFF800000#32) reducesTo_S4096x50257_S4096_d1 h_S_)))))) (broadcastInDim S4096x50257 ![0, 1] bcast_S4096x1_S4096x50257_0_1 (broadcastInDim S4096x1 ![0] bcast_S4096_S4096x1_0 (Host.reduceAdd (Host.exp (subf (m ((c.tc : Thread nD τ).loc main_arg0)) (broadcastInDim S4096x50257 ![0, 1] bcast_S4096x1_S4096x50257_0_1 (broadcastInDim S4096x1 ![0] bcast_S4096_S4096x1_0 (maximumf (broadcastInDim S4096 ![] bcast_S_S4096 (constant S_ .f32 0xFF800000#32)) (Host.reduce FloatOps.maximumf (m ((c.tc : Thread nD τ).loc main_arg0)) (constant S_ .f32 0xFF800000#32) reducesTo_S4096x50257_S4096_d1 h_S_)))))) (constant S_ .f32 0x00000000#32) reducesTo_S4096x50257_S4096_d1 h_S_)))) (shapeCast _ (select (cmpi .slt (broadcastInDim S4096x1 ![0] bcast_S4096_S4096x1_0 (m ((c.tc : Thread nD τ).loc main_arg1))) (broadcastInDim S4096x1 ![] bcast_S_S4096x1 (constantI S_ 32 0#32))) (addi (broadcastInDim S4096x1 ![0] bcast_S4096_S4096x1_0 (m ((c.tc : Thread nD τ).loc main_arg1))) (broadcastInDim S4096x1 ![] bcast_S_S4096x1 (constantI S_ 32 50257#32))) (broadcastInDim S4096x1 ![0] bcast_S4096_S4096x1_0 (m ((c.tc : Thread nD τ).loc main_arg1)))) shapeCasts_S4096x1_S4096x1x1)) (broadcastInDim S4096x1 ![] bcast_S_S4096x1 (constant S_ .f32 0x7FC00000#32))) shapeCasts_S4096x1_S4096) (broadcastInDim S4096 ![] bcast_S_S4096 (constant S_ .f32 0x3CA3D70A#32))) natLt_1_32
      ∧ r.2.mem ((c.tc : Thread nD τ).loc main_v66) = res_main_v66 m c
      ∧ r.2.mem ((c.tc : Thread nD τ).loc main_v71) = res_main_v71 m c
      ∧ r.2.mem ((c.tc : Thread nD τ).loc main_v76) = res_main_v76 m c
      ∧ r.2.mem ((c.tc : Thread nD τ).loc main_v78) = Host.reduce IntOp.addi (subi (broadcastInDim S4096 ![] bcast_S_S4096 (constantI S_ 32 1#32)) (extui 32 (cmpf .olt (shapeCast _ (select (Host.reduce IntOp.andi (andi (cmpi .sge (shapeCast _ (select (cmpi .slt (broadcastInDim S4096x1 ![0] bcast_S4096_S4096x1_0 (m ((c.tc : Thread nD τ).loc main_arg1))) (broadcastInDim S4096x1 ![] bcast_S_S4096x1 (constantI S_ 32 0#32))) (addi (broadcastInDim S4096x1 ![0] bcast_S4096_S4096x1_0 (m ((c.tc : Thread nD τ).loc main_arg1))) (broadcastInDim S4096x1 ![] bcast_S_S4096x1 (constantI S_ 32 50257#32))) (broadcastInDim S4096x1 ![0] bcast_S4096_S4096x1_0 (m ((c.tc : Thread nD τ).loc main_arg1)))) shapeCasts_S4096x1_S4096x1x1) (broadcastInDim S4096x1x1 ![] bcast_S_S4096x1x1 (constantI S_ 32 0#32))) (cmpi .sle (shapeCast _ (select (cmpi .slt (broadcastInDim S4096x1 ![0] bcast_S4096_S4096x1_0 (m ((c.tc : Thread nD τ).loc main_arg1))) (broadcastInDim S4096x1 ![] bcast_S_S4096x1 (constantI S_ 32 0#32))) (addi (broadcastInDim S4096x1 ![0] bcast_S4096_S4096x1_0 (m ((c.tc : Thread nD τ).loc main_arg1))) (broadcastInDim S4096x1 ![] bcast_S_S4096x1 (constantI S_ 32 50257#32))) (broadcastInDim S4096x1 ![0] bcast_S4096_S4096x1_0 (m ((c.tc : Thread nD τ).loc main_arg1)))) shapeCasts_S4096x1_S4096x1x1) (broadcastInDim S4096x1x1 ![0, 1, 2] bcast_S1x1x1_S4096x1x1_0_1_2 (broadcastInDim S1x1x1 ![2] bcast_S1_S1x1x1_2 (constantI S1 32 50256#32))))) (constantI S_ 1 1#1) reducesTo_S4096x1x1_S4096x1_d2 h_S_) (Host.gather gather_S4096x50257_S4096x1x1_S4096x1_n_1_0_0_1_2_11 (Host.divf (Host.exp (subf (m ((c.tc : Thread nD τ).loc main_arg0)) (broadcastInDim S4096x50257 ![0, 1] bcast_S4096x1_S4096x50257_0_1 (broadcastInDim S4096x1 ![0] bcast_S4096_S4096x1_0 (maximumf (broadcastInDim S4096 ![] bcast_S_S4096 (constant S_ .f32 0xFF800000#32)) (Host.reduce FloatOps.maximumf (m ((c.tc : Thread nD τ).loc main_arg0)) (constant S_ .f32 0xFF800000#32) reducesTo_S4096x50257_S4096_d1 h_S_)))))) (broadcastInDim S4096x50257 ![0, 1] bcast_S4096x1_S4096x50257_0_1 (broadcastInDim S4096x1 ![0] bcast_S4096_S4096x1_0 (Host.reduceAdd (Host.exp (subf (m ((c.tc : Thread nD τ).loc main_arg0)) (broadcastInDim S4096x50257 ![0, 1] bcast_S4096x1_S4096x50257_0_1 (broadcastInDim S4096x1 ![0] bcast_S4096_S4096x1_0 (maximumf (broadcastInDim S4096 ![] bcast_S_S4096 (constant S_ .f32 0xFF800000#32)) (Host.reduce FloatOps.maximumf (m ((c.tc : Thread nD τ).loc main_arg0)) (constant S_ .f32 0xFF800000#32) reducesTo_S4096x50257_S4096_d1 h_S_)))))) (constant S_ .f32 0x00000000#32) reducesTo_S4096x50257_S4096_d1 h_S_)))) (shapeCast _ (select (cmpi .slt (broadcastInDim S4096x1 ![0] bcast_S4096_S4096x1_0 (m ((c.tc : Thread nD τ).loc main_arg1))) (broadcastInDim S4096x1 ![] bcast_S_S4096x1 (constantI S_ 32 0#32))) (addi (broadcastInDim S4096x1 ![0] bcast_S4096_S4096x1_0 (m ((c.tc : Thread nD τ).loc main_arg1))) (broadcastInDim S4096x1 ![] bcast_S_S4096x1 (constantI S_ 32 50257#32))) (broadcastInDim S4096x1 ![0] bcast_S4096_S4096x1_0 (m ((c.tc : Thread nD τ).loc main_arg1)))) shapeCasts_S4096x1_S4096x1x1)) (broadcastInDim S4096x1 ![] bcast_S_S4096x1 (constant S_ .f32 0x7FC00000#32))) shapeCasts_S4096x1_S4096) (broadcastInDim S4096 ![] bcast_S_S4096 (constant S_ .f32 0x3CA3D70A#32))) natLt_1_32)) (constantI S_ 32 0#32) reducesTo_S4096_S_d0 h_S_
      ∧ r.2.mem ((c.tc : Thread nD τ).loc main_v80) = res_main_v80 m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v60).trans (by simp only [ops, TRef.binary, TRef.nullary, TRef.quaternary, TRef.reshape, TRef.ternary, TRef.unary, TRef.toBuf, TRef.ofBuf, cast_eq]; after_results_simp <;> rfl <;> (unfold res_main_v60; rfl)),
      (h c main_v17).trans (by simp only [ops, TRef.binary, TRef.nullary, TRef.quaternary, TRef.reshape, TRef.ternary, TRef.unary, TRef.toBuf, TRef.ofBuf, cast_eq]; after_results_simp <;> rfl),
      (h c main_v66).trans (by simp only [ops, TRef.binary, TRef.nullary, TRef.quaternary, TRef.reshape, TRef.ternary, TRef.unary, TRef.toBuf, TRef.ofBuf, cast_eq]; after_results_simp <;> rfl <;> (unfold res_main_v66; rfl)),
      (h c main_v71).trans (by simp only [ops, TRef.binary, TRef.nullary, TRef.quaternary, TRef.reshape, TRef.ternary, TRef.unary, TRef.toBuf, TRef.ofBuf, cast_eq]; after_results_simp <;> rfl <;> (unfold res_main_v71; rfl)),
      (h c main_v76).trans (by simp only [ops, TRef.binary, TRef.nullary, TRef.quaternary, TRef.reshape, TRef.ternary, TRef.unary, TRef.toBuf, TRef.ofBuf, cast_eq]; after_results_simp <;> rfl <;> (unfold res_main_v76; rfl)),
      (h c main_v78).trans (by simp only [ops, TRef.binary, TRef.nullary, TRef.quaternary, TRef.reshape, TRef.ternary, TRef.unary, TRef.toBuf, TRef.ofBuf, cast_eq]; after_results_simp <;> rfl),
      (h c main_v80).trans (by simp only [ops, TRef.binary, TRef.nullary, TRef.quaternary, TRef.reshape, TRef.ternary, TRef.unary, TRef.toBuf, TRef.ofBuf, cast_eq]; after_results_simp <;> rfl <;> (unfold res_main_v80; rfl)),
      (h c main_arg0).trans (by simp only [ops, TRef.binary, TRef.nullary, TRef.quaternary, TRef.reshape, TRef.ternary, TRef.unary, TRef.toBuf, TRef.ofBuf, cast_eq]; after_results_simp <;> rfl),
      (h c main_arg1).trans (by simp only [ops, TRef.binary, TRef.nullary, TRef.quaternary, TRef.reshape, TRef.ternary, TRef.unary, TRef.toBuf, TRef.ofBuf, cast_eq]; after_results_simp <;> rfl)⟩)
    (run_seq scopedRefs_eq scopedSems_eq defs main (fun _ => ops) main_eq (fun _ => ops_sub) m ρ)

end Cert.ReferenceIdeal.Value

end
-- ==== Proof.Pick.lean ====
/-
  Keeping the best three of a family of extended reals. A threshold `θ` that at most three members reach says
  which members matter: three slots `Hold` a part of the family when they list, with their values and in falling
  order, its members that reach the threshold. Inserting a member and merging two parts keep this.
-/
module

public import Mathlib.Data.EReal.Basic
public import Mathlib.Tactic.Linarith

@[expose] public section

namespace Cert.Pick

/-- No four different members reach the threshold. -/
def Few {ι : Type} (θ : EReal) (X : ι → EReal) : Prop :=
  ∀ a b c d, θ ≤ X a → θ ≤ X b → θ ≤ X c → θ ≤ X d → a = b ∨ a = c ∨ a = d ∨ b = c ∨ b = d ∨ c = d

/-- The three slots list the members of the part `A` that reach the threshold. -/
structure Hold {ι : Type} (θ : EReal) (X : ι → EReal) (A : ι → Prop) (v1 v2 v3 : EReal) (n1 n2 n3 : ι) : Prop where
  le12 : v2 ≤ v1
  le23 : v3 ≤ v2
  at1 : θ ≤ v1 → A n1 ∧ X n1 = v1
  at2 : θ ≤ v2 → A n2 ∧ X n2 = v2
  at3 : θ ≤ v3 → A n3 ∧ X n3 = v3
  ne12 : θ ≤ v2 → n1 ≠ n2
  ne13 : θ ≤ v3 → n1 ≠ n3
  ne23 : θ ≤ v3 → n2 ≠ n3
  all : ∀ n, A n → θ ≤ X n → (θ ≤ v1 ∧ n = n1) ∨ (θ ≤ v2 ∧ n = n2) ∨ (θ ≤ v3 ∧ n = n3)

variable {ι : Type} {θ : EReal} {X : ι → EReal} {A B : ι → Prop} {v1 v2 v3 w1 w2 w3 : EReal} {n1 n2 n3 m1 m2 m3 : ι}

/-- Slots that nothing in them reaches the threshold hold the empty part. -/
theorem Hold.none (h : ¬ θ ≤ v1) (n1 n2 n3 : ι) : Hold θ X (fun _ => False) v1 v1 v1 n1 n2 n3 := by
  constructor <;> simp [h]

/-- The part may be given by another predicate with the same members. -/
theorem Hold.congr (h : Hold θ X A v1 v2 v3 n1 n2 n3) (e : ∀ n, A n ↔ B n) : Hold θ X B v1 v2 v3 n1 n2 n3 := by
  have : A = B := funext fun n => propext (e n)
  exact this ▸ h

/-- Inserting a new member. -/
theorem Hold.insert (few : Few θ X) (h : Hold θ X A v1 v2 v3 n1 n2 n3) (k : ι) (hk : ¬ A k) :
    Hold θ X (fun n => A n ∨ n = k) (max v1 (X k)) (max v2 (min v1 (X k))) (max v3 (min v2 (min v1 (X k))))
      (if v1 < X k then k else n1)
      (if v2 < min v1 (X k) then (if v1 < X k then n1 else k) else n2)
      (if v3 < min v2 (min v1 (X k)) then
        (if v2 < min v1 (X k) then n2 else (if v1 < X k then n1 else k)) else n3) := by
  obtain ⟨l12, l23, a1, a2, a3, d12, d13, d23, al⟩ := h
  have F := few n1 n2 n3 k
  generalize hx : X k = x at *
  rcases lt_or_ge v1 x with c1 | c1
  · rw [if_pos c1, max_eq_right c1.le, min_eq_left c1.le, max_eq_right l12, if_pos c1]
    rcases lt_or_ge v2 v1 with c2 | c2
    · simp only [if_pos c2, min_eq_left l12, max_eq_right l23]
      rcases lt_or_ge v3 v2 with c3 | c3
      · simp only [if_pos c3]
        constructor <;> grind
      · simp only [if_neg (not_lt.2 c3)]
        constructor <;> grind
    · simp only [if_neg (not_lt.2 c2), min_eq_left l12, max_eq_right l23]
      rcases lt_or_ge v3 v2 with c3 | c3
      · simp only [if_pos c3]
        constructor <;> grind
      · simp only [if_neg (not_lt.2 c3)]
        constructor <;> grind
  · simp only [if_neg (not_lt.2 c1), max_eq_left c1, min_eq_right c1]
    rcases lt_or_ge v2 x with c2 | c2
    · simp only [if_pos c2, min_eq_left c2.le, max_eq_right c2.le, max_eq_right l23]
      rcases lt_or_ge v3 v2 with c3 | c3
      · simp only [if_pos c3]
        constructor <;> grind
      · simp only [if_neg (not_lt.2 c3)]
        constructor <;> grind
    · simp only [if_neg (not_lt.2 c2), min_eq_right c2, max_eq_left c2]
      rcases lt_or_ge v3 x with c3 | c3
      · simp only [if_pos c3, max_eq_right c3.le]
        constructor <;> grind
      · simp only [if_neg (not_lt.2 c3), max_eq_left c3]
        constructor <;> grind

/-- Merging two parts, by six comparisons that tell which of two values is not the lesser. -/
theorem Hold.merge (few : Few θ X) (h : Hold θ X A v1 v2 v3 n1 n2 n3) (g : Hold θ X B w1 w2 w3 m1 m2 m3)
    (dis : ∀ n, A n → ¬ B n) (b1 b2a b2b be bd bf : Prop) [Decidable b1] [Decidable b2a] [Decidable b2b]
    [Decidable be] [Decidable bd] [Decidable bf]
    (h1 : if b1 then w1 ≤ v1 else v1 ≤ w1) (h2a : if b2a then w1 ≤ v2 else v2 ≤ w1)
    (h2b : if b2b then w2 ≤ v1 else v1 ≤ w2) (he : if be then w2 ≤ v2 else v2 ≤ w2)
    (hd : if bd then w1 ≤ v3 else v3 ≤ w1) (hf : if bf then w3 ≤ v1 else v1 ≤ w3) :
    Hold θ X (fun n => A n ∨ B n) (if b1 then v1 else w1)
      (if b1 then (if b2a then v2 else w1) else (if b2b then v1 else w2))
      (if b1 then (if b2a then (if bd then v3 else w1) else (if be then v2 else w2))
        else (if b2b then (if be then v2 else w2) else (if bf then v1 else w3)))
      (if b1 then n1 else m1)
      (if b1 then (if b2a then n2 else m1) else (if b2b then n1 else m2))
      (if b1 then (if b2a then (if bd then n3 else m1) else (if be then n2 else m2))
        else (if b2b then (if be then n2 else m2) else (if bf then n1 else m3))) := by
  obtain ⟨l12, l23, a1, a2, a3, d12, d13, d23, al⟩ := h
  obtain ⟨k12, k23, e1, e2, e3, f12, f13, f23, bl⟩ := g
  have x11 : n1 = m1 → θ ≤ v1 → ¬ θ ≤ w1 := by grind
  have x12 : n1 = m2 → θ ≤ v1 → ¬ θ ≤ w2 := by grind
  have x13 : n1 = m3 → θ ≤ v1 → ¬ θ ≤ w3 := by grind
  have x21 : n2 = m1 → θ ≤ v2 → ¬ θ ≤ w1 := by grind
  have x22 : n2 = m2 → θ ≤ v2 → ¬ θ ≤ w2 := by grind
  have x31 : n3 = m1 → θ ≤ v3 → ¬ θ ≤ w1 := by grind
  have F1 := few n1 n2 n3 m1
  have F2 := few n1 n2 m1 m2
  have F3 := few n1 m1 m2 m3
  clear few dis
  by_cases c1 : b1
  · simp only [if_pos c1] at h1 ⊢
    by_cases c2 : b2a
    · simp only [if_pos c2] at h2a ⊢
      by_cases c3 : bd
      · simp only [if_pos c3] at hd ⊢
        clear h2b he hf
        constructor <;> grind
      · simp only [if_neg c3] at hd ⊢
        clear h2b he hf
        constructor <;> grind
    · simp only [if_neg c2] at h2a ⊢
      by_cases c3 : be
      · simp only [if_pos c3] at he ⊢
        clear h2b hd hf
        constructor <;> grind
      · simp only [if_neg c3] at he ⊢
        clear h2b hd hf
        constructor <;> grind
  · simp only [if_neg c1] at h1 ⊢
    by_cases c2 : b2b
    · simp only [if_pos c2] at h2b ⊢
      by_cases c3 : be
      · simp only [if_pos c3] at he ⊢
        clear h2a hd hf
        constructor <;> grind
      · simp only [if_neg c3] at he ⊢
        clear h2a hd hf
        constructor <;> grind
    · simp only [if_neg c2] at h2b ⊢
      by_cases c3 : bf
      · simp only [if_pos c3] at hf ⊢
        clear h2a he hd
        constructor <;> grind
      · simp only [if_neg c3] at hf ⊢
        clear h2a he hd
        constructor <;> grind

end Cert.Pick

end
-- ==== Proof.Chunks.lean ====
/-
  The kernel's accumulation read at one sublane and lane, over the extended reals. Every chunk adds one entry to a
  sum of exponentials and to a best three, and may be the labelled one. What a tile and then the seven tiles leave is
  stated of the lane's column `val`, whose entry past the last class is minus infinity.
-/
module

public import proofs.«01_k».proof.Proof.StepsKernelIdeal
public import proofs.«01_k».proof.Proof.Pick
public import Idealize.ShloMosaic.PureOps.Ideal.Laws

@[expose] public section

noncomputable section

namespace Cert.KernelIdeal.Lane

open Cert.KernelIdeal Cert.KernelIdeal.Gen Cert.KernelIdeal.Rolled Cert.Pick
open Idealize.ShloMosaic

variable [Facts]
open K0.Facts₀ Shapes1.Facts₀ Shapes2.Facts₀ Facts₀ Facts

/-! ## Choices by comparisons -/

theorem sel_gt {α : Type} (a b : EReal) (x y : α) :
    Scalar.select (FloatOps.cmpf (F := Ideal) (φ := .f32) .ogt a b) x y = if b < a then x else y := by
  show (if BitVec.ofBool (decide (b < a)) = 1#1 then x else y) = _
  by_cases h : b < a <;> simp [h]

theorem sel_ge {α : Type} (a b : EReal) (x y : α) :
    Scalar.select (FloatOps.cmpf (F := Ideal) (φ := .f32) .oge a b) x y = if b ≤ a then x else y := by
  show (if BitVec.ofBool (decide (b ≤ a)) = 1#1 then x else y) = _
  by_cases h : b ≤ a <;> simp [h]

theorem sel_eq {α : Type} (a b : EReal) (x y : α) :
    Scalar.select (FloatOps.cmpf (F := Ideal) (φ := .f32) .oeq a b) x y = if a = b then x else y := by
  show (if BitVec.ofBool (decide (a = b)) = 1#1 then x else y) = _
  by_cases h : a = b <;> simp [h]

theorem sel_lt {α : Type} (a b : EReal) (x y : α) :
    Scalar.select (FloatOps.cmpf (F := Ideal) (φ := .f32) .olt a b) x y = if a < b then x else y := by
  show (if BitVec.ofBool (decide (a < b)) = 1#1 then x else y) = _
  by_cases h : a < b <;> simp [h]

theorem sel_ieq {α : Type} {w : ℕ} (a b : BitVec w) (x y : α) :
    Scalar.select (IntOp.cmpi .eq a b) x y = if a = b then x else y := by
  show (if BitVec.ofBool (a == b) = 1#1 then x else y) = _
  by_cases h : a = b
  · simp [h]
  · rw [if_neg h, beq_eq_false_iff_ne.2 h]
    rfl

theorem low_apply (p : S8x128.Idx) : (low : FVec Ideal S8x128 .f32) p = ⊥ :=
  (IdealRules.named_const.statement κ "neg" .f32 0xFF7FC99E#32 ⊥ rfl).2.2

/-! ## The best three at one place -/

/-- At the place `p` the three slots hold the part `A` of the family `X`. -/
def At (θ : EReal) (X : BitVec 32 → EReal) (A : BitVec 32 → Prop) (t : Top3 Ideal) (p : S8x128.Idx) : Prop :=
  Hold θ X A (t.v1 p) (t.v2 p) (t.v3 p) (t.i1 p) (t.i2 p) (t.i3 p)

variable {θ : EReal} {X : BitVec 32 → EReal} {A B : BitVec 32 → Prop} {t r : Top3 Ideal} {p : S8x128.Idx}

theorem at_none (h : ⊥ < θ) : At θ X (fun _ => False) (none3 : Top3 Ideal) p := by
  show Hold θ X _ ((low : FVec Ideal S8x128 .f32) p) ((low : FVec Ideal S8x128 .f32) p)
    ((low : FVec Ideal S8x128 .f32) p) _ _ _
  rw [low_apply]
  exact Hold.none (not_le.2 h) _ _ _

theorem at_insert (few : Few θ X) (h : At θ X A t p) (c : FVec Ideal S8x128 .f32) (k : BitVec 32) (hk : ¬ A k)
    (hc : c p = X k) : At θ X (fun n => A n ∨ n = k) (insert3 t c k) p := by
  have key := Hold.insert few h k hk
  rw [← hc] at key
  have e1 : (insert3 t c k).i1 p = if t.v1 p < c p then k else t.i1 p := sel_gt _ _ _ _
  have e2 : (insert3 t c k).i2 p = if t.v2 p < min (t.v1 p) (c p) then (if t.v1 p < c p then t.i1 p else k) else t.i2 p :=
    (sel_gt _ _ _ _).trans (by rw [← sel_gt (c p)]; rfl)
  have e3 : (insert3 t c k).i3 p = if t.v3 p < min (t.v2 p) (min (t.v1 p) (c p)) then
      (if t.v2 p < min (t.v1 p) (c p) then t.i2 p else (if t.v1 p < c p then t.i1 p else k)) else t.i3 p :=
    (sel_gt _ _ _ _).trans (by rw [← sel_gt (c p), ← sel_gt (min (t.v1 p) (c p))]; rfl)
  unfold At
  rw [e1, e2, e3]
  exact key

theorem pref_iff (a b : FVec Ideal S8x128 .f32) (ia ib : IVec S8x128 32) :
    (if pref a ia b ib p = 1#1 then b p ≤ a p else a p ≤ b p) := by
  have e : pref a ia b ib p = IntOp.ori (BitVec.ofBool (decide (b p < a p)))
      (IntOp.andi (BitVec.ofBool (decide (a p = b p))) (IntOp.cmpi .slt (ia p) (ib p))) := rfl
  rw [e]
  split
  · rename_i h
    by_contra hlt
    have h1 : ¬ b p < a p := fun g => hlt g.le
    have h2 : ¬ a p = b p := fun g => hlt g.ge
    rw [decide_eq_false h1, decide_eq_false h2] at h
    revert h
    generalize IntOp.cmpi .slt (ia p) (ib p) = z
    revert z
    decide
  · rename_i h
    by_contra hlt
    have h1 : b p < a p := not_le.1 hlt
    rw [decide_eq_true h1] at h
    revert h
    generalize IntOp.andi (BitVec.ofBool (decide (a p = b p))) (IntOp.cmpi .slt (ia p) (ib p)) = z
    revert z
    decide

theorem ge_iff (a b : FVec Ideal S8x128 .f32) :
    (if cmpf .oge a b p = 1#1 then b p ≤ a p else a p ≤ b p) := by
  have e : cmpf .oge a b p = BitVec.ofBool (decide (b p ≤ a p)) := rfl
  rw [e]
  by_cases h : b p ≤ a p
  · simp [h]
  · simp only [h, decide_false]
    exact (not_le.1 h).le

theorem at_mergeParity (few : Few θ X) (h : At θ X A t p) (g : At θ X B r p) (dis : ∀ n, A n → ¬ B n) :
    At θ X (fun n => A n ∨ B n) (mergeParity t r) p :=
  Hold.merge few h g dis (pref t.v1 t.i1 r.v1 r.i1 p = 1#1) (pref t.v2 t.i2 r.v1 r.i1 p = 1#1)
    (pref t.v1 t.i1 r.v2 r.i2 p = 1#1) (pref t.v2 t.i2 r.v2 r.i2 p = 1#1) (pref t.v3 t.i3 r.v1 r.i1 p = 1#1)
    (pref t.v1 t.i1 r.v3 r.i3 p = 1#1) (pref_iff _ _ _ _) (pref_iff _ _ _ _) (pref_iff _ _ _ _) (pref_iff _ _ _ _)
    (pref_iff _ _ _ _) (pref_iff _ _ _ _)

theorem at_mergeRun (few : Few θ X) (h : At θ X A t p) (g : At θ X B r p) (dis : ∀ n, A n → ¬ B n) :
    At θ X (fun n => A n ∨ B n) (mergeRun t r) p :=
  Hold.merge few h g dis (cmpf .oge t.v1 r.v1 p = 1#1) (cmpf .oge t.v2 r.v1 p = 1#1)
    (cmpf .oge t.v1 r.v2 p = 1#1) (cmpf .oge t.v2 r.v2 p = 1#1) (cmpf .oge t.v3 r.v1 p = 1#1)
    (cmpf .oge t.v1 r.v3 p = 1#1) (ge_iff _ _) (ge_iff _ _) (ge_iff _ _) (ge_iff _ _)
    (ge_iff _ _) (ge_iff _ _)

/-- Slots may be renumbered along an injection that keeps the part and its values. -/
theorem hold_map {ι κ : Type} {X : ι → EReal} {Y : κ → EReal} {A : ι → Prop} {B : κ → Prop} {v1 v2 v3 : EReal}
    {n1 n2 n3 : ι} (h : Hold θ X A v1 v2 v3 n1 n2 n3) (f : ι → κ) (hf : Function.Injective f)
    (hA : ∀ n, A n → B (f n) ∧ Y (f n) = X n) (hB : ∀ m, B m → ∃ n, A n ∧ f n = m) :
    Hold θ Y B v1 v2 v3 (f n1) (f n2) (f n3) where
  le12 := h.le12
  le23 := h.le23
  at1 q := ⟨(hA _ (h.at1 q).1).1, (hA _ (h.at1 q).1).2.trans (h.at1 q).2⟩
  at2 q := ⟨(hA _ (h.at2 q).1).1, (hA _ (h.at2 q).1).2.trans (h.at2 q).2⟩
  at3 q := ⟨(hA _ (h.at3 q).1).1, (hA _ (h.at3 q).1).2.trans (h.at3 q).2⟩
  ne12 q e := h.ne12 q (hf e)
  ne13 q e := h.ne13 q (hf e)
  ne23 q e := h.ne23 q (hf e)
  all m hm q := by
    obtain ⟨n, hn, rfl⟩ := hB m hm
    rw [(hA n hn).2] at q
    rcases h.all n hn q with ⟨a, b⟩ | ⟨a, b⟩ | ⟨a, b⟩
    · exact .inl ⟨a, congrArg f b⟩
    · exact .inr (.inl ⟨a, congrArg f b⟩)
    · exact .inr (.inr ⟨a, congrArg f b⟩)

/-! ## The lane's column -/

/-- The chunks of tile `j` on sublane `s`. -/
def tileX (val : ℕ → EReal) (j s : ℕ) (k : BitVec 32) : EReal := val (8192 * j + 8 * k.toNat + s)

/-- The chunks of the whole column on sublane `s`. -/
def colX (val : ℕ → EReal) (s : ℕ) (k : BitVec 32) : EReal := val (8 * k.toNat + s)

theorem few_tile {val : ℕ → EReal} (few : Few θ val) (j s : ℕ) : Few θ (tileX val j s) := by
  intro a b c d ha hb hc hd
  have := few _ _ _ _ ha hb hc hd
  simp only [BitVec.toNat_eq]
  omega

theorem few_col {val : ℕ → EReal} (few : Few θ val) (s : ℕ) : Few θ (colX val s) := by
  intro a b c d ha hb hc hd
  have := few _ _ _ _ ha hb hc hd
  simp only [BitVec.toNat_eq]
  omega

/-- What `n` pairs of chunks have accumulated at a place, from what a tile starts from. -/
structure AccAt (θ : EReal) (val : ℕ → EReal) (j s : ℕ) (ys : IVec S8x128 32) (r : Run Ideal) (ne no : ℕ)
    (a : Acc Ideal) (p : S8x128.Idx) : Prop where
  fy : a.fy p = if ((ys p).toNat % 2 = 0 ∧ (ys p).toNat < 2 * ne) ∨ ((ys p).toNat % 2 = 1 ∧ (ys p).toNat < 2 * no)
    then tileX val j s (ys p) else r.fy p
  se : a.se p = r.se p + ∑ k ∈ Finset.range ne, Ideal.exp (val (8192 * j + 8 * (2 * k) + s))
  so : a.so p = ∑ k ∈ Finset.range no, Ideal.exp (val (8192 * j + 8 * (2 * k + 1) + s))
  e : At θ (tileX val j s) (fun k => k.toNat % 2 = 0 ∧ k.toNat < 2 * ne) a.e p
  o : At θ (tileX val j s) (fun k => k.toNat % 2 = 1 ∧ k.toNat < 2 * no) a.o p

variable {val : ℕ → EReal} {j s : ℕ} {ys : IVec S8x128 32} {R : Run Ideal} {ne no : ℕ} {a : Acc Ideal}

theorem acc_start (h : ⊥ < θ) : AccAt θ val j s ys R 0 0 (acc0 R) p where
  fy := by simp [acc0]
  se := by simp [acc0]
  so := by
    show FloatOps.ofBits (F := Ideal) .f32 0x00000000#32 = _
    simp
  e := (at_none h).congr fun n => by simp
  o := (at_none h).congr fun n => by simp

theorem acc_even (few : Few θ val) (h : AccAt θ val j s ys R ne no a p) (hn : 2 * ne < 2 ^ 32)
    (c : FVec Ideal S8x128 .f32) (hc : c p = val (8192 * j + 8 * (2 * ne) + s)) :
    AccAt θ val j s ys R (ne + 1) no (evenStep ys (BitVec.ofNat 32 (2 * ne)) c a) p := by
  have hk : (BitVec.ofNat 32 (2 * ne)).toNat = 2 * ne := by simp; omega
  have hX : c p = tileX val j s (BitVec.ofNat 32 (2 * ne)) := by unfold tileX; rw [hk, hc]
  constructor
  · refine (sel_ieq _ _ _ _).trans ?_
    show (if ys p = BitVec.ofNat 32 (2 * ne) then c p else a.fy p) = _
    by_cases e : ys p = BitVec.ofNat 32 (2 * ne)
    · rw [if_pos e, if_pos (by rw [e, hk]; omega), hX, e]
    · rw [if_neg e, h.fy]
      have : (ys p).toNat ≠ 2 * ne := fun g => e (BitVec.eq_of_toNat_eq (g.trans hk.symm))
      congr 1
      simp only [eq_iff_iff]
      omega
  · show a.se p + Ideal.exp (c p) = _
    rw [h.se, Finset.sum_range_succ, hc, add_assoc]
  · exact h.so
  · exact (at_insert (few_tile few j s) h.e c _ (by rw [hk]; omega) hX).congr fun n => by
      rw [BitVec.toNat_eq, hk]; omega
  · exact h.o

theorem acc_odd (few : Few θ val) (h : AccAt θ val j s ys R ne no a p) (hn : 2 * no + 1 < 2 ^ 32)
    (c : FVec Ideal S8x128 .f32) (hc : c p = val (8192 * j + 8 * (2 * no + 1) + s)) :
    AccAt θ val j s ys R ne (no + 1) (oddStep ys (BitVec.ofNat 32 (2 * no + 1)) c a) p := by
  have hk : (BitVec.ofNat 32 (2 * no + 1)).toNat = 2 * no + 1 := by simp; omega
  have hX : c p = tileX val j s (BitVec.ofNat 32 (2 * no + 1)) := by unfold tileX; rw [hk, hc]
  constructor
  · refine (sel_ieq _ _ _ _).trans ?_
    show (if ys p = BitVec.ofNat 32 (2 * no + 1) then c p else a.fy p) = _
    by_cases e : ys p = BitVec.ofNat 32 (2 * no + 1)
    · rw [if_pos e, if_pos (by rw [e, hk]; omega), hX, e]
    · rw [if_neg e, h.fy]
      have : (ys p).toNat ≠ 2 * no + 1 := fun g => e (BitVec.eq_of_toNat_eq (g.trans hk.symm))
      congr 1
      simp only [eq_iff_iff]
      omega
  · exact h.se
  · show a.so p + Ideal.exp (c p) = _
    rw [h.so, Finset.sum_range_succ, hc]
  · exact h.e
  · exact (at_insert (few_tile few j s) h.o c _ (by rw [hk]; omega) hX).congr fun n => by
      rw [BitVec.toNat_eq, hk]; omega

/-- The pairs of a tile whose chunks hold the column. -/
theorem acc_pairs (few : Few θ val) (hθ : ⊥ < θ) (T : S8192x128.Idx → Ideal .f32) (n : ℕ) (hn : n ≤ 512)
    (hT : ∀ k, k < 2 * n → rowsOf T k p = val (8192 * j + 8 * k + s)) :
    AccAt θ val j s ys R n n (pairs T ys n (acc0 R)) p := by
  induction n with
  | zero => exact acc_start hθ
  | succ n ih =>
    have h := ih (by omega) (fun k hk => hT k (by omega))
    exact acc_odd few (acc_even few h (by omega) _ (hT _ (by omega))) (by omega) _ (hT _ (by omega))

/-! ## From tile to tile -/

/-- What the tiles up to the chunk numbered `N` have left at a place, whose label has the value `fyv`. -/
structure RunAt (θ : EReal) (val : ℕ → EReal) (s N : ℕ) (y : ℕ) (r : Run Ideal) (p : S8x128.Idx) : Prop where
  top : At θ (colX val s) (fun k => k.toNat < N) r.top p
  se : r.se p = ∑ k ∈ Finset.range N, Ideal.exp (val (8 * k + s))
  fy : r.fy p = if y % 8 = s ∧ y / 8 < N then val y else 0

theorem run_start (h : ⊥ < θ) (y : ℕ) : RunAt θ val s 0 y (run0 : Run Ideal) p where
  top := (at_none h).congr fun n => by simp
  se := by
    show FloatOps.ofBits (F := Ideal) .f32 0x00000000#32 = _
    simp
  fy := by
    show FloatOps.ofBits (F := Ideal) .f32 0x00000000#32 = _
    simp

/-- One tile of `cnt` chunks, of which the accumulation tells. -/
theorem run_close (few : Few θ val) (y : ℕ) (hj : j ≤ 6) (h : RunAt θ val s (1024 * j) y R p) (hs : s < 8)
    (cnt : ℕ) (hcnt : ne + no = cnt) (hpar : ne = no ∨ ne = no + 1) (hmax : cnt ≤ 1024)
    (hys : ∀ k, k < cnt → ((ys p).toNat = k ↔ y % 8 = s ∧ y / 8 = 1024 * j + k))
    (g : AccAt θ val j s ys R ne no a p) :
    RunAt θ val s (1024 * j + cnt) y (close (BitVec.ofNat 32 j) R a) p := by
  have hm : At θ (tileX val j s) (fun k => k.toNat < cnt) (mergeParity a.e a.o) p :=
    (at_mergeParity (few_tile few j s) g.e g.o (fun n => by omega)).congr fun n => by omega
  have hmul : (Scalar.muli (BitVec.ofNat 32 j) 1024#32 : BitVec 32) = BitVec.ofNat 32 (1024 * j) := by
    interval_cases j <;> rfl
  have hsh : At θ (colX val s) (fun k => 1024 * j ≤ k.toNat ∧ k.toNat < 1024 * j + cnt)
      (shift (BitVec.ofNat 32 j) (mergeParity a.e a.o)) p := by
    have tn : ∀ n : BitVec 32, n.toNat < cnt → (n + BitVec.ofNat 32 (1024 * j)).toNat = n.toNat + 1024 * j := by
      intro n hn
      rw [BitVec.toNat_add, BitVec.toNat_ofNat]
      omega
    have := hold_map (Y := colX val s) (B := fun k => 1024 * j ≤ k.toNat ∧ k.toNat < 1024 * j + cnt) hm
      (fun n => n + BitVec.ofNat 32 (1024 * j)) (fun a b e => by simpa using e)
      (fun n hn => ⟨by rw [tn n hn]; omega, by
        unfold colX tileX; rw [tn n hn]; congr 1; ring⟩)
      (fun m hm' => ⟨BitVec.ofNat 32 (m.toNat - 1024 * j), by
        have : (BitVec.ofNat 32 (m.toNat - 1024 * j)).toNat = m.toNat - 1024 * j := by
          rw [BitVec.toNat_ofNat]; omega
        rw [this]
        refine ⟨by omega, BitVec.eq_of_toNat_eq ?_⟩
        rw [tn _ (by rw [this]; omega), this]
        omega⟩)
    rw [← hmul] at this
    exact this
  constructor
  · exact (at_mergeRun (few_col few s) h.top hsh (fun n => by omega)).congr fun n => by omega
  · show a.se p + a.so p = _
    rw [g.se, g.so, h.se, Finset.sum_range_add, add_assoc]
    congr 1
    have two : ∀ (f : ℕ → EReal) (n : ℕ), ∑ k ∈ Finset.range n, f (2 * k) + ∑ k ∈ Finset.range n, f (2 * k + 1) =
        ∑ k ∈ Finset.range (2 * n), f k := by
      intro f n
      induction n with
      | zero => simp
      | succ n ih =>
        rw [show 2 * (n + 1) = 2 * n + 1 + 1 by ring, Finset.sum_range_succ, Finset.sum_range_succ,
          Finset.sum_range_succ, Finset.sum_range_succ, ← ih]
        abel
    have key := two (fun k => Ideal.exp (val (8192 * j + 8 * k + s))) no
    have shape : ∑ k ∈ Finset.range cnt, Ideal.exp (val (8 * (1024 * j + k) + s)) =
        ∑ k ∈ Finset.range cnt, Ideal.exp (val (8192 * j + 8 * k + s)) :=
      Finset.sum_congr rfl fun k _ => by congr 2; ring
    rw [shape]
    rcases hpar with rfl | rfl
    · rw [show cnt = 2 * ne by omega]
      exact key
    · rw [show cnt = 2 * no + 1 by omega, Finset.sum_range_succ, Finset.sum_range_succ, ← key]
      abel
  · show a.fy p = _
    rw [g.fy, h.fy]
    by_cases c : (ys p).toNat < cnt
    · have := (hys _ c).1 rfl
      rw [if_pos (by omega), if_pos (by omega)]
      unfold tileX
      congr 1
      omega
    · rw [if_neg (by omega)]
      congr 1
      simp only [eq_iff_iff]
      constructor
      · rintro ⟨a, b⟩; omega
      · rintro ⟨a, b⟩
        refine ⟨a, ?_⟩
        by_contra hlt
        have := (hys (y / 8 - 1024 * j) (by omega)).2 (by omega)
        omega

end Cert.KernelIdeal.Lane

end
-- ==== Proof.Blocks.lean ====
/-
  The kernel's blocks by coordinates: where a tile's entries and a row of labels lie in the arguments, and what the
  result rows hold at the end.
-/
module

public import proofs.«01_k».proof.Proof.RunKernelIdeal
public import Idealize.ShloMosaic.Lib.Pipeline.ValueKit.Geometry
public import Idealize.ShloMosaic.Lib.Pipeline.ValueKit.Point
public import Idealize.ShloMosaic.Lib.Pointwise
public import Idealize.ShloMosaic.Lib.ValueIdxCore
public import Idealize.ShloMosaic.Lib.StableHlo.Run

@[expose] public section

noncomputable section

namespace Cert.KernelIdeal.Lane

open Cert.KernelIdeal Cert.KernelIdeal.Gen Cert.KernelIdeal.Rolled
open Idealize.ShloMosaic Idealize.ShloMosaic.TcCoe Idealize.SL.Sem
open Idealize.ShloMosaic.Pipeline (Dat)

variable (m : (ℓ : Loc nD τ sig) → Buf (Elt Ideal) ℓ)

theorem point_lt (i : Fin 32) (j : Fin 7) : 7 * i.val + j.val < cfg0.N := by
  show 7 * i.val + j.val < 224
  omega

/-- The grid point of the lane block `i` and the tile `j`. -/
def pt (i : Fin 32) (j : Fin 7) : Fin cfg0.N := ⟨7 * i.val + j.val, point_lt i j⟩

theorem idx : ∀ t : Fin cfg0.N, win0_0.index t = ![t.val % 7, t.val / 7] ∧ win0_1.index t = ![0, t.val / 7] ∧
    win0_2.index t = ![0, t.val / 7] ∧ win0_3.index t = ![0, t.val / 7] ∧ win0_4.index t = ![0, t.val / 7] ∧
    win0_5.index t = ![0, t.val / 7] ∧ win0_6.index t = ![0, t.val / 7] ∧ win0_7.index t = ![0, t.val / 7] :=
  (by decide +kernel : ∀ t : Fin grid0.N, _)

/-- The array of results whose row at the end of a lane block is `f`. -/
def rows {e : EltTy} (f : Run Ideal → Vec Ideal S1x128 e) (c : Dev nD) : Vec Ideal S1x4096 e :=
  fun x => f (runAt m c (7 * ((x 1).val / 128) + 7)) (ValueIdx.ix2 (0 : Fin 1) (⟨(x 1).val % 128, Nat.mod_lt _ (by omega)⟩ : Fin 128))

theorem rows_end {e : EltTy} (f : Run Ideal → Vec Ideal S1x128 e) (c : Dev nD) (t : ℕ) (h : t % 7 = 6) (y : S1x128.Idx)
    (z : S1x4096.Idx) (hz : (z 1).val = t / 7 * 128 + (y 1).val) : f (runAt m c (t + 1)) y = rows m f c z := by
  unfold rows
  have hy : (y 1).val < 128 := (y 1).isLt
  have h1 : 7 * ((z 1).val / 128) + 7 = t + 1 := by omega
  rw [h1]
  congr 1
  funext a
  match a with
  | ⟨0, _⟩ => exact Fin.ext (by have := (y 0).isLt; show (y 0).val = 0; change (y 0).val < 1 at this; omega)
  | ⟨1, _⟩ => exact Fin.ext (by show (y 1).val = (z 1).val % 128; omega)

theorem final2 (c : Dev nD) : (dats m 0 c).arrAt 2 (cfgs 0).N = rows (e := .f32) m out0 c := by
  refine (dats m 0 c).arrAt_eq_of_covers 2 _ (by decide +kernel) fun t hf y => ?_
  blk_simp
  rw [after2]
  have e := (idx t).2.2.1
  exact rows_end (e := .f32) m out0 c t.val ((flush0_2 t).1 hf) y _ (by blk_simp [e])

theorem final3 (c : Dev nD) : (dats m 0 c).arrAt 3 (cfgs 0).N = rows (e := .i32) m out1 c := by
  refine (dats m 0 c).arrAt_eq_of_covers 3 _ (by decide +kernel) fun t hf y => ?_
  blk_simp
  rw [after3]
  have e := (idx t).2.2.2.1
  exact rows_end (e := .i32) m out1 c t.val ((flush0_3 t).1 hf) y _ (by blk_simp [e])

theorem final4 (c : Dev nD) : (dats m 0 c).arrAt 4 (cfgs 0).N = rows (e := .i32) m out2 c := by
  refine (dats m 0 c).arrAt_eq_of_covers 4 _ (by decide +kernel) fun t hf y => ?_
  blk_simp
  rw [after4]
  have e := (idx t).2.2.2.2.1
  exact rows_end (e := .i32) m out2 c t.val ((flush0_4 t).1 hf) y _ (by blk_simp [e])

theorem final5 (c : Dev nD) : (dats m 0 c).arrAt 5 (cfgs 0).N = rows (e := .i32) m out3 c := by
  refine (dats m 0 c).arrAt_eq_of_covers 5 _ (by decide +kernel) fun t hf y => ?_
  blk_simp
  rw [after5]
  have e := (idx t).2.2.2.2.2.1
  exact rows_end (e := .i32) m out3 c t.val ((flush0_5 t).1 hf) y _ (by blk_simp [e])

theorem final6 (c : Dev nD) : (dats m 0 c).arrAt 6 (cfgs 0).N = rows (e := .i32) m out4 c := by
  refine (dats m 0 c).arrAt_eq_of_covers 6 _ (by decide +kernel) fun t hf y => ?_
  blk_simp
  rw [after6]
  have e := (idx t).2.2.2.2.2.2.1
  exact rows_end (e := .i32) m out4 c t.val ((flush0_6 t).1 hf) y _ (by blk_simp [e])

theorem final7 (c : Dev nD) : (dats m 0 c).arrAt 7 (cfgs 0).N = rows (e := .f32) m out5 c := by
  refine (dats m 0 c).arrAt_eq_of_covers 7 _ (by decide +kernel) fun t hf y => ?_
  blk_simp
  rw [after7]
  have e := (idx t).2.2.2.2.2.2.2
  exact rows_end (e := .f32) m out5 c t.val ((flush0_7 t).1 hf) y _ (by blk_simp [e])

theorem V_v0 (c : Dev nD) : V m c main_v0 = transpose S50257x4096 [1, 0] (m ((c : Thread nD τ).loc main_arg0) : Vec Ideal S4096x50257 .f32) transposes_S4096x50257_S50257x4096_1_0 := by
  unfold V V0
  rw [show List.flatten [hostOps0 (F := Ideal)] = hostOps0 from rfl]
  simp only [hostOps0]; after_results_simp

theorem V_v1 (c : Dev nD) : V m c main_v1 = shapeCast S1x4096 (m ((c : Thread nD τ).loc main_arg1) : Vec Ideal S4096 .i32) shapeCasts_S4096_S1x4096 := by
  unfold V V0
  rw [show List.flatten [hostOps0 (F := Ideal)] = hostOps0 from rfl]
  simp only [hostOps0]; after_results_simp
  rfl

theorem V_v0_apply (c : Dev nD) (z : S50257x4096.Idx) :
    V m c main_v0 z = m ((c : Thread nD τ).loc main_arg0) (ValueIdx.ix2 (⟨(z 1).val, (z 1).isLt⟩ : Fin 4096) (⟨(z 0).val, (z 0).isLt⟩ : Fin 50257)) := by
  rw [V_v0]
  pointwise
  congr 1

theorem V_v1_apply (c : Dev nD) (z : S1x4096.Idx) :
    V m c main_v1 z = m ((c : Thread nD τ).loc main_arg1) (ix1 (⟨(z 1).val, (z 1).isLt⟩ : Fin 4096)) := by
  rw [V_v1]
  refine shapeCast_apply (s := S4096) (t := S1x4096) _ _ z _ ?_
  rw [Shape.rowMajor_val_two, Shape.rowMajor_val_one]
  have h0 : (z 0).val < 1 := (z 0).isLt
  show (z 1).val = (z 0).val * 4096 + (z 1).val
  omega

theorem tile_apply (c : Dev nD) (t : Fin cfg0.N) (x : S8192x128.Idx) (hx : (x 0).val < (if t.val % 7 < 6 then 8192 else 1105))
    (r : Fin 4096) (k : Fin 50257) (hr : r.val = 128 * (t.val / 7) + (x 1).val) (hk : k.val = 8192 * (t.val % 7) + (x 0).val) :
    tileAt m c t x = m ((c : Thread nD τ).loc main_arg0) (ValueIdx.ix2 r k) := by
  unfold tileAt Pipeline.Window.fill
  rw [dif_pos ((moved0_iff (grid0.coords t) x).mpr (by rw [coord1]; exact hx))]
  have e := (idx t).1
  refine (V_v0_apply m c _).trans ?_
  congr 1
  congr 1 <;> refine Fin.ext ?_
  · rw [hr]; blk_simp [e]; dsimp only; omega
  · rw [hk]; blk_simp [e]; dsimp only; omega

theorem label_apply (c : Dev nD) (t : Fin cfg0.N) (x : S1x128.Idx)
    (r : Fin 4096) (hr : r.val = 128 * (t.val / 7) + (x 1).val) :
    labelAt m c t x = m ((c : Thread nD τ).loc main_arg1) (ix1 r) := by
  have e := (idx t).2.1
  refine (V_v1_apply m c _).trans ?_
  congr 1
  congr 1
  refine Fin.ext ?_
  rw [hr]; blk_simp [e]; dsimp only; omega

theorem rows_apply {e : EltTy} (f : Run Ideal → Vec Ideal S1x128 e) (c : Dev nD) (r : Fin 4096) :
    shapeCast S4096 (rows m f c) shapeCasts_S1x4096_S4096 (ix1 r)
      = f (runAt m c (7 * (r.val / 128) + 7)) (ValueIdx.ix2 (0 : Fin 1) (⟨r.val % 128, Nat.mod_lt _ (by omega)⟩ : Fin 128)) := by
  rw [shapeCast_apply _ _ (ix1 r) (ValueIdx.ix2 (0 : Fin 1) r)]
  · rfl
  · rw [Shape.rowMajor_val_two, Shape.rowMajor_val_one]
    show 0 * 4096 + r.val = r.val
    omega

/-! ## The results -/

section
variable (c : Dev nD)

theorem arrays_inj : Function.Injective (Pipeline.arrRef (cfgs 0).spec) := by decide +kernel

theorem tail_main_v6 : @Eq (FVec Ideal S_ .f32) (Pipeline.afterTail₀ cfgs (dats m) 0 (V0 m) [hostOps1] c main_v6)
    (Host.divf (Host.reduceAdd (shapeCast S4096 (rows (e := .f32) m out0 c) shapeCasts_S1x4096_S4096) (constant (F := Ideal) S_ .f32 0x00000000#32) reducesTo_S4096_S_d0 h_S_) (constant (F := Ideal) S_ .f32 0x45800000#32)) := by
  have h : Pipeline.withArrays (cfgs 0).spec c (V0 m c) (fun w => (dats m 0 c).arrAt w (cfgs 0).N)
      (Proc.devRef .tc main_v2_0) = _ :=
    (Pipeline.withArrays_arr (cfgs 0).spec arrays_inj c (V0 m c) (fun w => (dats m 0 c).arrAt w (cfgs 0).N) 2).trans
      (final2 m c)
  unfold Pipeline.afterTail₀
  rw [show List.flatten [hostOps1 (F := Ideal)] = hostOps1 from rfl]
  simp only [hostOps1]; after_results_simp
  rw [h]
  rfl

theorem tail_main_v3 : (Pipeline.afterTail₀ cfgs (dats m) 0 (V0 m) [hostOps1] c main_v3 : Vec Ideal S4096 .i32) =
    shapeCast S4096 (rows (e := .i32) m out1 c) shapeCasts_S1x4096_S4096 := by
  have h : Pipeline.withArrays (cfgs 0).spec c (V0 m c) (fun w => (dats m 0 c).arrAt w (cfgs 0).N)
      (Proc.devRef .tc main_v2_1) = _ :=
    (Pipeline.withArrays_arr (cfgs 0).spec arrays_inj c (V0 m c) (fun w => (dats m 0 c).arrAt w (cfgs 0).N) 3).trans
      (final3 m c)
  unfold Pipeline.afterTail₀
  rw [show List.flatten [hostOps1 (F := Ideal)] = hostOps1 from rfl]
  simp only [hostOps1]; after_results_simp
  rw [h]
  rfl

theorem tail_main_v9 : (Pipeline.afterTail₀ cfgs (dats m) 0 (V0 m) [hostOps1] c main_v9 : Vec Ideal S4096 .i32) =
    shapeCast S4096 (rows (e := .i32) m out2 c) shapeCasts_S1x4096_S4096 := by
  have h : Pipeline.withArrays (cfgs 0).spec c (V0 m c) (fun w => (dats m 0 c).arrAt w (cfgs 0).N)
      (Proc.devRef .tc main_v2_2) = _ :=
    (Pipeline.withArrays_arr (cfgs 0).spec arrays_inj c (V0 m c) (fun w => (dats m 0 c).arrAt w (cfgs 0).N) 4).trans
      (final4 m c)
  unfold Pipeline.afterTail₀
  rw [show List.flatten [hostOps1 (F := Ideal)] = hostOps1 from rfl]
  simp only [hostOps1]; after_results_simp
  rw [h]
  rfl

theorem tail_main_v10 : (Pipeline.afterTail₀ cfgs (dats m) 0 (V0 m) [hostOps1] c main_v10 : Vec Ideal S4096 .i32) =
    shapeCast S4096 (rows (e := .i32) m out3 c) shapeCasts_S1x4096_S4096 := by
  have h : Pipeline.withArrays (cfgs 0).spec c (V0 m c) (fun w => (dats m 0 c).arrAt w (cfgs 0).N)
      (Proc.devRef .tc main_v2_3) = _ :=
    (Pipeline.withArrays_arr (cfgs 0).spec arrays_inj c (V0 m c) (fun w => (dats m 0 c).arrAt w (cfgs 0).N) 5).trans
      (final5 m c)
  unfold Pipeline.afterTail₀
  rw [show List.flatten [hostOps1 (F := Ideal)] = hostOps1 from rfl]
  simp only [hostOps1]; after_results_simp
  rw [h]
  rfl

theorem tail_main_v11 : (Pipeline.afterTail₀ cfgs (dats m) 0 (V0 m) [hostOps1] c main_v11 : Vec Ideal S4096 .i32) =
    shapeCast S4096 (rows (e := .i32) m out4 c) shapeCasts_S1x4096_S4096 := by
  have h : Pipeline.withArrays (cfgs 0).spec c (V0 m c) (fun w => (dats m 0 c).arrAt w (cfgs 0).N)
      (Proc.devRef .tc main_v2_4) = _ :=
    (Pipeline.withArrays_arr (cfgs 0).spec arrays_inj c (V0 m c) (fun w => (dats m 0 c).arrAt w (cfgs 0).N) 6).trans
      (final6 m c)
  unfold Pipeline.afterTail₀
  rw [show List.flatten [hostOps1 (F := Ideal)] = hostOps1 from rfl]
  simp only [hostOps1]; after_results_simp
  rw [h]
  rfl

theorem tail_main_v8 : @Eq (Vec Ideal S_ .i32) (Pipeline.afterTail₀ cfgs (dats m) 0 (V0 m) [hostOps1] c main_v8)
    (subi (constantI S_ 32 4096#32) (Host.reduce IntOp.addi (shapeCast S4096 (rows (e := .i32) m out1 c) shapeCasts_S1x4096_S4096) (constantI S_ 32 0#32) reducesTo_S4096_S_d0 h_S_)) := by
  have h : Pipeline.withArrays (cfgs 0).spec c (V0 m c) (fun w => (dats m 0 c).arrAt w (cfgs 0).N)
      (Proc.devRef .tc main_v2_1) = _ :=
    (Pipeline.withArrays_arr (cfgs 0).spec arrays_inj c (V0 m c) (fun w => (dats m 0 c).arrAt w (cfgs 0).N) 3).trans
      (final3 m c)
  unfold Pipeline.afterTail₀
  rw [show List.flatten [hostOps1 (F := Ideal)] = hostOps1 from rfl]
  simp only [hostOps1]; after_results_simp
  rw [h]
  rfl

theorem tail_main_v12 : (Pipeline.afterTail₀ cfgs (dats m) 0 (V0 m) [hostOps1] c main_v12 : Vec Ideal S4096 .f32) =
    shapeCast S4096 (rows (e := .f32) m out5 c) shapeCasts_S1x4096_S4096 := by
  have h : Pipeline.withArrays (cfgs 0).spec c (V0 m c) (fun w => (dats m 0 c).arrAt w (cfgs 0).N)
      (Proc.devRef .tc main_v2_5) = _ :=
    (Pipeline.withArrays_arr (cfgs 0).spec arrays_inj c (V0 m c) (fun w => (dats m 0 c).arrAt w (cfgs 0).N) 7).trans
      (final7 m c)
  unfold Pipeline.afterTail₀
  rw [show List.flatten [hostOps1 (F := Ideal)] = hostOps1 from rfl]
  simp only [hostOps1]; after_results_simp
  rw [h]
  rfl

end

end Cert.KernelIdeal.Lane

end
-- ==== Proof.Tiles.lean ====
/-
  The seven tiles of one lane: what the scratch buffers hold, at a sublane of a lane, after the last tile, in terms of
  the lane's row of logits and its label.
-/
module

public import proofs.«01_k».proof.Proof.Chunks
public import proofs.«01_k».proof.Proof.Blocks
public import Idealize.ShloMosaic.Lib.Routing.Words

@[expose] public section

noncomputable section

namespace Cert.KernelIdeal.Lane

open Cert.KernelIdeal Cert.KernelIdeal.Gen Cert.KernelIdeal.Rolled Cert.Pick
open Idealize.ShloMosaic Idealize.ShloMosaic.TcCoe

/-- A row of logits by class number, minus infinity past the last class. -/
def column (X : Fin 50257 → EReal) (n : ℕ) : EReal := if h : n < 50257 then X ⟨n, h⟩ else ⊥

theorem column_of_lt (X : Fin 50257 → EReal) {n : ℕ} (h : n < 50257) : column X n = X ⟨n, h⟩ := dif_pos h

theorem column_of_ge (X : Fin 50257 → EReal) {n : ℕ} (h : 50257 ≤ n) : column X n = ⊥ := dif_neg (not_lt.2 h)

/-! ## The label's chunk -/

theorem ysel_apply (J : BitVec 32) (y : IVec S1x128 32) (p : S8x128.Idx) (Y : ℕ) (hY : Y < 50257)
    (h : y (ix2 (0 : Fin 1) (p 1)) = BitVec.ofNat 32 Y) : ysel J y p =
      if (p 0).val = Y % 8 then BitVec.ofNat 32 (Y / 8) - J * 1024#32 else 3221225472#32 := by
  unfold ysel
  pointwise
  rw [h]
  have e1 : IntOp.divsi ArithUnit.vector (BitVec.ofNat 32 Y) 8#32 = BitVec.ofNat 32 (Y / 8) :=
    Routing.divsi_word .vector (b := 8) (by omega) (by omega) (by omega)
  have e2 : IntOp.remsi ArithUnit.vector (BitVec.ofNat 32 Y) 8#32 = BitVec.ofNat 32 (Y % 8) :=
    Routing.remsi_word .vector (b := 8) (by omega) (by omega) (by omega)
  have e3 : IntOp.andi (BitVec.ofNat 32 Y) 7#32 = BitVec.ofNat 32 (Y % 8) := by
    apply BitVec.eq_of_toNat_eq
    show (BitVec.ofNat 32 Y &&& 7#32).toNat = _
    rw [BitVec.toNat_and, BitVec.toNat_ofNat, BitVec.toNat_ofNat, BitVec.toNat_ofNat, Nat.mod_eq_of_lt (show Y < 2 ^ 32 by omega),
      Nat.mod_eq_of_lt (show Y % 8 < 2 ^ 32 by omega)]
    exact Nat.and_two_pow_sub_one_eq_mod Y 3
  rw [e1, e2, e3]
  have hq : Scalar.select
          (IntOp.andi
            (IntOp.cmpi CmpIPredicate.ne
              (IntOp.subi (BitVec.setWidth 32 (IntOp.cmpi CmpIPredicate.sgt (BitVec.ofNat 32 Y) 0#32))
                (BitVec.setWidth 32 (IntOp.cmpi CmpIPredicate.slt (BitVec.ofNat 32 Y) 0#32)))
              (Scalar.subi (Scalar.extui (Scalar.cmpi CmpIPredicate.sgt 8#32 0#32))
                (Scalar.extui (Scalar.cmpi CmpIPredicate.slt 8#32 0#32))))
            (IntOp.cmpi CmpIPredicate.ne (BitVec.ofNat 32 (Y % 8)) 0#32))
          (IntOp.subi (BitVec.ofNat 32 (Y / 8)) 1#32)
          (BitVec.ofNat 32 (Y / 8)) = BitVec.ofNat 32 (Y / 8) := by
    have z : IntOp.cmpi CmpIPredicate.slt (BitVec.ofNat 32 Y) 0#32 = 0#1 := by
      show BitVec.ofBool ((BitVec.ofNat 32 Y).slt 0#32) = _
      rw [show (0#32 : BitVec 32) = BitVec.ofNat 32 0 from rfl, Routing.slt_ofNat32 (by omega) (by decide)]
      simp
    rw [z]
    rcases Nat.eq_zero_or_pos Y with rfl | hp
    · rfl
    · have z' : IntOp.cmpi CmpIPredicate.sgt (BitVec.ofNat 32 Y) 0#32 = 1#1 := by
        show BitVec.ofBool ((0#32 : BitVec 32).slt (BitVec.ofNat 32 Y)) = _
        rw [show (0#32 : BitVec 32) = BitVec.ofNat 32 0 from rfl, Routing.slt_ofNat32 (by decide) (by omega)]
        simp [hp]
      have q : ∀ z : BitVec 1, IntOp.andi
            (IntOp.cmpi CmpIPredicate.ne (IntOp.subi (BitVec.setWidth 32 1#1) (BitVec.setWidth 32 0#1))
              (Scalar.subi (Scalar.extui (Scalar.cmpi CmpIPredicate.sgt 8#32 0#32))
                (Scalar.extui (Scalar.cmpi CmpIPredicate.slt 8#32 0#32)))) z = 0#1 := by decide
      rw [z', q]
      rfl
  rw [hq, sel_ieq]
  have hp : (p 0).val < 8 := (p 0).isLt
  by_cases e : (p 0).val = Y % 8
  · rw [if_pos e, if_pos (by rw [e])]
    rfl
  · rw [if_neg e, if_neg]
    intro g
    have := congrArg BitVec.toNat g
    rw [BitVec.toNat_ofNat, BitVec.toNat_ofNat] at this
    omega

theorem ysel_iff (j : ℕ) (hj : j ≤ 6) (y : IVec S1x128 32) (p : S8x128.Idx) (Y : ℕ) (hY : Y < 50257)
    (h : y (ix2 (0 : Fin 1) (p 1)) = BitVec.ofNat 32 Y) (k : ℕ) (hk : k < 1024) :
    (ysel (BitVec.ofNat 32 j) y p).toNat = k ↔ Y % 8 = (p 0).val ∧ Y / 8 = 1024 * j + k := by
  rw [ysel_apply _ _ _ Y hY h]
  by_cases e : (p 0).val = Y % 8
  · rw [if_pos e, BitVec.toNat_sub, BitVec.toNat_mul, BitVec.toNat_ofNat, BitVec.toNat_ofNat, BitVec.toNat_ofNat]
    omega
  · rw [if_neg e, BitVec.toNat_ofNat]
    omega

/-! ## The chunks of a tile -/

theorem rowsOf_apply (X : S8192x128.Idx → Ideal .f32) (k : ℕ) (h : 8 * k + 8 ≤ 8192) (p : S8x128.Idx) :
    rowsOf X k p = X (ValueIdx.ix2 (⟨8 * k + (p 0).val, by have : (p 0).val < 8 := (p 0).isLt; omega⟩ : Fin 8192)
      (⟨(p 1).val, (p 1).isLt⟩ : Fin 128)) := by
  unfold rowsOf
  rw [dif_pos h]
  congr 1
  funext a
  match a with
  | ⟨0, _⟩ => exact Fin.ext (by unfold chunkRect; simp)
  | ⟨1, _⟩ => exact Fin.ext (by unfold chunkRect; simp)

variable (m : (ℓ : Loc nD τ sig) → Buf (Elt Ideal) ℓ) (c : Dev nD)

/-- The row of logits numbered `r`. -/
def logits (r : Fin 4096) : Fin 50257 → EReal := fun k => m ((c : Thread nD τ).loc main_arg0) (ValueIdx.ix2 r k)

/-- The label numbered `r`. -/
def label (r : Fin 4096) : BitVec 32 := m ((c : Thread nD τ).loc main_arg1) (ix1 r)

theorem chunk_apply (t : Fin cfg0.N) (r : Fin 4096) (p : S8x128.Idx) (hr : r.val = 128 * (t.val / 7) + (p 1).val)
    (k : ℕ) (hk : 8 * k + (p 0).val < (if t.val % 7 < 6 then 8192 else 1105)) :
    rowsOf (tileAt m c t) k p = column (logits m c r) (8192 * (t.val % 7) + 8 * k + (p 0).val) := by
  have hp : (p 0).val < 8 := (p 0).isLt
  have h7 : t.val % 7 < 7 := Nat.mod_lt _ (by omega)
  have h8 : 8 * k + 8 ≤ 8192 := by split at hk <;> omega
  have hlt : 8192 * (t.val % 7) + 8 * k + (p 0).val < 50257 := by split at hk <;> omega
  rw [rowsOf_apply _ _ h8, column_of_lt _ hlt]
  exact tile_apply m c t _ hk r _ hr (Nat.add_assoc _ _ _)

variable {m c}

theorem run_tile (i : ℕ) (hi : i < 32) (r : Fin 4096) (p : S8x128.Idx) (hr : r.val = 128 * i + (p 1).val) (Y : ℕ)
    (hY : Y < 50257) (hl : label m c r = BitVec.ofNat 32 Y) {θ : EReal} (hθ : ⊥ < θ) (few : Few θ (column (logits m c r)))
    (j : ℕ) (hj : j ≤ 6) :
    RunAt θ (column (logits m c r)) (p 0).val (1024 * j) Y (enter j (runAt m c (7 * i + j))) p := by
  have hp : (p 0).val < 8 := (p 0).isLt
  induction j with
  | zero => exact run_start hθ Y
  | succ j ih =>
    have hlt : 7 * i + j < cfg0.N := by show _ < 224; omega
    have hm : (7 * i + j) % 7 = j := by omega
    have hd : (7 * i + j) / 7 = i := by omega
    have e := runAt_succ m c ⟨7 * i + j, hlt⟩
    dsimp only at e
    rw [hm] at e
    unfold stepRun at e
    rw [if_pos (show j < 6 by omega)] at e
    rw [show enter (j + 1) (runAt m c (7 * i + (j + 1))) = runAt m c (7 * i + j + 1) from rfl, e]
    refine run_close (ne := 512) (no := 512) few Y (by omega) (ih (by omega)) hp 1024 rfl (.inl rfl) le_rfl ?_
      (acc_pairs few hθ _ 512 le_rfl ?_)
    · exact ysel_iff j (by omega) _ p Y hY ((label_apply m c _ _ r (by dsimp only; rw [hd]; exact hr)).trans hl)
    · intro k hk
      refine (chunk_apply m c _ r p (by dsimp only; rw [hd]; exact hr) k (by dsimp only; rw [hm, if_pos (by omega)]; omega)).trans ?_
      dsimp only
      rw [hm]

theorem mask_apply (v : FVec Ideal S8x128 .f32) (p : S8x128.Idx) :
    maskLast v p = if (p 0).val = 0 then v p else ⊥ := by
  have hp : (p 0).val < 8 := (p 0).isLt
  have e : maskLast v p = Scalar.select (IntOp.cmpi .slt (BitVec.ofNat 32 (p 0).val) 1#32) (v p)
      ((low : FVec Ideal S8x128 .f32) p) := by
    unfold maskLast
    pointwise
  rw [e, low_apply]
  generalize (p 0).val = s at hp ⊢
  interval_cases s <;> rfl

/-- After the last tile. -/
theorem run_last (i : ℕ) (hi : i < 32) (r : Fin 4096) (p : S8x128.Idx) (hr : r.val = 128 * i + (p 1).val) (Y : ℕ)
    (hY : Y < 50257) (hl : label m c r = BitVec.ofNat 32 Y) {θ : EReal} (hθ : ⊥ < θ) (few : Few θ (column (logits m c r))) :
    RunAt θ (column (logits m c r)) (p 0).val 6283 Y (runAt m c (7 * i + 7)) p := by
  have hp : (p 0).val < 8 := (p 0).isLt
  have hlt : 7 * i + 6 < cfg0.N := by show _ < 224; omega
  have hm : (7 * i + 6) % 7 = 6 := by omega
  have hd : (7 * i + 6) / 7 = i := by omega
  have e := runAt_succ m c ⟨7 * i + 6, hlt⟩
  dsimp only at e
  rw [hm] at e
  unfold stepRun at e
  rw [if_neg (show ¬ 6 < 6 by omega)] at e
  rw [show 7 * i + 7 = 7 * i + 6 + 1 from rfl, e]
  refine run_close (ne := 70) (no := 69) few Y le_rfl (run_tile i hi r p hr Y hY hl hθ few 6 le_rfl) hp 139 rfl (.inr rfl)
    (by omega) ?_ (acc_even (ne := 69) few (acc_pairs few hθ _ 69 (by omega) ?_) (by omega) _ ?_)
  · intro k hk
    exact ysel_iff 6 le_rfl _ p Y hY ((label_apply m c _ _ r (by dsimp only; rw [hd]; exact hr)).trans hl) k (by omega)
  · intro k hk
    refine (chunk_apply m c _ r p (by dsimp only; rw [hd]; exact hr) k (by dsimp only; rw [hm, if_neg (by omega)]; omega)).trans ?_
    dsimp only
    rw [hm]
  · rw [mask_apply]
    by_cases h0 : (p 0).val = 0
    · rw [if_pos h0]
      refine (chunk_apply m c _ r p (by dsimp only; rw [hd]; exact hr) 138 (by dsimp only; rw [hm, if_neg (by omega)]; omega)).trans ?_
      dsimp only
      rw [hm]
    · rw [if_neg h0, column_of_ge _ (by omega)]

end Cert.KernelIdeal.Lane

end
-- ==== Proof.Sorted.lean ====
/-
  The order of a row: larger value first, and of equal values the lower column first. The stable sort by value lists a
  row in that order, so the leading entries of a top-k are the row's best.
-/
module

public import Idealize.ShloMosaic.Lib.SortFacts
public import Idealize.ShloMosaic.Lib.ValueIdxCore
public import Idealize.ShloMosaic.Lib.Pipeline.Value
public import Idealize.ShloMosaic.PureOps.Ideal.Laws
public import Mathlib.Data.EReal.Basic

@[expose] public section

namespace Cert.Pick

open Idealize.ShloMosaic

variable {n : ℕ}

/-- Column `a` comes before column `b`: its value is larger, or equal with the lower column. -/
def Before (X : Fin n → EReal) (a b : Fin n) : Prop := X b < X a ∨ (X a = X b ∧ a < b)

/-- The columns `a`, `b` and `c` are the first, second and third of the row. -/
structure Best (X : Fin n → EReal) (a b c : Fin n) : Prop where
  ab : Before X a b
  bc : Before X b c
  rest : ∀ k, k = a ∨ k = b ∨ k = c ∨ Before X c k

theorem Before.le {X : Fin n → EReal} {a b : Fin n} (h : Before X a b) : X b ≤ X a :=
  h.elim le_of_lt fun h => h.1.ge

theorem Before.trans {X : Fin n → EReal} {a b c : Fin n} (h : Before X a b) (g : Before X b c) : Before X a c := by
  unfold Before at *
  rcases h with h | ⟨h, h'⟩ <;> rcases g with g | ⟨g, g'⟩
  · exact .inl (g.trans h)
  · exact .inl (g ▸ h)
  · exact .inl (h ▸ g)
  · exact .inr ⟨h.trans g, h'.trans g'⟩

theorem Before.ne {X : Fin n → EReal} {a b : Fin n} (h : Before X a b) : a ≠ b := by
  rintro rfl
  rcases h with h | h
  · exact lt_irrefl _ h
  · exact lt_irrefl _ h.2

/-- An increasing image of the row has the same order. -/
theorem Best.congr {X Y : Fin n → EReal} {a b c : Fin n} (h : Best X a b c) (e : ∀ i j, X i < X j ↔ Y i < Y j) :
    Best Y a b c := by
  have key : ∀ {i j}, Before X i j → Before Y i j := by
    intro i j h
    rcases h with h | ⟨h, h'⟩
    · exact .inl ((e _ _).1 h)
    · refine .inr ⟨?_, h'⟩
      have h1 : ¬ X i < X j := by rw [h]; exact lt_irrefl _
      have h2 : ¬ X j < X i := by rw [h]; exact lt_irrefl _
      rw [e] at h1 h2
      exact le_antisymm (not_lt.1 h2) (not_lt.1 h1)
  exact ⟨key h.ab, key h.bc, fun k => (h.rest k).imp_right fun h => h.imp_right fun h => h.imp_right key⟩

/-- The place in the row of the entry that the stable sort, larger first, puts at each place. -/
noncomputable def order (X : Fin n → EReal) : Fin n → Fin n := sortedFrom fun a b => decide (X b < X a)

/-- The stable sort of an ascending list of columns is the sort by the whole order. -/
theorem stableSort_eq (X : Fin n → EReal) (l : List (Fin n)) (hl : l.Pairwise (· < ·)) :
    stableSort (fun a b => decide (X b < X a)) l =
      stableSort (fun a b => decide (X b < X a ∨ (X a = X b ∧ a < b))) l := by
  induction l with
  | nil => rfl
  | cons a l ih =>
    rw [List.pairwise_cons] at hl
    unfold stableSort
    rw [ih hl.2]
    refine insertBefore_congr _ _ a _ fun b hb => ?_
    have hb' : b ∈ l := (perm_stableSort _ l).mem_iff.mp hb
    have := hl.1 b hb'
    simp only [decide_eq_decide]
    constructor
    · exact .inl
    · rintro (h | h)
      · exact h
      · exact absurd h.2 (not_lt.2 this.le)

theorem order_eq (X : Fin n → EReal) :
    order X = sortedFrom fun a b => decide (X b < X a ∨ (X a = X b ∧ a < b)) := by
  funext k
  unfold order sortedFrom
  rw [List.get_of_eq (show sortPositions n (fun a b => decide (X b < X a)) = _ from
    stableSort_eq X _ (List.pairwise_lt_finRange n))]
  rfl

/-- The sort lists the row in its order. -/
theorem order_before (X : Fin n → EReal) {i j : Fin n} (h : i < j) : Before X (order X i) (order X j) := by
  have hinj : order X i ≠ order X j := fun e => h.ne (sortedFrom_injective _ e)
  have key := sortedFrom_noInversion (fun a b => decide (X b < X a ∨ (X a = X b ∧ a < b)))
    (fun a b => decide (X b < X a ∨ (X a = X b ∧ a < b)))
    (by
      intro a b hab
      simp only [decide_eq_true_eq, decide_eq_false_iff_not] at *
      rintro (h | ⟨h, h'⟩) <;> rcases hab with g | ⟨g, g'⟩
      · exact lt_asymm h g
      · rw [g] at h; exact lt_irrefl _ h
      · rw [h] at g; exact lt_irrefl _ g
      · exact lt_asymm h' g')
    (fun _ _ h => h)
    (by
      intro a b c hab hbc
      simp only [decide_eq_false_iff_not, not_or, not_and, not_lt] at *
      refine ⟨hab.1.trans hbc.1, fun h => ?_⟩
      have e1 : X a = X b := le_antisymm hab.1 (h ▸ hbc.1)
      exact (hbc.2 (e1 ▸ h)).trans (hab.2 e1)) i j h
  rw [← order_eq] at key
  simp only [decide_eq_false_iff_not, not_or, not_and, not_lt] at key
  unfold Before
  rcases lt_or_eq_of_le key.1 with h1 | h1
  · exact .inl h1
  · exact .inr ⟨h1.symm, lt_of_le_of_ne (key.2 h1) hinj⟩

theorem order_surjective (X : Fin n → EReal) : Function.Surjective (order X) := sortedFrom_surjective _

/-- The sort's first three places hold the row's best. -/
theorem best_order (X : Fin n → EReal) (h : 3 ≤ n) :
    Best X (order X ⟨0, by omega⟩) (order X ⟨1, by omega⟩) (order X ⟨2, by omega⟩) where
  ab := order_before X (Fin.mk_lt_mk.2 (by omega))
  bc := order_before X (Fin.mk_lt_mk.2 (by omega))
  rest k := by
    obtain ⟨⟨i, hi⟩, rfl⟩ := order_surjective X k
    rcases i with _ | _ | _ | i
    · exact .inl rfl
    · exact .inr (.inl rfl)
    · exact .inr (.inr (.inl rfl))
    · exact .inr (.inr (.inr (order_before X (Fin.mk_lt_mk.2 (by omega)))))

/-- A row has only one best three. -/
theorem Best.unique {X : Fin n → EReal} {a b c a' b' c' : Fin n} (h : Best X a b c) (g : Best X a' b' c') :
    a = a' ∧ b = b' ∧ c = c' := by
  have asym : ∀ {i j}, Before X i j → Before X j i → False := fun p q => (p.trans q).ne rfl
  obtain ⟨h1, h2, h3⟩ := h
  obtain ⟨g1, g2, g3⟩ := g
  have tr : ∀ {i j k}, Before X i j → Before X j k → Before X i k := fun p q => p.trans q
  have ir : ∀ {i j}, Before X i j → i ≠ j := fun p => p.ne
  have ha : a = a' := by
    have := h3 a'; have := g3 a
    grind
  have hb : b = b' := by
    have := h3 b'; have := g3 b
    grind
  have hc : c = c' := by
    have := h3 c'; have := g3 c
    grind
  exact ⟨ha, hb, hc⟩

open ValueIdx in
theorem along_one {B : ℕ} (r : Fin B) (i c : Fin n) :
    Shape.Idx.along (s := (⟨2, ![B, n]⟩ : Shape)) (ix2 r i) (1 : Fin 2) c = ix2 r c := by
  funext a
  match a with
  | ⟨0, _⟩ => exact Function.update_of_ne (Fin.ne_of_val_ne (by show (0 : ℕ) ≠ 1; omega)) _ _
  | ⟨1, _⟩ => exact Function.update_self _ _ _

open ValueIdx in
theorem sort2_order {B : ℕ} (x : FVec Ideal (⟨2, ![B, n]⟩ : Shape) .f32) (y : IVec (⟨2, ![B, n]⟩ : Shape) 32)
    (r : Fin B) (i : Fin n) :
    (Host.sort2 (⟨2, ![B, n]⟩ : Shape) 1
        (fun l r => FloatOps.cmpfTotal (F := Ideal) (φ := .f32) .gt l.1 r.1) x y).1 (ix2 r i) =
      x (ix2 r (order (fun c => x (ix2 r c)) i)) ∧
    (Host.sort2 (⟨2, ![B, n]⟩ : Shape) 1
        (fun l r => FloatOps.cmpfTotal (F := Ideal) (φ := .f32) .gt l.1 r.1) x y).2 (ix2 r i) =
      y (ix2 r (order (fun c => x (ix2 r c)) i)) := by
  have hd : 1 < (⟨2, ![B, n]⟩ : Shape).rank := by show 1 < 2; omega
  have key : sortedFrom (n := n) (fun a b : Fin n =>
      FloatOps.cmpfTotal (F := Ideal) (φ := .f32) .gt
        (x ((ix2 r i : (⟨2, ![B, n]⟩ : Shape).Idx).along (1 : Fin 2) a))
        (x ((ix2 r i : (⟨2, ![B, n]⟩ : Shape).Idx).along (1 : Fin 2) b)) == 1#1) i =
      order (fun c => x (ix2 r c)) i := by
    unfold order
    refine congrArg (fun R => sortedFrom (n := n) R i) (funext fun a => funext fun b => ?_)
    rw [along_one, along_one, Ideal.cmpfTotal_def]
    show (BitVec.ofBool (decide _) == 1#1) = decide _
    by_cases h : x (ix2 r b) < x (ix2 r a)
    · simp [h]
    · simp [h]
  unfold Host.sort2
  rw [dif_pos hd]
  exact ⟨(congrArg x (along_one r i _)).trans (congrArg (fun c => x (ix2 r c)) key),
    (congrArg y (along_one r i _)).trans (congrArg (fun c => y (ix2 r c)) key)⟩

open ValueIdx in
/-- A top-k's values are the row's at the sorted places. -/
theorem topK_values {B k : ℕ} (x : FVec Ideal (⟨2, ![B, n]⟩ : Shape) .f32)
    (h : (⟨2, ![B, n]⟩ : Shape).Slices (fun _ => 0) ⟨2, ![B, k]⟩) (r : Fin B) (i : Fin k) (hi : i.val < n) :
    (Host.topK ⟨2, ![B, k]⟩ 1 (FloatOps.cmpfTotal (F := Ideal) (φ := .f32) .gt) x h).1 (ix2 r i) =
      x (ix2 r (order (fun c => x (ix2 r c)) ⟨i.val, hi⟩)) := by
  unfold Host.topK
  refine (extractStridedSlice_apply _ _ h (ix2 r i) (ix2 r ⟨i.val, hi⟩) (fun a => ?_)).trans
    (sort2_order x
      (fun j => if hd : 1 < (⟨2, ![B, n]⟩ : Shape).rank then iotaInDim ⟨2, ![B, n]⟩ 32 ⟨1, hd⟩ j else 0#32)
      r ⟨i.val, hi⟩).1
  match a with
  | ⟨0, _⟩ => exact (Nat.zero_add _).symm
  | ⟨1, _⟩ => exact (Nat.zero_add _).symm

open ValueIdx in
/-- A top-k's numbers are the sorted places. -/
theorem topK_indices {B k : ℕ} (x : FVec Ideal (⟨2, ![B, n]⟩ : Shape) .f32)
    (h : (⟨2, ![B, n]⟩ : Shape).Slices (fun _ => 0) ⟨2, ![B, k]⟩) (r : Fin B) (i : Fin k) (hi : i.val < n) :
    (Host.topK ⟨2, ![B, k]⟩ 1 (FloatOps.cmpfTotal (F := Ideal) (φ := .f32) .gt) x h).2 (ix2 r i) =
      BitVec.ofNat 32 (order (fun c => x (ix2 r c)) ⟨i.val, hi⟩).val := by
  unfold Host.topK
  refine (extractStridedSlice_apply _ _ h (ix2 r i) (ix2 r ⟨i.val, hi⟩) (fun a => ?_)).trans
    ((sort2_order x
      (fun j => if hd : 1 < (⟨2, ![B, n]⟩ : Shape).rank then iotaInDim ⟨2, ![B, n]⟩ 32 ⟨1, hd⟩ j else 0#32)
      r ⟨i.val, hi⟩).2.trans ?_)
  · match a with
    | ⟨0, _⟩ => exact (Nat.zero_add _).symm
    | ⟨1, _⟩ => exact (Nat.zero_add _).symm
  · rw [dif_pos (show 1 < (⟨2, ![B, n]⟩ : Shape).rank by show 1 < 2; omega)]
    rfl

end Cert.Pick

end
-- ==== Proof.Closing.lean ====
/-
  The closing step over one lane, over the extended reals. The twenty-four slots of a lane hold every class of the
  lane that reaches a threshold, each once; the greatest value, its least column, and what is left without it follow.
-/
module

public import proofs.«01_k».proof.Proof.Tiles
public import proofs.«01_k».proof.Proof.Sorted

@[expose] public section

noncomputable section

namespace Cert.KernelIdeal.Lane

open Cert.KernelIdeal Cert.KernelIdeal.Gen Cert.KernelIdeal.Rolled Cert.Pick
open Idealize.ShloMosaic Idealize.ShloMosaic.TcCoe

/-! ## Reductions over the sublanes -/

theorem lift_lane (h : Shape.Reduces S8x128 [0] S128) (q : Fin 128) (s : Fin 8) :
    h.lift (ix1 q) s = (ValueIdx.ix2 s q : S8x128.Idx) := by
  funext a
  match a with
  | ⟨0, _⟩ => rfl
  | ⟨1, _⟩ => rfl

theorem row_cast {α : Type} (v : S128.Idx → α) (q : Fin 128) :
    shapeCast S1x128 v shapeCasts_S128_S1x128 (ValueIdx.ix2 (0 : Fin 1) q) = v (ix1 q) := by
  refine shapeCast_apply _ _ _ _ ?_
  rw [Shape.rowMajor_val_two, Shape.rowMajor_val_one]
  show q.val = 0 * 128 + q.val
  omega

theorem down_apply {e : EltTy} (V : Vec Ideal S1x128 e) (s : Fin 8) (q : Fin 128) :
    down V (ValueIdx.ix2 s q) = V (ValueIdx.ix2 (0 : Fin 1) q) := by
  unfold down
  pointwise
  rfl

theorem sumAll_apply (v : FVec Ideal S8x128 .f32) (q : Fin 128) :
    sumAll v (ValueIdx.ix2 (0 : Fin 1) q) = ∑ s : Fin 8, v (ValueIdx.ix2 s q) := by
  refine (row_cast _ q).trans ((Ideal.multiReduction_add_single _ _ _ _ _ _).trans ?_)
  exact Finset.sum_congr rfl fun s _ => congrArg v (lift_lane _ q s)

/-! ## The slots of a lane -/

/-- The values of the slots. -/
def tv (t : Top3 Ideal) (k : Fin 3) (p : S8x128.Idx) : EReal := ![t.v1 p, t.v2 p, t.v3 p] k

/-- The numbers of the slots. -/
def ti (t : Top3 Ideal) (k : Fin 3) (p : S8x128.Idx) : BitVec 32 := ![t.i1 p, t.i2 p, t.i3 p] k

theorem rowMax_apply (t : Top3 Ideal) (q : Fin 128) (B : EReal) (hle : ∀ s k, tv t k (ValueIdx.ix2 s q) ≤ B)
    (hex : ∃ s k, tv t k (ValueIdx.ix2 s q) = B) : rowMax t (ValueIdx.ix2 (0 : Fin 1) q) = B := by
  have e0 : rowMax t (ValueIdx.ix2 (0 : Fin 1) q) = FloatOps.ofBits (F := Ideal) .f32 0x00000000#32 -
      (Finset.univ : Finset (Fin 8)).fold min (FloatOps.ofBits (F := Ideal) .f32 0x7F800000#32)
        (fun s => FloatOps.ofBits (F := Ideal) .f32 0x00000000#32 -
          (max (max (tv t 0 (ValueIdx.ix2 s q)) (tv t 1 (ValueIdx.ix2 s q))) (tv t 2 (ValueIdx.ix2 s q)))) :=
    congrArg (FloatOps.ofBits (F := Ideal) .f32 0x00000000#32 - ·)
      ((row_cast _ q).trans ((multiReduction_minimumf_eq_fold _ _ _ _ _ _).trans
        ((Shape.Reduces.fold_filter_drop_single _ _ _ _ _).trans
          (congrArg (fun f => Finset.fold min (FloatOps.ofBits (F := Ideal) .f32 0x7F800000#32) f (Finset.univ : Finset (Fin 8)))
            (funext fun s => congrArg (subf (broadcast S8x128 (Scalar.ofBits .f32 0x00000000#32 : Ideal .f32))
              (maximumf (maximumf t.v1 t.v2) t.v3)) (lift_lane reduces_S8x128_S128 q s))))))
  rw [e0]
  rw [show FloatOps.ofBits (F := Ideal) .f32 0x00000000#32 = 0 by simp, zero_sub, neg_eq_iff_eq_neg]
  simp only [zero_sub]
  refine le_antisymm ?_ ?_
  · obtain ⟨s, k, e⟩ := hex
    refine (Finset.fold_min_le (b := _) (f := _) _).2 (.inr ⟨s, Finset.mem_univ _, ?_⟩)
    rw [EReal.neg_le_neg_iff, ← e]
    match k with
    | ⟨0, _⟩ => exact le_max_of_le_left (le_max_left _ _)
    | ⟨1, _⟩ => exact le_max_of_le_left (le_max_right _ _)
    | ⟨2, _⟩ => exact le_max_right _ _
  · refine (Finset.le_fold_min (b := _) (f := _) _).2 ⟨?_, fun s _ => ?_⟩
    · rw [show FloatOps.ofBits (F := Ideal) .f32 0x7F800000#32 = (⊤ : EReal) by simp [Ideal.ofBits, Ideal.ieee]]
      exact le_top
    · rw [EReal.neg_le_neg_iff]
      exact max_le (max_le (hle s 0) (hle s 1)) (hle s 2)

theorem minsi_le (x y c : BitVec 32) : (IntOp.minsi x y).toInt ≤ c.toInt ↔ x.toInt ≤ c.toInt ∨ y.toInt ≤ c.toInt := by
  unfold IntOp.minsi
  split <;> rename_i h <;> rw [BitVec.slt_iff_toInt_lt] at h <;> omega

theorem le_minsi (x y c : BitVec 32) : c.toInt ≤ (IntOp.minsi x y).toInt ↔ c.toInt ≤ x.toInt ∧ c.toInt ≤ y.toInt := by
  unfold IntOp.minsi
  split <;> rename_i h <;> rw [BitVec.slt_iff_toInt_lt] at h <;> omega

theorem cand_apply (a : FVec Ideal S8x128 .f32) (V : FVec Ideal S1x128 .f32) (n : IVec S8x128 32) (s : Fin 8) (q : Fin 128) :
    cand a V n (ValueIdx.ix2 s q) = if a (ValueIdx.ix2 s q) = V (ValueIdx.ix2 (0 : Fin 1) q) then n (ValueIdx.ix2 s q) else 2147483647#32 := by
  refine (sel_eq _ _ _ _).trans ?_
  rw [down_apply]
  rfl

theorem argAll_apply (t : Top3 Ideal) (V : FVec Ideal S1x128 .f32) (q : Fin 128) (N : BitVec 32)
    (hN : N.toInt ≤ 2147483647)
    (hle : ∀ s k, tv t k (ValueIdx.ix2 s q) = V (ValueIdx.ix2 (0 : Fin 1) q) → N.toInt ≤ (ti t k (ValueIdx.ix2 s q)).toInt)
    (hex : ∃ s k, tv t k (ValueIdx.ix2 s q) = V (ValueIdx.ix2 (0 : Fin 1) q) ∧ ti t k (ValueIdx.ix2 s q) = N) :
    argAll t V (ValueIdx.ix2 (0 : Fin 1) q) = N := by
  have e0 : argAll t V (ValueIdx.ix2 (0 : Fin 1) q) =
      (Finset.univ : Finset (Fin 8)).fold IntOp.minsi 2147483647#32
        (fun s => IntOp.minsi (IntOp.minsi (cand t.v1 V t.i1 (ValueIdx.ix2 s q)) (cand t.v2 V t.i2 (ValueIdx.ix2 s q)))
          (cand t.v3 V t.i3 (ValueIdx.ix2 s q))) :=
    (row_cast _ q).trans ((multiReductionI_eq_fold .minsi _ _ _ _ _).trans
      ((Shape.Reduces.fold_filter_drop_single _ _ _ _ _).trans
        (congrArg (fun f => Finset.fold IntOp.minsi 2147483647#32 f (Finset.univ : Finset (Fin 8)))
          (funext fun s => congrArg (minsi (minsi (cand t.v1 V t.i1) (cand t.v2 V t.i2)) (cand t.v3 V t.i3))
            (lift_lane reduces_S8x128_S128 q s)))))
  rw [e0]
  apply BitVec.eq_of_toInt_eq
  refine le_antisymm ?_ ?_
  · obtain ⟨s, k, e, g⟩ := hex
    refine (Finset.fold_op_rel_iff_or (r := fun (c y : BitVec 32) => y.toInt ≤ c.toInt) (c := N)
      (fun {x y z} => minsi_le y z x)).2 (.inr ⟨s, Finset.mem_univ _, ?_⟩)
    rw [minsi_le, minsi_le, cand_apply, cand_apply, cand_apply]
    match k with
    | ⟨0, _⟩ => left; left; exact le_of_eq (congrArg BitVec.toInt ((if_pos e).trans g))
    | ⟨1, _⟩ => left; right; exact le_of_eq (congrArg BitVec.toInt ((if_pos e).trans g))
    | ⟨2, _⟩ => right; exact le_of_eq (congrArg BitVec.toInt ((if_pos e).trans g))
  · refine (Finset.fold_op_rel_iff_and (r := fun (c y : BitVec 32) => c.toInt ≤ y.toInt) (c := N)
      (fun {x y z} => le_minsi y z x)).2 ⟨hN, fun s _ => ?_⟩
    rw [le_minsi, le_minsi, cand_apply, cand_apply, cand_apply]
    refine ⟨⟨?_, ?_⟩, ?_⟩
    · split
      · exact hle s 0 ‹_›
      · exact hN
    · split
      · exact hle s 1 ‹_›
      · exact hN
    · split
      · exact hle s 2 ‹_›
      · exact hN

theorem tv_rest (t : Top3 Ideal) (k : Fin 3) (s : Fin 8) (q : Fin 128) :
    tv (rest t) k (ValueIdx.ix2 s q) =
      if ti t k (ValueIdx.ix2 s q) = rowArg t (ValueIdx.ix2 (0 : Fin 1) q) then ⊥ else tv t k (ValueIdx.ix2 s q) := by
  match k with
  | ⟨0, _⟩ | ⟨1, _⟩ | ⟨2, _⟩ =>
    refine (sel_ieq _ _ _ _).trans ?_
    rw [low_apply, down_apply]
    rfl

theorem ti_rest (t : Top3 Ideal) (k : Fin 3) (p : S8x128.Idx) : ti (rest t) k p = ti t k p := rfl

/-- The slots of the lane `q` hold, of the column `val`, the classes in `H` and nothing else that reaches `θ`. -/
structure Slots (θ : EReal) (val : ℕ → EReal) (H : ℕ → Prop) (t : Top3 Ideal) (q : Fin 128) : Prop where
  mem : ∀ n, H n → n < 50257 ∧ θ ≤ val n
  ok : ∀ s k, θ ≤ tv t k (ValueIdx.ix2 s q) →
    ∃ n, H n ∧ ti t k (ValueIdx.ix2 s q) = BitVec.ofNat 32 n ∧ tv t k (ValueIdx.ix2 s q) = val n
  all : ∀ n, H n → ∃ s k, ti t k (ValueIdx.ix2 s q) = BitVec.ofNat 32 n ∧ tv t k (ValueIdx.ix2 s q) = val n

variable {θ : EReal} {val : ℕ → EReal} {H : ℕ → Prop} {t : Top3 Ideal} {q : Fin 128}

theorem toInt_class {n : ℕ} (h : n < 50257) : (BitVec.ofNat 32 n).toInt = n := by
  rw [BitVec.toInt_eq_toNat_of_lt] <;> rw [BitVec.toNat_ofNat] <;> omega

theorem Slots.max (h : Slots θ val H t q) (b : ℕ) (hb : H b) (hmax : ∀ n, H n → val n ≤ val b) :
    rowMax t (ValueIdx.ix2 (0 : Fin 1) q) = val b := by
  refine rowMax_apply t q _ (fun s k => ?_) ?_
  · by_contra hlt
    have hlt := not_le.1 hlt
    obtain ⟨n, hn, _, e⟩ := h.ok s k ((h.mem b hb).2.trans hlt.le)
    exact absurd (hmax n hn) (not_le.2 (e ▸ hlt))
  · obtain ⟨s, k, _, e⟩ := h.all b hb
    exact ⟨s, k, e⟩

theorem Slots.arg (h : Slots θ val H t q) (b : ℕ) (hb : H b) (hmax : ∀ n, H n → val n ≤ val b)
    (hfirst : ∀ n, H n → val n = val b → b ≤ n) : rowArg t (ValueIdx.ix2 (0 : Fin 1) q) = BitVec.ofNat 32 b := by
  have hm := h.max b hb hmax
  have hb' := (h.mem b hb).1
  refine argAll_apply t _ q _ (by rw [toInt_class hb']; omega) (fun s k e => ?_) ?_
  · rw [hm] at e
    obtain ⟨n, hn, i, e'⟩ := h.ok s k (e ▸ (h.mem b hb).2)
    rw [i, toInt_class hb', toInt_class (h.mem n hn).1]
    exact_mod_cast hfirst n hn (e'.symm.trans e)
  · obtain ⟨s, k, i, e⟩ := h.all b hb
    exact ⟨s, k, e.trans hm.symm, i⟩

theorem class_inj {a b : ℕ} (ha : a < 50257) (hb : b < 50257) (h : BitVec.ofNat 32 a = BitVec.ofNat 32 b) : a = b := by
  have := congrArg BitVec.toNat h
  rw [BitVec.toNat_ofNat, BitVec.toNat_ofNat] at this
  omega

theorem Slots.rest (hθ : ⊥ < θ) (h : Slots θ val H t q) (b : ℕ) (hb : H b) (hmax : ∀ n, H n → val n ≤ val b)
    (hfirst : ∀ n, H n → val n = val b → b ≤ n) : Slots θ val (fun n => H n ∧ n ≠ b) (rest t) q := by
  have ha := h.arg b hb hmax hfirst
  refine ⟨fun n hn => h.mem n hn.1, fun s k hk => ?_, fun n hn => ?_⟩
  · rw [tv_rest, ha] at hk ⊢
    rw [ti_rest]
    by_cases e : ti t k (ValueIdx.ix2 s q) = BitVec.ofNat 32 b
    · rw [if_pos e] at hk
      exact absurd hk (not_le.2 hθ)
    · rw [if_neg e] at hk ⊢
      obtain ⟨n, hn, i, v⟩ := h.ok s k hk
      exact ⟨n, ⟨hn, fun g => e (g ▸ i)⟩, i, v⟩
  · obtain ⟨s, k, i, v⟩ := h.all n hn.1
    refine ⟨s, k, i, ?_⟩
    rw [tv_rest, ha, if_neg, v]
    rw [i]
    exact fun g => hn.2 (class_inj (h.mem n hn.1).1 (h.mem b hb).1 g)

/-! ## The slots after the last tile -/

theorem cid_apply (g : IVec S8x128 32) (s : Fin 8) (q : Fin 128) :
    cid g (ValueIdx.ix2 s q) = g (ValueIdx.ix2 s q) * 8#32 + BitVec.ofNat 32 s.val := by
  unfold cid
  pointwise
  rfl

theorem slots_run (X : Fin 50257 → EReal) (hθ : ⊥ < θ) (Y : ℕ) (R : Run Ideal)
    (h : ∀ s : Fin 8, RunAt θ (column X) s.val 6283 Y R (ValueIdx.ix2 s q)) :
    Slots θ (column X) (fun n => θ ≤ column X n) (cols R.top) q := by
  have lt : ∀ n, θ ≤ column X n → n < 50257 := fun n hn => by
    by_contra hge
    rw [column_of_ge X (not_lt.1 hge)] at hn
    exact absurd hn (not_le.2 hθ)
  have num : ∀ (n : BitVec 32) (s : Fin 8), n * 8#32 + BitVec.ofNat 32 s.val = BitVec.ofNat 32 (8 * n.toNat + s.val) := by
    intro n s
    apply BitVec.eq_of_toNat_eq
    rw [BitVec.toNat_add, BitVec.toNat_mul, BitVec.toNat_ofNat, BitVec.toNat_ofNat, BitVec.toNat_ofNat]
    omega
  refine ⟨fun n hn => ⟨lt n hn, hn⟩, fun s k hk => ?_, fun n hn => ?_⟩
  · have T := (h s).top
    match k with
    | ⟨0, _⟩ =>
      refine ⟨8 * (R.top.i1 (ValueIdx.ix2 s q)).toNat + s.val, ?_, (cid_apply _ s q).trans (num _ s), (T.at1 hk).2.symm⟩
      exact le_of_le_of_eq hk (T.at1 hk).2.symm
    | ⟨1, _⟩ =>
      refine ⟨8 * (R.top.i2 (ValueIdx.ix2 s q)).toNat + s.val, ?_, (cid_apply _ s q).trans (num _ s), (T.at2 hk).2.symm⟩
      exact le_of_le_of_eq hk (T.at2 hk).2.symm
    | ⟨2, _⟩ =>
      refine ⟨8 * (R.top.i3 (ValueIdx.ix2 s q)).toNat + s.val, ?_, (cid_apply _ s q).trans (num _ s), (T.at3 hk).2.symm⟩
      exact le_of_le_of_eq hk (T.at3 hk).2.symm
  · have hlt := lt n hn
    let s : Fin 8 := ⟨n % 8, Nat.mod_lt _ (by omega)⟩
    have T := (h s).top
    have tn : (BitVec.ofNat 32 (n / 8)).toNat = n / 8 := by rw [BitVec.toNat_ofNat]; omega
    have en : 8 * (BitVec.ofNat 32 (n / 8)).toNat + s.val = n := by rw [tn]; show 8 * (n / 8) + n % 8 = n; omega
    have ex : colX (column X) s.val (BitVec.ofNat 32 (n / 8)) = column X n := by unfold colX; rw [en]
    rcases T.all (BitVec.ofNat 32 (n / 8)) (by rw [tn]; omega) (by rw [ex]; exact hn) with ⟨a, b⟩ | ⟨a, b⟩ | ⟨a, b⟩
    · refine ⟨s, 0, (cid_apply _ s q).trans ?_, (T.at1 a).2.symm.trans (b ▸ ex)⟩
      rw [← b, num, en]
    · refine ⟨s, 1, (cid_apply _ s q).trans ?_, (T.at2 a).2.symm.trans (b ▸ ex)⟩
      rw [← b, num, en]
    · refine ⟨s, 2, (cid_apply _ s q).trans ?_, (T.at3 a).2.symm.trans (b ▸ ex)⟩
      rw [← b, num, en]

/-! ## The sums -/

theorem sum_column (f : EReal → EReal) (hf : f ⊥ = 0) (X : Fin 50257 → EReal) :
    ∑ s : Fin 8, ∑ k ∈ Finset.range 6283, f (column X (8 * k + s.val)) = ∑ n : Fin 50257, f (X n) := by
  have e1 : ∀ N : ℕ, ∑ s : Fin 8, ∑ k ∈ Finset.range N, f (column X (8 * k + s.val)) = ∑ n ∈ Finset.range (8 * N), f (column X n) := by
    intro N
    induction N with
    | zero => simp
    | succ N ih =>
      rw [show 8 * (N + 1) = 8 * N + 8 by ring, Finset.sum_range_add, ← ih, Finset.sum_range (n := 8), ← Finset.sum_add_distrib]
      exact Finset.sum_congr rfl fun s _ => Finset.sum_range_succ _ _
  rw [e1, show 8 * 6283 = 50257 + 7 from rfl, Finset.sum_range_add, Finset.sum_range (n := 50257)]
  rw [Finset.sum_eq_zero (s := Finset.range 7) (fun k _ => by rw [column_of_ge X (by omega), hf]), add_zero]
  exact Finset.sum_congr rfl fun n _ => by rw [column_of_lt X n.isLt]

theorem sum_se (X : Fin 50257 → EReal) (Y : ℕ) (R : Run Ideal)
    (h : ∀ s : Fin 8, RunAt θ (column X) s.val 6283 Y R (ValueIdx.ix2 s q)) :
    sumAll R.se (ValueIdx.ix2 (0 : Fin 1) q) = ∑ n : Fin 50257, Ideal.exp (X n) := by
  rw [sumAll_apply, ← sum_column Ideal.exp (by simp) X]
  exact Finset.sum_congr rfl fun s _ => (h s).se

theorem sum_fy (X : Fin 50257 → EReal) (Y : ℕ) (hY : Y < 50257) (R : Run Ideal)
    (h : ∀ s : Fin 8, RunAt θ (column X) s.val 6283 Y R (ValueIdx.ix2 s q)) :
    sumAll R.fy (ValueIdx.ix2 (0 : Fin 1) q) = X ⟨Y, hY⟩ := by
  rw [sumAll_apply, Finset.sum_congr rfl fun s _ => (h s).fy]
  rw [Finset.sum_eq_single (⟨Y % 8, Nat.mod_lt _ (by omega)⟩ : Fin 8)]
  · rw [if_pos ⟨rfl, by omega⟩, column_of_lt X hY]
  · intro s _ hs
    rw [if_neg]
    rintro ⟨e, _⟩
    exact hs (Fin.ext e.symm)
  · intro g
    exact absurd (Finset.mem_univ _) g

end Cert.KernelIdeal.Lane

end
-- ==== Proof.Answer.lean ====
/-
  One row's answers: the label's probability, the mark, the loss and the second best class's probability, in terms of
  the row's logits and its first three places. A logit may be minus infinity, and then weighs nothing.
-/
module

public import proofs.«01_k».proof.Proof.Sorted

@[expose] public section

noncomputable section

namespace Cert.Answer

open Idealize.ShloMosaic Cert.Pick

/-- The exponential as a real; zero at minus infinity. -/
def weigh (z : EReal) : ℝ := (Ideal.exp z).toReal

theorem weigh_coe (a : ℝ) : weigh (a : EReal) = Real.exp a := by
  unfold weigh
  rw [Ideal.exp_coe, EReal.toReal_coe]

theorem exp_bot : Ideal.exp ⊥ = 0 := rfl

theorem weigh_bot : weigh ⊥ = 0 := by
  unfold weigh
  rw [exp_bot, EReal.toReal_zero]

theorem exp_weigh {z : EReal} (h : z ≠ ⊤) : Ideal.exp z = (weigh z : EReal) := by
  induction z using EReal.rec with
  | bot => rw [weigh_bot, exp_bot]; rfl
  | top => exact absurd rfl h
  | coe a => rw [weigh_coe, Ideal.exp_coe]

theorem weigh_nonneg {z : EReal} (h : z ≠ ⊤) : 0 ≤ weigh z := by
  induction z using EReal.rec with
  | bot => rw [weigh_bot]
  | top => exact absurd rfl h
  | coe a => rw [weigh_coe]; exact (Real.exp_pos a).le

theorem weigh_pos {z : EReal} (h : z ≠ ⊤) (h' : z ≠ ⊥) : 0 < weigh z := by
  induction z using EReal.rec with
  | bot => exact absurd rfl h'
  | top => exact absurd rfl h
  | coe a => rw [weigh_coe]; exact Real.exp_pos a

theorem weigh_lt {z w : EReal} (hz : z ≠ ⊤) (hw : w ≠ ⊤) : weigh z < weigh w ↔ z < w := by
  induction z using EReal.rec with
  | top => exact absurd rfl hz
  | bot =>
    induction w using EReal.rec with
    | top => exact absurd rfl hw
    | bot => simp
    | coe b => rw [weigh_bot, weigh_coe]; exact ⟨fun _ => EReal.bot_lt_coe b, fun _ => Real.exp_pos b⟩
  | coe a =>
    induction w using EReal.rec with
    | top => exact absurd rfl hw
    | bot =>
      rw [weigh_bot, weigh_coe]
      exact ⟨fun h => absurd (h.trans (Real.exp_pos a)) (lt_irrefl _), fun h => absurd h not_lt_bot⟩
    | coe b => rw [weigh_coe, weigh_coe, Real.exp_lt_exp, EReal.coe_lt_coe_iff]

/-- A shift by a real divides the weight. -/
theorem weigh_shift {z : EReal} (h : z ≠ ⊤) (M : ℝ) : Ideal.exp (z - (M : EReal)) = ((weigh z / Real.exp M : ℝ) : EReal) := by
  induction z using EReal.rec with
  | bot => rw [weigh_bot, zero_div, EReal.bot_sub, exp_bot]; rfl
  | top => exact absurd rfl h
  | coe a => rw [weigh_coe, ← EReal.coe_sub, Ideal.exp_coe, Real.exp_sub]

variable {n : ℕ}

/-- A row without plus infinity in which some logit is real. -/
structure Live (x : Fin n → EReal) : Prop where
  fin : ∀ c, x c ≠ ⊤
  some : ∃ c, x c ≠ ⊥

/-- The sum of the row's exponentials. -/
def total (x : Fin n → EReal) : ℝ := ∑ c, weigh (x c)

/-- The probability of class `c`. -/
def prob (x : Fin n → EReal) (c : Fin n) : ℝ := weigh (x c) / total x

/-- The label's probability is below the threshold. -/
def Low (x : Fin n → EReal) (Y : Fin n) : Prop := (prob x Y : EReal) < Ideal.ofBits .f32 0x3CA3D70A#32

open Classical in
/-- The row's loss. -/
def loss (x : Fin n → EReal) (Y a b c : Fin n) : ℝ :=
  if Low x Y then
    Real.log (total x) - (weigh (x a) * (x a).toReal + weigh (x b) * (x b).toReal + weigh (x c) * (x c).toReal) /
      (weigh (x a) + weigh (x b) + weigh (x c))
  else Real.log (total x) - (x Y).toReal

open Classical in
/-- The mark. -/
def mark (x : Fin n → EReal) (Y : Fin n) : BitVec 32 := if Low x Y then 1#32 else 0#32

open Classical in
/-- The number of class `a` where the mark is set, and minus one elsewhere. -/
def pick (x : Fin n → EReal) (Y a : Fin n) : BitVec 32 := if Low x Y then BitVec.ofNat 32 a.val else 4294967295#32

open Classical in
/-- The probability of class `a` where the mark is set, and zero elsewhere. -/
def second (x : Fin n → EReal) (Y a : Fin n) : EReal := if Low x Y then (prob x a : EReal) else 0

theorem total_pos {x : Fin n → EReal} (h : Live x) : 0 < total x := by
  obtain ⟨c, hc⟩ := h.some
  exact Finset.sum_pos' (fun k _ => weigh_nonneg (h.fin k)) ⟨c, Finset.mem_univ _, weigh_pos (h.fin c) hc⟩

theorem prob_lt {x : Fin n → EReal} (h : Live x) (a b : Fin n) : prob x a < prob x b ↔ x a < x b := by
  unfold prob
  rw [div_lt_div_iff_of_pos_right (total_pos h), weigh_lt (h.fin a) (h.fin b)]

/-- A label without weight is below the threshold. -/
theorem low_of_bot {x : Fin n → EReal} {Y : Fin n} (h : x Y = ⊥) : Low x Y := by
  unfold Low prob
  rw [h, weigh_bot, zero_div]
  simp [Ideal.ofBits, Ideal.ieee, -EReal.coe_mul]

theorem coe_sum {ι : Type} (s : Finset ι) (f : ι → ℝ) : ∑ i ∈ s, (f i : EReal) = ((∑ i ∈ s, f i : ℝ) : EReal) := by
  induction s using Finset.cons_induction with
  | empty => simp
  | cons a s ha ih => rw [Finset.sum_cons, Finset.sum_cons, ih, EReal.coe_add]

theorem div_real (a b : ℝ) (hb : b ≠ 0) : Ideal.div (a : EReal) (b : EReal) = ((a / b : ℝ) : EReal) := by
  rw [Ideal.div_coe hb, ← EReal.coe_mul, mul_one_div]

theorem log_real (a : ℝ) (ha : 0 < a) : Ideal.log (a : EReal) = ((Real.log a : ℝ) : EReal) := by
  rw [Ideal.log_coe, if_neg (not_le.2 ha)]

theorem one_f32 : Ideal.ofBits .f32 0x3F800000#32 = ((1 : ℝ) : EReal) := by
  simp [Ideal.ofBits, Ideal.ieee, -EReal.coe_mul]
  norm_num

end Cert.Answer

end
-- ==== Proof.Precondition.lean ====
/-
  What the precondition says of each row: no plus infinity, a label that is a class, a third largest logit above the
  fourth, so that three entries alone reach the third.
-/
module

public import proofs.«01_k».proof.Pre_in_range
public import proofs.«01_k».proof.Proof.Tiles
public import proofs.«01_k».proof.Proof.Sorted
public import Idealize.ShloMosaic.Lib.ReduceAll

@[expose] public section

namespace Cert.Pre_in_range.Read

open Idealize.ShloMosaic Cert.Pick

/-- The sizes that the precondition's operations state. -/
instance facts : Cert.Pre_in_range.Facts where
  sliceFits_S4096x50257_S4096x4 := by decide
  bcast_S_S4096x50257 := by decide
  reducesTo_S4096x50257_S_d0_1 := by decide
  h_S_ := by decide
  bcast_S_S4096 := by decide
  reducesTo_S4096_S_d0 := by decide
  slices_S4096x4_S4096x1_0_2 := by decide
  shapeCasts_S4096x1_S4096 := by decide
  slices_S4096x4_S4096x1_0_3 := by decide

/-- What the precondition says of one row `X` and its label `y`. -/
structure Good (X : Fin 50257 → EReal) (y : BitVec 32) : Prop where
  fin : ∀ c, X c ≠ ⊤
  lab : ∃ Y : Fin 50257, y = BitVec.ofNat 32 Y.val
  gap : X (order X 3) < X (order X 2)

instance : Subsingleton S_.Idx := ⟨fun _ _ => funext fun a => a.elim0⟩

theorem bit_true {b : Bool} (h : BitVec.ofBool b = 1#1) : b = true := by
  cases b
  · exact absurd h (by decide)
  · rfl

theorem third (v : FVec Ideal S4096x4 .f32) (k : Fin 4) (h : S4096x4.Slices ![0, k.val] S4096x1) (r : Fin 4096) :
    shapeCast S4096 (extractStridedSlice S4096x1 ![0, k.val] v h) Facts.shapeCasts_S4096x1_S4096 (ValueIdx.ix1 r)
      = v (ValueIdx.ix2 r k) := by
  refine (shapeCast_apply _ Facts.shapeCasts_S4096x1_S4096 (ValueIdx.ix1 r) (ValueIdx.ix2 r (0 : Fin 1)) ?_).trans ?_
  · rw [Shape.rowMajor_val_two, Shape.rowMajor_val_one]
    show r.val * 1 + 0 = r.val
    omega
  · exact extractStridedSlice_apply ![0, k.val] v h (ValueIdx.ix2 r (0 : Fin 1)) (ValueIdx.ix2 r k) (fun a => match a with
      | ⟨0, _⟩ => by show r.val = 0 + r.val; omega
      | ⟨1, _⟩ => by show k.val = k.val + 0; omega)

theorem good_of_fn (x : FVec Ideal S4096x50257 .f32) (y : IVec S4096 32)
    (h : fn (F := Ideal) x y = fun _ => 1#1) (r : Fin 4096) :
    Good (fun c => x (ValueIdx.ix2 r c)) (y (ValueIdx.ix1 r)) := by
  have h' := congrFun h (Shape.Idx.first Facts.h_S_)
  unfold fn fn_part1 at h'
  obtain ⟨h1, hgap⟩ := IntOp.andi_eq_one.1 h'
  obtain ⟨h2, hhi⟩ := IntOp.andi_eq_one.1 h1
  obtain ⟨hfin, hlo⟩ := IntOp.andi_eq_one.1 h2
  refine ⟨fun c => ?_, ?_, ?_⟩
  · have e := Host.reduce_andi_all _ _ _ _ _ hfin (ValueIdx.ix2 r c)
    have e' : Ideal.cmp .olt (x (ValueIdx.ix2 r c)) (Ideal.ofBits .f32 0x7F800000#32) = 1#1 := e
    have top : Ideal.ofBits .f32 0x7F800000#32 = ⊤ := by simp [Ideal.ofBits, Ideal.ieee]
    rw [top] at e'
    have l : x (ValueIdx.ix2 r c) < ⊤ := by
      exact of_decide_eq_true (bit_true e')
    exact l.ne
  · have e1 := Host.reduce_andi_all _ _ _ _ _ hlo (ValueIdx.ix1 r)
    have e2 := Host.reduce_andi_all _ _ _ _ _ hhi (ValueIdx.ix1 r)
    have e1' : IntOp.cmpi .sge (y (ValueIdx.ix1 r)) 0#32 = 1#1 := e1
    have e2' : IntOp.cmpi .slt (y (ValueIdx.ix1 r)) 50257#32 = 1#1 := e2
    generalize y (ValueIdx.ix1 r) = z at e1' e2'
    have a1 : (0 : Int) ≤ z.toInt := by
      simpa using IntOp.cmpi_sge.1 e1'
    have a2 : z.toInt < 50257 := by
      simpa using IntOp.cmpi_slt.1 e2'
    have a3 := BitVec.toInt_eq_toNat_cond z
    have zl := z.isLt
    have a4 : z.toNat < 50257 := by split at a3 <;> omega
    exact ⟨⟨z.toNat, a4⟩, by simp⟩
  · have e := Host.reduce_andi_all _ _ _ _ _ hgap (ValueIdx.ix1 r)
    have t2 := (third _ (2 : Fin 4) Facts.slices_S4096x4_S4096x1_0_2 r).trans
      (topK_values x Facts.sliceFits_S4096x50257_S4096x4 r (2 : Fin 4) (by decide))
    have t3 := (third _ (3 : Fin 4) Facts.slices_S4096x4_S4096x1_0_3 r).trans
      (topK_values x Facts.sliceFits_S4096x50257_S4096x4 r (3 : Fin 4) (by decide))
    have e' := (congrArg₂ (Ideal.cmp .ogt) t2 t3).symm.trans e
    have l : x (ValueIdx.ix2 r (order (fun c => x (ValueIdx.ix2 r c)) ⟨3, by decide⟩)) <
        x (ValueIdx.ix2 r (order (fun c => x (ValueIdx.ix2 r c)) ⟨2, by decide⟩)) := by
      exact of_decide_eq_true (bit_true e')
    exact l

end Cert.Pre_in_range.Read

namespace Cert.Pick

open Cert.Pre_in_range.Read

/-- The entries that reach the third largest are the first three. -/
theorem reaches {X : Fin 50257 → EReal} (gap : X (order X 3) < X (order X 2)) (n : Fin 50257)
    (h : X (order X 2) ≤ X n) : n = order X 0 ∨ n = order X 1 ∨ n = order X 2 := by
  obtain ⟨i, rfl⟩ := order_surjective X n
  by_contra hne
  have h0 : i ≠ 0 := fun e => hne (.inl (e ▸ rfl))
  have h1 : i ≠ 1 := fun e => hne (.inr (.inl (e ▸ rfl)))
  have h2 : i ≠ 2 := fun e => hne (.inr (.inr (e ▸ rfl)))
  have h3 : (3 : Fin 50257) ≤ i := by
    have a0 : i.val ≠ 0 := fun e => h0 (Fin.ext e)
    have a1 : i.val ≠ 1 := fun e => h1 (Fin.ext e)
    have a2 : i.val ≠ 2 := fun e => h2 (Fin.ext e)
    show (3 : ℕ) ≤ i.val
    omega
  have : X (order X i) ≤ X (order X 3) := by
    rcases h3.eq_or_lt with e | e
    · rw [e]
    · exact (order_before X e).le
  exact absurd (h.trans this) (not_le.2 gap)

theorem column_reaches {X : Fin 50257 → EReal} (gap : X (order X 3) < X (order X 2)) (n : ℕ)
    (h : X (order X 2) ≤ Cert.KernelIdeal.Lane.column X n) :
    n = (order X 0).val ∨ n = (order X 1).val ∨ n = (order X 2).val := by
  by_cases hn : n < 50257
  · rw [Cert.KernelIdeal.Lane.column_of_lt X hn] at h
    rcases reaches gap _ h with e | e | e
    · exact .inl (congrArg Fin.val e)
    · exact .inr (.inl (congrArg Fin.val e))
    · exact .inr (.inr (congrArg Fin.val e))
  · rw [Cert.KernelIdeal.Lane.column_of_ge X (not_lt.1 hn)] at h
    exact absurd (gap.trans_le h) not_lt_bot

theorem few_column {X : Fin 50257 → EReal} (gap : X (order X 3) < X (order X 2)) :
    Few (X (order X 2)) (Cert.KernelIdeal.Lane.column X) := by
  intro a b c d ha hb hc hd
  have ha := column_reaches gap a ha
  have hb := column_reaches gap b hb
  have hc := column_reaches gap c hc
  have hd := column_reaches gap d hd
  omega

end Cert.Pick
-- ==== Proof.Rows.lean ====
/-
  The kernel's rows, read as the answers of `Answer`: from the carried values after a row of blocks' last tile.
-/
module

public import proofs.«01_k».proof.Proof.Closing
public import proofs.«01_k».proof.Proof.Blocks
public import proofs.«01_k».proof.Proof.Answer
public import proofs.«01_k».proof.Proof.Precondition

@[expose] public section

noncomputable section

namespace Cert.KernelIdeal.Lane

open Cert.KernelIdeal Cert.KernelIdeal.Gen Cert.KernelIdeal.Rolled Cert.Pick
open Idealize.ShloMosaic Idealize.ShloMosaic.TcCoe

section
variable {x : Fin 50257 → EReal} (live : Answer.Live x) {Y a b c : Fin 50257} {se fy v1 v2 v3 : FVec Ideal S1x128 .f32} {i : IVec S1x128 32}
  {p : S1x128.Idx}

include live in
theorem sel_isLow {α : Type} (hse : se p = (Answer.total x : EReal)) (hfy : fy p = x Y) (u v : α) [Decidable (Answer.Low x Y)] :
    Scalar.select (isLow se fy p) u v = if Answer.Low x Y then u else v := by
  have e : isLow se fy p = FloatOps.cmpf (F := Ideal) (φ := .f32) .olt ((Answer.prob x Y : ℝ) : EReal) (Ideal.ofBits .f32 0x3CA3D70A#32) := by
    have e1 : isLow se fy p = FloatOps.cmpf (F := Ideal) (φ := .f32) .olt (Ideal.div (Ideal.exp (fy p)) (se p)) (Ideal.ofBits .f32 0x3CA3D70A#32) := rfl
    rw [e1, hse, hfy, Answer.exp_weigh (live.fin Y), Answer.div_real _ _ (Answer.total_pos live).ne']
    rfl
  rw [e, sel_lt]
  by_cases h : Answer.Low x Y
  · rw [if_pos h]; exact if_pos h
  · rw [if_neg h]; exact if_neg h

include live in
theorem idRow_answer (hse : se p = (Answer.total x : EReal)) (hfy : fy p = x Y) (hi : i p = BitVec.ofNat 32 a.val) :
    idRow se fy i p = Answer.pick x Y a := by
  classical
  have e : idRow se fy i p = Scalar.select (isLow se fy p) (i p) 4294967295#32 := rfl
  rw [e, sel_isLow live hse hfy, hi]
  unfold Answer.pick
  congr

include live in
theorem mark_answer (hse : se p = (Answer.total x : EReal)) (hfy : fy p = x Y) :
    extui 32 (isLow se fy) natLt_1_32 p = Answer.mark x Y := by
  classical
  have e : extui 32 (isLow se fy) natLt_1_32 p = (isLow se fy p).setWidth 32 := rfl
  have e2 : (isLow se fy p).setWidth 32 = Scalar.select (isLow se fy p) 1#32 0#32 := by
    generalize isLow se fy p = w
    revert w
    decide
  rw [e, e2, sel_isLow live hse hfy]
  unfold Answer.mark
  congr

include live in
theorem second_answer (hse : se p = (Answer.total x : EReal)) (hfy : fy p = x Y) (h2 : v2 p = x b) :
    secondRow se fy v2 p = Answer.second x Y b := by
  classical
  have e : secondRow se fy v2 p = Scalar.select (isLow se fy p) (Ideal.div (Ideal.exp (v2 p)) (se p)) (Ideal.ofBits .f32 0x00000000#32) := rfl
  rw [e, sel_isLow live hse hfy, hse, h2, Answer.exp_weigh (live.fin b), Answer.div_real _ _ (Answer.total_pos live).ne']
  unfold Answer.second
  have z : Ideal.ofBits .f32 0x00000000#32 = 0 := by simp [Ideal.ofBits, Ideal.ieee]
  rw [z]
  rfl

include live in
theorem loss_answer (hse : se p = (Answer.total x : EReal)) (hfy : fy p = x Y) (h1 : v1 p = x a)
    (h2 : v2 p = x b) (h3 : v3 p = x c) (ra : x a ≠ ⊥) (rb : x b ≠ ⊥) (rc : x c ≠ ⊥) :
    lossRow se fy v1 v2 v3 p = (Answer.loss x Y a b c : EReal) := by
  classical
  have e : lossRow se fy v1 v2 v3 p = Scalar.select (isLow se fy p)
      (Ideal.log (se p) - Ideal.div (v1 p + Ideal.exp (v2 p - v1 p) * v2 p + Ideal.exp (v3 p - v1 p) * v3 p)
        (Ideal.ofBits .f32 0x3F800000#32 + Ideal.exp (v2 p - v1 p) + Ideal.exp (v3 p - v1 p)))
      (Ideal.log (se p) - fy p) := rfl
  rw [e, sel_isLow live hse hfy, hse, hfy, h1, h2, h3, Answer.log_real _ (Answer.total_pos live), Answer.one_f32]
  unfold Answer.loss
  by_cases h : Answer.Low x Y
  · rw [if_pos h, if_pos h]
    have ea := (EReal.coe_toReal (live.fin a) ra).symm
    have eb := (EReal.coe_toReal (live.fin b) rb).symm
    have ec := (EReal.coe_toReal (live.fin c) rc).symm
    generalize (x a).toReal = u at ea ⊢
    generalize (x b).toReal = v at eb ⊢
    generalize (x c).toReal = w at ec ⊢
    have pos : (0 : ℝ) < 1 + Real.exp (v - u) + Real.exp (w - u) := by positivity
    rw [ea, eb, ec, Answer.weigh_coe, Answer.weigh_coe, Answer.weigh_coe,
      ← EReal.coe_sub, ← EReal.coe_sub, Ideal.exp_coe, Ideal.exp_coe, ← EReal.coe_mul, ← EReal.coe_mul,
      ← EReal.coe_add, ← EReal.coe_add, ← EReal.coe_add, ← EReal.coe_add, Answer.div_real _ _ pos.ne', ← EReal.coe_sub]
    congr 2
    have eu := Real.exp_pos u
    rw [Real.exp_sub, Real.exp_sub]
    field_simp
  · rw [if_neg h, if_neg h]
    have eY := (EReal.coe_toReal (live.fin Y) (fun g => h (Answer.low_of_bot g))).symm
    generalize (x Y).toReal = u at eY ⊢
    rw [eY, ← EReal.coe_sub]
end

variable {m : (ℓ : Loc nD τ sig) → Buf (Elt Ideal) ℓ} {c : Dev nD}

/-- What the lane of row `r` holds after its last tile. -/
structure Done (x : Fin 50257 → EReal) (Y T0 T1 T2 : Fin 50257) (R : Run Ideal) (p : S1x128.Idx) : Prop where
  se : sumAll R.se p = (Answer.total x : EReal)
  fy : sumAll R.fy p = x Y
  v1 : rowMax (cols R.top) p = x T0
  v2 : rowMax (rest (cols R.top)) p = x T1
  v3 : rowMax (rest (rest (cols R.top))) p = x T2
  i1 : rowArg (cols R.top) p = BitVec.ofNat 32 T0.val
  i2 : rowArg (rest (cols R.top)) p = BitVec.ofNat 32 T1.val
  i3 : rowArg (rest (rest (cols R.top))) p = BitVec.ofNat 32 T2.val

theorem done_of (X : Fin 50257 → EReal) (fin : ∀ k, X k ≠ ⊤) (Y : Fin 50257)
    (T0 T1 T2 : Fin 50257) (b01 : Before X T0 T1) (b12 : Before X T1 T2)
    (H1 : ∀ n, X T2 ≤ column X n → n = T0.val ∨ n = T1.val ∨ n = T2.val) (hθ : ⊥ < X T2)
    (R : Run Ideal) (q : Fin 128)
    (h : ∀ s : Fin 8, RunAt (X T2) (column X) s.val 6283 Y.val R (ValueIdx.ix2 s q)) :
    Done X Y T0 T1 T2 R (ValueIdx.ix2 (0 : Fin 1) q) := by
  have col : ∀ k : Fin 50257, column X k.val = X k := fun k => column_of_lt X k.isLt
  have b02 := b01.trans b12
  have ne : ∀ {a b : Fin 50257}, Before X a b → a.val ≠ b.val := fun h e => h.ne (Fin.ext e)
  have first : ∀ {a b : Fin 50257}, Before X a b → X b = X a → a.val ≤ b.val := fun h e =>
    h.elim (fun h => absurd e h.ne) (fun h => (Fin.lt_def.1 h.2).le)
  have s1 := slots_run X hθ Y.val R h
  have m1 : ∀ n, X T2 ≤ column X n → column X n ≤ column X T0.val := by
    intro n hn
    rcases H1 n hn with rfl | rfl | rfl
    · exact le_rfl
    · rw [col, col]; exact b01.le
    · rw [col, col]; exact b02.le
  have f1 : ∀ n, X T2 ≤ column X n → column X n = column X T0.val → T0.val ≤ n := by
    intro n hn e
    rcases H1 n hn with rfl | rfl | rfl
    · exact le_rfl
    · rw [col, col] at e; exact first b01 e
    · rw [col, col] at e; exact first b02 e
  have t1 : X T2 ≤ column X T0.val := by rw [col]; exact b02.le
  have t2 : X T2 ≤ column X T1.val := by rw [col]; exact b12.le
  have t3 : X T2 ≤ column X T2.val := by rw [col]
  have s2 := s1.rest hθ _ t1 m1 f1
  have m2 : ∀ n, (X T2 ≤ column X n ∧ n ≠ T0.val) → column X n ≤ column X T1.val := by
    rintro n ⟨hn, hne⟩
    rcases H1 n hn with rfl | rfl | rfl
    · exact absurd rfl hne
    · exact le_rfl
    · rw [col, col]; exact b12.le
  have f2 : ∀ n, (X T2 ≤ column X n ∧ n ≠ T0.val) → column X n = column X T1.val →
      T1.val ≤ n := by
    rintro n ⟨hn, hne⟩ e
    rcases H1 n hn with rfl | rfl | rfl
    · exact absurd rfl hne
    · exact le_rfl
    · rw [col, col] at e; exact first b12 e
  have u2 := And.intro t2 (ne b01).symm
  have s3 := s2.rest hθ _ u2 m2 f2
  have m3 : ∀ n, ((X T2 ≤ column X n ∧ n ≠ T0.val) ∧ n ≠ T1.val) → n = T2.val := by
    rintro n ⟨⟨hn, hne⟩, hne'⟩
    rcases H1 n hn with rfl | rfl | rfl
    · exact absurd rfl hne
    · exact absurd rfl hne'
    · rfl
  have u3 := And.intro (And.intro t3 (ne b02).symm) (ne b12).symm
  have g3 : ∀ n, ((X T2 ≤ column X n ∧ n ≠ T0.val) ∧ n ≠ T1.val) →
      column X n ≤ column X T2.val := fun n hn => by rw [m3 n hn]
  refine ⟨?_, ?_, ?_, ?_, ?_, s1.arg _ t1 m1 f1, s2.arg _ u2 m2 f2, s3.arg _ u3 g3 (fun n hn _ => (m3 n hn).ge)⟩
  · rw [sum_se X Y.val R h, Answer.total, ← Answer.coe_sum]
    exact Finset.sum_congr rfl fun k _ => Answer.exp_weigh (fin k)
  · rw [sum_fy X Y.val Y.isLt R h]
  · rw [s1.max _ t1 m1, col]
  · rw [s2.max _ u2 m2, col]
  · rw [s3.max _ u3 g3, col]

/-- The row `r` of the kernel, from what the precondition says of it. -/
theorem done (r : Fin 4096) (fin : ∀ k, logits m c r k ≠ ⊤) (Y : Fin 50257)
    (hY : label m c r = BitVec.ofNat 32 Y.val)
    (gap : logits m c r (order (logits m c r) 3) < logits m c r (order (logits m c r) 2)) :
    Done (logits m c r) Y (order (logits m c r) 0) (order (logits m c r) 1) (order (logits m c r) 2) (runAt m c (7 * (r.val / 128) + 7))
      (ValueIdx.ix2 (0 : Fin 1) (⟨r.val % 128, Nat.mod_lt _ (by omega)⟩ : Fin 128)) := by
  refine done_of _ fin Y _ _ _ (order_before _ (by decide)) (order_before _ (by decide)) (column_reaches gap)
    (bot_le.trans_lt gap) _ _ fun s => ?_
  have hr := r.isLt
  exact run_last (m := m) (c := c) (r.val / 128) (by omega) r (ValueIdx.ix2 s (⟨r.val % 128, Nat.mod_lt _ (by omega)⟩ : Fin 128))
    (by show r.val = 128 * (r.val / 128) + r.val % 128; omega) Y.val Y.isLt hY
    (bot_le.trans_lt gap) (few_column gap)

end Cert.KernelIdeal.Lane

end
-- ==== Proof.ReferenceRead.lean ====
/-
  The reference program, one operation at a time: the value each operation writes, and what it holds at an index.
-/
module

public import proofs.«01_k».proof.Proof.ReferenceRun
public import Idealize.ShloMosaic.Lib.Pipeline.Value
public import Idealize.ShloMosaic.PureOps.Ideal.Laws

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

-- %cst = stablehlo.constant dense<0xFF800000> : tensor<f32>
def val_main_cst : (⟨S_, .f32⟩ : BufTy).Contents (Elt F) :=
  constant S_ .f32 0xFF800000#32
theorem val_main_cst_apply (i : S_.Idx) :
    val_main_cst (F := F) i = FloatOps.ofBits .f32 0xFF800000#32 := rfl

-- %0 = stablehlo.reduce(%arg0 init: %cst) applies stablehlo.maximum across dimensions = [1] : (tensor<4096x50257xf32>, tensor<f32>) -> tensor<4096xf32> {
def val_main_v0 (x0 : (⟨S4096x50257, .f32⟩ : BufTy).Contents (Elt F)) : (⟨S4096, .f32⟩ : BufTy).Contents (Elt F) :=
  Host.reduce FloatOps.maximumf (x0) (val_main_cst (F := F)) reducesTo_S4096x50257_S4096_d1 h_S_

-- %cst_0 = stablehlo.constant dense<0xFF800000> : tensor<f32>
def val_main_cst_0 : (⟨S_, .f32⟩ : BufTy).Contents (Elt F) :=
  constant S_ .f32 0xFF800000#32
theorem val_main_cst_0_apply (i : S_.Idx) :
    val_main_cst_0 (F := F) i = FloatOps.ofBits .f32 0xFF800000#32 := rfl

-- %1 = stablehlo.broadcast_in_dim %cst_0, dims = [] : (tensor<f32>) -> tensor<4096xf32>
def val_main_v1 : (⟨S4096, .f32⟩ : BufTy).Contents (Elt F) :=
  broadcastInDim S4096 ![] bcast_S_S4096 (val_main_cst_0 (F := F))
abbrev idx_main_v1 (i : S4096.Idx) : S_.Idx := fun a => a.elim0
theorem val_main_v1_apply (i : S4096.Idx) :
    val_main_v1 (F := F) i = val_main_cst_0 (F := F) (idx_main_v1 i) := by
  unfold val_main_v1
  generalize val_main_cst_0 (F := F) = y
  exact broadcastInDim_apply _ bcast_S_S4096 y i (idx_main_v1 i) (fun a => a.elim0)

-- %2 = stablehlo.maximum %1, %0 : tensor<4096xf32>
def val_main_v2 (x0 : (⟨S4096x50257, .f32⟩ : BufTy).Contents (Elt F)) : (⟨S4096, .f32⟩ : BufTy).Contents (Elt F) :=
  maximumf (val_main_v1 (F := F)) (val_main_v0 (F := F) x0)
theorem val_main_v2_apply (x0 : (⟨S4096x50257, .f32⟩ : BufTy).Contents (Elt F)) (i : S4096.Idx) :
    val_main_v2 (F := F) x0 i = FloatOps.maximumf (val_main_v1 (F := F) i) (val_main_v0 (F := F) x0 i) := rfl

-- %3 = stablehlo.broadcast_in_dim %2, dims = [0] : (tensor<4096xf32>) -> tensor<4096x1xf32>
def val_main_v3 (x0 : (⟨S4096x50257, .f32⟩ : BufTy).Contents (Elt F)) : (⟨S4096x1, .f32⟩ : BufTy).Contents (Elt F) :=
  broadcastInDim S4096x1 ![0] bcast_S4096_S4096x1_0 (val_main_v2 (F := F) x0)
abbrev idx_main_v3 (i : S4096x1.Idx) : S4096.Idx := fun a => match a with
  | ⟨0, _⟩ => ⟨(i 0).val, (i 0).isLt⟩
theorem val_main_v3_apply (x0 : (⟨S4096x50257, .f32⟩ : BufTy).Contents (Elt F)) (i : S4096x1.Idx) :
    val_main_v3 (F := F) x0 i = val_main_v2 (F := F) x0 (idx_main_v3 i) := by
  unfold val_main_v3
  generalize val_main_v2 (F := F) x0 = y
  exact broadcastInDim_apply _ bcast_S4096_S4096x1_0 y i (idx_main_v3 i) (fun a => match a with
    | ⟨0, _⟩ => by show (i 0).val = if (4096 : Nat) = 1 then 0 else (i 0).val; rw [if_neg (by decide)])

-- %4 = stablehlo.broadcast_in_dim %3, dims = [0, 1] : (tensor<4096x1xf32>) -> tensor<4096x50257xf32>
def val_main_v4 (x0 : (⟨S4096x50257, .f32⟩ : BufTy).Contents (Elt F)) : (⟨S4096x50257, .f32⟩ : BufTy).Contents (Elt F) :=
  broadcastInDim S4096x50257 ![0, 1] bcast_S4096x1_S4096x50257_0_1 (val_main_v3 (F := F) x0)
abbrev idx_main_v4 (i : S4096x50257.Idx) : S4096x1.Idx := fun a => match a with
  | ⟨0, _⟩ => ⟨(i 0).val, (i 0).isLt⟩
  | ⟨1, _⟩ => ⟨0, Nat.one_pos⟩
theorem val_main_v4_apply (x0 : (⟨S4096x50257, .f32⟩ : BufTy).Contents (Elt F)) (i : S4096x50257.Idx) :
    val_main_v4 (F := F) x0 i = val_main_v3 (F := F) x0 (idx_main_v4 i) := by
  unfold val_main_v4
  generalize val_main_v3 (F := F) x0 = y
  exact broadcastInDim_apply _ bcast_S4096x1_S4096x50257_0_1 y i (idx_main_v4 i) (fun a => match a with
    | ⟨0, _⟩ => by show (i 0).val = if (4096 : Nat) = 1 then 0 else (i 0).val; rw [if_neg (by decide)]
    | ⟨1, _⟩ => by show 0 = if (1 : Nat) = 1 then 0 else (i 1).val; rw [if_pos rfl])

-- %5 = stablehlo.subtract %arg0, %4 : tensor<4096x50257xf32>
def val_main_v5 (x0 : (⟨S4096x50257, .f32⟩ : BufTy).Contents (Elt F)) : (⟨S4096x50257, .f32⟩ : BufTy).Contents (Elt F) :=
  subf (x0) (val_main_v4 (F := F) x0)
theorem val_main_v5_apply (x0 : (⟨S4096x50257, .f32⟩ : BufTy).Contents (Elt F)) (i : S4096x50257.Idx) :
    val_main_v5 (F := F) x0 i = FloatOps.subf (x0 i) (val_main_v4 (F := F) x0 i) := rfl

-- %6 = stablehlo.exponential %5 : tensor<4096x50257xf32>
def val_main_v6 (x0 : (⟨S4096x50257, .f32⟩ : BufTy).Contents (Elt F)) : (⟨S4096x50257, .f32⟩ : BufTy).Contents (Elt F) :=
  Host.exp (val_main_v5 (F := F) x0)
theorem val_main_v6_apply (x0 : (⟨S4096x50257, .f32⟩ : BufTy).Contents (Elt F)) (i : S4096x50257.Idx) :
    val_main_v6 (F := F) x0 i = FloatOps.hostUnary .exp (val_main_v5 (F := F) x0 i) := rfl

-- %cst_1 = stablehlo.constant dense<0.000000e+00> : tensor<f32>
def val_main_cst_1 : (⟨S_, .f32⟩ : BufTy).Contents (Elt F) :=
  constant S_ .f32 0x00000000#32
theorem val_main_cst_1_apply (i : S_.Idx) :
    val_main_cst_1 (F := F) i = FloatOps.ofBits .f32 0x00000000#32 := rfl

-- %7 = stablehlo.reduce(%6 init: %cst_1) applies stablehlo.add across dimensions = [1] : (tensor<4096x50257xf32>, tensor<f32>) -> tensor<4096xf32> {
def val_main_v7 (x0 : (⟨S4096x50257, .f32⟩ : BufTy).Contents (Elt F)) : (⟨S4096, .f32⟩ : BufTy).Contents (Elt F) :=
  Host.reduceAdd (val_main_v6 (F := F) x0) (val_main_cst_1 (F := F)) reducesTo_S4096x50257_S4096_d1 h_S_
abbrev idx_main_v7 (i : S4096.Idx) (k : Fin 50257) : S4096x50257.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_v7_apply (x0 : (⟨S4096x50257, .f32⟩ : BufTy).Contents (Elt Ideal)) (i : S4096.Idx) :
    val_main_v7 (F := Ideal) x0 i = (val_main_cst_1 (F := Ideal)) (Shape.Idx.first h_S_) + ∑ k : Fin 50257, (val_main_v6 (F := Ideal) x0) (idx_main_v7 i k) := by
  unfold val_main_v7
  generalize val_main_v6 (F := Ideal) x0 = y0
  simp only [Host.reduceAdd, Ideal.hostReduceAdd_def]
  rw [Ideal.hostReduceAdd_single reducesTo_S4096x50257_S4096_d1 (by decide)]
  refine congrArg (_ + ·) (Finset.sum_congr rfl fun k _ => ?_)
  exact congrArg y0 (funext fun a => Fin.ext (by match a with | ⟨0, _⟩ => rfl | ⟨1, _⟩ => rfl))

-- %8 = stablehlo.broadcast_in_dim %7, dims = [0] : (tensor<4096xf32>) -> tensor<4096x1xf32>
def val_main_v8 (x0 : (⟨S4096x50257, .f32⟩ : BufTy).Contents (Elt F)) : (⟨S4096x1, .f32⟩ : BufTy).Contents (Elt F) :=
  broadcastInDim S4096x1 ![0] bcast_S4096_S4096x1_0 (val_main_v7 (F := F) x0)
abbrev idx_main_v8 (i : S4096x1.Idx) : S4096.Idx := fun a => match a with
  | ⟨0, _⟩ => ⟨(i 0).val, (i 0).isLt⟩
theorem val_main_v8_apply (x0 : (⟨S4096x50257, .f32⟩ : BufTy).Contents (Elt F)) (i : S4096x1.Idx) :
    val_main_v8 (F := F) x0 i = val_main_v7 (F := F) x0 (idx_main_v8 i) := by
  unfold val_main_v8
  generalize val_main_v7 (F := F) x0 = y
  exact broadcastInDim_apply _ bcast_S4096_S4096x1_0 y i (idx_main_v8 i) (fun a => match a with
    | ⟨0, _⟩ => by show (i 0).val = if (4096 : Nat) = 1 then 0 else (i 0).val; rw [if_neg (by decide)])

-- %9 = stablehlo.broadcast_in_dim %8, dims = [0, 1] : (tensor<4096x1xf32>) -> tensor<4096x50257xf32>
def val_main_v9 (x0 : (⟨S4096x50257, .f32⟩ : BufTy).Contents (Elt F)) : (⟨S4096x50257, .f32⟩ : BufTy).Contents (Elt F) :=
  broadcastInDim S4096x50257 ![0, 1] bcast_S4096x1_S4096x50257_0_1 (val_main_v8 (F := F) x0)
abbrev idx_main_v9 (i : S4096x50257.Idx) : S4096x1.Idx := fun a => match a with
  | ⟨0, _⟩ => ⟨(i 0).val, (i 0).isLt⟩
  | ⟨1, _⟩ => ⟨0, Nat.one_pos⟩
theorem val_main_v9_apply (x0 : (⟨S4096x50257, .f32⟩ : BufTy).Contents (Elt F)) (i : S4096x50257.Idx) :
    val_main_v9 (F := F) x0 i = val_main_v8 (F := F) x0 (idx_main_v9 i) := by
  unfold val_main_v9
  generalize val_main_v8 (F := F) x0 = y
  exact broadcastInDim_apply _ bcast_S4096x1_S4096x50257_0_1 y i (idx_main_v9 i) (fun a => match a with
    | ⟨0, _⟩ => by show (i 0).val = if (4096 : Nat) = 1 then 0 else (i 0).val; rw [if_neg (by decide)]
    | ⟨1, _⟩ => by show 0 = if (1 : Nat) = 1 then 0 else (i 1).val; rw [if_pos rfl])

-- %10 = stablehlo.divide %6, %9 : tensor<4096x50257xf32>
def val_main_v10 (x0 : (⟨S4096x50257, .f32⟩ : BufTy).Contents (Elt F)) : (⟨S4096x50257, .f32⟩ : BufTy).Contents (Elt F) :=
  Host.divf (val_main_v6 (F := F) x0) (val_main_v9 (F := F) x0)
theorem val_main_v10_apply (x0 : (⟨S4096x50257, .f32⟩ : BufTy).Contents (Elt F)) (i : S4096x50257.Idx) :
    val_main_v10 (F := F) x0 i = FloatOps.hostDivf (val_main_v6 (F := F) x0 i) (val_main_v9 (F := F) x0 i) := rfl

-- @argmax's %0 = stablehlo.iota dim = 1 : tensor<4096x50257xi32>, in %11 = func.call @argmax(…) (record main_call0)
def val_main_call0_v0 : (⟨S4096x50257, .i32⟩ : BufTy).Contents (Elt F) :=
  iotaInDim S4096x50257 32 1
theorem val_main_call0_v0_apply (i : S4096x50257.Idx) :
    val_main_call0_v0 (F := F) i = BitVec.ofNat 32 (i 1).val := rfl

-- @argmax's %cst = stablehlo.constant dense<0xFF800000> : tensor<f32>, in %11 = func.call @argmax(…) (record main_call0)
def val_main_call0_cst : (⟨S_, .f32⟩ : BufTy).Contents (Elt F) :=
  constant S_ .f32 0xFF800000#32
theorem val_main_call0_cst_apply (i : S_.Idx) :
    val_main_call0_cst (F := F) i = FloatOps.ofBits .f32 0xFF800000#32 := rfl

-- @argmax's %c = stablehlo.constant dense<0> : tensor<i32>, in %11 = func.call @argmax(…) (record main_call0)
def val_main_call0_c : (⟨S_, .i32⟩ : BufTy).Contents (Elt F) :=
  constantI S_ 32 0#32
theorem val_main_call0_c_apply (i : S_.Idx) :
    val_main_call0_c (F := F) i = 0#32 := rfl

-- @argmax's %1:2 = stablehlo.reduce(%arg0 init: %cst), (%0 init: %c) across dimensions = [1] : (tensor<4096x50257xf32>, tensor<4096x50257xi32>, tensor<f32>, tensor<i32>) -> (tensor<4096xf32>, tensor<4096xi32>) reducer(%arg1: tensor<f32>, %arg3: tensor<f32>) (%arg2: tensor<i32>, %arg4: tensor<i32>) {, in %11 = func.call @argmax(…) (record main_call0)
def val_main_call0_v1_0 (x0 : (⟨S4096x50257, .f32⟩ : BufTy).Contents (Elt F)) : (⟨S4096, .f32⟩ : BufTy).Contents (Elt F) :=
  (fun j => (Host.argReduce reducer_argmax_f32_i32 (val_main_v10 (F := F) x0) (val_main_call0_v0 (F := F)) (val_main_call0_cst (F := F)) (val_main_call0_c (F := F)) reducesTo_S4096x50257_S4096_d1 h_S_ j).1)

-- %11 = func.call @argmax(…) (record main_call0) result 0: @argmax's %1:2 = stablehlo.reduce(%arg0 init: %cst), (%0 init: %c) across dimensions = [1] : (tensor<4096x50257xf32>, tensor<4096x50257xi32>, tensor<f32>, tensor<i32>) -> (tensor<4096xf32>, tensor<4096xi32>) reducer(%arg1: tensor<f32>, %arg3: tensor<f32>) (%arg2: tensor<i32>, %arg4: tensor<i32>) {
def val_main_v11 (x0 : (⟨S4096x50257, .f32⟩ : BufTy).Contents (Elt F)) : (⟨S4096, .i32⟩ : BufTy).Contents (Elt F) :=
  (fun j => (Host.argReduce reducer_argmax_f32_i32 (val_main_v10 (F := F) x0) (val_main_call0_v0 (F := F)) (val_main_call0_cst (F := F)) (val_main_call0_c (F := F)) reducesTo_S4096x50257_S4096_d1 h_S_ j).2)

-- %12 = stablehlo.broadcast_in_dim %arg1, dims = [0] : (tensor<4096xi32>) -> tensor<4096x1xi32>
def val_main_v12 (x1 : (⟨S4096, .i32⟩ : BufTy).Contents (Elt F)) : (⟨S4096x1, .i32⟩ : BufTy).Contents (Elt F) :=
  broadcastInDim S4096x1 ![0] bcast_S4096_S4096x1_0 (x1)
abbrev idx_main_v12 (i : S4096x1.Idx) : S4096.Idx := fun a => match a with
  | ⟨0, _⟩ => ⟨(i 0).val, (i 0).isLt⟩
theorem val_main_v12_apply (x1 : (⟨S4096, .i32⟩ : BufTy).Contents (Elt F)) (i : S4096x1.Idx) :
    val_main_v12 (F := F) x1 i = x1 (idx_main_v12 i) := by
  unfold val_main_v12
  exact broadcastInDim_apply _ bcast_S4096_S4096x1_0 x1 i (idx_main_v12 i) (fun a => match a with
    | ⟨0, _⟩ => by show (i 0).val = if (4096 : Nat) = 1 then 0 else (i 0).val; rw [if_neg (by decide)])

-- @take_along_axis's %c = stablehlo.constant dense<0> : tensor<i32>, in %13 = func.call @take_along_axis(…) (record main_call1)
def val_main_call1_c : (⟨S_, .i32⟩ : BufTy).Contents (Elt F) :=
  constantI S_ 32 0#32
theorem val_main_call1_c_apply (i : S_.Idx) :
    val_main_call1_c (F := F) i = 0#32 := rfl

-- @take_along_axis's %0 = stablehlo.broadcast_in_dim %c, dims = [] : (tensor<i32>) -> tensor<4096x1xi32>, in %13 = func.call @take_along_axis(…) (record main_call1)
def val_main_call1_v0 : (⟨S4096x1, .i32⟩ : BufTy).Contents (Elt F) :=
  broadcastInDim S4096x1 ![] bcast_S_S4096x1 (val_main_call1_c (F := F))
abbrev idx_main_call1_v0 (i : S4096x1.Idx) : S_.Idx := fun a => a.elim0
theorem val_main_call1_v0_apply (i : S4096x1.Idx) :
    val_main_call1_v0 (F := F) i = val_main_call1_c (F := F) (idx_main_call1_v0 i) := by
  unfold val_main_call1_v0
  generalize val_main_call1_c (F := F) = y
  exact broadcastInDim_apply _ bcast_S_S4096x1 y i (idx_main_call1_v0 i) (fun a => a.elim0)

-- @take_along_axis's %1 = stablehlo.compare LT, %arg1, %0, SIGNED : (tensor<4096x1xi32>, tensor<4096x1xi32>) -> tensor<4096x1xi1>, in %13 = func.call @take_along_axis(…) (record main_call1)
def val_main_call1_v1 (x1 : (⟨S4096, .i32⟩ : BufTy).Contents (Elt F)) : (⟨S4096x1, .i1⟩ : BufTy).Contents (Elt F) :=
  cmpi .slt (val_main_v12 (F := F) x1) (val_main_call1_v0 (F := F))
theorem val_main_call1_v1_apply (x1 : (⟨S4096, .i32⟩ : BufTy).Contents (Elt F)) (i : S4096x1.Idx) :
    val_main_call1_v1 (F := F) x1 i = IntOp.cmpi .slt (val_main_v12 (F := F) x1 i) (val_main_call1_v0 (F := F) i) := rfl

-- @take_along_axis's %c_0 = stablehlo.constant dense<50257> : tensor<i32>, in %13 = func.call @take_along_axis(…) (record main_call1)
def val_main_call1_c_0 : (⟨S_, .i32⟩ : BufTy).Contents (Elt F) :=
  constantI S_ 32 50257#32
theorem val_main_call1_c_0_apply (i : S_.Idx) :
    val_main_call1_c_0 (F := F) i = 50257#32 := rfl

-- @take_along_axis's %2 = stablehlo.broadcast_in_dim %c_0, dims = [] : (tensor<i32>) -> tensor<4096x1xi32>, in %13 = func.call @take_along_axis(…) (record main_call1)
def val_main_call1_v2 : (⟨S4096x1, .i32⟩ : BufTy).Contents (Elt F) :=
  broadcastInDim S4096x1 ![] bcast_S_S4096x1 (val_main_call1_c_0 (F := F))
abbrev idx_main_call1_v2 (i : S4096x1.Idx) : S_.Idx := fun a => a.elim0
theorem val_main_call1_v2_apply (i : S4096x1.Idx) :
    val_main_call1_v2 (F := F) i = val_main_call1_c_0 (F := F) (idx_main_call1_v2 i) := by
  unfold val_main_call1_v2
  generalize val_main_call1_c_0 (F := F) = y
  exact broadcastInDim_apply _ bcast_S_S4096x1 y i (idx_main_call1_v2 i) (fun a => a.elim0)

-- @take_along_axis's %3 = stablehlo.add %arg1, %2 : tensor<4096x1xi32>, in %13 = func.call @take_along_axis(…) (record main_call1)
def val_main_call1_v3 (x1 : (⟨S4096, .i32⟩ : BufTy).Contents (Elt F)) : (⟨S4096x1, .i32⟩ : BufTy).Contents (Elt F) :=
  addi (val_main_v12 (F := F) x1) (val_main_call1_v2 (F := F))
theorem val_main_call1_v3_apply (x1 : (⟨S4096, .i32⟩ : BufTy).Contents (Elt F)) (i : S4096x1.Idx) :
    val_main_call1_v3 (F := F) x1 i = IntOp.addi (val_main_v12 (F := F) x1 i) (val_main_call1_v2 (F := F) i) := rfl

-- @take_along_axis's %4 = stablehlo.select %1, %3, %arg1 : tensor<4096x1xi1>, tensor<4096x1xi32>, in %13 = func.call @take_along_axis(…) (record main_call1)
def val_main_call1_v4 (x1 : (⟨S4096, .i32⟩ : BufTy).Contents (Elt F)) : (⟨S4096x1, .i32⟩ : BufTy).Contents (Elt F) :=
  select (val_main_call1_v1 (F := F) x1) (val_main_call1_v3 (F := F) x1) (val_main_v12 (F := F) x1)
theorem val_main_call1_v4_apply (x1 : (⟨S4096, .i32⟩ : BufTy).Contents (Elt F)) (i : S4096x1.Idx) :
    val_main_call1_v4 (F := F) x1 i = Scalar.select (val_main_call1_v1 (F := F) x1 i) (val_main_call1_v3 (F := F) x1 i) (val_main_v12 (F := F) x1 i) := rfl

-- @take_along_axis's %5 = stablehlo.reshape %4 : (tensor<4096x1xi32>) -> tensor<4096x1x1xi32>, in %13 = func.call @take_along_axis(…) (record main_call1)
def val_main_call1_v5 (x1 : (⟨S4096, .i32⟩ : BufTy).Contents (Elt F)) : (⟨S4096x1x1, .i32⟩ : BufTy).Contents (Elt F) :=
  shapeCast _ (val_main_call1_v4 (F := F) x1) shapeCasts_S4096x1_S4096x1x1
abbrev idx_main_call1_v5 (i : S4096x1x1.Idx) : S4096x1.Idx := fun a => match a with
  | ⟨0, _⟩ => ⟨(((i 0).val * 1 + (i 1).val) * 1 + (i 2).val) / 1, by have h0 : (i 0).val < 4096 := (i 0).isLt; have h1 : (i 1).val < 1 := (i 1).isLt; have h2 : (i 2).val < 1 := (i 2).isLt; show (((i 0).val * 1 + (i 1).val) * 1 + (i 2).val) / 1 < 4096; omega⟩
  | ⟨1, _⟩ => ⟨0, Nat.one_pos⟩
theorem val_main_call1_v5_apply (x1 : (⟨S4096, .i32⟩ : BufTy).Contents (Elt F)) (i : S4096x1x1.Idx) :
    val_main_call1_v5 (F := F) x1 i = val_main_call1_v4 (F := F) x1 (idx_main_call1_v5 i) := by
  unfold val_main_call1_v5
  generalize val_main_call1_v4 (F := F) x1 = y
  exact shapeCast_apply y shapeCasts_S4096x1_S4096x1x1 i (idx_main_call1_v5 i)
    (by rewrite [Shape.rowMajor_val_two, Shape.rowMajor_val_three]; have h0 : (i 0).val < 4096 := (i 0).isLt; have h1 : (i 1).val < 1 := (i 1).isLt; have h2 : (i 2).val < 1 := (i 2).isLt; show (((i 0).val * 1 + (i 1).val) * 1 + (i 2).val) / 1 * 1 + 0 = ((i 0).val * 1 + (i 1).val) * 1 + (i 2).val; omega)

-- @take_along_axis's %c_1 = stablehlo.constant dense<50256> : tensor<1xi32>, in %13 = func.call @take_along_axis(…) (record main_call1)
def val_main_call1_c_1 : (⟨S1, .i32⟩ : BufTy).Contents (Elt F) :=
  constantI S1 32 50256#32
theorem val_main_call1_c_1_apply (i : S1.Idx) :
    val_main_call1_c_1 (F := F) i = 50256#32 := rfl

-- @take_along_axis's %c_2 = stablehlo.constant dense<0> : tensor<i32>, in %13 = func.call @take_along_axis(…) (record main_call1)
def val_main_call1_c_2 : (⟨S_, .i32⟩ : BufTy).Contents (Elt F) :=
  constantI S_ 32 0#32
theorem val_main_call1_c_2_apply (i : S_.Idx) :
    val_main_call1_c_2 (F := F) i = 0#32 := rfl

-- @take_along_axis's %6 = stablehlo.broadcast_in_dim %c_2, dims = [] : (tensor<i32>) -> tensor<4096x1x1xi32>, in %13 = func.call @take_along_axis(…) (record main_call1)
def val_main_call1_v6 : (⟨S4096x1x1, .i32⟩ : BufTy).Contents (Elt F) :=
  broadcastInDim S4096x1x1 ![] bcast_S_S4096x1x1 (val_main_call1_c_2 (F := F))
abbrev idx_main_call1_v6 (i : S4096x1x1.Idx) : S_.Idx := fun a => a.elim0
theorem val_main_call1_v6_apply (i : S4096x1x1.Idx) :
    val_main_call1_v6 (F := F) i = val_main_call1_c_2 (F := F) (idx_main_call1_v6 i) := by
  unfold val_main_call1_v6
  generalize val_main_call1_c_2 (F := F) = y
  exact broadcastInDim_apply _ bcast_S_S4096x1x1 y i (idx_main_call1_v6 i) (fun a => a.elim0)

-- @take_along_axis's %7 = stablehlo.compare GE, %5, %6, SIGNED : (tensor<4096x1x1xi32>, tensor<4096x1x1xi32>) -> tensor<4096x1x1xi1>, in %13 = func.call @take_along_axis(…) (record main_call1)
def val_main_call1_v7 (x1 : (⟨S4096, .i32⟩ : BufTy).Contents (Elt F)) : (⟨S4096x1x1, .i1⟩ : BufTy).Contents (Elt F) :=
  cmpi .sge (val_main_call1_v5 (F := F) x1) (val_main_call1_v6 (F := F))
theorem val_main_call1_v7_apply (x1 : (⟨S4096, .i32⟩ : BufTy).Contents (Elt F)) (i : S4096x1x1.Idx) :
    val_main_call1_v7 (F := F) x1 i = IntOp.cmpi .sge (val_main_call1_v5 (F := F) x1 i) (val_main_call1_v6 (F := F) i) := rfl

-- @take_along_axis's %8 = stablehlo.broadcast_in_dim %c_1, dims = [2] : (tensor<1xi32>) -> tensor<1x1x1xi32>, in %13 = func.call @take_along_axis(…) (record main_call1)
def val_main_call1_v8 : (⟨S1x1x1, .i32⟩ : BufTy).Contents (Elt F) :=
  broadcastInDim S1x1x1 ![2] bcast_S1_S1x1x1_2 (val_main_call1_c_1 (F := F))
abbrev idx_main_call1_v8 (i : S1x1x1.Idx) : S1.Idx := fun a => match a with
  | ⟨0, _⟩ => ⟨0, Nat.one_pos⟩
theorem val_main_call1_v8_apply (i : S1x1x1.Idx) :
    val_main_call1_v8 (F := F) i = val_main_call1_c_1 (F := F) (idx_main_call1_v8 i) := by
  unfold val_main_call1_v8
  generalize val_main_call1_c_1 (F := F) = y
  exact broadcastInDim_apply _ bcast_S1_S1x1x1_2 y i (idx_main_call1_v8 i) (fun a => match a with
    | ⟨0, _⟩ => by show 0 = if (1 : Nat) = 1 then 0 else (i 2).val; rw [if_pos rfl])

-- @take_along_axis's %9 = stablehlo.broadcast_in_dim %8, dims = [0, 1, 2] : (tensor<1x1x1xi32>) -> tensor<4096x1x1xi32>, in %13 = func.call @take_along_axis(…) (record main_call1)
def val_main_call1_v9 : (⟨S4096x1x1, .i32⟩ : BufTy).Contents (Elt F) :=
  broadcastInDim S4096x1x1 ![0, 1, 2] bcast_S1x1x1_S4096x1x1_0_1_2 (val_main_call1_v8 (F := F))
abbrev idx_main_call1_v9 (i : S4096x1x1.Idx) : S1x1x1.Idx := fun a => match a with
  | ⟨0, _⟩ => ⟨0, Nat.one_pos⟩
  | ⟨1, _⟩ => ⟨0, Nat.one_pos⟩
  | ⟨2, _⟩ => ⟨0, Nat.one_pos⟩
theorem val_main_call1_v9_apply (i : S4096x1x1.Idx) :
    val_main_call1_v9 (F := F) i = val_main_call1_v8 (F := F) (idx_main_call1_v9 i) := by
  unfold val_main_call1_v9
  generalize val_main_call1_v8 (F := F) = y
  exact broadcastInDim_apply _ bcast_S1x1x1_S4096x1x1_0_1_2 y i (idx_main_call1_v9 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show 0 = if (1 : Nat) = 1 then 0 else (i 2).val; rw [if_pos rfl])

-- @take_along_axis's %10 = stablehlo.compare LE, %5, %9, SIGNED : (tensor<4096x1x1xi32>, tensor<4096x1x1xi32>) -> tensor<4096x1x1xi1>, in %13 = func.call @take_along_axis(…) (record main_call1)
def val_main_call1_v10 (x1 : (⟨S4096, .i32⟩ : BufTy).Contents (Elt F)) : (⟨S4096x1x1, .i1⟩ : BufTy).Contents (Elt F) :=
  cmpi .sle (val_main_call1_v5 (F := F) x1) (val_main_call1_v9 (F := F))
theorem val_main_call1_v10_apply (x1 : (⟨S4096, .i32⟩ : BufTy).Contents (Elt F)) (i : S4096x1x1.Idx) :
    val_main_call1_v10 (F := F) x1 i = IntOp.cmpi .sle (val_main_call1_v5 (F := F) x1 i) (val_main_call1_v9 (F := F) i) := rfl

-- @take_along_axis's %11 = stablehlo.and %7, %10 : tensor<4096x1x1xi1>, in %13 = func.call @take_along_axis(…) (record main_call1)
def val_main_call1_v11 (x1 : (⟨S4096, .i32⟩ : BufTy).Contents (Elt F)) : (⟨S4096x1x1, .i1⟩ : BufTy).Contents (Elt F) :=
  andi (val_main_call1_v7 (F := F) x1) (val_main_call1_v10 (F := F) x1)
theorem val_main_call1_v11_apply (x1 : (⟨S4096, .i32⟩ : BufTy).Contents (Elt F)) (i : S4096x1x1.Idx) :
    val_main_call1_v11 (F := F) x1 i = IntOp.andi (val_main_call1_v7 (F := F) x1 i) (val_main_call1_v10 (F := F) x1 i) := rfl

-- @take_along_axis's %c_3 = stablehlo.constant dense<true> : tensor<i1>, in %13 = func.call @take_along_axis(…) (record main_call1)
def val_main_call1_c_3 : (⟨S_, .i1⟩ : BufTy).Contents (Elt F) :=
  constantI S_ 1 1#1
theorem val_main_call1_c_3_apply (i : S_.Idx) :
    val_main_call1_c_3 (F := F) i = 1#1 := rfl

-- @take_along_axis's %12 = stablehlo.reduce(%11 init: %c_3) applies stablehlo.and across dimensions = [2] : (tensor<4096x1x1xi1>, tensor<i1>) -> tensor<4096x1xi1> {, in %13 = func.call @take_along_axis(…) (record main_call1)
def val_main_call1_v12 (x1 : (⟨S4096, .i32⟩ : BufTy).Contents (Elt F)) : (⟨S4096x1, .i1⟩ : BufTy).Contents (Elt F) :=
  Host.reduce IntOp.andi (val_main_call1_v11 (F := F) x1) (val_main_call1_c_3 (F := F)) reducesTo_S4096x1x1_S4096x1_d2 h_S_

-- @take_along_axis's %13 = "stablehlo.gather"(%arg0, %5) <{dimension_numbers = #stablehlo.gather<collapsed_slice_dims = [1], operand_batching_dims = [0], start_indices_batching_dims = [0], start_index_map = [1], index_vector_dim = 2>, indices_are_sorted = false, slice_sizes = array<i64: 1, 1>}> : (tensor<4096x50257xf32>, tensor<4096x1x1xi32>) -> tensor<4096x1xf32>, in %13 = func.call @take_along_axis(…) (record main_call1)
def val_main_call1_v13 (x0 : (⟨S4096x50257, .f32⟩ : BufTy).Contents (Elt F)) (x1 : (⟨S4096, .i32⟩ : BufTy).Contents (Elt F)) : (⟨S4096x1, .f32⟩ : BufTy).Contents (Elt F) :=
  Host.gather gather_S4096x50257_S4096x1x1_S4096x1_n_1_0_0_1_2_11 (val_main_v10 (F := F) x0) (val_main_call1_v5 (F := F) x1)

-- @take_along_axis's %cst = stablehlo.constant dense<0x7FC00000> : tensor<f32>, in %13 = func.call @take_along_axis(…) (record main_call1)
def val_main_call1_cst : (⟨S_, .f32⟩ : BufTy).Contents (Elt F) :=
  constant S_ .f32 0x7FC00000#32
theorem val_main_call1_cst_apply (i : S_.Idx) :
    val_main_call1_cst (F := F) i = FloatOps.ofBits .f32 0x7FC00000#32 := rfl

-- @take_along_axis's %14 = stablehlo.broadcast_in_dim %cst, dims = [] : (tensor<f32>) -> tensor<4096x1xf32>, in %13 = func.call @take_along_axis(…) (record main_call1)
def val_main_call1_v14 : (⟨S4096x1, .f32⟩ : BufTy).Contents (Elt F) :=
  broadcastInDim S4096x1 ![] bcast_S_S4096x1 (val_main_call1_cst (F := F))
abbrev idx_main_call1_v14 (i : S4096x1.Idx) : S_.Idx := fun a => a.elim0
theorem val_main_call1_v14_apply (i : S4096x1.Idx) :
    val_main_call1_v14 (F := F) i = val_main_call1_cst (F := F) (idx_main_call1_v14 i) := by
  unfold val_main_call1_v14
  generalize val_main_call1_cst (F := F) = y
  exact broadcastInDim_apply _ bcast_S_S4096x1 y i (idx_main_call1_v14 i) (fun a => a.elim0)

-- %13 = func.call @take_along_axis(…) (record main_call1) result 0: @take_along_axis's %15 = stablehlo.select %12, %13, %14 : tensor<4096x1xi1>, tensor<4096x1xf32>
def val_main_v13 (x0 : (⟨S4096x50257, .f32⟩ : BufTy).Contents (Elt F)) (x1 : (⟨S4096, .i32⟩ : BufTy).Contents (Elt F)) : (⟨S4096x1, .f32⟩ : BufTy).Contents (Elt F) :=
  select (val_main_call1_v12 (F := F) x1) (val_main_call1_v13 (F := F) x0 x1) (val_main_call1_v14 (F := F))
theorem val_main_v13_apply (x0 : (⟨S4096x50257, .f32⟩ : BufTy).Contents (Elt F)) (x1 : (⟨S4096, .i32⟩ : BufTy).Contents (Elt F)) (i : S4096x1.Idx) :
    val_main_v13 (F := F) x0 x1 i = Scalar.select (val_main_call1_v12 (F := F) x1 i) (val_main_call1_v13 (F := F) x0 x1 i) (val_main_call1_v14 (F := F) i) := rfl

-- %14 = stablehlo.reshape %13 : (tensor<4096x1xf32>) -> tensor<4096xf32>
def val_main_v14 (x0 : (⟨S4096x50257, .f32⟩ : BufTy).Contents (Elt F)) (x1 : (⟨S4096, .i32⟩ : BufTy).Contents (Elt F)) : (⟨S4096, .f32⟩ : BufTy).Contents (Elt F) :=
  shapeCast _ (val_main_v13 (F := F) x0 x1) shapeCasts_S4096x1_S4096
abbrev idx_main_v14 (i : S4096.Idx) : S4096x1.Idx := fun a => match a with
  | ⟨0, _⟩ => ⟨((i 0).val) / 1, by have h0 : (i 0).val < 4096 := (i 0).isLt; show ((i 0).val) / 1 < 4096; omega⟩
  | ⟨1, _⟩ => ⟨0, Nat.one_pos⟩
theorem val_main_v14_apply (x0 : (⟨S4096x50257, .f32⟩ : BufTy).Contents (Elt F)) (x1 : (⟨S4096, .i32⟩ : BufTy).Contents (Elt F)) (i : S4096.Idx) :
    val_main_v14 (F := F) x0 x1 i = val_main_v13 (F := F) x0 x1 (idx_main_v14 i) := by
  unfold val_main_v14
  generalize val_main_v13 (F := F) x0 x1 = y
  exact shapeCast_apply y shapeCasts_S4096x1_S4096 i (idx_main_v14 i)
    (by rewrite [Shape.rowMajor_val_two, Shape.rowMajor_val_one]; have h0 : (i 0).val < 4096 := (i 0).isLt; show ((i 0).val) / 1 * 1 + 0 = (i 0).val; omega)

-- %cst_2 = stablehlo.constant dense<2.000000e-02> : tensor<f32>
def val_main_cst_2 : (⟨S_, .f32⟩ : BufTy).Contents (Elt F) :=
  constant S_ .f32 0x3CA3D70A#32
theorem val_main_cst_2_apply (i : S_.Idx) :
    val_main_cst_2 (F := F) i = FloatOps.ofBits .f32 0x3CA3D70A#32 := rfl

-- %15 = stablehlo.broadcast_in_dim %cst_2, dims = [] : (tensor<f32>) -> tensor<4096xf32>
def val_main_v15 : (⟨S4096, .f32⟩ : BufTy).Contents (Elt F) :=
  broadcastInDim S4096 ![] bcast_S_S4096 (val_main_cst_2 (F := F))
abbrev idx_main_v15 (i : S4096.Idx) : S_.Idx := fun a => a.elim0
theorem val_main_v15_apply (i : S4096.Idx) :
    val_main_v15 (F := F) i = val_main_cst_2 (F := F) (idx_main_v15 i) := by
  unfold val_main_v15
  generalize val_main_cst_2 (F := F) = y
  exact broadcastInDim_apply _ bcast_S_S4096 y i (idx_main_v15 i) (fun a => a.elim0)

-- %16 = stablehlo.compare LT, %14, %15, FLOAT : (tensor<4096xf32>, tensor<4096xf32>) -> tensor<4096xi1>
def val_main_v16 (x0 : (⟨S4096x50257, .f32⟩ : BufTy).Contents (Elt F)) (x1 : (⟨S4096, .i32⟩ : BufTy).Contents (Elt F)) : (⟨S4096, .i1⟩ : BufTy).Contents (Elt F) :=
  cmpf .olt (val_main_v14 (F := F) x0 x1) (val_main_v15 (F := F))
theorem val_main_v16_apply (x0 : (⟨S4096x50257, .f32⟩ : BufTy).Contents (Elt F)) (x1 : (⟨S4096, .i32⟩ : BufTy).Contents (Elt F)) (i : S4096.Idx) :
    val_main_v16 (F := F) x0 x1 i = FloatOps.cmpf .olt (val_main_v14 (F := F) x0 x1 i) (val_main_v15 (F := F) i) := rfl

-- %17 = stablehlo.convert %16 : (tensor<4096xi1>) -> tensor<4096xi32>
def val_main_v17 (x0 : (⟨S4096x50257, .f32⟩ : BufTy).Contents (Elt F)) (x1 : (⟨S4096, .i32⟩ : BufTy).Contents (Elt F)) : (⟨S4096, .i32⟩ : BufTy).Contents (Elt F) :=
  extui 32 (val_main_v16 (F := F) x0 x1) natLt_1_32
theorem val_main_v17_apply (x0 : (⟨S4096x50257, .f32⟩ : BufTy).Contents (Elt F)) (x1 : (⟨S4096, .i32⟩ : BufTy).Contents (Elt F)) (i : S4096.Idx) :
    val_main_v17 (F := F) x0 x1 i = (val_main_v16 (F := F) x0 x1 i).setWidth 32 := rfl

-- %values, %indices = chlo.top_k(%10, k = 3) : tensor<4096x50257xf32> -> (tensor<4096x3xf32>, tensor<4096x3xi32>)
def val_main_values (x0 : (⟨S4096x50257, .f32⟩ : BufTy).Contents (Elt F)) : (⟨S4096x3, .f32⟩ : BufTy).Contents (Elt F) :=
  (Host.topK S4096x3 1 (FloatOps.cmpfTotal .gt) (val_main_v10 (F := F) x0) sliceFits_S4096x50257_S4096x3).1

-- %values, %indices = chlo.top_k(%10, k = 3) : tensor<4096x50257xf32> -> (tensor<4096x3xf32>, tensor<4096x3xi32>)
def val_main_indices (x0 : (⟨S4096x50257, .f32⟩ : BufTy).Contents (Elt F)) : (⟨S4096x3, .i32⟩ : BufTy).Contents (Elt F) :=
  (Host.topK S4096x3 1 (FloatOps.cmpfTotal .gt) (val_main_v10 (F := F) x0) sliceFits_S4096x50257_S4096x3).2

-- %18 = stablehlo.slice %values [0:4096, 1:2] : (tensor<4096x3xf32>) -> tensor<4096x1xf32>
def val_main_v18 (x0 : (⟨S4096x50257, .f32⟩ : BufTy).Contents (Elt F)) : (⟨S4096x1, .f32⟩ : BufTy).Contents (Elt F) :=
  extractStridedSlice S4096x1 ![0, 1] (val_main_values (F := F) x0) slices_S4096x3_S4096x1_0_1
abbrev idx_main_v18 (i : S4096x1.Idx) : S4096x3.Idx := fun a => match a with
  | ⟨0, _⟩ => ⟨(i 0).val, (i 0).isLt⟩
  | ⟨1, _⟩ => ⟨1 + (i 1).val, by have h1 : (i 1).val < 1 := (i 1).isLt; show 1 + (i 1).val < 3; omega⟩
theorem val_main_v18_apply (x0 : (⟨S4096x50257, .f32⟩ : BufTy).Contents (Elt F)) (i : S4096x1.Idx) :
    val_main_v18 (F := F) x0 i = val_main_values (F := F) x0 (idx_main_v18 i) := by
  unfold val_main_v18
  generalize val_main_values (F := F) x0 = y
  exact extractStridedSlice_apply ![0, 1] y slices_S4096x3_S4096x1_0_1 i (idx_main_v18 i) (fun a => match a with
    | ⟨0, _⟩ => by show (i 0).val = 0 + (i 0).val; omega
    | ⟨1, _⟩ => by show 1 + (i 1).val = 1 + (i 1).val; omega)

-- %19 = stablehlo.reshape %18 : (tensor<4096x1xf32>) -> tensor<4096xf32>
def val_main_v19 (x0 : (⟨S4096x50257, .f32⟩ : BufTy).Contents (Elt F)) : (⟨S4096, .f32⟩ : BufTy).Contents (Elt F) :=
  shapeCast _ (val_main_v18 (F := F) x0) shapeCasts_S4096x1_S4096
abbrev idx_main_v19 (i : S4096.Idx) : S4096x1.Idx := fun a => match a with
  | ⟨0, _⟩ => ⟨((i 0).val) / 1, by have h0 : (i 0).val < 4096 := (i 0).isLt; show ((i 0).val) / 1 < 4096; omega⟩
  | ⟨1, _⟩ => ⟨0, Nat.one_pos⟩
theorem val_main_v19_apply (x0 : (⟨S4096x50257, .f32⟩ : BufTy).Contents (Elt F)) (i : S4096.Idx) :
    val_main_v19 (F := F) x0 i = val_main_v18 (F := F) x0 (idx_main_v19 i) := by
  unfold val_main_v19
  generalize val_main_v18 (F := F) x0 = y
  exact shapeCast_apply y shapeCasts_S4096x1_S4096 i (idx_main_v19 i)
    (by rewrite [Shape.rowMajor_val_two, Shape.rowMajor_val_one]; have h0 : (i 0).val < 4096 := (i 0).isLt; show ((i 0).val) / 1 * 1 + 0 = (i 0).val; omega)

-- %20 = stablehlo.slice %indices [0:4096, 1:2] : (tensor<4096x3xi32>) -> tensor<4096x1xi32>
def val_main_v20 (x0 : (⟨S4096x50257, .f32⟩ : BufTy).Contents (Elt F)) : (⟨S4096x1, .i32⟩ : BufTy).Contents (Elt F) :=
  extractStridedSlice S4096x1 ![0, 1] (val_main_indices (F := F) x0) slices_S4096x3_S4096x1_0_1
abbrev idx_main_v20 (i : S4096x1.Idx) : S4096x3.Idx := fun a => match a with
  | ⟨0, _⟩ => ⟨(i 0).val, (i 0).isLt⟩
  | ⟨1, _⟩ => ⟨1 + (i 1).val, by have h1 : (i 1).val < 1 := (i 1).isLt; show 1 + (i 1).val < 3; omega⟩
theorem val_main_v20_apply (x0 : (⟨S4096x50257, .f32⟩ : BufTy).Contents (Elt F)) (i : S4096x1.Idx) :
    val_main_v20 (F := F) x0 i = val_main_indices (F := F) x0 (idx_main_v20 i) := by
  unfold val_main_v20
  generalize val_main_indices (F := F) x0 = y
  exact extractStridedSlice_apply ![0, 1] y slices_S4096x3_S4096x1_0_1 i (idx_main_v20 i) (fun a => match a with
    | ⟨0, _⟩ => by show (i 0).val = 0 + (i 0).val; omega
    | ⟨1, _⟩ => by show 1 + (i 1).val = 1 + (i 1).val; omega)

-- %21 = stablehlo.reshape %20 : (tensor<4096x1xi32>) -> tensor<4096xi32>
def val_main_v21 (x0 : (⟨S4096x50257, .f32⟩ : BufTy).Contents (Elt F)) : (⟨S4096, .i32⟩ : BufTy).Contents (Elt F) :=
  shapeCast _ (val_main_v20 (F := F) x0) shapeCasts_S4096x1_S4096
abbrev idx_main_v21 (i : S4096.Idx) : S4096x1.Idx := fun a => match a with
  | ⟨0, _⟩ => ⟨((i 0).val) / 1, by have h0 : (i 0).val < 4096 := (i 0).isLt; show ((i 0).val) / 1 < 4096; omega⟩
  | ⟨1, _⟩ => ⟨0, Nat.one_pos⟩
theorem val_main_v21_apply (x0 : (⟨S4096x50257, .f32⟩ : BufTy).Contents (Elt F)) (i : S4096.Idx) :
    val_main_v21 (F := F) x0 i = val_main_v20 (F := F) x0 (idx_main_v21 i) := by
  unfold val_main_v21
  generalize val_main_v20 (F := F) x0 = y
  exact shapeCast_apply y shapeCasts_S4096x1_S4096 i (idx_main_v21 i)
    (by rewrite [Shape.rowMajor_val_two, Shape.rowMajor_val_one]; have h0 : (i 0).val < 4096 := (i 0).isLt; show ((i 0).val) / 1 * 1 + 0 = (i 0).val; omega)

-- %22 = stablehlo.slice %indices [0:4096, 2:3] : (tensor<4096x3xi32>) -> tensor<4096x1xi32>
def val_main_v22 (x0 : (⟨S4096x50257, .f32⟩ : BufTy).Contents (Elt F)) : (⟨S4096x1, .i32⟩ : BufTy).Contents (Elt F) :=
  extractStridedSlice S4096x1 ![0, 2] (val_main_indices (F := F) x0) slices_S4096x3_S4096x1_0_2
abbrev idx_main_v22 (i : S4096x1.Idx) : S4096x3.Idx := fun a => match a with
  | ⟨0, _⟩ => ⟨(i 0).val, (i 0).isLt⟩
  | ⟨1, _⟩ => ⟨2 + (i 1).val, by have h1 : (i 1).val < 1 := (i 1).isLt; show 2 + (i 1).val < 3; omega⟩
theorem val_main_v22_apply (x0 : (⟨S4096x50257, .f32⟩ : BufTy).Contents (Elt F)) (i : S4096x1.Idx) :
    val_main_v22 (F := F) x0 i = val_main_indices (F := F) x0 (idx_main_v22 i) := by
  unfold val_main_v22
  generalize val_main_indices (F := F) x0 = y
  exact extractStridedSlice_apply ![0, 2] y slices_S4096x3_S4096x1_0_2 i (idx_main_v22 i) (fun a => match a with
    | ⟨0, _⟩ => by show (i 0).val = 0 + (i 0).val; omega
    | ⟨1, _⟩ => by show 2 + (i 1).val = 2 + (i 1).val; omega)

-- %23 = stablehlo.reshape %22 : (tensor<4096x1xi32>) -> tensor<4096xi32>
def val_main_v23 (x0 : (⟨S4096x50257, .f32⟩ : BufTy).Contents (Elt F)) : (⟨S4096, .i32⟩ : BufTy).Contents (Elt F) :=
  shapeCast _ (val_main_v22 (F := F) x0) shapeCasts_S4096x1_S4096
abbrev idx_main_v23 (i : S4096.Idx) : S4096x1.Idx := fun a => match a with
  | ⟨0, _⟩ => ⟨((i 0).val) / 1, by have h0 : (i 0).val < 4096 := (i 0).isLt; show ((i 0).val) / 1 < 4096; omega⟩
  | ⟨1, _⟩ => ⟨0, Nat.one_pos⟩
theorem val_main_v23_apply (x0 : (⟨S4096x50257, .f32⟩ : BufTy).Contents (Elt F)) (i : S4096.Idx) :
    val_main_v23 (F := F) x0 i = val_main_v22 (F := F) x0 (idx_main_v23 i) := by
  unfold val_main_v23
  generalize val_main_v22 (F := F) x0 = y
  exact shapeCast_apply y shapeCasts_S4096x1_S4096 i (idx_main_v23 i)
    (by rewrite [Shape.rowMajor_val_two, Shape.rowMajor_val_one]; have h0 : (i 0).val < 4096 := (i 0).isLt; show ((i 0).val) / 1 * 1 + 0 = (i 0).val; omega)

-- %cst_3 = stablehlo.constant dense<0.000000e+00> : tensor<f32>
def val_main_cst_3 : (⟨S_, .f32⟩ : BufTy).Contents (Elt F) :=
  constant S_ .f32 0x00000000#32
theorem val_main_cst_3_apply (i : S_.Idx) :
    val_main_cst_3 (F := F) i = FloatOps.ofBits .f32 0x00000000#32 := rfl

-- %24 = stablehlo.reduce(%values init: %cst_3) applies stablehlo.add across dimensions = [1] : (tensor<4096x3xf32>, tensor<f32>) -> tensor<4096xf32> {
def val_main_v24 (x0 : (⟨S4096x50257, .f32⟩ : BufTy).Contents (Elt F)) : (⟨S4096, .f32⟩ : BufTy).Contents (Elt F) :=
  Host.reduceAdd (val_main_values (F := F) x0) (val_main_cst_3 (F := F)) reducesTo_S4096x3_S4096_d1 h_S_
abbrev idx_main_v24 (i : S4096.Idx) (k : Fin 3) : S4096x3.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_v24_apply (x0 : (⟨S4096x50257, .f32⟩ : BufTy).Contents (Elt Ideal)) (i : S4096.Idx) :
    val_main_v24 (F := Ideal) x0 i = (val_main_cst_3 (F := Ideal)) (Shape.Idx.first h_S_) + ∑ k : Fin 3, (val_main_values (F := Ideal) x0) (idx_main_v24 i k) := by
  unfold val_main_v24
  generalize val_main_values (F := Ideal) x0 = y0
  simp only [Host.reduceAdd, Ideal.hostReduceAdd_def]
  rw [Ideal.hostReduceAdd_single reducesTo_S4096x3_S4096_d1 (by decide)]
  refine congrArg (_ + ·) (Finset.sum_congr rfl fun k _ => ?_)
  exact congrArg y0 (funext fun a => Fin.ext (by match a with | ⟨0, _⟩ => rfl | ⟨1, _⟩ => rfl))

-- %25 = stablehlo.broadcast_in_dim %24, dims = [0] : (tensor<4096xf32>) -> tensor<4096x1xf32>
def val_main_v25 (x0 : (⟨S4096x50257, .f32⟩ : BufTy).Contents (Elt F)) : (⟨S4096x1, .f32⟩ : BufTy).Contents (Elt F) :=
  broadcastInDim S4096x1 ![0] bcast_S4096_S4096x1_0 (val_main_v24 (F := F) x0)
abbrev idx_main_v25 (i : S4096x1.Idx) : S4096.Idx := fun a => match a with
  | ⟨0, _⟩ => ⟨(i 0).val, (i 0).isLt⟩
theorem val_main_v25_apply (x0 : (⟨S4096x50257, .f32⟩ : BufTy).Contents (Elt F)) (i : S4096x1.Idx) :
    val_main_v25 (F := F) x0 i = val_main_v24 (F := F) x0 (idx_main_v25 i) := by
  unfold val_main_v25
  generalize val_main_v24 (F := F) x0 = y
  exact broadcastInDim_apply _ bcast_S4096_S4096x1_0 y i (idx_main_v25 i) (fun a => match a with
    | ⟨0, _⟩ => by show (i 0).val = if (4096 : Nat) = 1 then 0 else (i 0).val; rw [if_neg (by decide)])

-- %26 = stablehlo.broadcast_in_dim %25, dims = [0, 1] : (tensor<4096x1xf32>) -> tensor<4096x3xf32>
def val_main_v26 (x0 : (⟨S4096x50257, .f32⟩ : BufTy).Contents (Elt F)) : (⟨S4096x3, .f32⟩ : BufTy).Contents (Elt F) :=
  broadcastInDim S4096x3 ![0, 1] bcast_S4096x1_S4096x3_0_1 (val_main_v25 (F := F) x0)
abbrev idx_main_v26 (i : S4096x3.Idx) : S4096x1.Idx := fun a => match a with
  | ⟨0, _⟩ => ⟨(i 0).val, (i 0).isLt⟩
  | ⟨1, _⟩ => ⟨0, Nat.one_pos⟩
theorem val_main_v26_apply (x0 : (⟨S4096x50257, .f32⟩ : BufTy).Contents (Elt F)) (i : S4096x3.Idx) :
    val_main_v26 (F := F) x0 i = val_main_v25 (F := F) x0 (idx_main_v26 i) := by
  unfold val_main_v26
  generalize val_main_v25 (F := F) x0 = y
  exact broadcastInDim_apply _ bcast_S4096x1_S4096x3_0_1 y i (idx_main_v26 i) (fun a => match a with
    | ⟨0, _⟩ => by show (i 0).val = if (4096 : Nat) = 1 then 0 else (i 0).val; rw [if_neg (by decide)]
    | ⟨1, _⟩ => by show 0 = if (1 : Nat) = 1 then 0 else (i 1).val; rw [if_pos rfl])

-- %27 = stablehlo.divide %values, %26 : tensor<4096x3xf32>
def val_main_v27 (x0 : (⟨S4096x50257, .f32⟩ : BufTy).Contents (Elt F)) : (⟨S4096x3, .f32⟩ : BufTy).Contents (Elt F) :=
  Host.divf (val_main_values (F := F) x0) (val_main_v26 (F := F) x0)
theorem val_main_v27_apply (x0 : (⟨S4096x50257, .f32⟩ : BufTy).Contents (Elt F)) (i : S4096x3.Idx) :
    val_main_v27 (F := F) x0 i = FloatOps.hostDivf (val_main_values (F := F) x0 i) (val_main_v26 (F := F) x0 i) := rfl

-- %cst_4 = stablehlo.constant dense<0.000000e+00> : tensor<f32>
def val_main_cst_4 : (⟨S_, .f32⟩ : BufTy).Contents (Elt F) :=
  constant S_ .f32 0x00000000#32
theorem val_main_cst_4_apply (i : S_.Idx) :
    val_main_cst_4 (F := F) i = FloatOps.ofBits .f32 0x00000000#32 := rfl

-- %28 = stablehlo.broadcast_in_dim %cst_4, dims = [] : (tensor<f32>) -> tensor<4096x50257xf32>
def val_main_v28 : (⟨S4096x50257, .f32⟩ : BufTy).Contents (Elt F) :=
  broadcastInDim S4096x50257 ![] bcast_S_S4096x50257 (val_main_cst_4 (F := F))
abbrev idx_main_v28 (i : S4096x50257.Idx) : S_.Idx := fun a => a.elim0
theorem val_main_v28_apply (i : S4096x50257.Idx) :
    val_main_v28 (F := F) i = val_main_cst_4 (F := F) (idx_main_v28 i) := by
  unfold val_main_v28
  generalize val_main_cst_4 (F := F) = y
  exact broadcastInDim_apply _ bcast_S_S4096x50257 y i (idx_main_v28 i) (fun a => a.elim0)

-- %29 = stablehlo.iota dim = 0 : tensor<4096xi32>
def val_main_v29 : (⟨S4096, .i32⟩ : BufTy).Contents (Elt F) :=
  iotaInDim S4096 32 0
theorem val_main_v29_apply (i : S4096.Idx) :
    val_main_v29 (F := F) i = BitVec.ofNat 32 (i 0).val := rfl

-- %30 = stablehlo.broadcast_in_dim %29, dims = [0] : (tensor<4096xi32>) -> tensor<4096x1xi32>
def val_main_v30 : (⟨S4096x1, .i32⟩ : BufTy).Contents (Elt F) :=
  broadcastInDim S4096x1 ![0] bcast_S4096_S4096x1_0 (val_main_v29 (F := F))
abbrev idx_main_v30 (i : S4096x1.Idx) : S4096.Idx := fun a => match a with
  | ⟨0, _⟩ => ⟨(i 0).val, (i 0).isLt⟩
theorem val_main_v30_apply (i : S4096x1.Idx) :
    val_main_v30 (F := F) i = val_main_v29 (F := F) (idx_main_v30 i) := by
  unfold val_main_v30
  generalize val_main_v29 (F := F) = y
  exact broadcastInDim_apply _ bcast_S4096_S4096x1_0 y i (idx_main_v30 i) (fun a => match a with
    | ⟨0, _⟩ => by show (i 0).val = if (4096 : Nat) = 1 then 0 else (i 0).val; rw [if_neg (by decide)])

-- %c = stablehlo.constant dense<0> : tensor<i32>
def val_main_c : (⟨S_, .i32⟩ : BufTy).Contents (Elt F) :=
  constantI S_ 32 0#32
theorem val_main_c_apply (i : S_.Idx) :
    val_main_c (F := F) i = 0#32 := rfl

-- %31 = stablehlo.broadcast_in_dim %c, dims = [] : (tensor<i32>) -> tensor<4096x1xi32>
def val_main_v31 : (⟨S4096x1, .i32⟩ : BufTy).Contents (Elt F) :=
  broadcastInDim S4096x1 ![] bcast_S_S4096x1 (val_main_c (F := F))
abbrev idx_main_v31 (i : S4096x1.Idx) : S_.Idx := fun a => a.elim0
theorem val_main_v31_apply (i : S4096x1.Idx) :
    val_main_v31 (F := F) i = val_main_c (F := F) (idx_main_v31 i) := by
  unfold val_main_v31
  generalize val_main_c (F := F) = y
  exact broadcastInDim_apply _ bcast_S_S4096x1 y i (idx_main_v31 i) (fun a => a.elim0)

-- %32 = stablehlo.compare LT, %30, %31, SIGNED : (tensor<4096x1xi32>, tensor<4096x1xi32>) -> tensor<4096x1xi1>
def val_main_v32 : (⟨S4096x1, .i1⟩ : BufTy).Contents (Elt F) :=
  cmpi .slt (val_main_v30 (F := F)) (val_main_v31 (F := F))
theorem val_main_v32_apply (i : S4096x1.Idx) :
    val_main_v32 (F := F) i = IntOp.cmpi .slt (val_main_v30 (F := F) i) (val_main_v31 (F := F) i) := rfl

-- %c_5 = stablehlo.constant dense<4096> : tensor<i32>
def val_main_c_5 : (⟨S_, .i32⟩ : BufTy).Contents (Elt F) :=
  constantI S_ 32 4096#32
theorem val_main_c_5_apply (i : S_.Idx) :
    val_main_c_5 (F := F) i = 4096#32 := rfl

-- %33 = stablehlo.broadcast_in_dim %c_5, dims = [] : (tensor<i32>) -> tensor<4096x1xi32>
def val_main_v33 : (⟨S4096x1, .i32⟩ : BufTy).Contents (Elt F) :=
  broadcastInDim S4096x1 ![] bcast_S_S4096x1 (val_main_c_5 (F := F))
abbrev idx_main_v33 (i : S4096x1.Idx) : S_.Idx := fun a => a.elim0
theorem val_main_v33_apply (i : S4096x1.Idx) :
    val_main_v33 (F := F) i = val_main_c_5 (F := F) (idx_main_v33 i) := by
  unfold val_main_v33
  generalize val_main_c_5 (F := F) = y
  exact broadcastInDim_apply _ bcast_S_S4096x1 y i (idx_main_v33 i) (fun a => a.elim0)

-- %34 = stablehlo.add %30, %33 : tensor<4096x1xi32>
def val_main_v34 : (⟨S4096x1, .i32⟩ : BufTy).Contents (Elt F) :=
  addi (val_main_v30 (F := F)) (val_main_v33 (F := F))
theorem val_main_v34_apply (i : S4096x1.Idx) :
    val_main_v34 (F := F) i = IntOp.addi (val_main_v30 (F := F) i) (val_main_v33 (F := F) i) := rfl

-- %35 = stablehlo.select %32, %34, %30 : tensor<4096x1xi1>, tensor<4096x1xi32>
def val_main_v35 : (⟨S4096x1, .i32⟩ : BufTy).Contents (Elt F) :=
  select (val_main_v32 (F := F)) (val_main_v34 (F := F)) (val_main_v30 (F := F))
theorem val_main_v35_apply (i : S4096x1.Idx) :
    val_main_v35 (F := F) i = Scalar.select (val_main_v32 (F := F) i) (val_main_v34 (F := F) i) (val_main_v30 (F := F) i) := rfl

-- %c_6 = stablehlo.constant dense<0> : tensor<i32>
def val_main_c_6 : (⟨S_, .i32⟩ : BufTy).Contents (Elt F) :=
  constantI S_ 32 0#32
theorem val_main_c_6_apply (i : S_.Idx) :
    val_main_c_6 (F := F) i = 0#32 := rfl

-- %36 = stablehlo.broadcast_in_dim %c_6, dims = [] : (tensor<i32>) -> tensor<4096x3xi32>
def val_main_v36 : (⟨S4096x3, .i32⟩ : BufTy).Contents (Elt F) :=
  broadcastInDim S4096x3 ![] bcast_S_S4096x3 (val_main_c_6 (F := F))
abbrev idx_main_v36 (i : S4096x3.Idx) : S_.Idx := fun a => a.elim0
theorem val_main_v36_apply (i : S4096x3.Idx) :
    val_main_v36 (F := F) i = val_main_c_6 (F := F) (idx_main_v36 i) := by
  unfold val_main_v36
  generalize val_main_c_6 (F := F) = y
  exact broadcastInDim_apply _ bcast_S_S4096x3 y i (idx_main_v36 i) (fun a => a.elim0)

-- %37 = stablehlo.compare LT, %indices, %36, SIGNED : (tensor<4096x3xi32>, tensor<4096x3xi32>) -> tensor<4096x3xi1>
def val_main_v37 (x0 : (⟨S4096x50257, .f32⟩ : BufTy).Contents (Elt F)) : (⟨S4096x3, .i1⟩ : BufTy).Contents (Elt F) :=
  cmpi .slt (val_main_indices (F := F) x0) (val_main_v36 (F := F))
theorem val_main_v37_apply (x0 : (⟨S4096x50257, .f32⟩ : BufTy).Contents (Elt F)) (i : S4096x3.Idx) :
    val_main_v37 (F := F) x0 i = IntOp.cmpi .slt (val_main_indices (F := F) x0 i) (val_main_v36 (F := F) i) := rfl

-- %c_7 = stablehlo.constant dense<50257> : tensor<i32>
def val_main_c_7 : (⟨S_, .i32⟩ : BufTy).Contents (Elt F) :=
  constantI S_ 32 50257#32
theorem val_main_c_7_apply (i : S_.Idx) :
    val_main_c_7 (F := F) i = 50257#32 := rfl

-- %38 = stablehlo.broadcast_in_dim %c_7, dims = [] : (tensor<i32>) -> tensor<4096x3xi32>
def val_main_v38 : (⟨S4096x3, .i32⟩ : BufTy).Contents (Elt F) :=
  broadcastInDim S4096x3 ![] bcast_S_S4096x3 (val_main_c_7 (F := F))
abbrev idx_main_v38 (i : S4096x3.Idx) : S_.Idx := fun a => a.elim0
theorem val_main_v38_apply (i : S4096x3.Idx) :
    val_main_v38 (F := F) i = val_main_c_7 (F := F) (idx_main_v38 i) := by
  unfold val_main_v38
  generalize val_main_c_7 (F := F) = y
  exact broadcastInDim_apply _ bcast_S_S4096x3 y i (idx_main_v38 i) (fun a => a.elim0)

-- %39 = stablehlo.add %indices, %38 : tensor<4096x3xi32>
def val_main_v39 (x0 : (⟨S4096x50257, .f32⟩ : BufTy).Contents (Elt F)) : (⟨S4096x3, .i32⟩ : BufTy).Contents (Elt F) :=
  addi (val_main_indices (F := F) x0) (val_main_v38 (F := F))
theorem val_main_v39_apply (x0 : (⟨S4096x50257, .f32⟩ : BufTy).Contents (Elt F)) (i : S4096x3.Idx) :
    val_main_v39 (F := F) x0 i = IntOp.addi (val_main_indices (F := F) x0 i) (val_main_v38 (F := F) i) := rfl

-- %40 = stablehlo.select %37, %39, %indices : tensor<4096x3xi1>, tensor<4096x3xi32>
def val_main_v40 (x0 : (⟨S4096x50257, .f32⟩ : BufTy).Contents (Elt F)) : (⟨S4096x3, .i32⟩ : BufTy).Contents (Elt F) :=
  select (val_main_v37 (F := F) x0) (val_main_v39 (F := F) x0) (val_main_indices (F := F) x0)
theorem val_main_v40_apply (x0 : (⟨S4096x50257, .f32⟩ : BufTy).Contents (Elt F)) (i : S4096x3.Idx) :
    val_main_v40 (F := F) x0 i = Scalar.select (val_main_v37 (F := F) x0 i) (val_main_v39 (F := F) x0 i) (val_main_indices (F := F) x0 i) := rfl

-- %41 = stablehlo.broadcast_in_dim %35, dims = [0, 1] : (tensor<4096x1xi32>) -> tensor<4096x3xi32>
def val_main_v41 : (⟨S4096x3, .i32⟩ : BufTy).Contents (Elt F) :=
  broadcastInDim S4096x3 ![0, 1] bcast_S4096x1_S4096x3_0_1 (val_main_v35 (F := F))
abbrev idx_main_v41 (i : S4096x3.Idx) : S4096x1.Idx := fun a => match a with
  | ⟨0, _⟩ => ⟨(i 0).val, (i 0).isLt⟩
  | ⟨1, _⟩ => ⟨0, Nat.one_pos⟩
theorem val_main_v41_apply (i : S4096x3.Idx) :
    val_main_v41 (F := F) i = val_main_v35 (F := F) (idx_main_v41 i) := by
  unfold val_main_v41
  generalize val_main_v35 (F := F) = y
  exact broadcastInDim_apply _ bcast_S4096x1_S4096x3_0_1 y i (idx_main_v41 i) (fun a => match a with
    | ⟨0, _⟩ => by show (i 0).val = if (4096 : Nat) = 1 then 0 else (i 0).val; rw [if_neg (by decide)]
    | ⟨1, _⟩ => by show 0 = if (1 : Nat) = 1 then 0 else (i 1).val; rw [if_pos rfl])

-- %42 = stablehlo.broadcast_in_dim %41, dims = [0, 1] : (tensor<4096x3xi32>) -> tensor<4096x3x1xi32>
def val_main_v42 : (⟨S4096x3x1, .i32⟩ : BufTy).Contents (Elt F) :=
  broadcastInDim S4096x3x1 ![0, 1] bcast_S4096x3_S4096x3x1_0_1 (val_main_v41 (F := F))
abbrev idx_main_v42 (i : S4096x3x1.Idx) : S4096x3.Idx := fun a => match a with
  | ⟨0, _⟩ => ⟨(i 0).val, (i 0).isLt⟩
  | ⟨1, _⟩ => ⟨(i 1).val, (i 1).isLt⟩
theorem val_main_v42_apply (i : S4096x3x1.Idx) :
    val_main_v42 (F := F) i = val_main_v41 (F := F) (idx_main_v42 i) := by
  unfold val_main_v42
  generalize val_main_v41 (F := F) = y
  exact broadcastInDim_apply _ bcast_S4096x3_S4096x3x1_0_1 y i (idx_main_v42 i) (fun a => match a with
    | ⟨0, _⟩ => by show (i 0).val = if (4096 : Nat) = 1 then 0 else (i 0).val; rw [if_neg (by decide)]
    | ⟨1, _⟩ => by show (i 1).val = if (3 : Nat) = 1 then 0 else (i 1).val; rw [if_neg (by decide)])

-- %43 = stablehlo.broadcast_in_dim %40, dims = [0, 1] : (tensor<4096x3xi32>) -> tensor<4096x3x1xi32>
def val_main_v43 (x0 : (⟨S4096x50257, .f32⟩ : BufTy).Contents (Elt F)) : (⟨S4096x3x1, .i32⟩ : BufTy).Contents (Elt F) :=
  broadcastInDim S4096x3x1 ![0, 1] bcast_S4096x3_S4096x3x1_0_1 (val_main_v40 (F := F) x0)
abbrev idx_main_v43 (i : S4096x3x1.Idx) : S4096x3.Idx := fun a => match a with
  | ⟨0, _⟩ => ⟨(i 0).val, (i 0).isLt⟩
  | ⟨1, _⟩ => ⟨(i 1).val, (i 1).isLt⟩
theorem val_main_v43_apply (x0 : (⟨S4096x50257, .f32⟩ : BufTy).Contents (Elt F)) (i : S4096x3x1.Idx) :
    val_main_v43 (F := F) x0 i = val_main_v40 (F := F) x0 (idx_main_v43 i) := by
  unfold val_main_v43
  generalize val_main_v40 (F := F) x0 = y
  exact broadcastInDim_apply _ bcast_S4096x3_S4096x3x1_0_1 y i (idx_main_v43 i) (fun a => match a with
    | ⟨0, _⟩ => by show (i 0).val = if (4096 : Nat) = 1 then 0 else (i 0).val; rw [if_neg (by decide)]
    | ⟨1, _⟩ => by show (i 1).val = if (3 : Nat) = 1 then 0 else (i 1).val; rw [if_neg (by decide)])

-- %44 = stablehlo.concatenate %42, %43, dim = 2 : (tensor<4096x3x1xi32>, tensor<4096x3x1xi32>) -> tensor<4096x3x2xi32>
def val_main_v44 (x0 : (⟨S4096x50257, .f32⟩ : BufTy).Contents (Elt F)) : (⟨S4096x3x2, .i32⟩ : BufTy).Contents (Elt F) :=
  concatenate S4096x3x2 2 [⟨S4096x3x1, (val_main_v42 (F := F))⟩, ⟨S4096x3x1, (val_main_v43 (F := F) x0)⟩] concatenates_S4096x3x1_S4096x3x1_S4096x3x2_d2

-- %45 = "stablehlo.scatter"(%28, %44, %27) <{indices_are_sorted = false, scatter_dimension_numbers = #stablehlo.scatter<inserted_window_dims = [0, 1], scatter_dims_to_operand_dims = [0, 1], index_vector_dim = 2>, unique_indices = false}> ( {
def val_main_v45 (x0 : (⟨S4096x50257, .f32⟩ : BufTy).Contents (Elt F)) : (⟨S4096x50257, .f32⟩ : BufTy).Contents (Elt F) :=
  Host.scatterAdd scatter_S4096x50257_S4096x3x2_S4096x3_n_01_01_2 (val_main_v28 (F := F)) (val_main_v44 (F := F) x0) (val_main_v27 (F := F) x0)

-- %46 = stablehlo.broadcast_in_dim %17, dims = [0] : (tensor<4096xi32>) -> tensor<4096x1xi32>
def val_main_v46 (x0 : (⟨S4096x50257, .f32⟩ : BufTy).Contents (Elt F)) (x1 : (⟨S4096, .i32⟩ : BufTy).Contents (Elt F)) : (⟨S4096x1, .i32⟩ : BufTy).Contents (Elt F) :=
  broadcastInDim S4096x1 ![0] bcast_S4096_S4096x1_0 (val_main_v17 (F := F) x0 x1)
abbrev idx_main_v46 (i : S4096x1.Idx) : S4096.Idx := fun a => match a with
  | ⟨0, _⟩ => ⟨(i 0).val, (i 0).isLt⟩
theorem val_main_v46_apply (x0 : (⟨S4096x50257, .f32⟩ : BufTy).Contents (Elt F)) (x1 : (⟨S4096, .i32⟩ : BufTy).Contents (Elt F)) (i : S4096x1.Idx) :
    val_main_v46 (F := F) x0 x1 i = val_main_v17 (F := F) x0 x1 (idx_main_v46 i) := by
  unfold val_main_v46
  generalize val_main_v17 (F := F) x0 x1 = y
  exact broadcastInDim_apply _ bcast_S4096_S4096x1_0 y i (idx_main_v46 i) (fun a => match a with
    | ⟨0, _⟩ => by show (i 0).val = if (4096 : Nat) = 1 then 0 else (i 0).val; rw [if_neg (by decide)])

-- %47 = stablehlo.convert %46 : (tensor<4096x1xi32>) -> tensor<4096x1xf32>
def val_main_v47 (x0 : (⟨S4096x50257, .f32⟩ : BufTy).Contents (Elt F)) (x1 : (⟨S4096, .i32⟩ : BufTy).Contents (Elt F)) : (⟨S4096x1, .f32⟩ : BufTy).Contents (Elt F) :=
  sitofp .f32 (val_main_v46 (F := F) x0 x1)
theorem val_main_v47_apply (x0 : (⟨S4096x50257, .f32⟩ : BufTy).Contents (Elt F)) (x1 : (⟨S4096, .i32⟩ : BufTy).Contents (Elt F)) (i : S4096x1.Idx) :
    val_main_v47 (F := F) x0 x1 i = FloatOps.sitofp .f32 (val_main_v46 (F := F) x0 x1 i) := rfl

-- %cst_8 = stablehlo.constant dense<1.000000e+00> : tensor<f32>
def val_main_cst_8 : (⟨S_, .f32⟩ : BufTy).Contents (Elt F) :=
  constant S_ .f32 0x3F800000#32
theorem val_main_cst_8_apply (i : S_.Idx) :
    val_main_cst_8 (F := F) i = FloatOps.ofBits .f32 0x3F800000#32 := rfl

-- %48 = stablehlo.broadcast_in_dim %cst_8, dims = [] : (tensor<f32>) -> tensor<4096x1xf32>
def val_main_v48 : (⟨S4096x1, .f32⟩ : BufTy).Contents (Elt F) :=
  broadcastInDim S4096x1 ![] bcast_S_S4096x1 (val_main_cst_8 (F := F))
abbrev idx_main_v48 (i : S4096x1.Idx) : S_.Idx := fun a => a.elim0
theorem val_main_v48_apply (i : S4096x1.Idx) :
    val_main_v48 (F := F) i = val_main_cst_8 (F := F) (idx_main_v48 i) := by
  unfold val_main_v48
  generalize val_main_cst_8 (F := F) = y
  exact broadcastInDim_apply _ bcast_S_S4096x1 y i (idx_main_v48 i) (fun a => a.elim0)

-- %49 = stablehlo.subtract %48, %47 : tensor<4096x1xf32>
def val_main_v49 (x0 : (⟨S4096x50257, .f32⟩ : BufTy).Contents (Elt F)) (x1 : (⟨S4096, .i32⟩ : BufTy).Contents (Elt F)) : (⟨S4096x1, .f32⟩ : BufTy).Contents (Elt F) :=
  subf (val_main_v48 (F := F)) (val_main_v47 (F := F) x0 x1)
theorem val_main_v49_apply (x0 : (⟨S4096x50257, .f32⟩ : BufTy).Contents (Elt F)) (x1 : (⟨S4096, .i32⟩ : BufTy).Contents (Elt F)) (i : S4096x1.Idx) :
    val_main_v49 (F := F) x0 x1 i = FloatOps.subf (val_main_v48 (F := F) i) (val_main_v47 (F := F) x0 x1 i) := rfl

-- @_one_hot's %0 = stablehlo.broadcast_in_dim %arg0, dims = [0] : (tensor<4096xi32>) -> tensor<4096x1xi32>, in %50 = func.call @_one_hot(…) (record main_call2)
def val_main_call2_v0 (x1 : (⟨S4096, .i32⟩ : BufTy).Contents (Elt F)) : (⟨S4096x1, .i32⟩ : BufTy).Contents (Elt F) :=
  broadcastInDim S4096x1 ![0] bcast_S4096_S4096x1_0 (x1)
abbrev idx_main_call2_v0 (i : S4096x1.Idx) : S4096.Idx := fun a => match a with
  | ⟨0, _⟩ => ⟨(i 0).val, (i 0).isLt⟩
theorem val_main_call2_v0_apply (x1 : (⟨S4096, .i32⟩ : BufTy).Contents (Elt F)) (i : S4096x1.Idx) :
    val_main_call2_v0 (F := F) x1 i = x1 (idx_main_call2_v0 i) := by
  unfold val_main_call2_v0
  exact broadcastInDim_apply _ bcast_S4096_S4096x1_0 x1 i (idx_main_call2_v0 i) (fun a => match a with
    | ⟨0, _⟩ => by show (i 0).val = if (4096 : Nat) = 1 then 0 else (i 0).val; rw [if_neg (by decide)])

-- @_one_hot's %1 = stablehlo.iota dim = 1 : tensor<1x50257xi32>, in %50 = func.call @_one_hot(…) (record main_call2)
def val_main_call2_v1 : (⟨S1x50257, .i32⟩ : BufTy).Contents (Elt F) :=
  iotaInDim S1x50257 32 1
theorem val_main_call2_v1_apply (i : S1x50257.Idx) :
    val_main_call2_v1 (F := F) i = BitVec.ofNat 32 (i 1).val := rfl

-- @_one_hot's %2 = stablehlo.broadcast_in_dim %0, dims = [0, 1] : (tensor<4096x1xi32>) -> tensor<4096x50257xi32>, in %50 = func.call @_one_hot(…) (record main_call2)
def val_main_call2_v2 (x1 : (⟨S4096, .i32⟩ : BufTy).Contents (Elt F)) : (⟨S4096x50257, .i32⟩ : BufTy).Contents (Elt F) :=
  broadcastInDim S4096x50257 ![0, 1] bcast_S4096x1_S4096x50257_0_1 (val_main_call2_v0 (F := F) x1)
abbrev idx_main_call2_v2 (i : S4096x50257.Idx) : S4096x1.Idx := fun a => match a with
  | ⟨0, _⟩ => ⟨(i 0).val, (i 0).isLt⟩
  | ⟨1, _⟩ => ⟨0, Nat.one_pos⟩
theorem val_main_call2_v2_apply (x1 : (⟨S4096, .i32⟩ : BufTy).Contents (Elt F)) (i : S4096x50257.Idx) :
    val_main_call2_v2 (F := F) x1 i = val_main_call2_v0 (F := F) x1 (idx_main_call2_v2 i) := by
  unfold val_main_call2_v2
  generalize val_main_call2_v0 (F := F) x1 = y
  exact broadcastInDim_apply _ bcast_S4096x1_S4096x50257_0_1 y i (idx_main_call2_v2 i) (fun a => match a with
    | ⟨0, _⟩ => by show (i 0).val = if (4096 : Nat) = 1 then 0 else (i 0).val; rw [if_neg (by decide)]
    | ⟨1, _⟩ => by show 0 = if (1 : Nat) = 1 then 0 else (i 1).val; rw [if_pos rfl])

-- @_one_hot's %3 = stablehlo.broadcast_in_dim %1, dims = [0, 1] : (tensor<1x50257xi32>) -> tensor<4096x50257xi32>, in %50 = func.call @_one_hot(…) (record main_call2)
def val_main_call2_v3 : (⟨S4096x50257, .i32⟩ : BufTy).Contents (Elt F) :=
  broadcastInDim S4096x50257 ![0, 1] bcast_S1x50257_S4096x50257_0_1 (val_main_call2_v1 (F := F))
abbrev idx_main_call2_v3 (i : S4096x50257.Idx) : S1x50257.Idx := fun a => match a with
  | ⟨0, _⟩ => ⟨0, Nat.one_pos⟩
  | ⟨1, _⟩ => ⟨(i 1).val, (i 1).isLt⟩
theorem val_main_call2_v3_apply (i : S4096x50257.Idx) :
    val_main_call2_v3 (F := F) i = val_main_call2_v1 (F := F) (idx_main_call2_v3 i) := by
  unfold val_main_call2_v3
  generalize val_main_call2_v1 (F := F) = y
  exact broadcastInDim_apply _ bcast_S1x50257_S4096x50257_0_1 y i (idx_main_call2_v3 i) (fun a => match a with
    | ⟨0, _⟩ => by show 0 = if (1 : Nat) = 1 then 0 else (i 0).val; rw [if_pos rfl]
    | ⟨1, _⟩ => by show (i 1).val = if (50257 : Nat) = 1 then 0 else (i 1).val; rw [if_neg (by decide)])

-- @_one_hot's %4 = stablehlo.compare EQ, %2, %3, SIGNED : (tensor<4096x50257xi32>, tensor<4096x50257xi32>) -> tensor<4096x50257xi1>, in %50 = func.call @_one_hot(…) (record main_call2)
def val_main_call2_v4 (x1 : (⟨S4096, .i32⟩ : BufTy).Contents (Elt F)) : (⟨S4096x50257, .i1⟩ : BufTy).Contents (Elt F) :=
  cmpi .eq (val_main_call2_v2 (F := F) x1) (val_main_call2_v3 (F := F))
theorem val_main_call2_v4_apply (x1 : (⟨S4096, .i32⟩ : BufTy).Contents (Elt F)) (i : S4096x50257.Idx) :
    val_main_call2_v4 (F := F) x1 i = IntOp.cmpi .eq (val_main_call2_v2 (F := F) x1 i) (val_main_call2_v3 (F := F) i) := rfl

-- %50 = func.call @_one_hot(…) (record main_call2) result 0: @_one_hot's %5 = stablehlo.convert %4 : (tensor<4096x50257xi1>) -> tensor<4096x50257xf32>
def val_main_v50 (x1 : (⟨S4096, .i32⟩ : BufTy).Contents (Elt F)) : (⟨S4096x50257, .f32⟩ : BufTy).Contents (Elt F) :=
  uitofp .f32 (val_main_call2_v4 (F := F) x1)
theorem val_main_v50_apply (x1 : (⟨S4096, .i32⟩ : BufTy).Contents (Elt F)) (i : S4096x50257.Idx) :
    val_main_v50 (F := F) x1 i = FloatOps.uitofp .f32 (val_main_call2_v4 (F := F) x1 i) := rfl

-- %51 = stablehlo.broadcast_in_dim %49, dims = [0, 1] : (tensor<4096x1xf32>) -> tensor<4096x50257xf32>
def val_main_v51 (x0 : (⟨S4096x50257, .f32⟩ : BufTy).Contents (Elt F)) (x1 : (⟨S4096, .i32⟩ : BufTy).Contents (Elt F)) : (⟨S4096x50257, .f32⟩ : BufTy).Contents (Elt F) :=
  broadcastInDim S4096x50257 ![0, 1] bcast_S4096x1_S4096x50257_0_1 (val_main_v49 (F := F) x0 x1)
abbrev idx_main_v51 (i : S4096x50257.Idx) : S4096x1.Idx := fun a => match a with
  | ⟨0, _⟩ => ⟨(i 0).val, (i 0).isLt⟩
  | ⟨1, _⟩ => ⟨0, Nat.one_pos⟩
theorem val_main_v51_apply (x0 : (⟨S4096x50257, .f32⟩ : BufTy).Contents (Elt F)) (x1 : (⟨S4096, .i32⟩ : BufTy).Contents (Elt F)) (i : S4096x50257.Idx) :
    val_main_v51 (F := F) x0 x1 i = val_main_v49 (F := F) x0 x1 (idx_main_v51 i) := by
  unfold val_main_v51
  generalize val_main_v49 (F := F) x0 x1 = y
  exact broadcastInDim_apply _ bcast_S4096x1_S4096x50257_0_1 y i (idx_main_v51 i) (fun a => match a with
    | ⟨0, _⟩ => by show (i 0).val = if (4096 : Nat) = 1 then 0 else (i 0).val; rw [if_neg (by decide)]
    | ⟨1, _⟩ => by show 0 = if (1 : Nat) = 1 then 0 else (i 1).val; rw [if_pos rfl])

-- %52 = stablehlo.multiply %51, %50 : tensor<4096x50257xf32>
def val_main_v52 (x0 : (⟨S4096x50257, .f32⟩ : BufTy).Contents (Elt F)) (x1 : (⟨S4096, .i32⟩ : BufTy).Contents (Elt F)) : (⟨S4096x50257, .f32⟩ : BufTy).Contents (Elt F) :=
  mulf (val_main_v51 (F := F) x0 x1) (val_main_v50 (F := F) x1)
theorem val_main_v52_apply (x0 : (⟨S4096x50257, .f32⟩ : BufTy).Contents (Elt F)) (x1 : (⟨S4096, .i32⟩ : BufTy).Contents (Elt F)) (i : S4096x50257.Idx) :
    val_main_v52 (F := F) x0 x1 i = FloatOps.mulf (val_main_v51 (F := F) x0 x1 i) (val_main_v50 (F := F) x1 i) := rfl

-- %53 = stablehlo.broadcast_in_dim %47, dims = [0, 1] : (tensor<4096x1xf32>) -> tensor<4096x50257xf32>
def val_main_v53 (x0 : (⟨S4096x50257, .f32⟩ : BufTy).Contents (Elt F)) (x1 : (⟨S4096, .i32⟩ : BufTy).Contents (Elt F)) : (⟨S4096x50257, .f32⟩ : BufTy).Contents (Elt F) :=
  broadcastInDim S4096x50257 ![0, 1] bcast_S4096x1_S4096x50257_0_1 (val_main_v47 (F := F) x0 x1)
abbrev idx_main_v53 (i : S4096x50257.Idx) : S4096x1.Idx := fun a => match a with
  | ⟨0, _⟩ => ⟨(i 0).val, (i 0).isLt⟩
  | ⟨1, _⟩ => ⟨0, Nat.one_pos⟩
theorem val_main_v53_apply (x0 : (⟨S4096x50257, .f32⟩ : BufTy).Contents (Elt F)) (x1 : (⟨S4096, .i32⟩ : BufTy).Contents (Elt F)) (i : S4096x50257.Idx) :
    val_main_v53 (F := F) x0 x1 i = val_main_v47 (F := F) x0 x1 (idx_main_v53 i) := by
  unfold val_main_v53
  generalize val_main_v47 (F := F) x0 x1 = y
  exact broadcastInDim_apply _ bcast_S4096x1_S4096x50257_0_1 y i (idx_main_v53 i) (fun a => match a with
    | ⟨0, _⟩ => by show (i 0).val = if (4096 : Nat) = 1 then 0 else (i 0).val; rw [if_neg (by decide)]
    | ⟨1, _⟩ => by show 0 = if (1 : Nat) = 1 then 0 else (i 1).val; rw [if_pos rfl])

-- %54 = stablehlo.multiply %45, %53 : tensor<4096x50257xf32>
def val_main_v54 (x0 : (⟨S4096x50257, .f32⟩ : BufTy).Contents (Elt F)) (x1 : (⟨S4096, .i32⟩ : BufTy).Contents (Elt F)) : (⟨S4096x50257, .f32⟩ : BufTy).Contents (Elt F) :=
  mulf (val_main_v45 (F := F) x0) (val_main_v53 (F := F) x0 x1)
theorem val_main_v54_apply (x0 : (⟨S4096x50257, .f32⟩ : BufTy).Contents (Elt F)) (x1 : (⟨S4096, .i32⟩ : BufTy).Contents (Elt F)) (i : S4096x50257.Idx) :
    val_main_v54 (F := F) x0 x1 i = FloatOps.mulf (val_main_v45 (F := F) x0 i) (val_main_v53 (F := F) x0 x1 i) := rfl

-- %55 = stablehlo.add %54, %52 : tensor<4096x50257xf32>
def val_main_v55 (x0 : (⟨S4096x50257, .f32⟩ : BufTy).Contents (Elt F)) (x1 : (⟨S4096, .i32⟩ : BufTy).Contents (Elt F)) : (⟨S4096x50257, .f32⟩ : BufTy).Contents (Elt F) :=
  addf (val_main_v54 (F := F) x0 x1) (val_main_v52 (F := F) x0 x1)
theorem val_main_v55_apply (x0 : (⟨S4096x50257, .f32⟩ : BufTy).Contents (Elt F)) (x1 : (⟨S4096, .i32⟩ : BufTy).Contents (Elt F)) (i : S4096x50257.Idx) :
    val_main_v55 (F := F) x0 x1 i = FloatOps.addf (val_main_v54 (F := F) x0 x1 i) (val_main_v52 (F := F) x0 x1 i) := rfl

-- @log_softmax's %cst = stablehlo.constant dense<0xFF800000> : tensor<f32>, in %56 = func.call @log_softmax(…) (record main_call3)
def val_main_call3_cst : (⟨S_, .f32⟩ : BufTy).Contents (Elt F) :=
  constant S_ .f32 0xFF800000#32
theorem val_main_call3_cst_apply (i : S_.Idx) :
    val_main_call3_cst (F := F) i = FloatOps.ofBits .f32 0xFF800000#32 := rfl

-- @log_softmax's %0 = stablehlo.reduce(%arg0 init: %cst) applies stablehlo.maximum across dimensions = [1] : (tensor<4096x50257xf32>, tensor<f32>) -> tensor<4096xf32> {, in %56 = func.call @log_softmax(…) (record main_call3)
def val_main_call3_v0 (x0 : (⟨S4096x50257, .f32⟩ : BufTy).Contents (Elt F)) : (⟨S4096, .f32⟩ : BufTy).Contents (Elt F) :=
  Host.reduce FloatOps.maximumf (x0) (val_main_call3_cst (F := F)) reducesTo_S4096x50257_S4096_d1 h_S_

-- @log_softmax's %cst_0 = stablehlo.constant dense<0xFF800000> : tensor<f32>, in %56 = func.call @log_softmax(…) (record main_call3)
def val_main_call3_cst_0 : (⟨S_, .f32⟩ : BufTy).Contents (Elt F) :=
  constant S_ .f32 0xFF800000#32
theorem val_main_call3_cst_0_apply (i : S_.Idx) :
    val_main_call3_cst_0 (F := F) i = FloatOps.ofBits .f32 0xFF800000#32 := rfl

-- @log_softmax's %1 = stablehlo.broadcast_in_dim %cst_0, dims = [] : (tensor<f32>) -> tensor<4096xf32>, in %56 = func.call @log_softmax(…) (record main_call3)
def val_main_call3_v1 : (⟨S4096, .f32⟩ : BufTy).Contents (Elt F) :=
  broadcastInDim S4096 ![] bcast_S_S4096 (val_main_call3_cst_0 (F := F))
abbrev idx_main_call3_v1 (i : S4096.Idx) : S_.Idx := fun a => a.elim0
theorem val_main_call3_v1_apply (i : S4096.Idx) :
    val_main_call3_v1 (F := F) i = val_main_call3_cst_0 (F := F) (idx_main_call3_v1 i) := by
  unfold val_main_call3_v1
  generalize val_main_call3_cst_0 (F := F) = y
  exact broadcastInDim_apply _ bcast_S_S4096 y i (idx_main_call3_v1 i) (fun a => a.elim0)

-- @log_softmax's %2 = stablehlo.maximum %1, %0 : tensor<4096xf32>, in %56 = func.call @log_softmax(…) (record main_call3)
def val_main_call3_v2 (x0 : (⟨S4096x50257, .f32⟩ : BufTy).Contents (Elt F)) : (⟨S4096, .f32⟩ : BufTy).Contents (Elt F) :=
  maximumf (val_main_call3_v1 (F := F)) (val_main_call3_v0 (F := F) x0)
theorem val_main_call3_v2_apply (x0 : (⟨S4096x50257, .f32⟩ : BufTy).Contents (Elt F)) (i : S4096.Idx) :
    val_main_call3_v2 (F := F) x0 i = FloatOps.maximumf (val_main_call3_v1 (F := F) i) (val_main_call3_v0 (F := F) x0 i) := rfl

-- @log_softmax's %3 = stablehlo.broadcast_in_dim %2, dims = [0] : (tensor<4096xf32>) -> tensor<4096x1xf32>, in %56 = func.call @log_softmax(…) (record main_call3)
def val_main_call3_v3 (x0 : (⟨S4096x50257, .f32⟩ : BufTy).Contents (Elt F)) : (⟨S4096x1, .f32⟩ : BufTy).Contents (Elt F) :=
  broadcastInDim S4096x1 ![0] bcast_S4096_S4096x1_0 (val_main_call3_v2 (F := F) x0)
abbrev idx_main_call3_v3 (i : S4096x1.Idx) : S4096.Idx := fun a => match a with
  | ⟨0, _⟩ => ⟨(i 0).val, (i 0).isLt⟩
theorem val_main_call3_v3_apply (x0 : (⟨S4096x50257, .f32⟩ : BufTy).Contents (Elt F)) (i : S4096x1.Idx) :
    val_main_call3_v3 (F := F) x0 i = val_main_call3_v2 (F := F) x0 (idx_main_call3_v3 i) := by
  unfold val_main_call3_v3
  generalize val_main_call3_v2 (F := F) x0 = y
  exact broadcastInDim_apply _ bcast_S4096_S4096x1_0 y i (idx_main_call3_v3 i) (fun a => match a with
    | ⟨0, _⟩ => by show (i 0).val = if (4096 : Nat) = 1 then 0 else (i 0).val; rw [if_neg (by decide)])

-- @log_softmax's %4 = stablehlo.broadcast_in_dim %3, dims = [0, 1] : (tensor<4096x1xf32>) -> tensor<4096x50257xf32>, in %56 = func.call @log_softmax(…) (record main_call3)
def val_main_call3_v4 (x0 : (⟨S4096x50257, .f32⟩ : BufTy).Contents (Elt F)) : (⟨S4096x50257, .f32⟩ : BufTy).Contents (Elt F) :=
  broadcastInDim S4096x50257 ![0, 1] bcast_S4096x1_S4096x50257_0_1 (val_main_call3_v3 (F := F) x0)
abbrev idx_main_call3_v4 (i : S4096x50257.Idx) : S4096x1.Idx := fun a => match a with
  | ⟨0, _⟩ => ⟨(i 0).val, (i 0).isLt⟩
  | ⟨1, _⟩ => ⟨0, Nat.one_pos⟩
theorem val_main_call3_v4_apply (x0 : (⟨S4096x50257, .f32⟩ : BufTy).Contents (Elt F)) (i : S4096x50257.Idx) :
    val_main_call3_v4 (F := F) x0 i = val_main_call3_v3 (F := F) x0 (idx_main_call3_v4 i) := by
  unfold val_main_call3_v4
  generalize val_main_call3_v3 (F := F) x0 = y
  exact broadcastInDim_apply _ bcast_S4096x1_S4096x50257_0_1 y i (idx_main_call3_v4 i) (fun a => match a with
    | ⟨0, _⟩ => by show (i 0).val = if (4096 : Nat) = 1 then 0 else (i 0).val; rw [if_neg (by decide)]
    | ⟨1, _⟩ => by show 0 = if (1 : Nat) = 1 then 0 else (i 1).val; rw [if_pos rfl])

-- @log_softmax's %5 = stablehlo.subtract %arg0, %4 : tensor<4096x50257xf32>, in %56 = func.call @log_softmax(…) (record main_call3)
def val_main_call3_v5 (x0 : (⟨S4096x50257, .f32⟩ : BufTy).Contents (Elt F)) : (⟨S4096x50257, .f32⟩ : BufTy).Contents (Elt F) :=
  subf (x0) (val_main_call3_v4 (F := F) x0)
theorem val_main_call3_v5_apply (x0 : (⟨S4096x50257, .f32⟩ : BufTy).Contents (Elt F)) (i : S4096x50257.Idx) :
    val_main_call3_v5 (F := F) x0 i = FloatOps.subf (x0 i) (val_main_call3_v4 (F := F) x0 i) := rfl

-- @log_softmax's %6 = stablehlo.exponential %5 : tensor<4096x50257xf32>, in %56 = func.call @log_softmax(…) (record main_call3)
def val_main_call3_v6 (x0 : (⟨S4096x50257, .f32⟩ : BufTy).Contents (Elt F)) : (⟨S4096x50257, .f32⟩ : BufTy).Contents (Elt F) :=
  Host.exp (val_main_call3_v5 (F := F) x0)
theorem val_main_call3_v6_apply (x0 : (⟨S4096x50257, .f32⟩ : BufTy).Contents (Elt F)) (i : S4096x50257.Idx) :
    val_main_call3_v6 (F := F) x0 i = FloatOps.hostUnary .exp (val_main_call3_v5 (F := F) x0 i) := rfl

-- @log_softmax's %cst_1 = stablehlo.constant dense<0.000000e+00> : tensor<f32>, in %56 = func.call @log_softmax(…) (record main_call3)
def val_main_call3_cst_1 : (⟨S_, .f32⟩ : BufTy).Contents (Elt F) :=
  constant S_ .f32 0x00000000#32
theorem val_main_call3_cst_1_apply (i : S_.Idx) :
    val_main_call3_cst_1 (F := F) i = FloatOps.ofBits .f32 0x00000000#32 := rfl

-- @log_softmax's %7 = stablehlo.reduce(%6 init: %cst_1) applies stablehlo.add across dimensions = [1] : (tensor<4096x50257xf32>, tensor<f32>) -> tensor<4096xf32> {, in %56 = func.call @log_softmax(…) (record main_call3)
def val_main_call3_v7 (x0 : (⟨S4096x50257, .f32⟩ : BufTy).Contents (Elt F)) : (⟨S4096, .f32⟩ : BufTy).Contents (Elt F) :=
  Host.reduceAdd (val_main_call3_v6 (F := F) x0) (val_main_call3_cst_1 (F := F)) reducesTo_S4096x50257_S4096_d1 h_S_
abbrev idx_main_call3_v7 (i : S4096.Idx) (k : Fin 50257) : S4096x50257.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_call3_v7_apply (x0 : (⟨S4096x50257, .f32⟩ : BufTy).Contents (Elt Ideal)) (i : S4096.Idx) :
    val_main_call3_v7 (F := Ideal) x0 i = (val_main_call3_cst_1 (F := Ideal)) (Shape.Idx.first h_S_) + ∑ k : Fin 50257, (val_main_call3_v6 (F := Ideal) x0) (idx_main_call3_v7 i k) := by
  unfold val_main_call3_v7
  generalize val_main_call3_v6 (F := Ideal) x0 = y0
  simp only [Host.reduceAdd, Ideal.hostReduceAdd_def]
  rw [Ideal.hostReduceAdd_single reducesTo_S4096x50257_S4096_d1 (by decide)]
  refine congrArg (_ + ·) (Finset.sum_congr rfl fun k _ => ?_)
  exact congrArg y0 (funext fun a => Fin.ext (by match a with | ⟨0, _⟩ => rfl | ⟨1, _⟩ => rfl))

-- @log_softmax's %8 = stablehlo.broadcast_in_dim %7, dims = [0] : (tensor<4096xf32>) -> tensor<4096x1xf32>, in %56 = func.call @log_softmax(…) (record main_call3)
def val_main_call3_v8 (x0 : (⟨S4096x50257, .f32⟩ : BufTy).Contents (Elt F)) : (⟨S4096x1, .f32⟩ : BufTy).Contents (Elt F) :=
  broadcastInDim S4096x1 ![0] bcast_S4096_S4096x1_0 (val_main_call3_v7 (F := F) x0)
abbrev idx_main_call3_v8 (i : S4096x1.Idx) : S4096.Idx := fun a => match a with
  | ⟨0, _⟩ => ⟨(i 0).val, (i 0).isLt⟩
theorem val_main_call3_v8_apply (x0 : (⟨S4096x50257, .f32⟩ : BufTy).Contents (Elt F)) (i : S4096x1.Idx) :
    val_main_call3_v8 (F := F) x0 i = val_main_call3_v7 (F := F) x0 (idx_main_call3_v8 i) := by
  unfold val_main_call3_v8
  generalize val_main_call3_v7 (F := F) x0 = y
  exact broadcastInDim_apply _ bcast_S4096_S4096x1_0 y i (idx_main_call3_v8 i) (fun a => match a with
    | ⟨0, _⟩ => by show (i 0).val = if (4096 : Nat) = 1 then 0 else (i 0).val; rw [if_neg (by decide)])

-- @log_softmax's %9 = stablehlo.log %8 : tensor<4096x1xf32>, in %56 = func.call @log_softmax(…) (record main_call3)
def val_main_call3_v9 (x0 : (⟨S4096x50257, .f32⟩ : BufTy).Contents (Elt F)) : (⟨S4096x1, .f32⟩ : BufTy).Contents (Elt F) :=
  Host.log (val_main_call3_v8 (F := F) x0)
theorem val_main_call3_v9_apply (x0 : (⟨S4096x50257, .f32⟩ : BufTy).Contents (Elt F)) (i : S4096x1.Idx) :
    val_main_call3_v9 (F := F) x0 i = FloatOps.hostUnary .log (val_main_call3_v8 (F := F) x0 i) := rfl

-- @log_softmax's %10 = stablehlo.broadcast_in_dim %9, dims = [0, 1] : (tensor<4096x1xf32>) -> tensor<4096x50257xf32>, in %56 = func.call @log_softmax(…) (record main_call3)
def val_main_call3_v10 (x0 : (⟨S4096x50257, .f32⟩ : BufTy).Contents (Elt F)) : (⟨S4096x50257, .f32⟩ : BufTy).Contents (Elt F) :=
  broadcastInDim S4096x50257 ![0, 1] bcast_S4096x1_S4096x50257_0_1 (val_main_call3_v9 (F := F) x0)
abbrev idx_main_call3_v10 (i : S4096x50257.Idx) : S4096x1.Idx := fun a => match a with
  | ⟨0, _⟩ => ⟨(i 0).val, (i 0).isLt⟩
  | ⟨1, _⟩ => ⟨0, Nat.one_pos⟩
theorem val_main_call3_v10_apply (x0 : (⟨S4096x50257, .f32⟩ : BufTy).Contents (Elt F)) (i : S4096x50257.Idx) :
    val_main_call3_v10 (F := F) x0 i = val_main_call3_v9 (F := F) x0 (idx_main_call3_v10 i) := by
  unfold val_main_call3_v10
  generalize val_main_call3_v9 (F := F) x0 = y
  exact broadcastInDim_apply _ bcast_S4096x1_S4096x50257_0_1 y i (idx_main_call3_v10 i) (fun a => match a with
    | ⟨0, _⟩ => by show (i 0).val = if (4096 : Nat) = 1 then 0 else (i 0).val; rw [if_neg (by decide)]
    | ⟨1, _⟩ => by show 0 = if (1 : Nat) = 1 then 0 else (i 1).val; rw [if_pos rfl])

-- %56 = func.call @log_softmax(…) (record main_call3) result 0: @log_softmax's %11 = stablehlo.subtract %5, %10 : tensor<4096x50257xf32>
def val_main_v56 (x0 : (⟨S4096x50257, .f32⟩ : BufTy).Contents (Elt F)) : (⟨S4096x50257, .f32⟩ : BufTy).Contents (Elt F) :=
  subf (val_main_call3_v5 (F := F) x0) (val_main_call3_v10 (F := F) x0)
theorem val_main_v56_apply (x0 : (⟨S4096x50257, .f32⟩ : BufTy).Contents (Elt F)) (i : S4096x50257.Idx) :
    val_main_v56 (F := F) x0 i = FloatOps.subf (val_main_call3_v5 (F := F) x0 i) (val_main_call3_v10 (F := F) x0 i) := rfl

-- %57 = stablehlo.negate %56 : tensor<4096x50257xf32>
def val_main_v57 (x0 : (⟨S4096x50257, .f32⟩ : BufTy).Contents (Elt F)) : (⟨S4096x50257, .f32⟩ : BufTy).Contents (Elt F) :=
  Host.negf (val_main_v56 (F := F) x0)
theorem val_main_v57_apply (x0 : (⟨S4096x50257, .f32⟩ : BufTy).Contents (Elt F)) (i : S4096x50257.Idx) :
    val_main_v57 (F := F) x0 i = FloatOps.hostNegf (val_main_v56 (F := F) x0 i) := rfl

-- %58 = stablehlo.multiply %57, %55 : tensor<4096x50257xf32>
def val_main_v58 (x0 : (⟨S4096x50257, .f32⟩ : BufTy).Contents (Elt F)) (x1 : (⟨S4096, .i32⟩ : BufTy).Contents (Elt F)) : (⟨S4096x50257, .f32⟩ : BufTy).Contents (Elt F) :=
  mulf (val_main_v57 (F := F) x0) (val_main_v55 (F := F) x0 x1)
theorem val_main_v58_apply (x0 : (⟨S4096x50257, .f32⟩ : BufTy).Contents (Elt F)) (x1 : (⟨S4096, .i32⟩ : BufTy).Contents (Elt F)) (i : S4096x50257.Idx) :
    val_main_v58 (F := F) x0 x1 i = FloatOps.mulf (val_main_v57 (F := F) x0 i) (val_main_v55 (F := F) x0 x1 i) := rfl

-- %cst_9 = stablehlo.constant dense<0.000000e+00> : tensor<f32>
def val_main_cst_9 : (⟨S_, .f32⟩ : BufTy).Contents (Elt F) :=
  constant S_ .f32 0x00000000#32
theorem val_main_cst_9_apply (i : S_.Idx) :
    val_main_cst_9 (F := F) i = FloatOps.ofBits .f32 0x00000000#32 := rfl

-- %59 = stablehlo.reduce(%58 init: %cst_9) applies stablehlo.add across dimensions = [0, 1] : (tensor<4096x50257xf32>, tensor<f32>) -> tensor<f32> {
def val_main_v59 (x0 : (⟨S4096x50257, .f32⟩ : BufTy).Contents (Elt F)) (x1 : (⟨S4096, .i32⟩ : BufTy).Contents (Elt F)) : (⟨S_, .f32⟩ : BufTy).Contents (Elt F) :=
  Host.reduceAdd (val_main_v58 (F := F) x0 x1) (val_main_cst_9 (F := F)) reducesTo_S4096x50257_S_d0_1 h_S_
/-- Stated at `F := Ideal`, where the host's float sum is this sum; at a bit-exact instance it is an opaque function of its operand. -/
theorem val_main_v59_apply (x0 : (⟨S4096x50257, .f32⟩ : BufTy).Contents (Elt Ideal)) (x1 : (⟨S4096, .i32⟩ : BufTy).Contents (Elt Ideal)) (i : S_.Idx) :
    val_main_v59 (F := Ideal) x0 x1 i = (val_main_cst_9 (F := Ideal)) (Shape.Idx.first h_S_) + ∑ j : S4096x50257.Idx, (val_main_v58 (F := Ideal) x0 x1) j := by
  unfold val_main_v59
  generalize val_main_v58 (F := Ideal) x0 x1 = y0
  simp only [Host.reduceAdd, Ideal.hostReduceAdd_def]
  exact Ideal.hostReduceAdd_total reducesTo_S4096x50257_S_d0_1 (fun b => b.elim0) y0 _ i

-- %cst_10 = stablehlo.constant dense<4.096000e+03> : tensor<f32>
def val_main_cst_10 : (⟨S_, .f32⟩ : BufTy).Contents (Elt F) :=
  constant S_ .f32 0x45800000#32
theorem val_main_cst_10_apply (i : S_.Idx) :
    val_main_cst_10 (F := F) i = FloatOps.ofBits .f32 0x45800000#32 := rfl

-- %60 = stablehlo.divide %59, %cst_10 : tensor<f32>
def val_main_v60 (x0 : (⟨S4096x50257, .f32⟩ : BufTy).Contents (Elt F)) (x1 : (⟨S4096, .i32⟩ : BufTy).Contents (Elt F)) : (⟨S_, .f32⟩ : BufTy).Contents (Elt F) :=
  Host.divf (val_main_v59 (F := F) x0 x1) (val_main_cst_10 (F := F))
theorem val_main_v60_apply (x0 : (⟨S4096x50257, .f32⟩ : BufTy).Contents (Elt F)) (x1 : (⟨S4096, .i32⟩ : BufTy).Contents (Elt F)) (i : S_.Idx) :
    val_main_v60 (F := F) x0 x1 i = FloatOps.hostDivf (val_main_v59 (F := F) x0 x1 i) (val_main_cst_10 (F := F) i) := rfl

-- %c_11 = stablehlo.constant dense<1> : tensor<i32>
def val_main_c_11 : (⟨S_, .i32⟩ : BufTy).Contents (Elt F) :=
  constantI S_ 32 1#32
theorem val_main_c_11_apply (i : S_.Idx) :
    val_main_c_11 (F := F) i = 1#32 := rfl

-- %61 = stablehlo.broadcast_in_dim %c_11, dims = [] : (tensor<i32>) -> tensor<4096xi32>
def val_main_v61 : (⟨S4096, .i32⟩ : BufTy).Contents (Elt F) :=
  broadcastInDim S4096 ![] bcast_S_S4096 (val_main_c_11 (F := F))
abbrev idx_main_v61 (i : S4096.Idx) : S_.Idx := fun a => a.elim0
theorem val_main_v61_apply (i : S4096.Idx) :
    val_main_v61 (F := F) i = val_main_c_11 (F := F) (idx_main_v61 i) := by
  unfold val_main_v61
  generalize val_main_c_11 (F := F) = y
  exact broadcastInDim_apply _ bcast_S_S4096 y i (idx_main_v61 i) (fun a => a.elim0)

-- %62 = stablehlo.multiply %17, %11 : tensor<4096xi32>
def val_main_v62 (x0 : (⟨S4096x50257, .f32⟩ : BufTy).Contents (Elt F)) (x1 : (⟨S4096, .i32⟩ : BufTy).Contents (Elt F)) : (⟨S4096, .i32⟩ : BufTy).Contents (Elt F) :=
  muli (val_main_v17 (F := F) x0 x1) (val_main_v11 (F := F) x0)
theorem val_main_v62_apply (x0 : (⟨S4096x50257, .f32⟩ : BufTy).Contents (Elt F)) (x1 : (⟨S4096, .i32⟩ : BufTy).Contents (Elt F)) (i : S4096.Idx) :
    val_main_v62 (F := F) x0 x1 i = IntOp.muli (val_main_v17 (F := F) x0 x1 i) (val_main_v11 (F := F) x0 i) := rfl

-- %63 = stablehlo.subtract %61, %17 : tensor<4096xi32>
def val_main_v63 (x0 : (⟨S4096x50257, .f32⟩ : BufTy).Contents (Elt F)) (x1 : (⟨S4096, .i32⟩ : BufTy).Contents (Elt F)) : (⟨S4096, .i32⟩ : BufTy).Contents (Elt F) :=
  subi (val_main_v61 (F := F)) (val_main_v17 (F := F) x0 x1)
theorem val_main_v63_apply (x0 : (⟨S4096x50257, .f32⟩ : BufTy).Contents (Elt F)) (x1 : (⟨S4096, .i32⟩ : BufTy).Contents (Elt F)) (i : S4096.Idx) :
    val_main_v63 (F := F) x0 x1 i = IntOp.subi (val_main_v61 (F := F) i) (val_main_v17 (F := F) x0 x1 i) := rfl

-- %c_12 = stablehlo.constant dense<-1> : tensor<i32>
def val_main_c_12 : (⟨S_, .i32⟩ : BufTy).Contents (Elt F) :=
  constantI S_ 32 4294967295#32
theorem val_main_c_12_apply (i : S_.Idx) :
    val_main_c_12 (F := F) i = 4294967295#32 := rfl

-- %64 = stablehlo.broadcast_in_dim %c_12, dims = [] : (tensor<i32>) -> tensor<4096xi32>
def val_main_v64 : (⟨S4096, .i32⟩ : BufTy).Contents (Elt F) :=
  broadcastInDim S4096 ![] bcast_S_S4096 (val_main_c_12 (F := F))
abbrev idx_main_v64 (i : S4096.Idx) : S_.Idx := fun a => a.elim0
theorem val_main_v64_apply (i : S4096.Idx) :
    val_main_v64 (F := F) i = val_main_c_12 (F := F) (idx_main_v64 i) := by
  unfold val_main_v64
  generalize val_main_c_12 (F := F) = y
  exact broadcastInDim_apply _ bcast_S_S4096 y i (idx_main_v64 i) (fun a => a.elim0)

-- %65 = stablehlo.multiply %63, %64 : tensor<4096xi32>
def val_main_v65 (x0 : (⟨S4096x50257, .f32⟩ : BufTy).Contents (Elt F)) (x1 : (⟨S4096, .i32⟩ : BufTy).Contents (Elt F)) : (⟨S4096, .i32⟩ : BufTy).Contents (Elt F) :=
  muli (val_main_v63 (F := F) x0 x1) (val_main_v64 (F := F))
theorem val_main_v65_apply (x0 : (⟨S4096x50257, .f32⟩ : BufTy).Contents (Elt F)) (x1 : (⟨S4096, .i32⟩ : BufTy).Contents (Elt F)) (i : S4096.Idx) :
    val_main_v65 (F := F) x0 x1 i = IntOp.muli (val_main_v63 (F := F) x0 x1 i) (val_main_v64 (F := F) i) := rfl

-- %66 = stablehlo.add %62, %65 : tensor<4096xi32>
def val_main_v66 (x0 : (⟨S4096x50257, .f32⟩ : BufTy).Contents (Elt F)) (x1 : (⟨S4096, .i32⟩ : BufTy).Contents (Elt F)) : (⟨S4096, .i32⟩ : BufTy).Contents (Elt F) :=
  addi (val_main_v62 (F := F) x0 x1) (val_main_v65 (F := F) x0 x1)
theorem val_main_v66_apply (x0 : (⟨S4096x50257, .f32⟩ : BufTy).Contents (Elt F)) (x1 : (⟨S4096, .i32⟩ : BufTy).Contents (Elt F)) (i : S4096.Idx) :
    val_main_v66 (F := F) x0 x1 i = IntOp.addi (val_main_v62 (F := F) x0 x1 i) (val_main_v65 (F := F) x0 x1 i) := rfl

-- %67 = stablehlo.multiply %17, %21 : tensor<4096xi32>
def val_main_v67 (x0 : (⟨S4096x50257, .f32⟩ : BufTy).Contents (Elt F)) (x1 : (⟨S4096, .i32⟩ : BufTy).Contents (Elt F)) : (⟨S4096, .i32⟩ : BufTy).Contents (Elt F) :=
  muli (val_main_v17 (F := F) x0 x1) (val_main_v21 (F := F) x0)
theorem val_main_v67_apply (x0 : (⟨S4096x50257, .f32⟩ : BufTy).Contents (Elt F)) (x1 : (⟨S4096, .i32⟩ : BufTy).Contents (Elt F)) (i : S4096.Idx) :
    val_main_v67 (F := F) x0 x1 i = IntOp.muli (val_main_v17 (F := F) x0 x1 i) (val_main_v21 (F := F) x0 i) := rfl

-- %68 = stablehlo.subtract %61, %17 : tensor<4096xi32>
def val_main_v68 (x0 : (⟨S4096x50257, .f32⟩ : BufTy).Contents (Elt F)) (x1 : (⟨S4096, .i32⟩ : BufTy).Contents (Elt F)) : (⟨S4096, .i32⟩ : BufTy).Contents (Elt F) :=
  subi (val_main_v61 (F := F)) (val_main_v17 (F := F) x0 x1)
theorem val_main_v68_apply (x0 : (⟨S4096x50257, .f32⟩ : BufTy).Contents (Elt F)) (x1 : (⟨S4096, .i32⟩ : BufTy).Contents (Elt F)) (i : S4096.Idx) :
    val_main_v68 (F := F) x0 x1 i = IntOp.subi (val_main_v61 (F := F) i) (val_main_v17 (F := F) x0 x1 i) := rfl

-- %c_13 = stablehlo.constant dense<-1> : tensor<i32>
def val_main_c_13 : (⟨S_, .i32⟩ : BufTy).Contents (Elt F) :=
  constantI S_ 32 4294967295#32
theorem val_main_c_13_apply (i : S_.Idx) :
    val_main_c_13 (F := F) i = 4294967295#32 := rfl

-- %69 = stablehlo.broadcast_in_dim %c_13, dims = [] : (tensor<i32>) -> tensor<4096xi32>
def val_main_v69 : (⟨S4096, .i32⟩ : BufTy).Contents (Elt F) :=
  broadcastInDim S4096 ![] bcast_S_S4096 (val_main_c_13 (F := F))
abbrev idx_main_v69 (i : S4096.Idx) : S_.Idx := fun a => a.elim0
theorem val_main_v69_apply (i : S4096.Idx) :
    val_main_v69 (F := F) i = val_main_c_13 (F := F) (idx_main_v69 i) := by
  unfold val_main_v69
  generalize val_main_c_13 (F := F) = y
  exact broadcastInDim_apply _ bcast_S_S4096 y i (idx_main_v69 i) (fun a => a.elim0)

-- %70 = stablehlo.multiply %68, %69 : tensor<4096xi32>
def val_main_v70 (x0 : (⟨S4096x50257, .f32⟩ : BufTy).Contents (Elt F)) (x1 : (⟨S4096, .i32⟩ : BufTy).Contents (Elt F)) : (⟨S4096, .i32⟩ : BufTy).Contents (Elt F) :=
  muli (val_main_v68 (F := F) x0 x1) (val_main_v69 (F := F))
theorem val_main_v70_apply (x0 : (⟨S4096x50257, .f32⟩ : BufTy).Contents (Elt F)) (x1 : (⟨S4096, .i32⟩ : BufTy).Contents (Elt F)) (i : S4096.Idx) :
    val_main_v70 (F := F) x0 x1 i = IntOp.muli (val_main_v68 (F := F) x0 x1 i) (val_main_v69 (F := F) i) := rfl

-- %71 = stablehlo.add %67, %70 : tensor<4096xi32>
def val_main_v71 (x0 : (⟨S4096x50257, .f32⟩ : BufTy).Contents (Elt F)) (x1 : (⟨S4096, .i32⟩ : BufTy).Contents (Elt F)) : (⟨S4096, .i32⟩ : BufTy).Contents (Elt F) :=
  addi (val_main_v67 (F := F) x0 x1) (val_main_v70 (F := F) x0 x1)
theorem val_main_v71_apply (x0 : (⟨S4096x50257, .f32⟩ : BufTy).Contents (Elt F)) (x1 : (⟨S4096, .i32⟩ : BufTy).Contents (Elt F)) (i : S4096.Idx) :
    val_main_v71 (F := F) x0 x1 i = IntOp.addi (val_main_v67 (F := F) x0 x1 i) (val_main_v70 (F := F) x0 x1 i) := rfl

-- %72 = stablehlo.multiply %17, %23 : tensor<4096xi32>
def val_main_v72 (x0 : (⟨S4096x50257, .f32⟩ : BufTy).Contents (Elt F)) (x1 : (⟨S4096, .i32⟩ : BufTy).Contents (Elt F)) : (⟨S4096, .i32⟩ : BufTy).Contents (Elt F) :=
  muli (val_main_v17 (F := F) x0 x1) (val_main_v23 (F := F) x0)
theorem val_main_v72_apply (x0 : (⟨S4096x50257, .f32⟩ : BufTy).Contents (Elt F)) (x1 : (⟨S4096, .i32⟩ : BufTy).Contents (Elt F)) (i : S4096.Idx) :
    val_main_v72 (F := F) x0 x1 i = IntOp.muli (val_main_v17 (F := F) x0 x1 i) (val_main_v23 (F := F) x0 i) := rfl

-- %73 = stablehlo.subtract %61, %17 : tensor<4096xi32>
def val_main_v73 (x0 : (⟨S4096x50257, .f32⟩ : BufTy).Contents (Elt F)) (x1 : (⟨S4096, .i32⟩ : BufTy).Contents (Elt F)) : (⟨S4096, .i32⟩ : BufTy).Contents (Elt F) :=
  subi (val_main_v61 (F := F)) (val_main_v17 (F := F) x0 x1)
theorem val_main_v73_apply (x0 : (⟨S4096x50257, .f32⟩ : BufTy).Contents (Elt F)) (x1 : (⟨S4096, .i32⟩ : BufTy).Contents (Elt F)) (i : S4096.Idx) :
    val_main_v73 (F := F) x0 x1 i = IntOp.subi (val_main_v61 (F := F) i) (val_main_v17 (F := F) x0 x1 i) := rfl

-- %c_14 = stablehlo.constant dense<-1> : tensor<i32>
def val_main_c_14 : (⟨S_, .i32⟩ : BufTy).Contents (Elt F) :=
  constantI S_ 32 4294967295#32
theorem val_main_c_14_apply (i : S_.Idx) :
    val_main_c_14 (F := F) i = 4294967295#32 := rfl

-- %74 = stablehlo.broadcast_in_dim %c_14, dims = [] : (tensor<i32>) -> tensor<4096xi32>
def val_main_v74 : (⟨S4096, .i32⟩ : BufTy).Contents (Elt F) :=
  broadcastInDim S4096 ![] bcast_S_S4096 (val_main_c_14 (F := F))
abbrev idx_main_v74 (i : S4096.Idx) : S_.Idx := fun a => a.elim0
theorem val_main_v74_apply (i : S4096.Idx) :
    val_main_v74 (F := F) i = val_main_c_14 (F := F) (idx_main_v74 i) := by
  unfold val_main_v74
  generalize val_main_c_14 (F := F) = y
  exact broadcastInDim_apply _ bcast_S_S4096 y i (idx_main_v74 i) (fun a => a.elim0)

-- %75 = stablehlo.multiply %73, %74 : tensor<4096xi32>
def val_main_v75 (x0 : (⟨S4096x50257, .f32⟩ : BufTy).Contents (Elt F)) (x1 : (⟨S4096, .i32⟩ : BufTy).Contents (Elt F)) : (⟨S4096, .i32⟩ : BufTy).Contents (Elt F) :=
  muli (val_main_v73 (F := F) x0 x1) (val_main_v74 (F := F))
theorem val_main_v75_apply (x0 : (⟨S4096x50257, .f32⟩ : BufTy).Contents (Elt F)) (x1 : (⟨S4096, .i32⟩ : BufTy).Contents (Elt F)) (i : S4096.Idx) :
    val_main_v75 (F := F) x0 x1 i = IntOp.muli (val_main_v73 (F := F) x0 x1 i) (val_main_v74 (F := F) i) := rfl

-- %76 = stablehlo.add %72, %75 : tensor<4096xi32>
def val_main_v76 (x0 : (⟨S4096x50257, .f32⟩ : BufTy).Contents (Elt F)) (x1 : (⟨S4096, .i32⟩ : BufTy).Contents (Elt F)) : (⟨S4096, .i32⟩ : BufTy).Contents (Elt F) :=
  addi (val_main_v72 (F := F) x0 x1) (val_main_v75 (F := F) x0 x1)
theorem val_main_v76_apply (x0 : (⟨S4096x50257, .f32⟩ : BufTy).Contents (Elt F)) (x1 : (⟨S4096, .i32⟩ : BufTy).Contents (Elt F)) (i : S4096.Idx) :
    val_main_v76 (F := F) x0 x1 i = IntOp.addi (val_main_v72 (F := F) x0 x1 i) (val_main_v75 (F := F) x0 x1 i) := rfl

-- %77 = stablehlo.subtract %61, %17 : tensor<4096xi32>
def val_main_v77 (x0 : (⟨S4096x50257, .f32⟩ : BufTy).Contents (Elt F)) (x1 : (⟨S4096, .i32⟩ : BufTy).Contents (Elt F)) : (⟨S4096, .i32⟩ : BufTy).Contents (Elt F) :=
  subi (val_main_v61 (F := F)) (val_main_v17 (F := F) x0 x1)
theorem val_main_v77_apply (x0 : (⟨S4096x50257, .f32⟩ : BufTy).Contents (Elt F)) (x1 : (⟨S4096, .i32⟩ : BufTy).Contents (Elt F)) (i : S4096.Idx) :
    val_main_v77 (F := F) x0 x1 i = IntOp.subi (val_main_v61 (F := F) i) (val_main_v17 (F := F) x0 x1 i) := rfl

-- %c_15 = stablehlo.constant dense<0> : tensor<i32>
def val_main_c_15 : (⟨S_, .i32⟩ : BufTy).Contents (Elt F) :=
  constantI S_ 32 0#32
theorem val_main_c_15_apply (i : S_.Idx) :
    val_main_c_15 (F := F) i = 0#32 := rfl

-- %78 = stablehlo.reduce(%77 init: %c_15) applies stablehlo.add across dimensions = [0] : (tensor<4096xi32>, tensor<i32>) -> tensor<i32> {
def val_main_v78 (x0 : (⟨S4096x50257, .f32⟩ : BufTy).Contents (Elt F)) (x1 : (⟨S4096, .i32⟩ : BufTy).Contents (Elt F)) : (⟨S_, .i32⟩ : BufTy).Contents (Elt F) :=
  Host.reduce IntOp.addi (val_main_v77 (F := F) x0 x1) (val_main_c_15 (F := F)) reducesTo_S4096_S_d0 h_S_

-- %79 = stablehlo.convert %17 : (tensor<4096xi32>) -> tensor<4096xf32>
def val_main_v79 (x0 : (⟨S4096x50257, .f32⟩ : BufTy).Contents (Elt F)) (x1 : (⟨S4096, .i32⟩ : BufTy).Contents (Elt F)) : (⟨S4096, .f32⟩ : BufTy).Contents (Elt F) :=
  sitofp .f32 (val_main_v17 (F := F) x0 x1)
theorem val_main_v79_apply (x0 : (⟨S4096x50257, .f32⟩ : BufTy).Contents (Elt F)) (x1 : (⟨S4096, .i32⟩ : BufTy).Contents (Elt F)) (i : S4096.Idx) :
    val_main_v79 (F := F) x0 x1 i = FloatOps.sitofp .f32 (val_main_v17 (F := F) x0 x1 i) := rfl

-- %80 = stablehlo.multiply %79, %19 : tensor<4096xf32>
def val_main_v80 (x0 : (⟨S4096x50257, .f32⟩ : BufTy).Contents (Elt F)) (x1 : (⟨S4096, .i32⟩ : BufTy).Contents (Elt F)) : (⟨S4096, .f32⟩ : BufTy).Contents (Elt F) :=
  mulf (val_main_v79 (F := F) x0 x1) (val_main_v19 (F := F) x0)
theorem val_main_v80_apply (x0 : (⟨S4096x50257, .f32⟩ : BufTy).Contents (Elt F)) (x1 : (⟨S4096, .i32⟩ : BufTy).Contents (Elt F)) (i : S4096.Idx) :
    val_main_v80 (F := F) x0 x1 i = FloatOps.mulf (val_main_v79 (F := F) x0 x1 i) (val_main_v19 (F := F) x0 i) := rfl

/-- The term the Run module names `res_main_v60` is the stage. -/
theorem val_main_v60_eq (m : (ℓ : Loc nD τ sig) → Buf (Elt F) ℓ) (c : Dev nD) :
    Cert.ReferenceIdeal.Value.res_main_v60 m c = val_main_v60 (F := F) (m ((c.tc : Thread nD τ).loc main_arg0)) (m ((c.tc : Thread nD τ).loc main_arg1)) := by
  unfold Cert.ReferenceIdeal.Value.res_main_v60; rfl

/-- The term the Run module states for `main_v17` is the stage. -/
theorem val_main_v17_eq (x0 : (⟨S4096x50257, .f32⟩ : BufTy).Contents (Elt F)) (x1 : (⟨S4096, .i32⟩ : BufTy).Contents (Elt F)) :
    extui 32 (cmpf .olt (shapeCast _ (select (Host.reduce IntOp.andi (andi (cmpi .sge (shapeCast _ (select (cmpi .slt (broadcastInDim S4096x1 ![0] bcast_S4096_S4096x1_0 (x1)) (broadcastInDim S4096x1 ![] bcast_S_S4096x1 (constantI S_ 32 0#32))) (addi (broadcastInDim S4096x1 ![0] bcast_S4096_S4096x1_0 (x1)) (broadcastInDim S4096x1 ![] bcast_S_S4096x1 (constantI S_ 32 50257#32))) (broadcastInDim S4096x1 ![0] bcast_S4096_S4096x1_0 (x1))) shapeCasts_S4096x1_S4096x1x1) (broadcastInDim S4096x1x1 ![] bcast_S_S4096x1x1 (constantI S_ 32 0#32))) (cmpi .sle (shapeCast _ (select (cmpi .slt (broadcastInDim S4096x1 ![0] bcast_S4096_S4096x1_0 (x1)) (broadcastInDim S4096x1 ![] bcast_S_S4096x1 (constantI S_ 32 0#32))) (addi (broadcastInDim S4096x1 ![0] bcast_S4096_S4096x1_0 (x1)) (broadcastInDim S4096x1 ![] bcast_S_S4096x1 (constantI S_ 32 50257#32))) (broadcastInDim S4096x1 ![0] bcast_S4096_S4096x1_0 (x1))) shapeCasts_S4096x1_S4096x1x1) (broadcastInDim S4096x1x1 ![0, 1, 2] bcast_S1x1x1_S4096x1x1_0_1_2 (broadcastInDim S1x1x1 ![2] bcast_S1_S1x1x1_2 (constantI S1 32 50256#32))))) (constantI S_ 1 1#1) reducesTo_S4096x1x1_S4096x1_d2 h_S_) (Host.gather gather_S4096x50257_S4096x1x1_S4096x1_n_1_0_0_1_2_11 (Host.divf (Host.exp (subf (x0) (broadcastInDim S4096x50257 ![0, 1] bcast_S4096x1_S4096x50257_0_1 (broadcastInDim S4096x1 ![0] bcast_S4096_S4096x1_0 (maximumf (broadcastInDim S4096 ![] bcast_S_S4096 (constant S_ .f32 0xFF800000#32)) (Host.reduce FloatOps.maximumf (x0) (constant S_ .f32 0xFF800000#32) reducesTo_S4096x50257_S4096_d1 h_S_)))))) (broadcastInDim S4096x50257 ![0, 1] bcast_S4096x1_S4096x50257_0_1 (broadcastInDim S4096x1 ![0] bcast_S4096_S4096x1_0 (Host.reduceAdd (Host.exp (subf (x0) (broadcastInDim S4096x50257 ![0, 1] bcast_S4096x1_S4096x50257_0_1 (broadcastInDim S4096x1 ![0] bcast_S4096_S4096x1_0 (maximumf (broadcastInDim S4096 ![] bcast_S_S4096 (constant S_ .f32 0xFF800000#32)) (Host.reduce FloatOps.maximumf (x0) (constant S_ .f32 0xFF800000#32) reducesTo_S4096x50257_S4096_d1 h_S_)))))) (constant S_ .f32 0x00000000#32) reducesTo_S4096x50257_S4096_d1 h_S_)))) (shapeCast _ (select (cmpi .slt (broadcastInDim S4096x1 ![0] bcast_S4096_S4096x1_0 (x1)) (broadcastInDim S4096x1 ![] bcast_S_S4096x1 (constantI S_ 32 0#32))) (addi (broadcastInDim S4096x1 ![0] bcast_S4096_S4096x1_0 (x1)) (broadcastInDim S4096x1 ![] bcast_S_S4096x1 (constantI S_ 32 50257#32))) (broadcastInDim S4096x1 ![0] bcast_S4096_S4096x1_0 (x1))) shapeCasts_S4096x1_S4096x1x1)) (broadcastInDim S4096x1 ![] bcast_S_S4096x1 (constant S_ .f32 0x7FC00000#32))) shapeCasts_S4096x1_S4096) (broadcastInDim S4096 ![] bcast_S_S4096 (constant S_ .f32 0x3CA3D70A#32))) natLt_1_32
      = val_main_v17 (F := F) x0 x1 := rfl

/-- The term the Run module names `res_main_v66` is the stage. -/
theorem val_main_v66_eq (m : (ℓ : Loc nD τ sig) → Buf (Elt F) ℓ) (c : Dev nD) :
    Cert.ReferenceIdeal.Value.res_main_v66 m c = val_main_v66 (F := F) (m ((c.tc : Thread nD τ).loc main_arg0)) (m ((c.tc : Thread nD τ).loc main_arg1)) := by
  unfold Cert.ReferenceIdeal.Value.res_main_v66; rfl

/-- The term the Run module names `res_main_v71` is the stage. -/
theorem val_main_v71_eq (m : (ℓ : Loc nD τ sig) → Buf (Elt F) ℓ) (c : Dev nD) :
    Cert.ReferenceIdeal.Value.res_main_v71 m c = val_main_v71 (F := F) (m ((c.tc : Thread nD τ).loc main_arg0)) (m ((c.tc : Thread nD τ).loc main_arg1)) := by
  unfold Cert.ReferenceIdeal.Value.res_main_v71; rfl

/-- The term the Run module names `res_main_v76` is the stage. -/
theorem val_main_v76_eq (m : (ℓ : Loc nD τ sig) → Buf (Elt F) ℓ) (c : Dev nD) :
    Cert.ReferenceIdeal.Value.res_main_v76 m c = val_main_v76 (F := F) (m ((c.tc : Thread nD τ).loc main_arg0)) (m ((c.tc : Thread nD τ).loc main_arg1)) := by
  unfold Cert.ReferenceIdeal.Value.res_main_v76; rfl

/-- The term the Run module states for `main_v78` is the stage. -/
theorem val_main_v78_eq (x0 : (⟨S4096x50257, .f32⟩ : BufTy).Contents (Elt F)) (x1 : (⟨S4096, .i32⟩ : BufTy).Contents (Elt F)) :
    Host.reduce IntOp.addi (subi (broadcastInDim S4096 ![] bcast_S_S4096 (constantI S_ 32 1#32)) (extui 32 (cmpf .olt (shapeCast _ (select (Host.reduce IntOp.andi (andi (cmpi .sge (shapeCast _ (select (cmpi .slt (broadcastInDim S4096x1 ![0] bcast_S4096_S4096x1_0 (x1)) (broadcastInDim S4096x1 ![] bcast_S_S4096x1 (constantI S_ 32 0#32))) (addi (broadcastInDim S4096x1 ![0] bcast_S4096_S4096x1_0 (x1)) (broadcastInDim S4096x1 ![] bcast_S_S4096x1 (constantI S_ 32 50257#32))) (broadcastInDim S4096x1 ![0] bcast_S4096_S4096x1_0 (x1))) shapeCasts_S4096x1_S4096x1x1) (broadcastInDim S4096x1x1 ![] bcast_S_S4096x1x1 (constantI S_ 32 0#32))) (cmpi .sle (shapeCast _ (select (cmpi .slt (broadcastInDim S4096x1 ![0] bcast_S4096_S4096x1_0 (x1)) (broadcastInDim S4096x1 ![] bcast_S_S4096x1 (constantI S_ 32 0#32))) (addi (broadcastInDim S4096x1 ![0] bcast_S4096_S4096x1_0 (x1)) (broadcastInDim S4096x1 ![] bcast_S_S4096x1 (constantI S_ 32 50257#32))) (broadcastInDim S4096x1 ![0] bcast_S4096_S4096x1_0 (x1))) shapeCasts_S4096x1_S4096x1x1) (broadcastInDim S4096x1x1 ![0, 1, 2] bcast_S1x1x1_S4096x1x1_0_1_2 (broadcastInDim S1x1x1 ![2] bcast_S1_S1x1x1_2 (constantI S1 32 50256#32))))) (constantI S_ 1 1#1) reducesTo_S4096x1x1_S4096x1_d2 h_S_) (Host.gather gather_S4096x50257_S4096x1x1_S4096x1_n_1_0_0_1_2_11 (Host.divf (Host.exp (subf (x0) (broadcastInDim S4096x50257 ![0, 1] bcast_S4096x1_S4096x50257_0_1 (broadcastInDim S4096x1 ![0] bcast_S4096_S4096x1_0 (maximumf (broadcastInDim S4096 ![] bcast_S_S4096 (constant S_ .f32 0xFF800000#32)) (Host.reduce FloatOps.maximumf (x0) (constant S_ .f32 0xFF800000#32) reducesTo_S4096x50257_S4096_d1 h_S_)))))) (broadcastInDim S4096x50257 ![0, 1] bcast_S4096x1_S4096x50257_0_1 (broadcastInDim S4096x1 ![0] bcast_S4096_S4096x1_0 (Host.reduceAdd (Host.exp (subf (x0) (broadcastInDim S4096x50257 ![0, 1] bcast_S4096x1_S4096x50257_0_1 (broadcastInDim S4096x1 ![0] bcast_S4096_S4096x1_0 (maximumf (broadcastInDim S4096 ![] bcast_S_S4096 (constant S_ .f32 0xFF800000#32)) (Host.reduce FloatOps.maximumf (x0) (constant S_ .f32 0xFF800000#32) reducesTo_S4096x50257_S4096_d1 h_S_)))))) (constant S_ .f32 0x00000000#32) reducesTo_S4096x50257_S4096_d1 h_S_)))) (shapeCast _ (select (cmpi .slt (broadcastInDim S4096x1 ![0] bcast_S4096_S4096x1_0 (x1)) (broadcastInDim S4096x1 ![] bcast_S_S4096x1 (constantI S_ 32 0#32))) (addi (broadcastInDim S4096x1 ![0] bcast_S4096_S4096x1_0 (x1)) (broadcastInDim S4096x1 ![] bcast_S_S4096x1 (constantI S_ 32 50257#32))) (broadcastInDim S4096x1 ![0] bcast_S4096_S4096x1_0 (x1))) shapeCasts_S4096x1_S4096x1x1)) (broadcastInDim S4096x1 ![] bcast_S_S4096x1 (constant S_ .f32 0x7FC00000#32))) shapeCasts_S4096x1_S4096) (broadcastInDim S4096 ![] bcast_S_S4096 (constant S_ .f32 0x3CA3D70A#32))) natLt_1_32)) (constantI S_ 32 0#32) reducesTo_S4096_S_d0 h_S_
      = val_main_v78 (F := F) x0 x1 := rfl

/-- The term the Run module names `res_main_v80` is the stage. -/
theorem val_main_v80_eq (m : (ℓ : Loc nD τ sig) → Buf (Elt F) ℓ) (c : Dev nD) :
    Cert.ReferenceIdeal.Value.res_main_v80 m c = val_main_v80 (F := F) (m ((c.tc : Thread nD τ).loc main_arg0)) (m ((c.tc : Thread nD τ).loc main_arg1)) := by
  unfold Cert.ReferenceIdeal.Value.res_main_v80; rfl

end Cert.ReferenceIdeal.Read

end
-- ==== Proof.Softmax.lean ====
/-
  The reference's softmax and log-softmax of a row of logits, and the stable facts about its largest entry.
-/
module

public import proofs.«01_k».proof.Proof.ReferenceRead
public import proofs.«01_k».proof.Proof.Answer

@[expose] public section

noncomputable section

namespace Cert.ReferenceIdeal.Rows

open Cert.ReferenceIdeal Cert.ReferenceIdeal.Gen Cert.ReferenceIdeal.Read Cert.Pick
open Idealize.ShloMosaic Idealize.ShloMosaic.TcCoe

theorem zero_f32 : Ideal.ofBits .f32 0x00000000#32 = 0 := by simp [Ideal.ofBits, Ideal.ieee]

theorem bot_f32 : Ideal.ofBits .f32 0xFF800000#32 = ⊥ := by simp [Ideal.ofBits, Ideal.ieee]

/-- The row's column of rank `i`. -/
def top (x : Fin 4096 → Fin 50257 → EReal) (r : Fin 4096) (i : Fin 3) : Fin 50257 := order (x r) ⟨i.val, by omega⟩

/-- The logits `A` are the rows `x`, none of which holds plus infinity, and whose three largest are real. -/
structure Reads (A : FVec Ideal S4096x50257 .f32) (x : Fin 4096 → Fin 50257 → EReal) : Prop where
  eq : ∀ r c, A (ValueIdx.ix2 r c) = x r c
  fin : ∀ r c, x r c ≠ ⊤
  solid : ∀ r (i : Fin 3), x r (top x r i) ≠ ⊥

theorem Reads.live {A : FVec Ideal S4096x50257 .f32} {x : Fin 4096 → Fin 50257 → EReal} (hx : Reads A x) (r : Fin 4096) :
    Answer.Live (x r) := ⟨hx.fin r, _, hx.solid r 0⟩

/-- A running maximum is no less than its start and its entries. -/
theorem le_fold_max {ι : Type} (f : ι → EReal) (l : List ι) (v : EReal) :
    v ≤ l.foldl (fun u i => max u (f i)) v ∧ ∀ i ∈ l, f i ≤ l.foldl (fun u i => max u (f i)) v := by
  induction l generalizing v with
  | nil => exact ⟨le_rfl, fun i h => absurd h List.not_mem_nil⟩
  | cons i l ih =>
    have g := ih (max v (f i))
    refine ⟨(le_max_left _ _).trans g.1, fun j hj => ?_⟩
    rcases List.mem_cons.1 hj with rfl | hj
    · exact (le_max_right _ _).trans g.1
    · exact g.2 j hj

theorem fold_max_ne_top {ι : Type} (f : ι → EReal) (l : List ι) (hf : ∀ i ∈ l, f i ≠ ⊤) (v : EReal) (hv : v ≠ ⊤) :
    l.foldl (fun u i => max u (f i)) v ≠ ⊤ := by
  induction l generalizing v with
  | nil => exact hv
  | cons i l ih =>
    refine ih (fun j hj => hf j (List.mem_cons_of_mem _ hj)) _ ?_
    exact (max_lt hv.lt_top (hf i (List.mem_cons_self ..)).lt_top).ne

theorem drop_row (r : Fin 4096) (c : Fin 50257) :
    reducesTo_S4096x50257_S4096_d1.drop (ValueIdx.ix2 r c) = ValueIdx.ix1 r := by
  funext a
  match a with
  | ⟨0, _⟩ => rfl

theorem row_of_drop (i : S4096x50257.Idx) (r : Fin 4096) (h : reducesTo_S4096x50257_S4096_d1.drop i = ValueIdx.ix1 r) :
    i = ValueIdx.ix2 r (i 1) := by
  have e : (i 0).val = r.val := congrArg (fun j : S4096.Idx => (j 0).val) h
  funext a
  match a with
  | ⟨0, _⟩ => exact Fin.ext e
  | ⟨1, _⟩ => rfl

/-- The greatest entry of a row is real. -/
theorem rowMax_real {A : FVec Ideal S4096x50257 .f32} {x : Fin 4096 → Fin 50257 → EReal} (hx : Reads A x) (r : Fin 4096) :
    ∃ a : ℝ, max (Ideal.ofBits .f32 0xFF800000#32) (Host.reduce FloatOps.maximumf A (constant (F := Ideal) S_ .f32 0xFF800000#32)
      reducesTo_S4096x50257_S4096_d1 h_S_ (ValueIdx.ix1 r)) = a := by
  rw [Host.reduce_eq_foldl]
  have hb : constant (F := Ideal) S_ .f32 0xFF800000#32 (Shape.Idx.first h_S_) = ⊥ := bot_f32
  rw [bot_f32, hb]
  have mem : ValueIdx.ix2 r (top x r 0) ∈ (((List.finRange S4096x50257.numel).map S4096x50257.rowMajor.symm).filter
      fun i => reducesTo_S4096x50257_S4096_d1.drop i = ValueIdx.ix1 r) := by
    refine List.mem_filter.2 ⟨?_, ?_⟩
    · exact List.mem_map.2 ⟨S4096x50257.rowMajor (ValueIdx.ix2 r (top x r 0)), List.mem_finRange _, Equiv.symm_apply_apply _ _⟩
    · exact decide_eq_true (drop_row r _)
  have hi := fold_max_ne_top (fun i => A i) (((List.finRange S4096x50257.numel).map S4096x50257.rowMajor.symm).filter
      fun i => reducesTo_S4096x50257_S4096_d1.drop i = ValueIdx.ix1 r) (fun i h => by
    obtain ⟨k, e⟩ : ∃ k : Fin 50257, i = ValueIdx.ix2 r k := ⟨_, row_of_drop i r (of_decide_eq_true (List.mem_filter.1 h).2)⟩
    show A i ≠ ⊤
    rw [e, hx.eq]
    exact hx.fin r k) ⊥ bot_ne_top
  have lo := (le_fold_max (fun i => A i) _ ⊥).2 _ mem
  have lo' := (bot_lt_iff_ne_bot.2 (hx.solid r 0)).trans_le ((hx.eq r _).symm.le.trans lo)
  exact ⟨_, (max_eq_right bot_le).trans (EReal.coe_toReal hi lo'.ne').symm⟩

section
variable (A : FVec Ideal S4096x50257 .f32) (x : Fin 4096 → Fin 50257 → EReal) (hx : Reads A x)

/-- A shift of every logit by one real divides the total. -/
theorem shift_total {n : ℕ} (x : Fin n → EReal) (M : ℝ) : ∑ c, Answer.weigh (x c) / Real.exp M = Answer.total x / Real.exp M := by
  unfold Answer.total
  rw [Finset.sum_div]

include hx in
theorem softmax_apply (r : Fin 4096) (c : Fin 50257) :
    val_main_v10 (F := Ideal) A (ValueIdx.ix2 r c) = (Answer.prob (x r) c : EReal) := by
  obtain ⟨M, hM⟩ := rowMax_real hx r
  have e6 : ∀ k : Fin 50257, val_main_v6 (F := Ideal) A (ValueIdx.ix2 r k) = ((Answer.weigh (x r k) / Real.exp M : ℝ) : EReal) := by
    intro k
    have e5 : val_main_v5 (F := Ideal) A (ValueIdx.ix2 r k) = x r k - (M : EReal) := by
      rw [val_main_v5_apply, val_main_v4_apply, val_main_v3_apply, hx.eq]
      have i : idx_main_v3 (idx_main_v4 (ValueIdx.ix2 r k)) = ValueIdx.ix1 r := by
        funext a
        match a with
        | ⟨0, _⟩ => rfl
      rw [i, val_main_v2_apply, val_main_v1_apply]
      exact congrArg (fun z : EReal => x r k - z) hM
    rw [val_main_v6_apply, e5]
    exact Answer.weigh_shift (hx.fin r k) M
  have e9 : val_main_v9 (F := Ideal) A (ValueIdx.ix2 r c) = ((Answer.total (x r) / Real.exp M : ℝ) : EReal) := by
    rw [val_main_v9_apply, val_main_v8_apply, val_main_v7_apply]
    have z : val_main_cst_1 (F := Ideal) (Shape.Idx.first h_S_) = 0 := zero_f32
    rw [z, zero_add, ← shift_total, ← Answer.coe_sum]
    refine Finset.sum_congr rfl fun k _ => ?_
    refine Eq.trans (congrArg (val_main_v6 (F := Ideal) A) ?_) (e6 k)
    funext a
    match a with
    | ⟨0, _⟩ => rfl
    | ⟨1, _⟩ => rfl
  have tp := Answer.total_pos (hx.live r)
  have ep := Real.exp_pos M
  rw [val_main_v10_apply, e6, e9]
  refine (Answer.div_real _ _ (div_pos tp ep).ne').trans ?_
  refine congrArg (fun z : ℝ => (z : EReal)) ?_
  unfold Answer.prob
  field_simp

theorem shift_back {z : EReal} (h : z ≠ ⊤) (M t : ℝ) : z - (M : EReal) - ((t - M : ℝ) : EReal) = z - (t : EReal) := by
  induction z using EReal.rec with
  | bot => rw [EReal.bot_sub, EReal.bot_sub, EReal.bot_sub]
  | top => exact absurd rfl h
  | coe a =>
    rw [← EReal.coe_sub, ← EReal.coe_sub, ← EReal.coe_sub]
    refine congrArg (fun z : ℝ => (z : EReal)) ?_
    ring

include hx in
theorem logSoftmax_apply (r : Fin 4096) (c : Fin 50257) :
    val_main_v56 (F := Ideal) A (ValueIdx.ix2 r c) = x r c - (Real.log (Answer.total (x r)) : EReal) := by
  obtain ⟨M, hM⟩ := rowMax_real hx r
  have e5 : ∀ k : Fin 50257, val_main_call3_v5 (F := Ideal) A (ValueIdx.ix2 r k) = x r k - (M : EReal) := by
    intro k
    rw [val_main_call3_v5_apply, val_main_call3_v4_apply, val_main_call3_v3_apply, hx.eq]
    have i : idx_main_call3_v3 (idx_main_call3_v4 (ValueIdx.ix2 r k)) = ValueIdx.ix1 r := by
      funext a
      match a with
      | ⟨0, _⟩ => rfl
    rw [i, val_main_call3_v2_apply, val_main_call3_v1_apply]
    exact congrArg (fun z : EReal => x r k - z) hM
  have tp := Answer.total_pos (hx.live r)
  have ep := Real.exp_pos M
  have e10 : val_main_call3_v10 (F := Ideal) A (ValueIdx.ix2 r c) = ((Real.log (Answer.total (x r)) - M : ℝ) : EReal) := by
    rw [val_main_call3_v10_apply, val_main_call3_v9_apply, val_main_call3_v8_apply, val_main_call3_v7_apply]
    have z : val_main_call3_cst_1 (F := Ideal) (Shape.Idx.first h_S_) = 0 := zero_f32
    rw [z, zero_add]
    have s : ∑ k : Fin 50257, val_main_call3_v6 (F := Ideal) A
        (idx_main_call3_v7 (idx_main_call3_v8 (idx_main_call3_v10 (ValueIdx.ix2 r c))) k)
          = ((Answer.total (x r) / Real.exp M : ℝ) : EReal) := by
      rw [← shift_total, ← Answer.coe_sum]
      refine Finset.sum_congr rfl fun k _ => ?_
      have i : idx_main_call3_v7 (idx_main_call3_v8 (idx_main_call3_v10 (ValueIdx.ix2 r c))) k = ValueIdx.ix2 r k := by
        funext a
        match a with
        | ⟨0, _⟩ => rfl
        | ⟨1, _⟩ => rfl
      rw [i, val_main_call3_v6_apply, e5]
      exact Answer.weigh_shift (hx.fin r k) M
    rw [s]
    refine (Answer.log_real _ (div_pos tp ep)).trans ?_
    rw [Real.log_div tp.ne' ep.ne', Real.log_exp]
  rw [val_main_v56_apply, e5, e10]
  exact shift_back (hx.fin r c) _ _
end

end Cert.ReferenceIdeal.Rows

end
-- ==== Proof.Places.lean ====
/-
  The reference's index results and the probability it reads at the label.
-/
module

public import proofs.«01_k».proof.Proof.Softmax
public import proofs.«01_k».proof.Proof.Sorted
public import Idealize.ShloMosaic.Lib.ReduceAll
public import Idealize.ShloMosaic.Lib.Affine
public import Idealize.ShloMosaic.Lib.Routing.OpsPair
public import Idealize.ShloMosaic.Lib.Routing.BitFacts

@[expose] public section

noncomputable section

namespace Cert.ReferenceIdeal.Rows

open Cert.ReferenceIdeal Cert.ReferenceIdeal.Gen Cert.ReferenceIdeal.Read Cert.Pick
open Idealize.ShloMosaic Idealize.ShloMosaic.TcCoe

theorem best_top (x : Fin 4096 → Fin 50257 → EReal) (r : Fin 4096) : Best (x r) (top x r 0) (top x r 1) (top x r 2) :=
  best_order (x r) (by omega)

/-- The probabilities of a row have the order of its logits. -/
theorem best_prob {x : Fin 4096 → Fin 50257 → EReal} (r : Fin 4096) (h : Answer.Live (x r)) :
    Best (fun c => (Answer.prob (x r) c : EReal)) (top x r 0) (top x r 1) (top x r 2) := by
  refine (best_top x r).congr fun i j => ?_
  rw [EReal.coe_lt_coe_iff, Answer.prob_lt h]

theorem order_congr {n : ℕ} (X Z : Fin n → EReal) (h : 3 ≤ n) (e : ∀ i j, X i < X j ↔ Z i < Z j) (i : Fin 3) (hi : i.val < n) :
    order Z ⟨i.val, hi⟩ = order X ⟨i.val, hi⟩ := by
  obtain ⟨h0, h1, h2⟩ := (best_order Z h).unique ((best_order X h).congr e)
  match i, hi with
  | ⟨0, _⟩, _ => exact h0
  | ⟨1, _⟩, _ => exact h1
  | ⟨2, _⟩, _ => exact h2

theorem order_prob {x : Fin 4096 → Fin 50257 → EReal} (r : Fin 4096) (h : Answer.Live (x r)) (i : Fin 3) (hi : i.val < 50257) :
    order (fun c => (Answer.prob (x r) c : EReal)) ⟨i.val, hi⟩ = top x r i :=
  order_congr (x r) _ (by omega) (fun i j => by
    rw [EReal.coe_lt_coe_iff, Answer.prob_lt h]) i hi

theorem before_all {n : ℕ} {X : Fin n → EReal} {a b c : Fin n} (h : Best X a b c) (k : Fin n) : k = a ∨ Before X a k := by
  rcases h.rest k with h' | h' | h' | h'
  · exact .inl h'
  · exact .inr (h' ▸ h.ab)
  · exact .inr (h' ▸ h.ab.trans h.bc)
  · exact .inr ((h.ab.trans h.bc).trans h')

/-- A fold ends at an entry that takes every other, wherever it stands. -/
theorem foldl_takes {α : Type} (f : α → α → α) (t : α) (P : α → Prop) (h1 : ∀ e, P e → f t e = t) (h2 : ∀ e, P e → f e t = t)
    (h3 : ∀ a b, P a → P b → P (f a b)) (l : List α) (hl : ∀ e ∈ l, P e) (a : α) (ha : P a) (ht : a = t ∨ t ∈ l) :
    l.foldl f a = t := by
  induction l generalizing a with
  | nil => exact ht.elim id fun h => absurd h List.not_mem_nil
  | cons e l ih =>
    have he := hl e (List.mem_cons_self ..)
    refine ih (fun j hj => hl j (List.mem_cons_of_mem _ hj)) _ (h3 _ _ ha he) ?_
    rcases ht with rfl | ht
    · exact .inl (h1 _ he)
    · rcases List.mem_cons.1 ht with rfl | ht
      · exact .inl (h2 _ ha)
      · exact .inr ht

/-- An entry that the greatest one takes. -/
def Under (t e : EReal × BitVec 32) : Prop := e = t ∨ e.1 < t.1 ∨ (e.1 = t.1 ∧ t.2.slt e.2 = true)

theorem pick_left (t e : EReal × BitVec 32) (h : e.1 < t.1 ∨ (e.1 = t.1 ∧ t.2.slt e.2 = true)) :
    reducer_argmax_f32_i32 (F := Ideal) t e = t := by
  obtain ⟨a, i⟩ := t
  obtain ⟨b, j⟩ := e
  simp only at h
  rcases h with h | ⟨rfl, h⟩
  · have hn : ¬ a = b := h.ne'
    simp [reducer_argmax_f32_i32, Scalar.select, IntOp.ori, IntOp.andi, FloatOps.cmpf, Ideal.cmp, h, hn]
  · simp [reducer_argmax_f32_i32, Scalar.select, IntOp.ori, IntOp.andi, IntOp.cmpi, FloatOps.cmpf, Ideal.cmp, h]

theorem pick_right (t e : EReal × BitVec 32) (h : e.1 < t.1 ∨ (e.1 = t.1 ∧ t.2.slt e.2 = true)) :
    reducer_argmax_f32_i32 (F := Ideal) e t = t := by
  obtain ⟨a, i⟩ := t
  obtain ⟨b, j⟩ := e
  simp only at h
  rcases h with h | ⟨rfl, h⟩
  · have hn : ¬ b = a := h.ne
    have hm : ¬ a < b := h.le.not_gt
    simp [reducer_argmax_f32_i32, Scalar.select, IntOp.ori, IntOp.andi, FloatOps.cmpf, Ideal.cmp, hm, hn]
  · have hm : j.slt i = false := by
      rw [BitVec.slt_eq_decide] at h ⊢
      simp only [decide_eq_true_eq, decide_eq_false_iff_not] at *
      omega
    simp [reducer_argmax_f32_i32, Scalar.select, IntOp.ori, IntOp.andi, IntOp.cmpi, FloatOps.cmpf, Ideal.cmp, hm]

theorem pick_self (t : EReal × BitVec 32) : reducer_argmax_f32_i32 (F := Ideal) t t = t := by
  obtain ⟨a, i⟩ := t
  simp [reducer_argmax_f32_i32, Scalar.select, IntOp.ori, IntOp.andi, IntOp.cmpi, FloatOps.cmpf, Ideal.cmp]

theorem pick_mem (a b : EReal × BitVec 32) :
    reducer_argmax_f32_i32 (F := Ideal) a b = a ∨ reducer_argmax_f32_i32 (F := Ideal) a b = b := by
  rcases lt_trichotomy a.1 b.1 with h | h | h
  · exact .inr (pick_right b a (.inl h))
  · by_cases g : a.2.slt b.2 = true
    · exact .inl (pick_left a b (.inr ⟨h.symm, g⟩))
    · obtain ⟨a, i⟩ := a
      obtain ⟨b, j⟩ := b
      simp only at h g
      subst h
      right
      simp [reducer_argmax_f32_i32, Scalar.select, IntOp.ori, IntOp.andi, IntOp.cmpi, FloatOps.cmpf, Ideal.cmp, g]
  · exact .inl (pick_left a b (.inl h))

section
variable {A : FVec Ideal S4096x50257 .f32} {x : Fin 4096 → Fin 50257 → EReal}
  (hx : Reads A x)

/-- The row's greatest entry, first where it stands. -/
theorem argmax_fold (X : FVec Ideal S4096x50257 .f32) (J : IVec S4096x50257 32) (u : FVec Ideal S_ .f32) (v : IVec S_ 32)
    (r : Fin 4096) (p : Fin 50257 → EReal) (hX : ∀ c, X (ValueIdx.ix2 r c) = p c)
    (hJ : ∀ c : Fin 50257, J (ValueIdx.ix2 r c) = BitVec.ofNat 32 c.val) (T : Fin 50257) (hT : ∀ c, c = T ∨ Before p T c)
    (hu : u (Shape.Idx.first h_S_) < p T) :
    Host.argReduce reducer_argmax_f32_i32 X J u v reducesTo_S4096x50257_S4096_d1 h_S_ (ValueIdx.ix1 r) = (p T, BitVec.ofNat 32 T.val) := by
  rw [Ideal.argReduce_eq_reduce2, Host.reduce2_eq_foldl_fiber]
  refine (foldl_takes (reducer_argmax_f32_i32 (F := Ideal)) (p T, BitVec.ofNat 32 T.val)
    (Under (p T, BitVec.ofNat 32 T.val)) ?_ ?_ ?_ _ ?_ _ ?_ ?_)
  · rintro e (rfl | h)
    · exact pick_self _
    · exact pick_left _ _ h
  · rintro e (rfl | h)
    · exact pick_self _
    · exact pick_right _ _ h
  · intro a b ha hb
    rcases pick_mem a b with h | h
    · rw [h]; exact ha
    · rw [h]; exact hb
  · intro e he
    unfold Host.argReduceFiber at he
    obtain ⟨n, hn, rfl⟩ := List.mem_map.1 he
    have hd : reducesTo_S4096x50257_S4096_d1.drop (S4096x50257.rowMajor.symm n) = ValueIdx.ix1 r := of_decide_eq_true (List.mem_filter.1 hn).2
    obtain ⟨k, hk⟩ : ∃ k : Fin 50257, S4096x50257.rowMajor.symm n = ValueIdx.ix2 r k := ⟨_, row_of_drop _ r hd⟩
    rw [hk, hX, hJ]
    rcases hT k with h | h | ⟨h, h'⟩
    · rw [h]; exact .inl rfl
    · exact .inr (.inl h)
    · refine .inr (.inr ⟨h.symm, ?_⟩)
      have h1 := k.isLt
      have h2 := T.isLt
      exact (Routing.slt_ofNat32 (by omega) (by omega)).trans (decide_eq_true h')
  · exact .inr (.inl hu)
  · right
    unfold Host.argReduceFiber
    refine List.mem_map.2 ⟨S4096x50257.rowMajor (ValueIdx.ix2 r T), List.mem_filter.2 ⟨List.mem_finRange _, ?_⟩, ?_⟩
    · rw [Equiv.symm_apply_apply]
      exact decide_eq_true (drop_row r _)
    · rw [Equiv.symm_apply_apply, hX, hJ]

theorem argmax_init : val_main_call0_cst (F := Ideal) (Shape.Idx.first h_S_) = ⊥ := by
  rw [val_main_call0_cst_apply]
  exact bot_f32

theorem argmax_iota (r : Fin 4096) (c : Fin 50257) : val_main_call0_v0 (F := Ideal) (ValueIdx.ix2 r c) = BitVec.ofNat 32 c.val := by
  rw [val_main_call0_v0_apply]

theorem argmax_eq (A : FVec Ideal S4096x50257 .f32) : ∃ z : S4096.Idx → EReal × BitVec 32,
    z = Host.argReduce (F := Ideal) (s := S4096x50257) (u := S_) (t := S4096) (φ := .f32) reducer_argmax_f32_i32
      (val_main_v10 (F := Ideal) A) (val_main_call0_v0 (F := Ideal)) (val_main_call0_cst (F := Ideal)) (val_main_call0_c (F := Ideal))
      reducesTo_S4096x50257_S4096_d1 h_S_ ∧ val_main_v11 (F := Ideal) A = fun j => (z j).2 := by
  delta val_main_v11
  refine ⟨Host.argReduce (F := Ideal) (s := (⟨S4096x50257, .f32⟩ : BufTy).shape) (u := (⟨S_, .f32⟩ : BufTy).shape) (t := S4096) (φ := .f32)
    reducer_argmax_f32_i32 (val_main_v10 (F := Ideal) A) (val_main_call0_v0 (F := Ideal)) (val_main_call0_cst (F := Ideal))
    (val_main_call0_c (F := Ideal)) reducesTo_S4096x50257_S4096_d1 h_S_, ?_, ?_⟩
  · with_reducible rfl
  · with_reducible rfl

include hx in
theorem argmax_apply (r : Fin 4096) : val_main_v11 (F := Ideal) A (ValueIdx.ix1 r) = BitVec.ofNat 32 (top x r 0).val := by
  obtain ⟨z, hz, e⟩ := argmax_eq A
  have g := argmax_fold (val_main_v10 (F := Ideal) A) (val_main_call0_v0 (F := Ideal)) (val_main_call0_cst (F := Ideal))
    (val_main_call0_c (F := Ideal)) r (fun c => (Answer.prob (x r) c : EReal)) (softmax_apply A x hx r) (argmax_iota r)
    (top x r 0) (before_all (best_prob r (hx.live r))) (lt_of_eq_of_lt argmax_init (EReal.bot_lt_coe _))
  have h : z (ValueIdx.ix1 r) = ((Answer.prob (x r) (top x r 0) : EReal), BitVec.ofNat 32 (top x r 0).val) := by
    rw [hz]
    with_reducible exact g
  have k : (z (ValueIdx.ix1 r)).2 = BitVec.ofNat 32 (top x r 0).val := by rw [h]
  exact (congrFun e (ValueIdx.ix1 r)).trans k

include hx in
theorem values_apply (r : Fin 4096) (i : Fin 3) :
    val_main_values (F := Ideal) A (ValueIdx.ix2 r i) = (Answer.prob (x r) (top x r i) : EReal) := by
  have hi : i.val < 50257 := by omega
  refine (topK_values (val_main_v10 (F := Ideal) A) _ r i hi).trans ?_
  have e : (fun c => val_main_v10 (F := Ideal) A (ValueIdx.ix2 r c)) = fun c => (Answer.prob (x r) c : EReal) :=
    funext fun c => softmax_apply A x hx r c
  refine (congrArg (fun X => val_main_v10 (F := Ideal) A (ValueIdx.ix2 r (order X ⟨i.val, hi⟩))) e).trans ?_
  exact (softmax_apply A x hx r _).trans (congrArg (fun k => (Answer.prob (x r) k : EReal)) (order_prob r (hx.live r) i hi))

include hx in
theorem indices_apply (r : Fin 4096) (i : Fin 3) :
    val_main_indices (F := Ideal) A (ValueIdx.ix2 r i) = BitVec.ofNat 32 (top x r i).val := by
  have hi : i.val < 50257 := by omega
  refine (topK_indices (val_main_v10 (F := Ideal) A) _ r i hi).trans ?_
  have e : (fun c => val_main_v10 (F := Ideal) A (ValueIdx.ix2 r c)) = fun c => (Answer.prob (x r) c : EReal) :=
    funext fun c => softmax_apply A x hx r c
  exact (congrArg (fun X => BitVec.ofNat 32 (order X ⟨i.val, hi⟩).val) e).trans
    (congrArg (fun k : Fin 50257 => BitVec.ofNat 32 k.val) (order_prob r (hx.live r) i hi))
end

section
variable {L : IVec S4096 32} {Y : Fin 4096 → Fin 50257} (hL : ∀ r, L (ValueIdx.ix1 r) = BitVec.ofNat 32 (Y r).val)

theorem toInt_column {k : ℕ} (h : k < 50257) : (BitVec.ofNat 32 k).toInt = k := by
  rw [BitVec.toInt_ofNat', Int.bmod_def]
  omega

include hL in
/-- The word the label is looked up at is the label. -/
theorem lookup_apply (i : S4096x1x1.Idx) : val_main_call1_v5 (F := Ideal) L i = BitVec.ofNat 32 (Y (i 0)).val := by
  rw [val_main_call1_v5_apply, val_main_call1_v4_apply, val_main_call1_v1_apply, val_main_call1_v0_apply, val_main_call1_c_apply]
  have e : val_main_v12 (F := Ideal) L (idx_main_call1_v5 i) = BitVec.ofNat 32 (Y (i 0)).val := by
    rw [val_main_v12_apply]
    refine Eq.trans (congrArg L ?_) (hL (i 0))
    funext a
    match a with
    | ⟨0, _⟩ =>
      refine Fin.ext ?_
      show (((i 0).val * 1 + (i 1).val) * 1 + (i 2).val) / 1 = (i 0).val
      have h1 : (i 1).val < 1 := (i 1).isLt
      have h2 : (i 2).val < 1 := (i 2).isLt
      omega
  rw [e]
  refine Routing.wrap_of_lt _ _ ?_
  have := (Y (i 0)).isLt
  rw [BitVec.toNat_ofNat]
  omega

include hL in
theorem found_apply (i : S4096x1.Idx) : val_main_call1_v12 (F := Ideal) L i = 1#1 := by
  unfold val_main_call1_v12
  refine Host.reduce_andi_one _ _ _ _ _ rfl fun k => ?_
  have h := lookup_apply hL k
  have hk := (Y (k 0)).isLt
  rw [val_main_call1_v11_apply, IntOp.andi_eq_one]
  constructor
  · rw [val_main_call1_v7_apply, IntOp.cmpi_sge, h, val_main_call1_v6_apply, val_main_call1_c_2_apply]
    refine le_of_le_of_eq ?_ (toInt_column hk).symm
    exact Int.natCast_nonneg _
  · rw [val_main_call1_v10_apply, IntOp.cmpi_sle, h, val_main_call1_v9_apply, val_main_call1_v8_apply, val_main_call1_c_1_apply]
    refine le_of_eq_of_le (toInt_column hk) ?_
    show ((Y (k 0)).val : Int) ≤ (BitVec.ofNat 32 50256).toInt
    rw [toInt_column (by omega : 50256 < 50257)]
    omega

include hL in
/-- The probability read at the label. -/
theorem gather_apply (X : FVec Ideal S4096x50257 .f32) (r : Fin 4096) :
    Host.gather gather_S4096x50257_S4096x1x1_S4096x1_n_1_0_0_1_2_11 X (val_main_call1_v5 (F := Ideal) L) (ValueIdx.ix2 r (0 : Fin 1)) =
      X (ValueIdx.ix2 r (Y r)) := by
  unfold Host.gather
  refine congrArg X (funext fun a => Fin.ext ?_)
  show gather_S4096x50257_S4096x1x1_S4096x1_n_1_0_0_1_2_11.start (ValueIdx.ix2 r (0 : Fin 1)) (val_main_call1_v5 (F := Ideal) L) a
      + gather_S4096x50257_S4096x1x1_S4096x1_n_1_0_0_1_2_11.batchCoord (ValueIdx.ix2 r (0 : Fin 1)) a
      + gather_S4096x50257_S4096x1x1_S4096x1_n_1_0_0_1_2_11.offCoord (ValueIdx.ix2 r (0 : Fin 1)) a = _
  have ha : a = 0 ∨ a = 1 := by
    match a with
    | ⟨0, _⟩ => exact .inl rfl
    | ⟨1, _⟩ => exact .inr rfl
  rcases ha with rfl | rfl
  · rw [GatherDims.start_batching _ _ _ _ (List.mem_singleton.mpr rfl),
      GatherDims.offCoord_eq_zero _ _ _ (fun h => ((GatherDims.mem_sKept _ _).mp h).2 (List.mem_singleton.mpr rfl))]
    rw [Nat.zero_add, Nat.add_zero]
    unfold GatherDims.batchCoord
    rw [dif_pos (show (0 : Fin 2) ∈ gather_S4096x50257_S4096x1x1_S4096x1_n_1_0_0_1_2_11.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    unfold GatherDims.start
    rw [dif_pos (show (1 : Fin 2) ∈ gather_S4096x50257_S4096x1x1_S4096x1_n_1_0_0_1_2_11.startIndexMap from List.mem_singleton.mpr rfl), lookup_apply hL]
    have hk := (Y r).isLt
    show min (BitVec.ofNat 32 (Y r).val).toInt.toNat (50257 - 1) = (Y r).val
    rw [toInt_column hk]
    omega
end

end Cert.ReferenceIdeal.Rows

end
-- ==== Proof.Picks.lean ====
/-
  The reference's mark, the class numbers and the second probability it reports, and its count of unmarked rows.
-/
module

public import proofs.«01_k».proof.Proof.Places

@[expose] public section

noncomputable section

namespace Cert.ReferenceIdeal.Rows

open Cert.ReferenceIdeal Cert.ReferenceIdeal.Gen Cert.ReferenceIdeal.Read Cert.Pick
open Idealize.ShloMosaic Idealize.ShloMosaic.TcCoe

section
variable {A : FVec Ideal S4096x50257 .f32} {x : Fin 4096 → Fin 50257 → EReal}
  (hx : Reads A x)
  {L : IVec S4096 32} {Y : Fin 4096 → Fin 50257} (hL : ∀ r, L (ValueIdx.ix1 r) = BitVec.ofNat 32 (Y r).val)

include hx in
theorem v19_apply (r : Fin 4096) : val_main_v19 (F := Ideal) A (ValueIdx.ix1 r) = (Answer.prob (x r) (top x r 1) : EReal) := by
  rw [val_main_v19_apply, val_main_v18_apply]
  refine Eq.trans (congrArg (val_main_values (F := Ideal) A) ?_) (values_apply hx r 1)
  funext a
  match a with
  | ⟨0, _⟩ => exact Fin.ext (Nat.div_one _)
  | ⟨1, _⟩ => rfl

include hx in
theorem v21_apply (r : Fin 4096) : val_main_v21 (F := Ideal) A (ValueIdx.ix1 r) = BitVec.ofNat 32 (top x r 1).val := by
  rw [val_main_v21_apply, val_main_v20_apply]
  refine Eq.trans (congrArg (val_main_indices (F := Ideal) A) ?_) (indices_apply hx r 1)
  funext a
  match a with
  | ⟨0, _⟩ => exact Fin.ext (Nat.div_one _)
  | ⟨1, _⟩ => rfl

include hx in
theorem v23_apply (r : Fin 4096) : val_main_v23 (F := Ideal) A (ValueIdx.ix1 r) = BitVec.ofNat 32 (top x r 2).val := by
  rw [val_main_v23_apply, val_main_v22_apply]
  refine Eq.trans (congrArg (val_main_indices (F := Ideal) A) ?_) (indices_apply hx r 2)
  funext a
  match a with
  | ⟨0, _⟩ => exact Fin.ext (Nat.div_one _)
  | ⟨1, _⟩ => rfl

include hx hL in
theorem mark_apply (r : Fin 4096) : val_main_v17 (F := Ideal) A L (ValueIdx.ix1 r) = Answer.mark (x r) (Y r) := by
  have e13 : val_main_v13 (F := Ideal) A L (ValueIdx.ix2 r (0 : Fin 1)) = (Answer.prob (x r) (Y r) : EReal) := by
    rw [val_main_v13_apply, found_apply hL]
    have s : ∀ u v : Ideal .f32, Scalar.select 1#1 u v = u := fun u v => if_pos rfl
    rw [s]
    unfold val_main_call1_v13
    exact (gather_apply hL (val_main_v10 (F := Ideal) A) r).trans (softmax_apply A x hx r (Y r))
  have e14 : val_main_v14 (F := Ideal) A L (ValueIdx.ix1 r) = (Answer.prob (x r) (Y r) : EReal) := by
    rw [val_main_v14_apply]
    refine Eq.trans (congrArg (val_main_v13 (F := Ideal) A L) ?_) e13
    funext a
    match a with
    | ⟨0, _⟩ => exact Fin.ext (Nat.div_one _)
    | ⟨1, _⟩ => rfl
  classical
  have e16 : val_main_v16 (F := Ideal) A L (ValueIdx.ix1 r) = BitVec.ofBool (decide (Answer.Low (x r) (Y r))) := by
    rw [val_main_v16_apply, e14, val_main_v15_apply, val_main_cst_2_apply]
    show BitVec.ofBool (decide ((Answer.prob (x r) (Y r) : EReal) < Ideal.ofBits .f32 0x3CA3D70A#32)) = _
    unfold Answer.Low
    congr
  rw [val_main_v17_apply, e16]
  unfold Answer.mark
  by_cases h : Answer.Low (x r) (Y r)
  · rw [if_pos h, decide_eq_true h]; rfl
  · rw [if_neg h, decide_eq_false h]; rfl

/-- The reference's way of writing a class number on the marked rows. -/
theorem pick_word {n : ℕ} (x : Fin n → EReal) (Y a : Fin n) (w : BitVec 32) (hw : w = BitVec.ofNat 32 a.val) :
    IntOp.addi (IntOp.muli (Answer.mark x Y) w) (IntOp.muli (IntOp.subi 1#32 (Answer.mark x Y)) 4294967295#32) = Answer.pick x Y a := by
  subst hw
  unfold Answer.mark Answer.pick IntOp.addi IntOp.muli IntOp.subi
  by_cases h : Answer.Low x Y
  · rw [if_pos h, if_pos h]; simp
  · rw [if_neg h, if_neg h]; simp

include hx hL in
theorem v66_apply (r : Fin 4096) : val_main_v66 (F := Ideal) A L (ValueIdx.ix1 r) = Answer.pick (x r) (Y r) (top x r 0) := by
  rw [val_main_v66_apply, val_main_v62_apply, val_main_v65_apply, val_main_v63_apply, val_main_v64_apply, val_main_v61_apply,
    val_main_c_11_apply, val_main_c_12_apply, mark_apply hx hL]
  exact pick_word _ _ _ _ (argmax_apply hx r)

include hx hL in
theorem v71_apply (r : Fin 4096) : val_main_v71 (F := Ideal) A L (ValueIdx.ix1 r) = Answer.pick (x r) (Y r) (top x r 1) := by
  rw [val_main_v71_apply, val_main_v67_apply, val_main_v70_apply, val_main_v68_apply, val_main_v69_apply, val_main_v61_apply,
    val_main_c_11_apply, val_main_c_13_apply, mark_apply hx hL]
  exact pick_word _ _ _ _ (v21_apply hx r)

include hx hL in
theorem v76_apply (r : Fin 4096) : val_main_v76 (F := Ideal) A L (ValueIdx.ix1 r) = Answer.pick (x r) (Y r) (top x r 2) := by
  rw [val_main_v76_apply, val_main_v72_apply, val_main_v75_apply, val_main_v73_apply, val_main_v74_apply, val_main_v61_apply,
    val_main_c_11_apply, val_main_c_14_apply, mark_apply hx hL]
  exact pick_word _ _ _ _ (v23_apply hx r)

/-- The mark as a number. -/
theorem mark_real {n : ℕ} (x : Fin n → EReal) (Y : Fin n) [Decidable (Answer.Low x Y)] :
    FloatOps.sitofp (F := Ideal) .f32 (Answer.mark x Y) = (((if Answer.Low x Y then 1 else 0 : ℝ)) : EReal) := by
  show (((Answer.mark x Y).toInt : ℝ) : EReal) = _
  unfold Answer.mark
  by_cases h : Answer.Low x Y
  · rw [if_pos h, if_pos h]; simp
  · rw [if_neg h, if_neg h]; simp

include hx hL in
theorem v80_apply (r : Fin 4096) : val_main_v80 (F := Ideal) A L (ValueIdx.ix1 r) = Answer.second (x r) (Y r) (top x r 1) := by
  classical
  rw [val_main_v80_apply, val_main_v79_apply, mark_apply hx hL, v19_apply hx, mark_real]
  unfold Answer.second
  by_cases h : Answer.Low (x r) (Y r)
  · rw [if_pos h, if_pos h]
    exact (EReal.coe_mul _ _).symm.trans (congrArg (fun z : ℝ => (z : EReal)) (one_mul _))
  · rw [if_neg h, if_neg h]
    exact (EReal.coe_mul _ _).symm.trans (congrArg (fun z : ℝ => (z : EReal)) (zero_mul _))
end

theorem count_fold {ι : Type} (s u : ι → BitVec 32) (hu : ∀ i, u i = IntOp.subi 1#32 (s i)) (l : List ι) (a b : BitVec 32) :
    l.foldl (fun v i => IntOp.addi v (u i)) a =
      IntOp.subi (BitVec.ofNat 32 l.length + (a + b)) (l.foldl (fun v i => IntOp.addi v (s i)) b) := by
  induction l generalizing a b with
  | nil =>
    simp [IntOp.subi]
  | cons i l ih =>
    simp only [List.foldl_cons, List.length_cons]
    rw [ih (IntOp.addi a (u i)) (IntOp.addi b (s i)), hu i]
    have e : BitVec.ofNat 32 l.length + (IntOp.addi a (IntOp.subi 1#32 (s i)) + IntOp.addi b (s i)) =
        BitVec.ofNat 32 (l.length + 1) + (a + b) := by
      unfold IntOp.addi IntOp.subi
      rw [BitVec.ofNat_add]
      generalize BitVec.ofNat 32 l.length = n
      generalize s i = t
      have : (1#32 - t) + t = 1#32 := BitVec.sub_add_cancel _ _
      calc n + (a + (1#32 - t) + (b + t)) = n + (a + b + ((1#32 - t) + t)) := by ac_rfl
        _ = n + (a + b + 1#32) := by rw [this]
        _ = n + BitVec.ofNat 32 1 + (a + b) := by ac_rfl
    rw [e]

/-- Counting the unmarked rows is counting all of them less the marked ones. -/
theorem count_rest (s u : IVec S4096 32) (hu : ∀ i, u i = IntOp.subi 1#32 (s i)) (z : IVec S_ 32) (hz : ∀ j, z j = 0#32)
    (h : S4096.ReducesTo [0] S_) (hp : 0 < S_.numel) (j : S_.Idx) :
    Host.reduce IntOp.addi u z h hp j = IntOp.subi 4096#32 (Host.reduce IntOp.addi s z h hp j) := by
  rw [Host.reduce_eq_foldl, Host.reduce_eq_foldl, hz]
  have all : ((List.finRange S4096.numel).map S4096.rowMajor.symm).filter (fun i => h.drop i = j) =
      (List.finRange S4096.numel).map S4096.rowMajor.symm :=
    List.filter_eq_self.2 fun i _ => decide_eq_true (funext fun a => a.elim0)
  rw [all, count_fold s u hu _ 0#32 0#32, List.length_map, List.length_finRange]
  rfl

end Cert.ReferenceIdeal.Rows

end
-- ==== Proof.Spread.lean ====
/-
  The reference's table that spreads a row's three largest probabilities, normalised, over the classes.
-/
module

public import proofs.«01_k».proof.Proof.Places
public import Idealize.ShloMosaic.Lib.Pointwise.Index

@[expose] public section

noncomputable section

namespace Cert.ReferenceIdeal.Rows

open Cert.ReferenceIdeal Cert.ReferenceIdeal.Gen Cert.ReferenceIdeal.Read Cert.Pick
open Idealize.ShloMosaic Idealize.ShloMosaic.TcCoe

/-- The normalised probability of the row's class of rank `k`. -/
def share (x : Fin 4096 → Fin 50257 → EReal) (r : Fin 4096) (k : Fin 3) : ℝ :=
  Answer.prob (x r) (top x r k) / ∑ i : Fin 3, Answer.prob (x r) (top x r i)

section
variable {A : FVec Ideal S4096x50257 .f32} {x : Fin 4096 → Fin 50257 → EReal}
  (hx : Reads A x)

include hx in
theorem prob_pos (r : Fin 4096) (i : Fin 3) : 0 < Answer.prob (x r) (top x r i) :=
  div_pos (Answer.weigh_pos (hx.fin r _) (hx.solid r i)) (Answer.total_pos (hx.live r))

include hx in
theorem share_apply (r : Fin 4096) (k : Fin 3) : val_main_v27 (F := Ideal) A (ValueIdx.ix2 r k) = (share x r k : EReal) := by
  have e26 : val_main_v26 (F := Ideal) A (ValueIdx.ix2 r k) = ((∑ i : Fin 3, Answer.prob (x r) (top x r i) : ℝ) : EReal) := by
    rw [val_main_v26_apply, val_main_v25_apply, val_main_v24_apply]
    have z : val_main_cst_3 (F := Ideal) (Shape.Idx.first h_S_) = 0 := zero_f32
    rw [z, zero_add, ← Answer.coe_sum]
    refine Finset.sum_congr rfl fun i _ => ?_
    refine Eq.trans (congrArg (val_main_values (F := Ideal) A) ?_) (values_apply hx r i)
    funext a
    match a with
    | ⟨0, _⟩ => rfl
    | ⟨1, _⟩ => rfl
  rw [val_main_v27_apply, values_apply hx, e26]
  exact Answer.div_real _ _ (Finset.sum_pos (fun i _ => prob_pos hx r i) ⟨0, Finset.mem_univ _⟩).ne'

theorem rowWord_apply (i : S4096x1.Idx) : val_main_v35 (F := Ideal) i = BitVec.ofNat 32 (i 0).val := by
  rw [val_main_v35_apply, val_main_v32_apply, val_main_v31_apply, val_main_c_apply]
  have e : val_main_v30 (F := Ideal) i = BitVec.ofNat 32 (i 0).val := by
    rw [val_main_v30_apply, val_main_v29_apply]
  rw [e]
  refine Routing.wrap_of_lt _ _ ?_
  have : (i 0).val < 4096 := (i 0).isLt
  rw [BitVec.toNat_ofNat]
  omega

include hx in
theorem columnWord_apply (r : Fin 4096) (k : Fin 3) :
    val_main_v40 (F := Ideal) A (ValueIdx.ix2 r k) = BitVec.ofNat 32 (top x r k).val := by
  rw [val_main_v40_apply, val_main_v37_apply, val_main_v36_apply, val_main_c_6_apply, indices_apply hx]
  refine Routing.wrap_of_lt _ _ ?_
  have := (top x r k).isLt
  rw [BitVec.toNat_ofNat]
  omega

theorem place_row (r : Fin 4096) (k : Fin 3) : val_main_v44 (F := Ideal) A (ix3 r k (0 : Fin 2)) = BitVec.ofNat 32 r.val := by
  unfold val_main_v44
  refine (concatenate_pair_apply_left 2 (val_main_v42 (F := Ideal)) (val_main_v43 (F := Ideal) A)
    concatenates_S4096x3x1_S4096x3x1_S4096x3x2_d2 (ix3 r k (0 : Fin 2)) rfl (ix3 r k (0 : Fin 1)) (fun b => ?_)).trans ?_
  · match b with
    | ⟨0, _⟩ => rfl
    | ⟨1, _⟩ => rfl
    | ⟨2, _⟩ => rfl
  · rw [val_main_v42_apply, val_main_v41_apply, rowWord_apply]
    rfl

include hx in
theorem place_column (r : Fin 4096) (k : Fin 3) :
    val_main_v44 (F := Ideal) A (ix3 r k (1 : Fin 2)) = BitVec.ofNat 32 (top x r k).val := by
  unfold val_main_v44
  refine (concatenate_pair_apply_right 2 (val_main_v42 (F := Ideal)) (val_main_v43 (F := Ideal) A)
    concatenates_S4096x3x1_S4096x3x1_S4096x3x2_d2 (ix3 r k (1 : Fin 2)) rfl rfl (ix3 r k (0 : Fin 1)) (fun b hb => ?_) rfl).trans ?_
  · match b, hb with
    | ⟨0, _⟩, _ => rfl
    | ⟨1, _⟩, _ => rfl
    | ⟨2, _⟩, hb => exact absurd rfl hb
  · rw [val_main_v43_apply]
    refine Eq.trans (congrArg (val_main_v40 (F := Ideal) A) ?_) (columnWord_apply hx r k)
    funext a
    match a with
    | ⟨0, _⟩ => rfl
    | ⟨1, _⟩ => rfl

theorem toInt_small {k n : ℕ} (h : k < n) (hn : n ≤ 2147483648) : (BitVec.ofNat 32 k).toInt = k := by
  rw [BitVec.toInt_ofNat', Int.bmod_def]
  omega

theorem window_zero (j : S4096x3.Idx) (a : Fin 2) : ScatterDims.window scatter_S4096x50257_S4096x3x2_S4096x3_n_01_01_2 j a = 0 := by
  unfold ScatterDims.window
  rw [dif_neg]
  intro h
  have h' : a ∉ (ScatterDims.insertedWindowDims scatter_S4096x50257_S4096x3x2_S4096x3_n_01_01_2) := by
    have := (List.mem_filter.1 h).2
    simpa using this
  refine h' ?_
  match a with
  | ⟨0, _⟩ => exact List.mem_cons_self ..
  | ⟨1, _⟩ => exact List.mem_cons_of_mem _ (List.mem_cons_self ..)

theorem start_row (r : Fin 4096) (k : Fin 3) :
    ScatterDims.start scatter_S4096x50257_S4096x3x2_S4096x3_n_01_01_2 (ValueIdx.ix2 r k) (val_main_v44 (F := Ideal) A) 0 = r.val := by
  unfold ScatterDims.start
  rw [dif_pos (show (0 : Fin 2) ∈ (ScatterDims.scatterDimsToOperandDims scatter_S4096x50257_S4096x3x2_S4096x3_n_01_01_2) from List.mem_cons_self ..)]
  have e : ScatterDims.siIdx scatter_S4096x50257_S4096x3x2_S4096x3_n_01_01_2 (ValueIdx.ix2 r k) ⟨List.idxOf (0 : Fin 2) (ScatterDims.scatterDimsToOperandDims scatter_S4096x50257_S4096x3x2_S4096x3_n_01_01_2),
      List.idxOf_lt_length_iff.2 (List.mem_cons_self ..)⟩ = ix3 r k (0 : Fin 2) := by
    funext b
    refine Fin.ext ?_
    match b with
    | ⟨0, _⟩ => rfl
    | ⟨1, _⟩ => rfl
    | ⟨2, _⟩ => rfl
  refine (congrArg (fun i => (val_main_v44 (F := Ideal) A i).toInt) e).trans ?_
  exact (congrArg BitVec.toInt (place_row r k)).trans (toInt_small r.isLt (by omega))

include hx in
theorem start_column (r : Fin 4096) (k : Fin 3) :
    ScatterDims.start scatter_S4096x50257_S4096x3x2_S4096x3_n_01_01_2 (ValueIdx.ix2 r k) (val_main_v44 (F := Ideal) A) 1 = (top x r k).val := by
  unfold ScatterDims.start
  rw [dif_pos (show (1 : Fin 2) ∈ (ScatterDims.scatterDimsToOperandDims scatter_S4096x50257_S4096x3x2_S4096x3_n_01_01_2) from List.mem_cons_of_mem _ (List.mem_cons_self ..))]
  have e : ScatterDims.siIdx scatter_S4096x50257_S4096x3x2_S4096x3_n_01_01_2 (ValueIdx.ix2 r k) ⟨List.idxOf (1 : Fin 2) (ScatterDims.scatterDimsToOperandDims scatter_S4096x50257_S4096x3x2_S4096x3_n_01_01_2),
      List.idxOf_lt_length_iff.2 (List.mem_cons_of_mem _ (List.mem_cons_self ..))⟩ = ix3 r k (1 : Fin 2) := by
    funext b
    refine Fin.ext ?_
    match b with
    | ⟨0, _⟩ => rfl
    | ⟨1, _⟩ => rfl
    | ⟨2, _⟩ => rfl
  refine (congrArg (fun i => (val_main_v44 (F := Ideal) A i).toInt) e).trans ?_
  exact (congrArg BitVec.toInt (place_column hx r k)).trans (toInt_small (top x r k).isLt (by omega))

theorem lands_of {s si u : Shape} (d : ScatterDims s si u) (j : u.Idx) (w : IVec si 32) (i : s.Idx)
    (h : ∀ a, d.start j w a + (d.window j a : ℤ) = ((i a).val : ℤ)) : d.resultIdx? j w = some i := by
  unfold ScatterDims.resultIdx?
  rw [dif_pos fun a => ⟨by rw [h a]; exact Int.natCast_nonneg _, by rw [h a]; exact Int.ofNat_lt.2 (i a).isLt⟩]
  refine congrArg some (funext fun a => Fin.ext ?_)
  show (d.start j w a + (d.window j a : ℤ)).toNat = (i a).val
  rw [h a]
  exact Int.toNat_natCast _

include hx in
/-- Where the class of rank `k` of row `r` is written. -/
theorem lands (r : Fin 4096) (k : Fin 3) :
    ScatterDims.resultIdx? scatter_S4096x50257_S4096x3x2_S4096x3_n_01_01_2 (ValueIdx.ix2 r k) (val_main_v44 (F := Ideal) A) = some (ValueIdx.ix2 r (top x r k)) := by
  refine lands_of _ _ _ _ (Fin.forall_fin_two.2 ⟨?_, ?_⟩)
  · rw [start_row, window_zero]
    exact add_zero _
  · rw [start_column hx, window_zero]
    exact add_zero _

theorem some_iff (r s : Fin 4096) (c t : Fin 50257) :
    (some (ValueIdx.ix2 r c : S4096x50257.Idx) = some (ValueIdx.ix2 s t)) ↔ r = s ∧ c = t := by
  constructor
  · intro h
    have h := Option.some.inj h
    exact ⟨congrFun h 0, congrFun h 1⟩
  · rintro ⟨rfl, rfl⟩
    rfl

include hx in
theorem spread_apply (r : Fin 4096) (c : Fin 50257) :
    val_main_v45 (F := Ideal) A (ValueIdx.ix2 r c) = ((∑ k : Fin 3, if top x r k = c then share x r k else 0 : ℝ) : EReal) := by
  have e : val_main_v45 (F := Ideal) A = Ideal.hostScatterAdd scatter_S4096x50257_S4096x3x2_S4096x3_n_01_01_2 (val_main_v28 (F := Ideal)) (val_main_v44 (F := Ideal) A) (val_main_v27 (F := Ideal) A) := rfl
  have z : val_main_v28 (F := Ideal) (ValueIdx.ix2 r c) = 0 := by
    rw [val_main_v28_apply]
    exact zero_f32
  rw [e]
  unfold Ideal.hostScatterAdd
  rw [z, zero_add, Finset.sum_filter]
  refine (ValueIdx.sum_idx2 (n0 := 4096) (n1 := 3) _).trans ?_
  rw [← Answer.coe_sum]
  have step : ∀ (a : Fin 4096) (k : Fin 3),
      (if ScatterDims.resultIdx? scatter_S4096x50257_S4096x3x2_S4096x3_n_01_01_2 (ValueIdx.ix2 a k) (val_main_v44 (F := Ideal) A) = some (ValueIdx.ix2 r c)
        then val_main_v27 (F := Ideal) A (ValueIdx.ix2 a k) else 0) =
      if a = r then (((if top x a k = c then share x a k else 0 : ℝ)) : EReal) else 0 := by
    intro a k
    have q : ScatterDims.resultIdx? scatter_S4096x50257_S4096x3x2_S4096x3_n_01_01_2 (ValueIdx.ix2 a k) (val_main_v44 (F := Ideal) A) =
        some (ValueIdx.ix2 r c) ↔ a = r ∧ top x a k = c := by
      rw [lands hx]
      exact some_iff _ _ _ _
    by_cases h : a = r
    · by_cases g : top x a k = c
      · rw [if_pos (q.2 ⟨h, g⟩), if_pos h, if_pos g]
        exact share_apply hx a k
      · rw [if_neg (fun p => g (q.1 p).2), if_pos h, if_neg g]; rfl
    · rw [if_neg (fun p => h (q.1 p).1), if_neg h]
  refine (Finset.sum_congr rfl fun a _ => Finset.sum_congr rfl fun k _ => step a k).trans ?_
  rw [Finset.sum_comm]
  refine Finset.sum_congr rfl fun k _ => ?_
  rw [Finset.sum_ite_eq' Finset.univ r, if_pos (Finset.mem_univ _)]
end

end Cert.ReferenceIdeal.Rows

end
-- ==== Proof.Loss.lean ====
/-
  The reference's loss, summed over a row and over the batch.
-/
module

public import proofs.«01_k».proof.Proof.Picks
public import proofs.«01_k».proof.Proof.Spread

@[expose] public section

noncomputable section

namespace Cert.ReferenceIdeal.Rows

open Cert.ReferenceIdeal Cert.ReferenceIdeal.Gen Cert.ReferenceIdeal.Read Cert.Pick
open Idealize.ShloMosaic Idealize.ShloMosaic.TcCoe

open Classical in
/-- The mark as a real. -/
def weight {n : ℕ} (x : Fin n → EReal) (Y : Fin n) : ℝ := if Answer.Low x Y then 1 else 0

/-- The target's entry at class `c`: the shares where the row is marked, the label's class elsewhere. -/
def target (x : Fin 4096 → Fin 50257 → EReal) (Y : Fin 4096 → Fin 50257) (r : Fin 4096) (c : Fin 50257) : ℝ :=
  (∑ k : Fin 3, if top x r k = c then share x r k else 0) * weight (x r) (Y r) +
    (1 - weight (x r) (Y r)) * (if Y r = c then 1 else 0)

theorem word_inj {n : ℕ} (hn : n ≤ 4294967296) (a b : Fin n) : BitVec.ofNat 32 a.val = BitVec.ofNat 32 b.val ↔ a = b := by
  constructor
  · intro h
    have h := congrArg BitVec.toNat h
    rw [BitVec.toNat_ofNat, BitVec.toNat_ofNat] at h
    have := a.isLt
    have := b.isLt
    exact Fin.ext (by omega)
  · rintro rfl
    rfl

section
variable {A : FVec Ideal S4096x50257 .f32} {x : Fin 4096 → Fin 50257 → EReal}
  (hx : Reads A x)
  {L : IVec S4096 32} {Y : Fin 4096 → Fin 50257} (hL : ∀ r, L (ValueIdx.ix1 r) = BitVec.ofNat 32 (Y r).val)

include hx hL in
theorem weight_apply (i : S4096x1.Idx) : val_main_v47 (F := Ideal) A L i = (weight (x (i 0)) (Y (i 0)) : EReal) := by
  classical
  rw [val_main_v47_apply, val_main_v46_apply]
  have e : val_main_v17 (F := Ideal) A L (idx_main_v46 i) = Answer.mark (x (i 0)) (Y (i 0)) := by
    refine Eq.trans (congrArg (val_main_v17 (F := Ideal) A L) ?_) (mark_apply hx hL (i 0))
    funext a
    match a with
    | ⟨0, _⟩ => rfl
  rw [e, mark_real]
  rfl

include hL in
theorem hot_apply (r : Fin 4096) (c : Fin 50257) :
    val_main_v50 (F := Ideal) L (ValueIdx.ix2 r c) = (((if Y r = c then 1 else 0 : ℝ)) : EReal) := by
  have e2 : val_main_call2_v2 (F := Ideal) L (ValueIdx.ix2 r c) = BitVec.ofNat 32 (Y r).val := by
    rw [val_main_call2_v2_apply, val_main_call2_v0_apply]
    refine Eq.trans (congrArg L ?_) (hL r)
    funext a
    match a with
    | ⟨0, _⟩ => rfl
  have e3 : val_main_call2_v3 (F := Ideal) (ValueIdx.ix2 r c) = BitVec.ofNat 32 c.val := by
    rw [val_main_call2_v3_apply, val_main_call2_v1_apply]
  rw [val_main_v50_apply, val_main_call2_v4_apply, e2, e3]
  show (((IntOp.cmpi .eq (BitVec.ofNat 32 (Y r).val) (BitVec.ofNat 32 c.val)).toNat : ℝ) : EReal) = _
  by_cases h : Y r = c
  · rw [if_pos h, (IntOp.cmpi_eq).2 (by rw [h])]
    simp
  · rw [if_neg h]
    have n : ¬ IntOp.cmpi .eq (BitVec.ofNat 32 (Y r).val) (BitVec.ofNat 32 c.val) = 1#1 := by
      rw [IntOp.cmpi_eq]
      exact fun g => h ((word_inj (by omega) _ _).1 g)
    generalize IntOp.cmpi .eq (BitVec.ofNat 32 (Y r).val) (BitVec.ofNat 32 c.val) = w at n
    have hw : w = 0#1 := by
      revert n w
      decide
    rw [hw]
    simp

include hx hL in
theorem target_apply (r : Fin 4096) (c : Fin 50257) :
    val_main_v55 (F := Ideal) A L (ValueIdx.ix2 r c) = (target x Y r c : EReal) := by
  have e53 : val_main_v53 (F := Ideal) A L (ValueIdx.ix2 r c) = (weight (x r) (Y r) : EReal) := by
    rw [val_main_v53_apply]
    exact weight_apply hx hL _
  have e51 : val_main_v51 (F := Ideal) A L (ValueIdx.ix2 r c) = ((1 - weight (x r) (Y r) : ℝ) : EReal) := by
    rw [val_main_v51_apply, val_main_v49_apply, val_main_v48_apply, val_main_cst_8_apply, weight_apply hx hL]
    exact (congrArg (fun z : EReal => z - (weight (x r) (Y r) : EReal)) Answer.one_f32).trans (EReal.coe_sub _ _).symm
  rw [val_main_v55_apply, val_main_v54_apply, val_main_v52_apply, spread_apply hx, e53, e51, hot_apply hL]
  unfold target
  rw [EReal.coe_add, EReal.coe_mul, EReal.coe_mul]
  rfl

include hx in
/-- The target leaves out every class whose logit is minus infinity. -/
theorem target_bot (r : Fin 4096) (c : Fin 50257) (h : x r c = ⊥) : target x Y r c = 0 := by
  classical
  unfold target
  have t : ∀ k : Fin 3, top x r k ≠ c := fun k e => hx.solid r k (e ▸ h)
  rw [Finset.sum_eq_zero fun k _ => if_neg (t k), zero_mul, zero_add]
  by_cases e : Y r = c
  · unfold weight
    rw [if_pos (Answer.low_of_bot (e ▸ h)), sub_self, zero_mul]
  · rw [if_neg e, mul_zero]

include hx hL in
theorem term_apply (r : Fin 4096) (c : Fin 50257) :
    val_main_v58 (F := Ideal) A L (ValueIdx.ix2 r c) =
      ((-((x r c).toReal - Real.log (Answer.total (x r))) * target x Y r c : ℝ) : EReal) := by
  rw [val_main_v58_apply, val_main_v57_apply, logSoftmax_apply A x hx, target_apply hx hL]
  by_cases h : x r c = ⊥
  · rw [target_bot hx r c h, mul_zero]
    exact mul_zero _
  · have e := (EReal.coe_toReal (hx.fin r c) h).symm
    generalize (x r c).toReal = u at e ⊢
    rw [e, EReal.coe_mul, EReal.coe_neg, EReal.coe_sub]
    rfl
end

theorem sum_share {n : ℕ} (f : Fin n → ℝ) (T : Fin 3 → Fin n) (s : Fin 3 → ℝ) :
    ∑ c : Fin n, f c * (∑ k : Fin 3, if T k = c then s k else 0) = ∑ k : Fin 3, f (T k) * s k := by
  simp_rw [Finset.mul_sum]
  rw [Finset.sum_comm]
  refine Finset.sum_congr rfl fun k _ => ?_
  simp_rw [mul_ite, mul_zero]
  rw [Finset.sum_ite_eq Finset.univ (T k), if_pos (Finset.mem_univ _)]

/-- The row's cross entropy against its target is the row's loss. -/
theorem row_loss {A : FVec Ideal S4096x50257 .f32} {x : Fin 4096 → Fin 50257 → EReal} (hx : Reads A x)
    (Y : Fin 4096 → Fin 50257) (r : Fin 4096) :
    ∑ c : Fin 50257, -((x r c).toReal - Real.log (Answer.total (x r))) * target x Y r c =
      Answer.loss (x r) (Y r) (top x r 0) (top x r 1) (top x r 2) := by
  classical
  unfold target weight Answer.loss
  by_cases h : Answer.Low (x r) (Y r)
  · simp only [if_pos h, mul_one, sub_self, zero_mul, add_zero]
    rw [sum_share (fun c => -((x r c).toReal - Real.log (Answer.total (x r)))) (top x r) (share x r)]
    unfold share Answer.prob
    simp only [Fin.sum_univ_three]
    have tp := Answer.total_pos (hx.live r)
    generalize Answer.total (x r) = Z at tp ⊢
    have p0 := Answer.weigh_pos (hx.fin r _) (hx.solid r 0)
    have p1 := Answer.weigh_pos (hx.fin r _) (hx.solid r 1)
    have p2 := Answer.weigh_pos (hx.fin r _) (hx.solid r 2)
    generalize Answer.weigh (x r (top x r 0)) = a at p0 ⊢
    generalize Answer.weigh (x r (top x r 1)) = b at p1 ⊢
    generalize Answer.weigh (x r (top x r 2)) = c at p2 ⊢
    have hs : a + b + c ≠ 0 := by positivity
    have hz : a / Z + b / Z + c / Z = (a + b + c) / Z := by ring
    rw [hz]
    field_simp
    ring
  · simp only [if_neg h, mul_zero, sub_zero, zero_add, one_mul, mul_ite, mul_one]
    rw [Finset.sum_ite_eq Finset.univ (Y r), if_pos (Finset.mem_univ _)]
    ring

section
variable {A : FVec Ideal S4096x50257 .f32} {x : Fin 4096 → Fin 50257 → EReal}
  (hx : Reads A x)
  {L : IVec S4096 32} {Y : Fin 4096 → Fin 50257} (hL : ∀ r, L (ValueIdx.ix1 r) = BitVec.ofNat 32 (Y r).val)

include hx hL in
/-- The batch's summed loss. -/
theorem v59_apply (j : S_.Idx) : val_main_v59 (F := Ideal) A L j =
    ∑ r : Fin 4096, (Answer.loss (x r) (Y r) (top x r 0) (top x r 1) (top x r 2) : EReal) := by
  rw [val_main_v59_apply]
  have z : val_main_cst_9 (F := Ideal) (Shape.Idx.first h_S_) = 0 := zero_f32
  rw [z, zero_add]
  refine (ValueIdx.sum_idx2 (n0 := 4096) (n1 := 50257) _).trans (Finset.sum_congr rfl fun r _ => ?_)
  rw [← row_loss hx, ← Answer.coe_sum]
  exact Finset.sum_congr rfl fun c _ => term_apply hx hL r c
end

end Cert.ReferenceIdeal.Rows

end
-- ==== Proof.Agree.lean ====
/-
  The kernel's seven results are the reference's, on arguments the precondition admits.
-/
module

public import proofs.«01_k».proof.Proof.Rows
public import proofs.«01_k».proof.Proof.Loss

@[expose] public section

noncomputable section

namespace Cert.Agree

open Cert.KernelIdeal Cert.KernelIdeal.Gen Cert.KernelIdeal.Rolled Cert.KernelIdeal.Lane Cert.Pick
open Idealize.ShloMosaic Idealize.ShloMosaic.TcCoe
open Cert.ReferenceIdeal.Rows (top Reads)

/-- What the precondition says of both arguments, row by row: no plus infinity, labels that are classes, a third best
    class that beats the fourth. -/
structure Fine (A : FVec Ideal S4096x50257 .f32) (L : IVec S4096 32) (x : Fin 4096 → Fin 50257 → EReal) (Y : Fin 4096 → Fin 50257) : Prop where
  real : Reads A x
  lab : ∀ r, L (ValueIdx.ix1 r) = BitVec.ofNat 32 (Y r).val
  gap : ∀ r, x r (order (x r) 3) < x r (order (x r) 2)

theorem fine (A : FVec Ideal S4096x50257 .f32) (L : IVec S4096 32) (h : Cert.Pre_in_range.fn (F := Ideal) A L = fun _ => 1#1) :
    ∃ x Y, Fine A L x Y := by
  have good := Cert.Pre_in_range.Read.good_of_fn A L h
  choose Y hY using fun r => (good r).lab
  refine ⟨fun r c => A (ValueIdx.ix2 r c), Y, ⟨fun r c => rfl, fun r => (good r).fin, fun r i => ?_⟩, hY, fun r => (good r).gap⟩
  have b := bot_le.trans_lt (good r).gap
  have b12 := (order_before (fun c => A (ValueIdx.ix2 r c)) (show (1 : Fin 50257) < 2 by decide)).le
  have b01 := (order_before (fun c => A (ValueIdx.ix2 r c)) (show (0 : Fin 50257) < 1 by decide)).le
  match i with
  | ⟨0, _⟩ => exact ((b.trans_le b12).trans_le b01).ne'
  | ⟨1, _⟩ => exact (b.trans_le b12).ne'
  | ⟨2, _⟩ => exact b.ne'

section
variable {m : (ℓ : Loc nD τ sig) → Buf (Elt Ideal) ℓ} {c : Dev nD} {A : FVec Ideal S4096x50257 .f32} {L : IVec S4096 32}
  (hA : @Eq (FVec Ideal S4096x50257 .f32) (m ((c : Thread nD τ).loc main_arg0)) A)
  (hL : @Eq (IVec S4096 32) (m ((c : Thread nD τ).loc main_arg1)) L)
  {x : Fin 4096 → Fin 50257 → EReal} {Y : Fin 4096 → Fin 50257} (H : Fine A L x Y)

include hA hL H in
/-- The kernel's carried values after the last tile of row `r`. -/
theorem row_done (r : Fin 4096) : Done (x r) (Y r) (top x r 0) (top x r 1) (top x r 2) (runAt m c (7 * (r.val / 128) + 7))
    (ValueIdx.ix2 (0 : Fin 1) (⟨r.val % 128, Nat.mod_lt _ (by omega)⟩ : Fin 128)) := by
  have e : logits m c r = x r := funext fun k => (congrFun hA (ValueIdx.ix2 r k)).trans (H.real.eq r k)
  have g := H.gap r
  rw [← e] at g
  have d := done (m := m) (c := c) r (fun k => by rw [e]; exact H.real.fin r k) (Y r) ((congrFun hL (ValueIdx.ix1 r)).trans (H.lab r)) g
  rw [e] at d
  exact d

/-- Two vectors over the batch agree where their rows do. -/
theorem batch_ext {α : Type} {n : ℕ} (f g : (⟨1, ![n]⟩ : Shape).Idx → α) (h : ∀ r : Fin n, f (ValueIdx.ix1 r) = g (ValueIdx.ix1 r)) : f = g := by
  funext i
  have e : i = ValueIdx.ix1 (i 0) := funext fun a => match a with | ⟨0, _⟩ => rfl
  rw [e]
  exact h _

include hA hL H in
theorem marks : @Eq (IVec S4096 32) (shapeCast S4096 (rows (e := .i32) m out1 c) shapeCasts_S1x4096_S4096)
    (Cert.ReferenceIdeal.Read.val_main_v17 (F := Ideal) A L) := by
  refine batch_ext _ _ fun r => ?_
  have d := row_done hA hL H r
  exact (rows_apply (e := .i32) m (out1 (F := Ideal)) c r).trans ((mark_answer (H.real.live r) d.se d.fy).trans (Cert.ReferenceIdeal.Rows.mark_apply H.real H.lab r).symm)

include hA hL H in
theorem firsts : @Eq (IVec S4096 32) (shapeCast S4096 (rows (e := .i32) m out2 c) shapeCasts_S1x4096_S4096)
    (Cert.ReferenceIdeal.Read.val_main_v66 (F := Ideal) A L) := by
  refine batch_ext _ _ fun r => ?_
  have d := row_done hA hL H r
  exact (rows_apply (e := .i32) m (out2 (F := Ideal)) c r).trans ((idRow_answer (H.real.live r) d.se d.fy d.i1).trans (Cert.ReferenceIdeal.Rows.v66_apply H.real H.lab r).symm)

include hA hL H in
theorem seconds : @Eq (IVec S4096 32) (shapeCast S4096 (rows (e := .i32) m out3 c) shapeCasts_S1x4096_S4096)
    (Cert.ReferenceIdeal.Read.val_main_v71 (F := Ideal) A L) := by
  refine batch_ext _ _ fun r => ?_
  have d := row_done hA hL H r
  exact (rows_apply (e := .i32) m (out3 (F := Ideal)) c r).trans ((idRow_answer (H.real.live r) d.se d.fy d.i2).trans (Cert.ReferenceIdeal.Rows.v71_apply H.real H.lab r).symm)

include hA hL H in
theorem thirds : @Eq (IVec S4096 32) (shapeCast S4096 (rows (e := .i32) m out4 c) shapeCasts_S1x4096_S4096)
    (Cert.ReferenceIdeal.Read.val_main_v76 (F := Ideal) A L) := by
  refine batch_ext _ _ fun r => ?_
  have d := row_done hA hL H r
  exact (rows_apply (e := .i32) m (out4 (F := Ideal)) c r).trans ((idRow_answer (H.real.live r) d.se d.fy d.i3).trans (Cert.ReferenceIdeal.Rows.v76_apply H.real H.lab r).symm)

include hA hL H in
theorem chances : @Eq (FVec Ideal S4096 .f32) (shapeCast S4096 (rows (e := .f32) m out5 c) shapeCasts_S1x4096_S4096)
    (Cert.ReferenceIdeal.Read.val_main_v80 (F := Ideal) A L) := by
  refine batch_ext _ _ fun r => ?_
  have d := row_done hA hL H r
  exact (rows_apply (e := .f32) m (out5 (F := Ideal)) c r).trans ((second_answer (H.real.live r) d.se d.fy d.v2).trans (Cert.ReferenceIdeal.Rows.v80_apply H.real H.lab r).symm)

include hA hL H in
/-- The number of unmarked rows. -/
theorem count : @Eq (IVec S_ 32) (subi (constantI S_ 32 4096#32) (Host.reduce IntOp.addi
      (shapeCast S4096 (rows (e := .i32) m out1 c) shapeCasts_S1x4096_S4096) (constantI S_ 32 0#32) reducesTo_S4096_S_d0 h_S_))
    (Cert.ReferenceIdeal.Read.val_main_v78 (F := Ideal) A L) := by
  rw [marks hA hL H]
  funext j
  refine (Cert.ReferenceIdeal.Rows.count_rest (Cert.ReferenceIdeal.Read.val_main_v17 (F := Ideal) A L)
    (Cert.ReferenceIdeal.Read.val_main_v77 (F := Ideal) A L) (fun i => ?_) (constantI S_ 32 0#32) (fun _ => rfl) _ _ j).symm
  rw [Cert.ReferenceIdeal.Read.val_main_v77_apply, Cert.ReferenceIdeal.Read.val_main_v61_apply, Cert.ReferenceIdeal.Read.val_main_c_11_apply]

/-- A batch's sum from zero. -/
theorem sum_rows (y : FVec Ideal S4096 .f32) (j : S_.Idx) :
    Host.reduceAdd y (constant (F := Ideal) S_ .f32 0x00000000#32) reducesTo_S4096_S_d0 h_S_ j = ∑ r : Fin 4096, (y (ValueIdx.ix1 r) : EReal) := by
  have e : Host.reduceAdd y (constant (F := Ideal) S_ .f32 0x00000000#32) reducesTo_S4096_S_d0 h_S_ j =
      (constant (F := Ideal) S_ .f32 0x00000000#32) (Shape.Idx.first h_S_) + ∑ i, y i := by
    simp only [Host.reduceAdd, Ideal.hostReduceAdd_def]
    exact Ideal.hostReduceAdd_total reducesTo_S4096_S_d0 (fun b => b.elim0) y _ j
  have z : (constant (F := Ideal) S_ .f32 0x00000000#32) (Shape.Idx.first h_S_) = 0 := Cert.ReferenceIdeal.Rows.zero_f32
  rw [e, z, zero_add]
  exact sum_idx1 (n0 := 4096) _

include hA hL H in
/-- The mean loss. -/
theorem mean : @Eq (FVec Ideal S_ .f32) (Host.divf (Host.reduceAdd (shapeCast S4096 (rows (e := .f32) m out0 c) shapeCasts_S1x4096_S4096)
      (constant (F := Ideal) S_ .f32 0x00000000#32) reducesTo_S4096_S_d0 h_S_) (constant (F := Ideal) S_ .f32 0x45800000#32))
    (Cert.ReferenceIdeal.Read.val_main_v60 (F := Ideal) A L) := by
  funext j
  rw [Cert.ReferenceIdeal.Read.val_main_v60_apply]
  refine congrArg (fun s : Ideal .f32 => FloatOps.hostDivf (F := Ideal) (φ := .f32) s (Ideal.ofBits .f32 0x45800000#32)) ?_
  refine (sum_rows _ j).trans (Eq.trans (Finset.sum_congr rfl fun r _ => ?_) (Cert.ReferenceIdeal.Rows.v59_apply H.real H.lab j).symm)
  have d := row_done hA hL H r
  exact (rows_apply (e := .f32) m (out0 (F := Ideal)) c r).trans (loss_answer (H.real.live r) d.se d.fy d.v1 d.v2 d.v3 (H.real.solid r 0) (H.real.solid r 1) (H.real.solid r 2))

end

end Cert.Agree

end
-- ==== Proof.lean ====
module

public import proofs.«01_k».proof.Defs
public import proofs.«01_k».proof.Proof.Gen.Kernel
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RunKernel
public import proofs.«01_k».proof.Proof.RunKernelIdeal
public import proofs.«01_k».proof.Proof.ReferenceRun
public import proofs.«01_k».proof.Proof.Agree
public import Idealize.ShloMosaic.Lib.QuiescentFlight
public import Idealize.ShloMosaic.Adequacy
public import Idealize.ShloMosaic.Init

@[expose] public section

noncomputable section

namespace Cert.Proof

open Idealize.ShloMosaic Idealize.SL.Sem

/-- The reference runs to its end, its arguments unchanged, every counter at zero. -/
theorem reference_frame : quiescent_ReferenceIdeal := by
  intro m g _
  exact (θ_run Cert.ReferenceIdeal.defs _ _).mono
    (fun r h => ⟨fun c => (h c).2.2.2.2.2.2.2, sem_eq_zero_of_no_sems (by decide) r.2⟩)
    (Cert.ReferenceIdeal.Value.run (F := Ideal) m g)

open Cert.KernelIdeal Cert.KernelIdeal.Gen Cert.KernelIdeal.Rolled Cert.KernelIdeal.Lane in
/-- The kernel ends holding the reference's terms of its own arguments. -/
theorem kernel_values (m : (ℓ : Loc nD τ sig) → Buf (Elt Ideal) ℓ) (g : Dev nD → PrngReg) (hpre : Pre_KernelIdeal_in_range m) :
    θ_run (defs (F := Ideal)) (onTc (τ := τ) (main (F := Ideal))) ⟨m, fun _ => 0, g⟩ (fun r => ∀ c : Dev nD,
      r.2.mem ((c.tc : Thread nD τ).loc main_v6) = Cert.ReferenceIdeal.Read.val_main_v60 (F := Ideal) (m ((c.tc : Thread nD τ).loc main_arg0)) (m ((c.tc : Thread nD τ).loc main_arg1))
      ∧ r.2.mem ((c.tc : Thread nD τ).loc main_v3) = Cert.ReferenceIdeal.Read.val_main_v17 (F := Ideal) (m ((c.tc : Thread nD τ).loc main_arg0)) (m ((c.tc : Thread nD τ).loc main_arg1))
      ∧ r.2.mem ((c.tc : Thread nD τ).loc main_v9) = Cert.ReferenceIdeal.Read.val_main_v66 (F := Ideal) (m ((c.tc : Thread nD τ).loc main_arg0)) (m ((c.tc : Thread nD τ).loc main_arg1))
      ∧ r.2.mem ((c.tc : Thread nD τ).loc main_v10) = Cert.ReferenceIdeal.Read.val_main_v71 (F := Ideal) (m ((c.tc : Thread nD τ).loc main_arg0)) (m ((c.tc : Thread nD τ).loc main_arg1))
      ∧ r.2.mem ((c.tc : Thread nD τ).loc main_v11) = Cert.ReferenceIdeal.Read.val_main_v76 (F := Ideal) (m ((c.tc : Thread nD τ).loc main_arg0)) (m ((c.tc : Thread nD τ).loc main_arg1))
      ∧ r.2.mem ((c.tc : Thread nD τ).loc main_v8) = Cert.ReferenceIdeal.Read.val_main_v78 (F := Ideal) (m ((c.tc : Thread nD τ).loc main_arg0)) (m ((c.tc : Thread nD τ).loc main_arg1))
      ∧ r.2.mem ((c.tc : Thread nD τ).loc main_v12) = Cert.ReferenceIdeal.Read.val_main_v80 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (run_main m g)
  have h := (h.1 c).2
  obtain ⟨x, Y, H⟩ := Cert.Agree.fine _ _ (hpre c)
  refine ⟨?_, ?_, ?_, ?_, ?_, ?_, ?_, ?_, ?_⟩
  · exact (h main_v6 (Pipeline.mem_restRefs_of main_v6 (by decide) (by decide))).trans ((tail_main_v6 m c).trans (Cert.Agree.mean rfl rfl H))
  · exact (h main_v3 (Pipeline.mem_restRefs_of main_v3 (by decide) (by decide))).trans ((tail_main_v3 m c).trans (Cert.Agree.marks rfl rfl H))
  · exact (h main_v9 (Pipeline.mem_restRefs_of main_v9 (by decide) (by decide))).trans ((tail_main_v9 m c).trans (Cert.Agree.firsts rfl rfl H))
  · exact (h main_v10 (Pipeline.mem_restRefs_of main_v10 (by decide) (by decide))).trans ((tail_main_v10 m c).trans (Cert.Agree.seconds rfl rfl H))
  · exact (h main_v11 (Pipeline.mem_restRefs_of main_v11 (by decide) (by decide))).trans ((tail_main_v11 m c).trans (Cert.Agree.thirds rfl rfl H))
  · exact (h main_v8 (Pipeline.mem_restRefs_of main_v8 (by decide) (by decide))).trans ((tail_main_v8 m c).trans (Cert.Agree.count rfl rfl H))
  · exact (h main_v12 (Pipeline.mem_restRefs_of main_v12 (by decide) (by decide))).trans ((tail_main_v12 m c).trans (Cert.Agree.chances rfl rfl H))
  · exact (h main_arg0 (Pipeline.mem_restRefs_of main_arg0 (by decide) (by decide))).trans (W_main_arg0 m (dats m) c)
  · exact (h main_arg1 (Pipeline.mem_restRefs_of main_arg1 (by decide) (by decide))).trans (W_main_arg1 m (dats m) c)

open Cert.ReferenceIdeal in
/-- The reference ends holding its terms of its arguments. -/
theorem reference_values (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v60) = Read.val_main_v60 (F := Ideal) (m ((c.tc : Thread nD τ).loc main_arg0)) (m ((c.tc : Thread nD τ).loc main_arg1))
      ∧ r.2.mem ((c.tc : Thread nD τ).loc main_v17) = Read.val_main_v17 (F := Ideal) (m ((c.tc : Thread nD τ).loc main_arg0)) (m ((c.tc : Thread nD τ).loc main_arg1))
      ∧ r.2.mem ((c.tc : Thread nD τ).loc main_v66) = Read.val_main_v66 (F := Ideal) (m ((c.tc : Thread nD τ).loc main_arg0)) (m ((c.tc : Thread nD τ).loc main_arg1))
      ∧ r.2.mem ((c.tc : Thread nD τ).loc main_v71) = Read.val_main_v71 (F := Ideal) (m ((c.tc : Thread nD τ).loc main_arg0)) (m ((c.tc : Thread nD τ).loc main_arg1))
      ∧ r.2.mem ((c.tc : Thread nD τ).loc main_v76) = Read.val_main_v76 (F := Ideal) (m ((c.tc : Thread nD τ).loc main_arg0)) (m ((c.tc : Thread nD τ).loc main_arg1))
      ∧ r.2.mem ((c.tc : Thread nD τ).loc main_v78) = Read.val_main_v78 (F := Ideal) (m ((c.tc : Thread nD τ).loc main_arg0)) (m ((c.tc : Thread nD τ).loc main_arg1))
      ∧ r.2.mem ((c.tc : Thread nD τ).loc main_v80) = Read.val_main_v80 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (Value.run (F := Ideal) m g)
  obtain ⟨h60, h17, h66, h71, h76, h78, h80, h0, h1⟩ := h c
  exact ⟨h60.trans (Read.val_main_v60_eq m c), h17.trans (Read.val_main_v17_eq _ _), h66.trans (Read.val_main_v66_eq m c),
    h71.trans (Read.val_main_v71_eq m c), h76.trans (Read.val_main_v76_eq m c), h78.trans (Read.val_main_v78_eq _ _),
    h80.trans (Read.val_main_v80_eq m c), h0, h1⟩

/-- The kernel's results are the reference's. -/
theorem agree : algebraic_KernelIdeal_ReferenceIdeal_pre_in_range := by
  intro m g m' g' hpre hagree
  refine ⟨_, _, _, _, _, _, _, kernel_values m g hpre, (θ_run Cert.ReferenceIdeal.defs _ _).mono (fun r h c => ?_) (reference_values m' g')⟩
  obtain ⟨h60, h17, h66, h71, h76, h78, h80, h0, h1⟩ := h c
  obtain ⟨e0, e1⟩ := hagree c
  refine ⟨h60.trans ?_, h17.trans ?_, h66.trans ?_, h71.trans ?_, h76.trans ?_, h78.trans ?_, h80.trans ?_, h0, h1⟩
  · exact congrArg₂ (Cert.ReferenceIdeal.Read.val_main_v60 (F := Ideal)) e0 e1
  · exact congrArg₂ (Cert.ReferenceIdeal.Read.val_main_v17 (F := Ideal)) e0 e1
  · exact congrArg₂ (Cert.ReferenceIdeal.Read.val_main_v66 (F := Ideal)) e0 e1
  · exact congrArg₂ (Cert.ReferenceIdeal.Read.val_main_v71 (F := Ideal)) e0 e1
  · exact congrArg₂ (Cert.ReferenceIdeal.Read.val_main_v76 (F := Ideal)) e0 e1
  · exact congrArg₂ (Cert.ReferenceIdeal.Read.val_main_v78 (F := Ideal)) e0 e1
  · exact congrArg₂ (Cert.ReferenceIdeal.Read.val_main_v80 (F := Ideal)) e0 e1

/-- Every claim. -/
theorem claim : Cert.Claim :=
  ⟨Cert.Kernel.Gen.facts, Cert.KernelIdeal.Gen.facts, Cert.ReferenceIdeal.Gen.facts, Cert.Pre_in_range.Read.facts,
    fun m g _ => Cert.Kernel.Rolled.frame m g,
    fun m g _ => Cert.KernelIdeal.Rolled.frame m g,
    fun m g _ => Cert.KernelIdeal.Rolled.frame m g,
    reference_frame,
    fun m g _ => reference_frame m g trivial,
    IdealRules.named_const.statement Cert.KernelIdeal.κ "neg" .f32 0xFF7FC99E#32 ⊥ rfl,
    agree⟩

end Cert.Proof

end
